-- ==== Defs.lean ====
def Pre_SbKernel (m : (ℓ : Loc Cert.SbKernel.nD Cert.SbKernel.τ Cert.SbKernel.sig) → Buf (Elt Bits) ℓ) : Prop :=
  True

def Pre_SbKernelIdeal (m : (ℓ : Loc Cert.SbKernelIdeal.nD Cert.SbKernelIdeal.τ Cert.SbKernelIdeal.sig) → Buf (Elt Ideal) ℓ) : Prop :=
  True

def Pre_SbKernelIdeal_qkv_finite [hPre_qkv_finite : Cert.Pre_qkv_finite.Facts] (m : (ℓ : Loc Cert.SbKernelIdeal.nD Cert.SbKernelIdeal.τ Cert.SbKernelIdeal.sig) → Buf (Elt Ideal) ℓ) : Prop :=
  ∀ c : Dev Cert.SbKernelIdeal.nD,
    (Cert.Pre_qkv_finite.fn (F := Ideal) (m ((c.tc : Thread Cert.SbKernelIdeal.nD Cert.SbKernelIdeal.τ).loc Cert.SbKernelIdeal.main_arg0)) (m ((c.tc : Thread Cert.SbKernelIdeal.nD Cert.SbKernelIdeal.τ).loc Cert.SbKernelIdeal.main_arg1)) (m ((c.tc : Thread Cert.SbKernelIdeal.nD Cert.SbKernelIdeal.τ).loc Cert.SbKernelIdeal.main_arg2))) = (fun _ => 1#1)

def Pre_SbReferenceIdeal (m : (ℓ : Loc Cert.SbReferenceIdeal.nD Cert.SbReferenceIdeal.τ Cert.SbReferenceIdeal.sig) → Buf (Elt Ideal) ℓ) : Prop :=
  True

def Pre_SbReferenceIdeal_qkv_finite [hPre_qkv_finite : Cert.Pre_qkv_finite.Facts] (m : (ℓ : Loc Cert.SbReferenceIdeal.nD Cert.SbReferenceIdeal.τ Cert.SbReferenceIdeal.sig) → Buf (Elt Ideal) ℓ) : Prop :=
  ∀ c : Dev Cert.SbReferenceIdeal.nD,
    (Cert.Pre_qkv_finite.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1)) (m ((c.tc : Thread Cert.SbReferenceIdeal.nD Cert.SbReferenceIdeal.τ).loc Cert.SbReferenceIdeal.main_arg2))) = (fun _ => 1#1)

def Pre_MoeKernel [hPre_blocks_routed : Cert.Pre_blocks_routed.Facts] (m : (ℓ : Loc Cert.MoeKernel.nD Cert.MoeKernel.τ Cert.MoeKernel.sig) → Buf (Elt Bits) ℓ) : Prop :=
  ∀ c : Dev Cert.MoeKernel.nD,
    (Cert.Pre_blocks_routed.fn (F := Bits) (m ((c.tc : Thread Cert.MoeKernel.nD Cert.MoeKernel.τ).loc Cert.MoeKernel.main_arg0)) (m ((c.tc : Thread Cert.MoeKernel.nD Cert.MoeKernel.τ).loc Cert.MoeKernel.main_arg1)) (m ((c.tc : Thread Cert.MoeKernel.nD Cert.MoeKernel.τ).loc Cert.MoeKernel.main_arg2)) (m ((c.tc : Thread Cert.MoeKernel.nD Cert.MoeKernel.τ).loc Cert.MoeKernel.main_arg3)) (m ((c.tc : Thread Cert.MoeKernel.nD Cert.MoeKernel.τ).loc Cert.MoeKernel.main_arg4)) (m ((c.tc : Thread Cert.MoeKernel.nD Cert.MoeKernel.τ).loc Cert.MoeKernel.main_arg5)) (m ((c.tc : Thread Cert.MoeKernel.nD Cert.MoeKernel.τ).loc Cert.MoeKernel.main_arg6)) (m ((c.tc : Thread Cert.MoeKernel.nD Cert.MoeKernel.τ).loc Cert.MoeKernel.main_arg7))) = (fun _ => 1#1)

def Pre_MoeKernelIdeal [hPre_blocks_routed : Cert.Pre_blocks_routed.Facts] (m : (ℓ : Loc Cert.MoeKernelIdeal.nD Cert.MoeKernelIdeal.τ Cert.MoeKernelIdeal.sig) → Buf (Elt Ideal) ℓ) : Prop :=
  ∀ c : Dev Cert.MoeKernelIdeal.nD,
    (Cert.Pre_blocks_routed.fn (F := Ideal) (m ((c.tc : Thread Cert.MoeKernelIdeal.nD Cert.MoeKernelIdeal.τ).loc Cert.MoeKernelIdeal.main_arg0)) (m ((c.tc : Thread Cert.MoeKernelIdeal.nD Cert.MoeKernelIdeal.τ).loc Cert.MoeKernelIdeal.main_arg1)) (m ((c.tc : Thread Cert.MoeKernelIdeal.nD Cert.MoeKernelIdeal.τ).loc Cert.MoeKernelIdeal.main_arg2)) (m ((c.tc : Thread Cert.MoeKernelIdeal.nD Cert.MoeKernelIdeal.τ).loc Cert.MoeKernelIdeal.main_arg3)) (m ((c.tc : Thread Cert.MoeKernelIdeal.nD Cert.MoeKernelIdeal.τ).loc Cert.MoeKernelIdeal.main_arg4)) (m ((c.tc : Thread Cert.MoeKernelIdeal.nD Cert.MoeKernelIdeal.τ).loc Cert.MoeKernelIdeal.main_arg5)) (m ((c.tc : Thread Cert.MoeKernelIdeal.nD Cert.MoeKernelIdeal.τ).loc Cert.MoeKernelIdeal.main_arg6)) (m ((c.tc : Thread Cert.MoeKernelIdeal.nD Cert.MoeKernelIdeal.τ).loc Cert.MoeKernelIdeal.main_arg7))) = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_blocks_routed [hPre_blocks_routed : Cert.Pre_blocks_routed.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_blocks_routed.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6)) (m ((c.tc : Thread Cert.MoeReferenceIdeal.nD Cert.MoeReferenceIdeal.τ).loc Cert.MoeReferenceIdeal.main_arg7))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MlaKernel (m : (ℓ : Loc Cert.MlaKernel.nD Cert.MlaKernel.τ Cert.MlaKernel.sig) → Buf (Elt Bits) ℓ) : Prop :=
  True

def Pre_MlaKernelIdeal (m : (ℓ : Loc Cert.MlaKernelIdeal.nD Cert.MlaKernelIdeal.τ Cert.MlaKernelIdeal.sig) → Buf (Elt Ideal) ℓ) : Prop :=
  True

def Pre_MlaKernelIdeal_qk_finite [hPre_qk_finite : Cert.Pre_qk_finite.Facts] (m : (ℓ : Loc Cert.MlaKernelIdeal.nD Cert.MlaKernelIdeal.τ Cert.MlaKernelIdeal.sig) → Buf (Elt Ideal) ℓ) : Prop :=
  ∀ c : Dev Cert.MlaKernelIdeal.nD,
    (Cert.Pre_qk_finite.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2))) = (fun _ => 1#1)

def Pre_MlaReferenceIdeal (m : (ℓ : Loc Cert.MlaReferenceIdeal.nD Cert.MlaReferenceIdeal.τ Cert.MlaReferenceIdeal.sig) → Buf (Elt Ideal) ℓ) : Prop :=
  True

def Pre_MlaReferenceIdeal_qk_finite [hPre_qk_finite : Cert.Pre_qk_finite.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_qk_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2))) = (fun _ => 1#1)

def quiescent_SbKernel [hSbKernel : Cert.SbKernel.Facts] : Prop :=
  ∀ (m : (ℓ : Loc Cert.SbKernel.nD Cert.SbKernel.τ Cert.SbKernel.sig) → Buf (Elt Bits) ℓ) (g : Dev Cert.SbKernel.nD → PrngReg), Pre_SbKernel m →
    θ_run (Cert.SbKernel.defs (F := Bits)) (onTc (τ := Cert.SbKernel.τ) (Cert.SbKernel.main (F := Bits))) ⟨m, fun _ => 0, g⟩ (fun r => (∀ c : Dev Cert.SbKernel.nD,
      r.2.mem ((c.tc : Thread Cert.SbKernel.nD Cert.SbKernel.τ).loc Cert.SbKernel.main_arg0) = m ((c.tc : Thread Cert.SbKernel.nD Cert.SbKernel.τ).loc Cert.SbKernel.main_arg0)
      ∧ r.2.mem ((c.tc : Thread Cert.SbKernel.nD Cert.SbKernel.τ).loc Cert.SbKernel.main_arg1) = m ((c.tc : Thread Cert.SbKernel.nD Cert.SbKernel.τ).loc Cert.SbKernel.main_arg1)
      ∧ r.2.mem ((c.tc : Thread Cert.SbKernel.nD Cert.SbKernel.τ).loc Cert.SbKernel.main_arg2) = m ((c.tc : Thread Cert.SbKernel.nD Cert.SbKernel.τ).loc Cert.SbKernel.main_arg2))
      ∧ r.2.sem = fun _ => 0)

def quiescent_SbKernelIdeal [hSbKernelIdeal : Cert.SbKernelIdeal.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
      ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2))
      ∧ r.2.sem = fun _ => 0)

def quiescent_SbKernelIdeal_pre_qkv_finite [hSbKernelIdeal : Cert.SbKernelIdeal.Facts] [hPre_qkv_finite : Cert.Pre_qkv_finite.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal_qkv_finite m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
      ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2))
      ∧ r.2.sem = fun _ => 0)

def quiescent_SbReferenceIdeal_pre_qkv_finite [hSbReferenceIdeal : Cert.SbReferenceIdeal.Facts] [hPre_qkv_finite : Cert.Pre_qkv_finite.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal_qkv_finite m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2))
      ∧ r.2.sem = fun _ => 0)

def quiescent_MoeKernel [hMoeKernel : Cert.MoeKernel.Facts] [hPre_blocks_routed : Cert.Pre_blocks_routed.Facts] : Prop :=
  ∀ (m : (ℓ : Loc Cert.MoeKernel.nD Cert.MoeKernel.τ Cert.MoeKernel.sig) → Buf (Elt Bits) ℓ) (g : Dev Cert.MoeKernel.nD → PrngReg), Pre_MoeKernel m →
    θ_run (Cert.MoeKernel.defs (F := Bits)) (onTc (τ := Cert.MoeKernel.τ) (Cert.MoeKernel.main (F := Bits))) ⟨m, fun _ => 0, g⟩ (fun r => (∀ c : Dev Cert.MoeKernel.nD,
      r.2.mem ((c.tc : Thread Cert.MoeKernel.nD Cert.MoeKernel.τ).loc Cert.MoeKernel.main_arg0) = m ((c.tc : Thread Cert.MoeKernel.nD Cert.MoeKernel.τ).loc Cert.MoeKernel.main_arg0)
      ∧ r.2.mem ((c.tc : Thread Cert.MoeKernel.nD Cert.MoeKernel.τ).loc Cert.MoeKernel.main_arg1) = m ((c.tc : Thread Cert.MoeKernel.nD Cert.MoeKernel.τ).loc Cert.MoeKernel.main_arg1)
      ∧ r.2.mem ((c.tc : Thread Cert.MoeKernel.nD Cert.MoeKernel.τ).loc Cert.MoeKernel.main_arg2) = m ((c.tc : Thread Cert.MoeKernel.nD Cert.MoeKernel.τ).loc Cert.MoeKernel.main_arg2)
      ∧ r.2.mem ((c.tc : Thread Cert.MoeKernel.nD Cert.MoeKernel.τ).loc Cert.MoeKernel.main_arg3) = m ((c.tc : Thread Cert.MoeKernel.nD Cert.MoeKernel.τ).loc Cert.MoeKernel.main_arg3)
      ∧ r.2.mem ((c.tc : Thread Cert.MoeKernel.nD Cert.MoeKernel.τ).loc Cert.MoeKernel.main_arg4) = m ((c.tc : Thread Cert.MoeKernel.nD Cert.MoeKernel.τ).loc Cert.MoeKernel.main_arg4)
      ∧ r.2.mem ((c.tc : Thread Cert.MoeKernel.nD Cert.MoeKernel.τ).loc Cert.MoeKernel.main_arg5) = m ((c.tc : Thread Cert.MoeKernel.nD Cert.MoeKernel.τ).loc Cert.MoeKernel.main_arg5)
      ∧ r.2.mem ((c.tc : Thread Cert.MoeKernel.nD Cert.MoeKernel.τ).loc Cert.MoeKernel.main_arg6) = m ((c.tc : Thread Cert.MoeKernel.nD Cert.MoeKernel.τ).loc Cert.MoeKernel.main_arg6)
      ∧ r.2.mem ((c.tc : Thread Cert.MoeKernel.nD Cert.MoeKernel.τ).loc Cert.MoeKernel.main_arg7) = m ((c.tc : Thread Cert.MoeKernel.nD Cert.MoeKernel.τ).loc Cert.MoeKernel.main_arg7))
      ∧ r.2.sem = fun _ => 0)

def quiescent_MoeKernelIdeal [hMoeKernelIdeal : Cert.MoeKernelIdeal.Facts] [hPre_blocks_routed : Cert.Pre_blocks_routed.Facts] : Prop :=
  ∀ (m : (ℓ : Loc Cert.MoeKernelIdeal.nD Cert.MoeKernelIdeal.τ Cert.MoeKernelIdeal.sig) → Buf (Elt Ideal) ℓ) (g : Dev Cert.MoeKernelIdeal.nD → PrngReg), Pre_MoeKernelIdeal m →
    θ_run (Cert.MoeKernelIdeal.defs (F := Ideal)) (onTc (τ := Cert.MoeKernelIdeal.τ) (Cert.MoeKernelIdeal.main (F := Ideal))) ⟨m, fun _ => 0, g⟩ (fun r => (∀ c : Dev Cert.MoeKernelIdeal.nD,
      r.2.mem ((c.tc : Thread Cert.MoeKernelIdeal.nD Cert.MoeKernelIdeal.τ).loc Cert.MoeKernelIdeal.main_arg0) = m ((c.tc : Thread Cert.MoeKernelIdeal.nD Cert.MoeKernelIdeal.τ).loc Cert.MoeKernelIdeal.main_arg0)
      ∧ r.2.mem ((c.tc : Thread Cert.MoeKernelIdeal.nD Cert.MoeKernelIdeal.τ).loc Cert.MoeKernelIdeal.main_arg1) = m ((c.tc : Thread Cert.MoeKernelIdeal.nD Cert.MoeKernelIdeal.τ).loc Cert.MoeKernelIdeal.main_arg1)
      ∧ r.2.mem ((c.tc : Thread Cert.MoeKernelIdeal.nD Cert.MoeKernelIdeal.τ).loc Cert.MoeKernelIdeal.main_arg2) = m ((c.tc : Thread Cert.MoeKernelIdeal.nD Cert.MoeKernelIdeal.τ).loc Cert.MoeKernelIdeal.main_arg2)
      ∧ r.2.mem ((c.tc : Thread Cert.MoeKernelIdeal.nD Cert.MoeKernelIdeal.τ).loc Cert.MoeKernelIdeal.main_arg3) = m ((c.tc : Thread Cert.MoeKernelIdeal.nD Cert.MoeKernelIdeal.τ).loc Cert.MoeKernelIdeal.main_arg3)
      ∧ r.2.mem ((c.tc : Thread Cert.MoeKernelIdeal.nD Cert.MoeKernelIdeal.τ).loc Cert.MoeKernelIdeal.main_arg4) = m ((c.tc : Thread Cert.MoeKernelIdeal.nD Cert.MoeKernelIdeal.τ).loc Cert.MoeKernelIdeal.main_arg4)
      ∧ r.2.mem ((c.tc : Thread Cert.MoeKernelIdeal.nD Cert.MoeKernelIdeal.τ).loc Cert.MoeKernelIdeal.main_arg5) = m ((c.tc : Thread Cert.MoeKernelIdeal.nD Cert.MoeKernelIdeal.τ).loc Cert.MoeKernelIdeal.main_arg5)
      ∧ r.2.mem ((c.tc : Thread Cert.MoeKernelIdeal.nD Cert.MoeKernelIdeal.τ).loc Cert.MoeKernelIdeal.main_arg6) = m ((c.tc : Thread Cert.MoeKernelIdeal.nD Cert.MoeKernelIdeal.τ).loc Cert.MoeKernelIdeal.main_arg6)
      ∧ r.2.mem ((c.tc : Thread Cert.MoeKernelIdeal.nD Cert.MoeKernelIdeal.τ).loc Cert.MoeKernelIdeal.main_arg7) = m ((c.tc : Thread Cert.MoeKernelIdeal.nD Cert.MoeKernelIdeal.τ).loc Cert.MoeKernelIdeal.main_arg7))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7))
      ∧ r.2.sem = fun _ => 0)

def quiescent_MoeReferenceIdeal_pre_blocks_routed [hMoeReferenceIdeal : Cert.MoeReferenceIdeal.Facts] [hPre_blocks_routed : Cert.Pre_blocks_routed.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_blocks_routed m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4)
      ∧ r.2.mem ((c.tc : Thread Cert.ProjKernel.nD Cert.ProjKernel.τ).loc Cert.ProjKernel.main_arg5) = m ((c.tc : Thread Cert.ProjKernel.nD Cert.ProjKernel.τ).loc Cert.ProjKernel.main_arg5)
      ∧ r.2.mem ((c.tc : Thread Cert.ProjKernel.nD Cert.ProjKernel.τ).loc Cert.ProjKernel.main_arg6) = m ((c.tc : Thread Cert.ProjKernel.nD Cert.ProjKernel.τ).loc Cert.ProjKernel.main_arg6)
      ∧ r.2.mem ((c.tc : Thread Cert.ProjKernel.nD Cert.ProjKernel.τ).loc Cert.ProjKernel.main_arg7) = m ((c.tc : Thread Cert.ProjKernel.nD Cert.ProjKernel.τ).loc Cert.ProjKernel.main_arg7)
      ∧ r.2.mem ((c.tc : Thread Cert.ProjKernel.nD Cert.ProjKernel.τ).loc Cert.ProjKernel.main_arg8) = m ((c.tc : Thread Cert.ProjKernel.nD Cert.ProjKernel.τ).loc Cert.ProjKernel.main_arg8)
      ∧ r.2.mem ((c.tc : Thread Cert.ProjKernel.nD Cert.ProjKernel.τ).loc Cert.ProjKernel.main_arg9) = m ((c.tc : Thread Cert.ProjKernel.nD Cert.ProjKernel.τ).loc Cert.ProjKernel.main_arg9)
      ∧ r.2.mem ((c.tc : Thread Cert.ProjKernel.nD Cert.ProjKernel.τ).loc Cert.ProjKernel.main_arg10) = m ((c.tc : Thread Cert.ProjKernel.nD Cert.ProjKernel.τ).loc Cert.ProjKernel.main_arg10)
      ∧ r.2.mem ((c.tc : Thread Cert.ProjKernel.nD Cert.ProjKernel.τ).loc Cert.ProjKernel.main_arg11) = m ((c.tc : Thread Cert.ProjKernel.nD Cert.ProjKernel.τ).loc Cert.ProjKernel.main_arg11)
      ∧ r.2.mem ((c.tc : Thread Cert.ProjKernel.nD Cert.ProjKernel.τ).loc Cert.ProjKernel.main_arg12) = m ((c.tc : Thread Cert.ProjKernel.nD Cert.ProjKernel.τ).loc Cert.ProjKernel.main_arg12)
      ∧ r.2.mem ((c.tc : Thread Cert.ProjKernel.nD Cert.ProjKernel.τ).loc Cert.ProjKernel.main_arg13) = m ((c.tc : Thread Cert.ProjKernel.nD Cert.ProjKernel.τ).loc Cert.ProjKernel.main_arg13))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
      ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
      ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7)
      ∧ r.2.mem ((c.tc : Thread Cert.ProjKernelIdeal.nD Cert.ProjKernelIdeal.τ).loc Cert.ProjKernelIdeal.main_arg8) = m ((c.tc : Thread Cert.ProjKernelIdeal.nD Cert.ProjKernelIdeal.τ).loc Cert.ProjKernelIdeal.main_arg8)
      ∧ r.2.mem ((c.tc : Thread Cert.ProjKernelIdeal.nD Cert.ProjKernelIdeal.τ).loc Cert.ProjKernelIdeal.main_arg9) = m ((c.tc : Thread Cert.ProjKernelIdeal.nD Cert.ProjKernelIdeal.τ).loc Cert.ProjKernelIdeal.main_arg9)
      ∧ r.2.mem ((c.tc : Thread Cert.ProjKernelIdeal.nD Cert.ProjKernelIdeal.τ).loc Cert.ProjKernelIdeal.main_arg10) = m ((c.tc : Thread Cert.ProjKernelIdeal.nD Cert.ProjKernelIdeal.τ).loc Cert.ProjKernelIdeal.main_arg10)
      ∧ r.2.mem ((c.tc : Thread Cert.ProjKernelIdeal.nD Cert.ProjKernelIdeal.τ).loc Cert.ProjKernelIdeal.main_arg11) = m ((c.tc : Thread Cert.ProjKernelIdeal.nD Cert.ProjKernelIdeal.τ).loc Cert.ProjKernelIdeal.main_arg11)
      ∧ r.2.mem ((c.tc : Thread Cert.ProjKernelIdeal.nD Cert.ProjKernelIdeal.τ).loc Cert.ProjKernelIdeal.main_arg12) = m ((c.tc : Thread Cert.ProjKernelIdeal.nD Cert.ProjKernelIdeal.τ).loc Cert.ProjKernelIdeal.main_arg12)
      ∧ r.2.mem ((c.tc : Thread Cert.ProjKernelIdeal.nD Cert.ProjKernelIdeal.τ).loc Cert.ProjKernelIdeal.main_arg13) = m ((c.tc : Thread Cert.ProjKernelIdeal.nD Cert.ProjKernelIdeal.τ).loc Cert.ProjKernelIdeal.main_arg13))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12)
      ∧ r.2.mem ((c.tc : Thread Cert.ProjReferenceIdeal.nD Cert.ProjReferenceIdeal.τ).loc Cert.ProjReferenceIdeal.main_arg13) = m ((c.tc : Thread Cert.ProjReferenceIdeal.nD Cert.ProjReferenceIdeal.τ).loc Cert.ProjReferenceIdeal.main_arg13))
      ∧ r.2.sem = fun _ => 0)

def quiescent_MlaKernel [hMlaKernel : Cert.MlaKernel.Facts] : Prop :=
  ∀ (m : (ℓ : Loc Cert.MlaKernel.nD Cert.MlaKernel.τ Cert.MlaKernel.sig) → Buf (Elt Bits) ℓ) (g : Dev Cert.MlaKernel.nD → PrngReg), Pre_MlaKernel m →
    θ_run (Cert.MlaKernel.defs (F := Bits)) (onTc (τ := Cert.MlaKernel.τ) (Cert.MlaKernel.main (F := Bits))) ⟨m, fun _ => 0, g⟩ (fun r => (∀ c : Dev Cert.MlaKernel.nD,
      r.2.mem ((c.tc : Thread Cert.MlaKernel.nD Cert.MlaKernel.τ).loc Cert.MlaKernel.main_arg0) = m ((c.tc : Thread Cert.MlaKernel.nD Cert.MlaKernel.τ).loc Cert.MlaKernel.main_arg0)
      ∧ r.2.mem ((c.tc : Thread Cert.MlaKernel.nD Cert.MlaKernel.τ).loc Cert.MlaKernel.main_arg1) = m ((c.tc : Thread Cert.MlaKernel.nD Cert.MlaKernel.τ).loc Cert.MlaKernel.main_arg1)
      ∧ r.2.mem ((c.tc : Thread Cert.MlaKernel.nD Cert.MlaKernel.τ).loc Cert.MlaKernel.main_arg2) = m ((c.tc : Thread Cert.MlaKernel.nD Cert.MlaKernel.τ).loc Cert.MlaKernel.main_arg2))
      ∧ r.2.sem = fun _ => 0)

def quiescent_MlaKernelIdeal [hMlaKernelIdeal : Cert.MlaKernelIdeal.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2))
      ∧ r.2.sem = fun _ => 0)

def quiescent_MlaKernelIdeal_pre_qk_finite [hMlaKernelIdeal : Cert.MlaKernelIdeal.Facts] [hPre_qk_finite : Cert.Pre_qk_finite.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal_qk_finite m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2))
      ∧ r.2.sem = fun _ => 0)

def quiescent_MlaReferenceIdeal_pre_qk_finite [hMlaReferenceIdeal : Cert.MlaReferenceIdeal.Facts] [hPre_qk_finite : Cert.Pre_qk_finite.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal_qk_finite m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2))
      ∧ r.2.sem = fun _ => 0)

def preserves_SbKernel_SbKernelIdeal : Prop :=
  True

def algebraic_SbKernelIdeal_SbReferenceIdeal_pre_qkv_finite [hSbKernelIdeal : Cert.SbKernelIdeal.Facts] [hSbReferenceIdeal : Cert.SbReferenceIdeal.Facts] [hPre_qkv_finite : Cert.Pre_qkv_finite.Facts] : Prop :=
  ∀ (m : (ℓ : Loc Cert.SbKernelIdeal.nD Cert.SbKernelIdeal.τ Cert.SbKernelIdeal.sig) → Buf (Elt Ideal) ℓ) (g : Dev Cert.SbKernelIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbKernelIdeal_qkv_finite m →
    (∀ c : Dev Cert.SbKernelIdeal.nD,
      m' ((c.tc : Thread Cert.SbReferenceIdeal.nD Cert.SbReferenceIdeal.τ).loc Cert.SbReferenceIdeal.main_arg0) = m ((c.tc : Thread Cert.SbKernelIdeal.nD Cert.SbKernelIdeal.τ).loc Cert.SbKernelIdeal.main_arg0)
      ∧ m' ((c.tc : Thread Cert.SbReferenceIdeal.nD Cert.SbReferenceIdeal.τ).loc Cert.SbReferenceIdeal.main_arg1) = m ((c.tc : Thread Cert.SbKernelIdeal.nD Cert.SbKernelIdeal.τ).loc Cert.SbKernelIdeal.main_arg1)
      ∧ m' ((c.tc : Thread Cert.SbReferenceIdeal.nD Cert.SbReferenceIdeal.τ).loc Cert.SbReferenceIdeal.main_arg2) = m ((c.tc : Thread Cert.SbKernelIdeal.nD Cert.SbKernelIdeal.τ).loc Cert.SbKernelIdeal.main_arg2)) →
    ∃ (v0 : (c : Dev Cert.SbKernelIdeal.nD) → Buf (Elt Ideal) ((c.tc : Thread Cert.SbKernelIdeal.nD Cert.SbKernelIdeal.τ).loc Cert.SbKernelIdeal.main_v0)),
      θ_run (Cert.SbKernelIdeal.defs (F := Ideal)) (onTc (τ := Cert.SbKernelIdeal.τ) (Cert.SbKernelIdeal.main (F := Ideal))) ⟨m, fun _ => 0, g⟩ (fun r => ∀ c : Dev Cert.SbKernelIdeal.nD,
          r.2.mem ((c.tc : Thread Cert.SbKernelIdeal.nD Cert.SbKernelIdeal.τ).loc Cert.SbKernelIdeal.main_v0) = v0 c
          ∧ r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
          ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
          ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v25) = v0 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0)
          ∧ r.2.mem ((c.tc : Thread Cert.SbReferenceIdeal.nD Cert.SbReferenceIdeal.τ).loc Cert.SbReferenceIdeal.main_arg1) = m' ((c.tc : Thread Cert.SbReferenceIdeal.nD Cert.SbReferenceIdeal.τ).loc Cert.SbReferenceIdeal.main_arg1)
          ∧ r.2.mem ((c.tc : Thread Cert.SbReferenceIdeal.nD Cert.SbReferenceIdeal.τ).loc Cert.SbReferenceIdeal.main_arg2) = m' ((c.tc : Thread Cert.SbReferenceIdeal.nD Cert.SbReferenceIdeal.τ).loc Cert.SbReferenceIdeal.main_arg2))

def preserves_MoeKernel_MoeKernelIdeal : Prop :=
  True

def algebraic_MoeKernelIdeal_MoeReferenceIdeal [hMoeKernelIdeal : Cert.MoeKernelIdeal.Facts] [hMoeReferenceIdeal : Cert.MoeReferenceIdeal.Facts] [hPre_blocks_routed : Cert.Pre_blocks_routed.Facts] : Prop :=
  ∀ (m : (ℓ : Loc Cert.MoeKernelIdeal.nD Cert.MoeKernelIdeal.τ Cert.MoeKernelIdeal.sig) → Buf (Elt Ideal) ℓ) (g : Dev Cert.MoeKernelIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeKernelIdeal m →
    (∀ c : Dev Cert.MoeKernelIdeal.nD,
      m' ((c.tc : Thread Cert.MoeReferenceIdeal.nD Cert.MoeReferenceIdeal.τ).loc Cert.MoeReferenceIdeal.main_arg0) = m ((c.tc : Thread Cert.MoeKernelIdeal.nD Cert.MoeKernelIdeal.τ).loc Cert.MoeKernelIdeal.main_arg0)
      ∧ m' ((c.tc : Thread Cert.MoeReferenceIdeal.nD Cert.MoeReferenceIdeal.τ).loc Cert.MoeReferenceIdeal.main_arg1) = m ((c.tc : Thread Cert.MoeKernelIdeal.nD Cert.MoeKernelIdeal.τ).loc Cert.MoeKernelIdeal.main_arg1)
      ∧ m' ((c.tc : Thread Cert.MoeReferenceIdeal.nD Cert.MoeReferenceIdeal.τ).loc Cert.MoeReferenceIdeal.main_arg2) = m ((c.tc : Thread Cert.MoeKernelIdeal.nD Cert.MoeKernelIdeal.τ).loc Cert.MoeKernelIdeal.main_arg2)
      ∧ m' ((c.tc : Thread Cert.MoeReferenceIdeal.nD Cert.MoeReferenceIdeal.τ).loc Cert.MoeReferenceIdeal.main_arg3) = m ((c.tc : Thread Cert.MoeKernelIdeal.nD Cert.MoeKernelIdeal.τ).loc Cert.MoeKernelIdeal.main_arg3)
      ∧ m' ((c.tc : Thread Cert.MoeReferenceIdeal.nD Cert.MoeReferenceIdeal.τ).loc Cert.MoeReferenceIdeal.main_arg4) = m ((c.tc : Thread Cert.MoeKernelIdeal.nD Cert.MoeKernelIdeal.τ).loc Cert.MoeKernelIdeal.main_arg4)
      ∧ m' ((c.tc : Thread Cert.MoeReferenceIdeal.nD Cert.MoeReferenceIdeal.τ).loc Cert.MoeReferenceIdeal.main_arg5) = m ((c.tc : Thread Cert.MoeKernelIdeal.nD Cert.MoeKernelIdeal.τ).loc Cert.MoeKernelIdeal.main_arg5)
      ∧ m' ((c.tc : Thread Cert.MoeReferenceIdeal.nD Cert.MoeReferenceIdeal.τ).loc Cert.MoeReferenceIdeal.main_arg6) = m ((c.tc : Thread Cert.MoeKernelIdeal.nD Cert.MoeKernelIdeal.τ).loc Cert.MoeKernelIdeal.main_arg6)
      ∧ m' ((c.tc : Thread Cert.MoeReferenceIdeal.nD Cert.MoeReferenceIdeal.τ).loc Cert.MoeReferenceIdeal.main_arg7) = m ((c.tc : Thread Cert.MoeKernelIdeal.nD Cert.MoeKernelIdeal.τ).loc Cert.MoeKernelIdeal.main_arg7)) →
    ∃ (v0 : (c : Dev Cert.MoeKernelIdeal.nD) → Buf (Elt Ideal) ((c.tc : Thread Cert.MoeKernelIdeal.nD Cert.MoeKernelIdeal.τ).loc Cert.MoeKernelIdeal.main_v14)),
      θ_run (Cert.MoeKernelIdeal.defs (F := Ideal)) (onTc (τ := Cert.MoeKernelIdeal.τ) (Cert.MoeKernelIdeal.main (F := Ideal))) ⟨m, fun _ => 0, g⟩ (fun r => ∀ c : Dev Cert.MoeKernelIdeal.nD,
          r.2.mem ((c.tc : Thread Cert.MoeKernelIdeal.nD Cert.MoeKernelIdeal.τ).loc Cert.MoeKernelIdeal.main_v14) = v0 c
          ∧ r.2.mem ((c.tc : Thread Cert.MoeKernelIdeal.nD Cert.MoeKernelIdeal.τ).loc Cert.MoeKernelIdeal.main_arg0) = m ((c.tc : Thread Cert.MoeKernelIdeal.nD Cert.MoeKernelIdeal.τ).loc Cert.MoeKernelIdeal.main_arg0)
          ∧ r.2.mem ((c.tc : Thread Cert.MoeKernelIdeal.nD Cert.MoeKernelIdeal.τ).loc Cert.MoeKernelIdeal.main_arg1) = m ((c.tc : Thread Cert.MoeKernelIdeal.nD Cert.MoeKernelIdeal.τ).loc Cert.MoeKernelIdeal.main_arg1)
          ∧ r.2.mem ((c.tc : Thread Cert.MoeKernelIdeal.nD Cert.MoeKernelIdeal.τ).loc Cert.MoeKernelIdeal.main_arg2) = m ((c.tc : Thread Cert.MoeKernelIdeal.nD Cert.MoeKernelIdeal.τ).loc Cert.MoeKernelIdeal.main_arg2)
          ∧ r.2.mem ((c.tc : Thread Cert.MoeKernelIdeal.nD Cert.MoeKernelIdeal.τ).loc Cert.MoeKernelIdeal.main_arg3) = m ((c.tc : Thread Cert.MoeKernelIdeal.nD Cert.MoeKernelIdeal.τ).loc Cert.MoeKernelIdeal.main_arg3)
          ∧ r.2.mem ((c.tc : Thread Cert.MoeKernelIdeal.nD Cert.MoeKernelIdeal.τ).loc Cert.MoeKernelIdeal.main_arg4) = m ((c.tc : Thread Cert.MoeKernelIdeal.nD Cert.MoeKernelIdeal.τ).loc Cert.MoeKernelIdeal.main_arg4)
          ∧ r.2.mem ((c.tc : Thread Cert.MoeKernelIdeal.nD Cert.MoeKernelIdeal.τ).loc Cert.MoeKernelIdeal.main_arg5) = m ((c.tc : Thread Cert.MoeKernelIdeal.nD Cert.MoeKernelIdeal.τ).loc Cert.MoeKernelIdeal.main_arg5)
          ∧ r.2.mem ((c.tc : Thread Cert.MoeKernelIdeal.nD Cert.MoeKernelIdeal.τ).loc Cert.MoeKernelIdeal.main_arg6) = m ((c.tc : Thread Cert.MoeKernelIdeal.nD Cert.MoeKernelIdeal.τ).loc Cert.MoeKernelIdeal.main_arg6)
          ∧ r.2.mem ((c.tc : Thread Cert.MoeKernelIdeal.nD Cert.MoeKernelIdeal.τ).loc Cert.MoeKernelIdeal.main_arg7) = m ((c.tc : Thread Cert.MoeKernelIdeal.nD Cert.MoeKernelIdeal.τ).loc Cert.MoeKernelIdeal.main_arg7))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v57) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5)
          ∧ r.2.mem ((c.tc : Thread Cert.MoeReferenceIdeal.nD Cert.MoeReferenceIdeal.τ).loc Cert.MoeReferenceIdeal.main_arg6) = m' ((c.tc : Thread Cert.MoeReferenceIdeal.nD Cert.MoeReferenceIdeal.τ).loc Cert.MoeReferenceIdeal.main_arg6)
          ∧ r.2.mem ((c.tc : Thread Cert.MoeReferenceIdeal.nD Cert.MoeReferenceIdeal.τ).loc Cert.MoeReferenceIdeal.main_arg7) = m' ((c.tc : Thread Cert.MoeReferenceIdeal.nD Cert.MoeReferenceIdeal.τ).loc Cert.MoeReferenceIdeal.main_arg7))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)
      ∧ m' ((c.tc : Thread Cert.ProjReferenceIdeal.nD Cert.ProjReferenceIdeal.τ).loc Cert.ProjReferenceIdeal.main_arg6) = m ((c.tc : Thread Cert.ProjKernelIdeal.nD Cert.ProjKernelIdeal.τ).loc Cert.ProjKernelIdeal.main_arg6)
      ∧ m' ((c.tc : Thread Cert.ProjReferenceIdeal.nD Cert.ProjReferenceIdeal.τ).loc Cert.ProjReferenceIdeal.main_arg7) = m ((c.tc : Thread Cert.ProjKernelIdeal.nD Cert.ProjKernelIdeal.τ).loc Cert.ProjKernelIdeal.main_arg7)
      ∧ m' ((c.tc : Thread Cert.ProjReferenceIdeal.nD Cert.ProjReferenceIdeal.τ).loc Cert.ProjReferenceIdeal.main_arg8) = m ((c.tc : Thread Cert.ProjKernelIdeal.nD Cert.ProjKernelIdeal.τ).loc Cert.ProjKernelIdeal.main_arg8)
      ∧ m' ((c.tc : Thread Cert.ProjReferenceIdeal.nD Cert.ProjReferenceIdeal.τ).loc Cert.ProjReferenceIdeal.main_arg9) = m ((c.tc : Thread Cert.ProjKernelIdeal.nD Cert.ProjKernelIdeal.τ).loc Cert.ProjKernelIdeal.main_arg9)
      ∧ m' ((c.tc : Thread Cert.ProjReferenceIdeal.nD Cert.ProjReferenceIdeal.τ).loc Cert.ProjReferenceIdeal.main_arg10) = m ((c.tc : Thread Cert.ProjKernelIdeal.nD Cert.ProjKernelIdeal.τ).loc Cert.ProjKernelIdeal.main_arg10)
      ∧ m' ((c.tc : Thread Cert.ProjReferenceIdeal.nD Cert.ProjReferenceIdeal.τ).loc Cert.ProjReferenceIdeal.main_arg11) = m ((c.tc : Thread Cert.ProjKernelIdeal.nD Cert.ProjKernelIdeal.τ).loc Cert.ProjKernelIdeal.main_arg11)
      ∧ m' ((c.tc : Thread Cert.ProjReferenceIdeal.nD Cert.ProjReferenceIdeal.τ).loc Cert.ProjReferenceIdeal.main_arg12) = m ((c.tc : Thread Cert.ProjKernelIdeal.nD Cert.ProjKernelIdeal.τ).loc Cert.ProjKernelIdeal.main_arg12)
      ∧ m' ((c.tc : Thread Cert.ProjReferenceIdeal.nD Cert.ProjReferenceIdeal.τ).loc Cert.ProjReferenceIdeal.main_arg13) = m ((c.tc : Thread Cert.ProjKernelIdeal.nD Cert.ProjKernelIdeal.τ).loc Cert.ProjKernelIdeal.main_arg13)) →
    ∃ (v0 : (c : Dev Cert.ProjKernelIdeal.nD) → Buf (Elt Ideal) ((c.tc : Thread Cert.ProjKernelIdeal.nD Cert.ProjKernelIdeal.τ).loc Cert.ProjKernelIdeal.main_v50_0)) (v1 : (c : Dev Cert.ProjKernelIdeal.nD) → Buf (Elt Ideal) ((c.tc : Thread Cert.ProjKernelIdeal.nD Cert.ProjKernelIdeal.τ).loc Cert.ProjKernelIdeal.main_v50_1)) (v2 : (c : Dev Cert.ProjKernelIdeal.nD) → Buf (Elt Ideal) ((c.tc : Thread Cert.ProjKernelIdeal.nD Cert.ProjKernelIdeal.τ).loc Cert.ProjKernelIdeal.main_v50_2)) (v3 : (c : Dev Cert.ProjKernelIdeal.nD) → Buf (Elt Ideal) ((c.tc : Thread Cert.ProjKernelIdeal.nD Cert.ProjKernelIdeal.τ).loc Cert.ProjKernelIdeal.main_v50_3)) (v4 : (c : Dev Cert.ProjKernelIdeal.nD) → Buf (Elt Ideal) ((c.tc : Thread Cert.ProjKernelIdeal.nD Cert.ProjKernelIdeal.τ).loc Cert.ProjKernelIdeal.main_v50_4)) (v5 : (c : Dev Cert.ProjKernelIdeal.nD) → Buf (Elt Ideal) ((c.tc : Thread Cert.ProjKernelIdeal.nD Cert.ProjKernelIdeal.τ).loc Cert.ProjKernelIdeal.main_v50_5)) (v6 : (c : Dev Cert.ProjKernelIdeal.nD) → Buf (Elt Ideal) ((c.tc : Thread Cert.ProjKernelIdeal.nD Cert.ProjKernelIdeal.τ).loc Cert.ProjKernelIdeal.main_v50_6)) (v7 : (c : Dev Cert.ProjKernelIdeal.nD) → Buf (Elt Ideal) ((c.tc : Thread Cert.ProjKernelIdeal.nD Cert.ProjKernelIdeal.τ).loc Cert.ProjKernelIdeal.main_v50_7)) (v8 : (c : Dev Cert.ProjKernelIdeal.nD) → Buf (Elt Ideal) ((c.tc : Thread Cert.ProjKernelIdeal.nD Cert.ProjKernelIdeal.τ).loc Cert.ProjKernelIdeal.main_v50_8)) (v9 : (c : Dev Cert.ProjKernelIdeal.nD) → Buf (Elt Ideal) ((c.tc : Thread Cert.ProjKernelIdeal.nD Cert.ProjKernelIdeal.τ).loc Cert.ProjKernelIdeal.main_v50_9)) (v10 : (c : Dev Cert.ProjKernelIdeal.nD) → Buf (Elt Ideal) ((c.tc : Thread Cert.ProjKernelIdeal.nD Cert.ProjKernelIdeal.τ).loc Cert.ProjKernelIdeal.main_v50_10)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v50_0) = v0 c
          ∧ r.2.mem ((c.tc : Thread Cert.ProjKernelIdeal.nD Cert.ProjKernelIdeal.τ).loc Cert.ProjKernelIdeal.main_v50_1) = v1 c
          ∧ r.2.mem ((c.tc : Thread Cert.ProjKernelIdeal.nD Cert.ProjKernelIdeal.τ).loc Cert.ProjKernelIdeal.main_v50_2) = v2 c
          ∧ r.2.mem ((c.tc : Thread Cert.ProjKernelIdeal.nD Cert.ProjKernelIdeal.τ).loc Cert.ProjKernelIdeal.main_v50_3) = v3 c
          ∧ r.2.mem ((c.tc : Thread Cert.ProjKernelIdeal.nD Cert.ProjKernelIdeal.τ).loc Cert.ProjKernelIdeal.main_v50_4) = v4 c
          ∧ r.2.mem ((c.tc : Thread Cert.ProjKernelIdeal.nD Cert.ProjKernelIdeal.τ).loc Cert.ProjKernelIdeal.main_v50_5) = v5 c
          ∧ r.2.mem ((c.tc : Thread Cert.ProjKernelIdeal.nD Cert.ProjKernelIdeal.τ).loc Cert.ProjKernelIdeal.main_v50_6) = v6 c
          ∧ r.2.mem ((c.tc : Thread Cert.ProjKernelIdeal.nD Cert.ProjKernelIdeal.τ).loc Cert.ProjKernelIdeal.main_v50_7) = v7 c
          ∧ r.2.mem ((c.tc : Thread Cert.ProjKernelIdeal.nD Cert.ProjKernelIdeal.τ).loc Cert.ProjKernelIdeal.main_v50_8) = v8 c
          ∧ r.2.mem ((c.tc : Thread Cert.ProjKernelIdeal.nD Cert.ProjKernelIdeal.τ).loc Cert.ProjKernelIdeal.main_v50_9) = v9 c
          ∧ r.2.mem ((c.tc : Thread Cert.ProjKernelIdeal.nD Cert.ProjKernelIdeal.τ).loc Cert.ProjKernelIdeal.main_v50_10) = v10 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
          ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
          ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
          ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7)
          ∧ r.2.mem ((c.tc : Thread Cert.ProjKernelIdeal.nD Cert.ProjKernelIdeal.τ).loc Cert.ProjKernelIdeal.main_arg8) = m ((c.tc : Thread Cert.ProjKernelIdeal.nD Cert.ProjKernelIdeal.τ).loc Cert.ProjKernelIdeal.main_arg8)
          ∧ r.2.mem ((c.tc : Thread Cert.ProjKernelIdeal.nD Cert.ProjKernelIdeal.τ).loc Cert.ProjKernelIdeal.main_arg9) = m ((c.tc : Thread Cert.ProjKernelIdeal.nD Cert.ProjKernelIdeal.τ).loc Cert.ProjKernelIdeal.main_arg9)
          ∧ r.2.mem ((c.tc : Thread Cert.ProjKernelIdeal.nD Cert.ProjKernelIdeal.τ).loc Cert.ProjKernelIdeal.main_arg10) = m ((c.tc : Thread Cert.ProjKernelIdeal.nD Cert.ProjKernelIdeal.τ).loc Cert.ProjKernelIdeal.main_arg10)
          ∧ r.2.mem ((c.tc : Thread Cert.ProjKernelIdeal.nD Cert.ProjKernelIdeal.τ).loc Cert.ProjKernelIdeal.main_arg11) = m ((c.tc : Thread Cert.ProjKernelIdeal.nD Cert.ProjKernelIdeal.τ).loc Cert.ProjKernelIdeal.main_arg11)
          ∧ r.2.mem ((c.tc : Thread Cert.ProjKernelIdeal.nD Cert.ProjKernelIdeal.τ).loc Cert.ProjKernelIdeal.main_arg12) = m ((c.tc : Thread Cert.ProjKernelIdeal.nD Cert.ProjKernelIdeal.τ).loc Cert.ProjKernelIdeal.main_arg12)
          ∧ r.2.mem ((c.tc : Thread Cert.ProjKernelIdeal.nD Cert.ProjKernelIdeal.τ).loc Cert.ProjKernelIdeal.main_arg13) = m ((c.tc : Thread Cert.ProjKernelIdeal.nD Cert.ProjKernelIdeal.τ).loc Cert.ProjKernelIdeal.main_arg13))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v178) = v0 c
          ∧ r.2.mem ((c.tc : Thread Cert.ProjReferenceIdeal.nD Cert.ProjReferenceIdeal.τ).loc Cert.ProjReferenceIdeal.main_v179) = v1 c
          ∧ r.2.mem ((c.tc : Thread Cert.ProjReferenceIdeal.nD Cert.ProjReferenceIdeal.τ).loc Cert.ProjReferenceIdeal.main_v181) = v2 c
          ∧ r.2.mem ((c.tc : Thread Cert.ProjReferenceIdeal.nD Cert.ProjReferenceIdeal.τ).loc Cert.ProjReferenceIdeal.main_v182) = v3 c
          ∧ r.2.mem ((c.tc : Thread Cert.ProjReferenceIdeal.nD Cert.ProjReferenceIdeal.τ).loc Cert.ProjReferenceIdeal.main_v183) = v4 c
          ∧ r.2.mem ((c.tc : Thread Cert.ProjReferenceIdeal.nD Cert.ProjReferenceIdeal.τ).loc Cert.ProjReferenceIdeal.main_v177) = v5 c
          ∧ r.2.mem ((c.tc : Thread Cert.ProjReferenceIdeal.nD Cert.ProjReferenceIdeal.τ).loc Cert.ProjReferenceIdeal.main_v184) = v6 c
          ∧ r.2.mem ((c.tc : Thread Cert.ProjReferenceIdeal.nD Cert.ProjReferenceIdeal.τ).loc Cert.ProjReferenceIdeal.main_v185) = v7 c
          ∧ r.2.mem ((c.tc : Thread Cert.ProjReferenceIdeal.nD Cert.ProjReferenceIdeal.τ).loc Cert.ProjReferenceIdeal.main_v186) = v8 c
          ∧ r.2.mem ((c.tc : Thread Cert.ProjReferenceIdeal.nD Cert.ProjReferenceIdeal.τ).loc Cert.ProjReferenceIdeal.main_v174) = v9 c
          ∧ r.2.mem ((c.tc : Thread Cert.ProjReferenceIdeal.nD Cert.ProjReferenceIdeal.τ).loc Cert.ProjReferenceIdeal.main_v175) = v10 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9)
          ∧ r.2.mem ((c.tc : Thread Cert.ProjReferenceIdeal.nD Cert.ProjReferenceIdeal.τ).loc Cert.ProjReferenceIdeal.main_arg10) = m' ((c.tc : Thread Cert.ProjReferenceIdeal.nD Cert.ProjReferenceIdeal.τ).loc Cert.ProjReferenceIdeal.main_arg10)
          ∧ r.2.mem ((c.tc : Thread Cert.ProjReferenceIdeal.nD Cert.ProjReferenceIdeal.τ).loc Cert.ProjReferenceIdeal.main_arg11) = m' ((c.tc : Thread Cert.ProjReferenceIdeal.nD Cert.ProjReferenceIdeal.τ).loc Cert.ProjReferenceIdeal.main_arg11)
          ∧ r.2.mem ((c.tc : Thread Cert.ProjReferenceIdeal.nD Cert.ProjReferenceIdeal.τ).loc Cert.ProjReferenceIdeal.main_arg12) = m' ((c.tc : Thread Cert.ProjReferenceIdeal.nD Cert.ProjReferenceIdeal.τ).loc Cert.ProjReferenceIdeal.main_arg12)
          ∧ r.2.mem ((c.tc : Thread Cert.ProjReferenceIdeal.nD Cert.ProjReferenceIdeal.τ).loc Cert.ProjReferenceIdeal.main_arg13) = m' ((c.tc : Thread Cert.ProjReferenceIdeal.nD Cert.ProjReferenceIdeal.τ).loc Cert.ProjReferenceIdeal.main_arg13))

def preserves_MlaKernel_MlaKernelIdeal : Prop :=
  True

def algebraic_MlaKernelIdeal_MlaReferenceIdeal_pre_qk_finite [hMlaKernelIdeal : Cert.MlaKernelIdeal.Facts] [hMlaReferenceIdeal : Cert.MlaReferenceIdeal.Facts] [hPre_qk_finite : Cert.Pre_qk_finite.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaKernelIdeal_qk_finite m →
    (∀ c : Dev Cert.MlaKernelIdeal.nD,
      m' ((c.tc : Thread Cert.MlaReferenceIdeal.nD Cert.MlaReferenceIdeal.τ).loc Cert.MlaReferenceIdeal.main_arg0) = m ((c.tc : Thread Cert.MlaKernelIdeal.nD Cert.MlaKernelIdeal.τ).loc Cert.MlaKernelIdeal.main_arg0)
      ∧ m' ((c.tc : Thread Cert.MlaReferenceIdeal.nD Cert.MlaReferenceIdeal.τ).loc Cert.MlaReferenceIdeal.main_arg1) = m ((c.tc : Thread Cert.MlaKernelIdeal.nD Cert.MlaKernelIdeal.τ).loc Cert.MlaKernelIdeal.main_arg1)
      ∧ m' ((c.tc : Thread Cert.MlaReferenceIdeal.nD Cert.MlaReferenceIdeal.τ).loc Cert.MlaReferenceIdeal.main_arg2) = m ((c.tc : Thread Cert.MlaKernelIdeal.nD Cert.MlaKernelIdeal.τ).loc Cert.MlaKernelIdeal.main_arg2)) →
    ∃ (v0 : (c : Dev Cert.MlaKernelIdeal.nD) → Buf (Elt Ideal) ((c.tc : Thread Cert.MlaKernelIdeal.nD Cert.MlaKernelIdeal.τ).loc Cert.MlaKernelIdeal.main_v0)),
      θ_run (Cert.MlaKernelIdeal.defs (F := Ideal)) (onTc (τ := Cert.MlaKernelIdeal.τ) (Cert.MlaKernelIdeal.main (F := Ideal))) ⟨m, fun _ => 0, g⟩ (fun r => ∀ c : Dev Cert.MlaKernelIdeal.nD,
          r.2.mem ((c.tc : Thread Cert.MlaKernelIdeal.nD Cert.MlaKernelIdeal.τ).loc Cert.MlaKernelIdeal.main_v0) = v0 c
          ∧ r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
          ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
          ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v30) = v0 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2))

def Claim : Prop :=
  ∃ (hSbKernel : Cert.SbKernel.Facts) (hSbKernelIdeal : Cert.SbKernelIdeal.Facts) (hSbReferenceIdeal : Cert.SbReferenceIdeal.Facts) (hMoeKernel : Cert.MoeKernel.Facts) (hMoeKernelIdeal : Cert.MoeKernelIdeal.Facts) (hMoeReferenceIdeal : Cert.MoeReferenceIdeal.Facts) (hProjKernel : Cert.ProjKernel.Facts) (hProjKernelIdeal : Cert.ProjKernelIdeal.Facts) (hProjReferenceIdeal : Cert.ProjReferenceIdeal.Facts) (hMlaKernel : Cert.MlaKernel.Facts) (hMlaKernelIdeal : Cert.MlaKernelIdeal.Facts) (hMlaReferenceIdeal : Cert.MlaReferenceIdeal.Facts) (hPre_qkv_finite : Cert.Pre_qkv_finite.Facts) (hPre_blocks_routed : Cert.Pre_blocks_routed.Facts) (hPre_qk_finite : Cert.Pre_qk_finite.Facts),
    quiescent_SbKernel (hSbKernel := hSbKernel)
    ∧ quiescent_SbKernelIdeal (hSbKernelIdeal := hSbKernelIdeal)
    ∧ quiescent_SbKernelIdeal_pre_qkv_finite (hSbKernelIdeal := hSbKernelIdeal) (hPre_qkv_finite := hPre_qkv_finite)
    ∧ quiescent_SbReferenceIdeal (hSbReferenceIdeal := hSbReferenceIdeal)
    ∧ quiescent_SbReferenceIdeal_pre_qkv_finite (hSbReferenceIdeal := hSbReferenceIdeal) (hPre_qkv_finite := hPre_qkv_finite)
    ∧ quiescent_MoeKernel (hMoeKernel := hMoeKernel) (hPre_blocks_routed := hPre_blocks_routed)
    ∧ quiescent_MoeKernelIdeal (hMoeKernelIdeal := hMoeKernelIdeal) (hPre_blocks_routed := hPre_blocks_routed)
    ∧ quiescent_MoeReferenceIdeal (hMoeReferenceIdeal := hMoeReferenceIdeal)
    ∧ quiescent_MoeReferenceIdeal_pre_blocks_routed (hMoeReferenceIdeal := hMoeReferenceIdeal) (hPre_blocks_routed := hPre_blocks_routed)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_MlaKernel (hMlaKernel := hMlaKernel)
    ∧ quiescent_MlaKernelIdeal (hMlaKernelIdeal := hMlaKernelIdeal)
    ∧ quiescent_MlaKernelIdeal_pre_qk_finite (hMlaKernelIdeal := hMlaKernelIdeal) (hPre_qk_finite := hPre_qk_finite)
    ∧ quiescent_MlaReferenceIdeal (hMlaReferenceIdeal := hMlaReferenceIdeal)
    ∧ quiescent_MlaReferenceIdeal_pre_qk_finite (hMlaReferenceIdeal := hMlaReferenceIdeal) (hPre_qk_finite := hPre_qk_finite)
    ∧ preserves_SbKernel_SbKernelIdeal
    ∧ algebraic_SbKernelIdeal_SbReferenceIdeal_pre_qkv_finite (hSbKernelIdeal := hSbKernelIdeal) (hSbReferenceIdeal := hSbReferenceIdeal) (hPre_qkv_finite := hPre_qkv_finite)
    ∧ preserves_MoeKernel_MoeKernelIdeal
    ∧ algebraic_MoeKernelIdeal_MoeReferenceIdeal (hMoeKernelIdeal := hMoeKernelIdeal) (hMoeReferenceIdeal := hMoeReferenceIdeal) (hPre_blocks_routed := hPre_blocks_routed)
    ∧ preserves_ProjKernel_ProjKernelIdeal
    ∧ algebraic_ProjKernelIdeal_ProjReferenceIdeal (hProjKernelIdeal := hProjKernelIdeal) (hProjReferenceIdeal := hProjReferenceIdeal)
    ∧ preserves_MlaKernel_MlaKernelIdeal
    ∧ algebraic_MlaKernelIdeal_MlaReferenceIdeal_pre_qk_finite (hMlaKernelIdeal := hMlaKernelIdeal) (hMlaReferenceIdeal := hMlaReferenceIdeal) (hPre_qk_finite := hPre_qk_finite)
-- ==== Pre_blocks_routed.lean ====
abbrev S288 : Shape := ⟨1, ![288]⟩
abbrev S1 : Shape := ⟨1, ![1]⟩
abbrev S73728x1024 : Shape := ⟨2, ![73728, 1024]⟩
abbrev S73728x1 : Shape := ⟨2, ![73728, 1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S288x1 : Shape := ⟨2, ![288, 1]⟩
abbrev S_ : Shape := ⟨0, ![]⟩
abbrev S288x256 : Shape := ⟨2, ![288, 256]⟩

class Facts : Prop where
  bcast_S288_S288x1_0 : S288.BroadcastsInDim S288x1 (![0] : Fin 1 → Fin S288x1.rank)
  shapeCasts_S1_S_ : S1.ShapeCasts S_
  bcast_S_S288x1 : S_.BroadcastsInDim S288x1 (![] : Fin 0 → Fin S288x1.rank)
  bcast_S_S288 : S_.BroadcastsInDim S288 (![] : Fin 0 → Fin S288.rank)
  reducesTo_S288_S_d0 : S288.ReducesTo [0] S_
  h_S_ : 0 < S_.numel
  shapeCasts_S73728x1_S288x256 : S73728x1.ShapeCasts S288x256
  bcast_S_S288x256 : S_.BroadcastsInDim S288x256 (![] : Fin 0 → Fin S288x256.rank)
  bcast_S288x1_S288x256_0_1 : S288x1.BroadcastsInDim S288x256 (![0, 1] : Fin 2 → Fin S288x256.rank)
  reducesTo_S288x256_S_d0_1 : S288x256.ReducesTo [0, 1] S_

variable [Facts]

def fn {F : FTy → Type} [FloatOps F] (main_arg0 : IVec S288 32) (main_arg1 : IVec S1 32) (main_arg2 : FVec F S73728x1024 .bf16) (main_arg3 : FVec F S73728x1 .f32) (main_arg4 : FVec F S32x1024x2048 .f32) (main_arg5 : FVec F S32x2048 .f32) (main_arg6 : FVec F S32x1024x1024 .f32) (main_arg7 : FVec F S32x1024 .f32) : IVec S_ 1 :=
  let main_v0 : IVec S288 32 := iotaInDim S288 32 0
  let main_v1 : IVec S288x1 32 := broadcastInDim S288x1 ![0] bcast_S288_S288x1_0 main_v0
  let main_v2 : IVec S_ 32 := shapeCast S_ main_arg1 shapeCasts_S1_S_
  let main_v3 : IVec S288x1 32 := broadcastInDim S288x1 ![] bcast_S_S288x1 main_v2
  let main_v4 : IVec S288x1 1 := cmpi .slt main_v1 main_v3
  let main_c : IVec S_ 32 := constantI S_ 32 0#32
  let main_v5 : IVec S288 32 := broadcastInDim S288 ![] bcast_S_S288 main_c
  let main_v6 : IVec S288 1 := cmpi .sge main_arg0 main_v5
  let main_c_0 : IVec S_ 32 := constantI S_ 32 32#32
  let main_v7 : IVec S288 32 := broadcastInDim S288 ![] bcast_S_S288 main_c_0
  let main_v8 : IVec S288 1 := cmpi .slt main_arg0 main_v7
  let main_v9 : IVec S288 1 := andi main_v6 main_v8
  let main_c_1 : IVec S_ 1 := constantI S_ 1 1#1
  let main_v10 : IVec S_ 1 := (fun x v => Host.reduce IntOp.andi x v reducesTo_S288_S_d0 h_S_) main_v9 main_c_1
  let main_v11 : FVec F S288x256 .f32 := shapeCast S288x256 main_arg3 shapeCasts_S73728x1_S288x256
  let main_cst : FVec F S_ .f32 := constant S_ .f32 0x00000000#32
  let main_v12 : FVec F S288x256 .f32 := broadcastInDim S288x256 ![] bcast_S_S288x256 main_cst
  let main_v13 : IVec S288x256 1 := cmpf .oeq main_v11 main_v12
  let main_v14 : IVec S288x256 1 := broadcastInDim S288x256 ![0, 1] bcast_S288x1_S288x256_0_1 main_v4
  let main_v15 : IVec S288x256 1 := ori main_v14 main_v13
  let main_c_2 : IVec S_ 1 := constantI S_ 1 1#1
  let main_v16 : IVec S_ 1 := (fun x v => Host.reduce IntOp.andi x v reducesTo_S288x256_S_d0_1 h_S_) main_v15 main_c_2
  let main_v17 : IVec S_ 1 := andi main_v10 main_v16
  main_v17
-- ==== Pre_qk_finite.lean ====
abbrev S16384x768 : Shape := ⟨2, ![16384, 768]⟩
abbrev S16384x384 : Shape := ⟨2, ![16384, 384]⟩
abbrev S_ : Shape := ⟨0, ![]⟩

class Facts : Prop where
  bitsLt_bf16_f32 : FTy.bits .bf16 < FTy.bits .f32
  bcast_S_S16384x768 : S_.BroadcastsInDim S16384x768 (![] : Fin 0 → Fin S16384x768.rank)
  reducesTo_S16384x768_S_d0_1 : S16384x768.ReducesTo [0, 1] S_
  h_S_ : 0 < S_.numel

variable [Facts]

def fn {F : FTy → Type} [FloatOps F] (main_arg0 : FVec F S16384x768 .bf16) (main_arg1 : FVec F S16384x768 .bf16) (main_arg2 : FVec F S16384x384 .bf16) : IVec S_ 1 :=
  let main_v0 : FVec F S16384x768 .f32 := (extf .f32 · bitsLt_bf16_f32) main_arg0
  let main_v1 : FVec F S16384x768 .f32 := Host.absf main_v0
  let main_cst : FVec F S_ .f32 := constant S_ .f32 0x7F800000#32
  let main_v2 : FVec F S16384x768 .f32 := broadcastInDim S16384x768 ![] bcast_S_S16384x768 main_cst
  let main_v3 : IVec S16384x768 1 := cmpf .olt main_v1 main_v2
  let main_c : IVec S_ 1 := constantI S_ 1 1#1
  let main_v4 : IVec S_ 1 := (fun x v => Host.reduce IntOp.andi x v reducesTo_S16384x768_S_d0_1 h_S_) main_v3 main_c
  let main_v5 : FVec F S16384x768 .f32 := (extf .f32 · bitsLt_bf16_f32) main_arg1
  let main_v6 : FVec F S16384x768 .f32 := Host.absf main_v5
  let main_cst_0 : FVec F S_ .f32 := constant S_ .f32 0x7F800000#32
  let main_v7 : FVec F S16384x768 .f32 := broadcastInDim S16384x768 ![] bcast_S_S16384x768 main_cst_0
  let main_v8 : IVec S16384x768 1 := cmpf .olt main_v6 main_v7
  let main_c_1 : IVec S_ 1 := constantI S_ 1 1#1
  let main_v9 : IVec S_ 1 := (fun x v => Host.reduce IntOp.andi x v reducesTo_S16384x768_S_d0_1 h_S_) main_v8 main_c_1
  let main_v10 : IVec S_ 1 := andi main_v4 main_v9
  main_v10
-- ==== Pre_qkv_finite.lean ====
abbrev S16384x256 : Shape := ⟨2, ![16384, 256]⟩
abbrev S_ : Shape := ⟨0, ![]⟩

class Facts : Prop where
  bitsLt_bf16_f32 : FTy.bits .bf16 < FTy.bits .f32
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn {F : FTy → Type} [FloatOps F] (main_arg0 : FVec F S16384x256 .bf16) (main_arg1 : FVec F S16384x256 .bf16) (main_arg2 : FVec F S16384x256 .bf16) : IVec S_ 1 :=
  let main_v0 : FVec F S16384x256 .f32 := (extf .f32 · bitsLt_bf16_f32) main_arg0
  let main_v1 : FVec F S16384x256 .f32 := Host.absf main_v0
  let main_cst : FVec F S_ .f32 := constant S_ .f32 0x7F800000#32
  let main_v2 : FVec F S16384x256 .f32 := broadcastInDim S16384x256 ![] bcast_S_S16384x256 main_cst
  let main_v3 : IVec S16384x256 1 := cmpf .olt main_v1 main_v2
  let main_c : IVec S_ 1 := constantI S_ 1 1#1
  let main_v4 : IVec S_ 1 := (fun x v => Host.reduce IntOp.andi x v reducesTo_S16384x256_S_d0_1 h_S_) main_v3 main_c
  let main_v5 : FVec F S16384x256 .f32 := (extf .f32 · bitsLt_bf16_f32) main_arg1
  let main_v6 : FVec F S16384x256 .f32 := Host.absf main_v5
  let main_cst_0 : FVec F S_ .f32 := constant S_ .f32 0x7F800000#32
  let main_v7 : FVec F S16384x256 .f32 := broadcastInDim S16384x256 ![] bcast_S_S16384x256 main_cst_0
  let main_v8 : IVec S16384x256 1 := cmpf .olt main_v6 main_v7
  let main_c_1 : IVec S_ 1 := constantI S_ 1 1#1
  let main_v9 : IVec S_ 1 := (fun x v => Host.reduce IntOp.andi x v reducesTo_S16384x256_S_d0_1 h_S_) main_v8 main_c_1
  let main_v10 : IVec S_ 1 := andi main_v4 main_v9
  main_v10
-- ==== SbKernel.lean ====
abbrev S16384x256 : Shape := ⟨2, ![16384, 256]⟩
abbrev S256x512 : Shape := ⟨2, ![256, 512]⟩
abbrev S256x128 : Shape := ⟨2, ![256, 128]⟩
abbrev S2048x128 : Shape := ⟨2, ![2048, 128]⟩
abbrev S2x256x128 : Shape := ⟨3, ![2, 256, 128]⟩
abbrev S2x256x256 : Shape := ⟨3, ![2, 256, 256]⟩
abbrev S256x256 : Shape := ⟨2, ![256, 256]⟩
abbrev S1x256x256 : Shape := ⟨3, ![1, 256, 256]⟩
abbrev S1x256x128 : Shape := ⟨3, ![1, 256, 128]⟩

abbrev nBuf : Space → Nat
  | .hbm => 5
  | .vmem => 11
  | .smem => 0
  | _ => 0

abbrev bufTy : (tb : Table) → Fin (tcTables nBuf tb) → BufTy
  | .hbm, ⟨0, _⟩ => ⟨S16384x256, .bf16⟩
  | .hbm, ⟨1, _⟩ => ⟨S16384x256, .bf16⟩
  | .hbm, ⟨2, _⟩ => ⟨S16384x256, .bf16⟩
  | .hbm, ⟨3, _⟩ => ⟨S256x512, .bf16⟩
  | .hbm, ⟨4, _⟩ => ⟨S16384x256, .bf16⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x512, .bf16⟩
  | .local _ .vmem, ⟨7, _⟩ => ⟨S256x128, .bf16⟩
  | .local _ .vmem, ⟨8, _⟩ => ⟨S256x128, .bf16⟩
  | .local _ .vmem, ⟨9, _⟩ => ⟨S2x256x128, .f32⟩
  | .local _ .vmem, ⟨10, _⟩ => ⟨S2x256x256, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 2, 8], ![false, false, false]⟩

def k0_mult1 (i : grid0.Coords) : BitVec 32 :=
  let arg2 : BitVec 32 := BitVec.ofNat 32 (i 2).val
  let c256_i32 : BitVec 32 := 256#32
  let v18 : BitVec 32 := Scalar.muli arg2 c256_i32
  v18
def k0_off1 (i : grid0.Coords) : Fin 2 → Nat :=
  let arg2 : BitVec 32 := BitVec.ofNat 32 (i 2).val
  let c256_i32 : BitVec 32 := 256#32
  let v18 : BitVec 32 := Scalar.muli arg2 c256_i32
  let v19 : BitVec 32 := v18
  let v20 : Index := Scalar.indexCast v19
  let c0_12 : Index := 0#32
  ![v20.toNat, 0]
@[reducible] def k0_t1_loop (i : grid0.Coords) : Scf.Loop 32 :=
  let c0_i32_59 : BitVec 32 := 0#32
  let arg2 : BitVec 32 := BitVec.ofNat 32 (i 2).val
  let v114 : BitVec 32 := Scalar.subi arg2 c0_i32_59
  let c1_i32 : BitVec 32 := 1#32
  let v116 : BitVec 32 := Scalar.divsi v114 c1_i32
  let v117 : BitVec 32 := Scalar.muli v116 c1_i32
  let v118 : BitVec 32 := Scalar.addi c0_i32_59 v117
  let c1_i32_60 : BitVec 32 := 1#32
  ⟨c0_i32_59, v118, c1_i32_60⟩
def k0_mult2 (i : grid0.Coords) (k0_t1 : Fin (k0_t1_loop i).trips) : BitVec 32 :=
  let arg2 : BitVec 32 := BitVec.ofNat 32 (i 2).val
  let c1_i32_71 : BitVec 32 := 1#32
  let v128 : BitVec 32 := Scalar.subi arg2 c1_i32_71
  let c0_i32_59 : BitVec 32 := 0#32
  let c1_i32_60 : BitVec 32 := 1#32
  let arg10 : BitVec 32 := Scf.iv c0_i32_59 c1_i32_60 k0_t1
  let v129 : BitVec 32 := Scalar.subi v128 arg10
  let c256_i32_72 : BitVec 32 := 256#32
  let v130 : BitVec 32 := Scalar.muli v129 c256_i32_72
  v130
def k0_off2 (i : grid0.Coords) (k0_t1 : Fin (k0_t1_loop i).trips) : Fin 2 → Nat :=
  let arg2 : BitVec 32 := BitVec.ofNat 32 (i 2).val
  let c1_i32_71 : BitVec 32 := 1#32
  let v128 : BitVec 32 := Scalar.subi arg2 c1_i32_71
  let c0_i32_59 : BitVec 32 := 0#32
  let c1_i32_60 : BitVec 32 := 1#32
  let arg10 : BitVec 32 := Scf.iv c0_i32_59 c1_i32_60 k0_t1
  let v129 : BitVec 32 := Scalar.subi v128 arg10
  let c256_i32_72 : BitVec 32 := 256#32
  let v130 : BitVec 32 := Scalar.muli v129 c256_i32_72
  let v131 : BitVec 32 := v130
  let v132 : Index := Scalar.indexCast v131
  let c0_73 : Index := 0#32
  ![v132.toNat, 0]
@[reducible] def k0_t2_loop (i : grid0.Coords) : Scf.Loop 32 :=
  let c0_i32_59 : BitVec 32 := 0#32
  let arg2 : BitVec 32 := BitVec.ofNat 32 (i 2).val
  let v114 : BitVec 32 := Scalar.subi arg2 c0_i32_59
  let c1_i32 : BitVec 32 := 1#32
  let v116 : BitVec 32 := Scalar.divsi v114 c1_i32
  let v117 : BitVec 32 := Scalar.muli v116 c1_i32
  let v118 : BitVec 32 := Scalar.addi c0_i32_59 v117
  let v115 : BitVec 32 := Scalar.addi c0_i32_59 v114
  let c1_i32_61 : BitVec 32 := 1#32
  ⟨v118, v115, c1_i32_61⟩
def k0_mult3 (i : grid0.Coords) (k0_t2 : Fin (k0_t2_loop i).trips) : BitVec 32 :=
  let arg2 : BitVec 32 := BitVec.ofNat 32 (i 2).val
  let c1_i32_71 : BitVec 32 := 1#32
  let v128 : BitVec 32 := Scalar.subi arg2 c1_i32_71
  let c0_i32_59 : BitVec 32 := 0#32
  let v114 : BitVec 32 := Scalar.subi arg2 c0_i32_59
  let c1_i32 : BitVec 32 := 1#32
  let v116 : BitVec 32 := Scalar.divsi v114 c1_i32
  let v117 : BitVec 32 := Scalar.muli v116 c1_i32
  let v118 : BitVec 32 := Scalar.addi c0_i32_59 v117
  let c1_i32_61 : BitVec 32 := 1#32
  let arg10 : BitVec 32 := Scf.iv v118 c1_i32_61 k0_t2
  let v129 : BitVec 32 := Scalar.subi v128 arg10
  let c256_i32_72 : BitVec 32 := 256#32
  let v130 : BitVec 32 := Scalar.muli v129 c256_i32_72
  v130
def k0_off3 (i : grid0.Coords) (k0_t2 : Fin (k0_t2_loop i).trips) : Fin 2 → Nat :=
  let arg2 : BitVec 32 := BitVec.ofNat 32 (i 2).val
  let c1_i32_71 : BitVec 32 := 1#32
  let v128 : BitVec 32 := Scalar.subi arg2 c1_i32_71
  let c0_i32_59 : BitVec 32 := 0#32
  let v114 : BitVec 32 := Scalar.subi arg2 c0_i32_59
  let c1_i32 : BitVec 32 := 1#32
  let v116 : BitVec 32 := Scalar.divsi v114 c1_i32
  let v117 : BitVec 32 := Scalar.muli v116 c1_i32
  let v118 : BitVec 32 := Scalar.addi c0_i32_59 v117
  let c1_i32_61 : BitVec 32 := 1#32
  let arg10 : BitVec 32 := Scf.iv v118 c1_i32_61 k0_t2
  let v129 : BitVec 32 := Scalar.subi v128 arg10
  let c256_i32_72 : BitVec 32 := 256#32
  let v130 : BitVec 32 := Scalar.muli v129 c256_i32_72
  let v131 : BitVec 32 := v130
  let v132 : Index := Scalar.indexCast v131
  let c0_73 : Index := 0#32
  ![v132.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== SbReferenceIdeal.lean ====
abbrev S16384x256 : Shape := ⟨2, ![16384, 256]⟩
abbrev S8x2048x4x64 : Shape := ⟨4, ![8, 2048, 4, 64]⟩
abbrev S2048 : Shape := ⟨1, ![2048]⟩
abbrev S8x4x2048x2048 : Shape := ⟨4, ![8, 4, 2048, 2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S8x4x64x2048 : Shape := ⟨4, ![8, 4, 64, 2048]⟩

abbrev nBuf : Space → Nat
  | .hbm => 69
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S16384x256, .bf16⟩
  | .hbm, ⟨2, _⟩ => ⟨S16384x256, .bf16⟩
  | .hbm, ⟨3, _⟩ => ⟨S16384x256, .f32⟩
  | .hbm, ⟨4, _⟩ => ⟨S8x2048x4x64, .f32⟩
  | .hbm, ⟨5, _⟩ => ⟨S16384x256, .f32⟩
  | .hbm, ⟨6, _⟩ => ⟨S8x2048x4x64, .f32⟩
  | .hbm, ⟨7, _⟩ => ⟨S16384x256, .f32⟩
  | .hbm, ⟨8, _⟩ => ⟨S8x2048x4x64, .f32⟩
  | .hbm, ⟨9, _⟩ => ⟨S2048, .i32⟩
  | .hbm, ⟨10, _⟩ => ⟨S8x4x2048x2048, .f32⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S8x4x2048x2048, .f32⟩
  | .hbm, ⟨17, _⟩ => ⟨S_, .f32⟩
  | .hbm, ⟨18, _⟩ => ⟨S8x4x2048x2048, .f32⟩
  | .hbm, ⟨19, _⟩ => ⟨S8x4x2048x2048, .f32⟩
  | .hbm, ⟨20, _⟩ => ⟨S8x4x2048x2048, .f32⟩
  | .hbm, ⟨21, _⟩ => ⟨S8x4x2048x2048, .f32⟩
  | .hbm, ⟨22, _⟩ => ⟨S8x4x2048x2048, .i1⟩
  | .hbm, ⟨23, _⟩ => ⟨S8x4x2048x2048, .f32⟩
  | .hbm, ⟨24, _⟩ => ⟨S8x4x2048x2048, .f32⟩
  | .hbm, ⟨25, _⟩ => ⟨S8x4x2048x2048, .f32⟩
  | .hbm, ⟨26, _⟩ => ⟨S8x4x2048x2048, .f32⟩
  | .hbm, ⟨27, _⟩ => ⟨S8x4x2048x2048, .f32⟩
  | .hbm, ⟨28, _⟩ => ⟨S8x4x2048x2048, .f32⟩
  | .hbm, ⟨29, _⟩ => ⟨S8x4x2048x2048, .f32⟩
  | .hbm, ⟨30, _⟩ => ⟨S8x4x2048x2048, .f32⟩
  | .hbm, ⟨31, _⟩ => ⟨S8x4x2048x2048, .f32⟩
  | .hbm, ⟨32, _⟩ => ⟨S_, .f32⟩
  | .hbm, ⟨33, _⟩ => ⟨S_, .f32⟩
  | .hbm, ⟨34, _⟩ => ⟨S8x4x2048x2048, .i1⟩
  | .hbm, ⟨35, _⟩ => ⟨S8x4x2048x2048, .f32⟩
  | .hbm, ⟨36, _⟩ => ⟨S8x4x2048x2048, .f32⟩
  | .hbm, ⟨37, _⟩ => ⟨S8x4x2048x2048, .f32⟩
  | .hbm, ⟨38, _⟩ => ⟨S8x4x2048x2048, .f32⟩
  | .hbm, ⟨39, _⟩ => ⟨S_, .f32⟩
  | .hbm, ⟨40, _⟩ => ⟨S8x4x2048x2048, .f32⟩
  | .hbm, ⟨41, _⟩ => ⟨S8x4x2048x2048, .f32⟩
  | .hbm, ⟨42, _⟩ => ⟨S8x4x2048x2048, .f32⟩
  | .hbm, ⟨43, _⟩ => ⟨S8x4x2048x2048, .f32⟩
  | .hbm, ⟨44, _⟩ => ⟨S8x4x2048x2048, .i1⟩
  | .hbm, ⟨45, _⟩ => ⟨S8x4x2048x2048, .f32⟩
  | .hbm, ⟨46, _⟩ => ⟨S8x4x2048x2048, .f32⟩
  | .hbm, ⟨47, _⟩ => ⟨S8x4x2048x2048, .f32⟩
  | .hbm, ⟨48, _⟩ => ⟨S8x4x2048x2048, .f32⟩
  | .hbm, ⟨49, _⟩ => ⟨S8x4x2048x2048, .f32⟩
  | .hbm, ⟨50, _⟩ => ⟨S8x4x2048x2048, .f32⟩
  | .hbm, ⟨51, _⟩ => ⟨S8x4x2048x2048, .f32⟩
  | .hbm, ⟨52, _⟩ => ⟨S8x4x2048x2048, .f32⟩
  | .hbm, ⟨53, _⟩ => ⟨S8x4x2048x2048, .f32⟩
  | .hbm, ⟨54, _⟩ => ⟨S_, .f32⟩
  | .hbm, ⟨55, _⟩ => ⟨S_, .f32⟩
  | .hbm, ⟨56, _⟩ => ⟨S8x4x2048x2048, .i1⟩
  | .hbm, ⟨57, _⟩ => ⟨S8x4x2048x2048, .f32⟩
  | .hbm, ⟨58, _⟩ => ⟨S8x4x2048x2048, .f32⟩
  | .hbm, ⟨59, _⟩ => ⟨S_, .f32⟩
  | .hbm, ⟨60, _⟩ => ⟨S_, .f32⟩
  | .hbm, ⟨61, _⟩ => ⟨S8x4x2048x2048, .f32⟩
  | .hbm, ⟨62, _⟩ => ⟨S8x4x2048x2048, .f32⟩
  | .hbm, ⟨63, _⟩ => ⟨S8x4x2048x2048, .f32⟩
  | .hbm, ⟨64, _⟩ => ⟨S8x4x2048x2048, .f32⟩
  | .hbm, ⟨65, _⟩ => ⟨S8x4x64x2048, .f32⟩
  | .hbm, ⟨66, _⟩ => ⟨S8x2048x4x64, .f32⟩
  | .hbm, ⟨67, _⟩ => ⟨S16384x256, .f32⟩
  | .hbm, ⟨68, _⟩ => ⟨S16384x256, .bf16⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v13 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v14 : Ref sig .tc := ⟨.hbm, 36, rfl⟩
abbrev main_v15 : Ref sig .tc := ⟨.hbm, 37, rfl⟩
abbrev main_call2_v0 : Ref sig .tc := ⟨.hbm, 38, rfl⟩
abbrev main_call2_call0_cst : Ref sig .tc := ⟨.hbm, 39, rfl⟩
abbrev main_call2_call0_v0 : Ref sig .tc := ⟨.hbm, 40, rfl⟩
abbrev main_call2_call0_v1 : Ref sig .tc := ⟨.hbm, 41, rfl⟩
abbrev main_call2_call0_v2 : Ref sig .tc := ⟨.hbm, 42, rfl⟩
abbrev main_call2_call0_v3 : Ref sig .tc := ⟨.hbm, 43, rfl⟩
abbrev main_call2_call0_v4 : Ref sig .tc := ⟨.hbm, 44, rfl⟩
abbrev main_call2_call0_v5 : Ref sig .tc := ⟨.hbm, 45, rfl⟩
abbrev main_call2_call0_v6 : Ref sig .tc := ⟨.hbm, 46, rfl⟩
abbrev main_call2_call0_v7 : Ref sig .tc := ⟨.hbm, 47, rfl⟩
abbrev main_call2_call0_v8 : Ref sig .tc := ⟨.hbm, 48, rfl⟩
abbrev main_call2_call0_v9 : Ref sig .tc := ⟨.hbm, 49, rfl⟩
abbrev main_call2_call0_v10 : Ref sig .tc := ⟨.hbm, 50, rfl⟩
abbrev main_call2_call0_v11 : Ref sig .tc := ⟨.hbm, 51, rfl⟩
abbrev main_call2_v1 : Ref sig .tc := ⟨.hbm, 52, rfl⟩
abbrev main_v16 : Ref sig .tc := ⟨.hbm, 53, rfl⟩
abbrev main_cst_0 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_v17 : Ref sig .tc := ⟨.hbm, 58, rfl⟩
abbrev main_call4_cst : Ref sig .tc := ⟨.hbm, 59, rfl⟩
abbrev main_call4_v0 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩

abbrev nD : Nat := 1
abbrev τ : Topo := Topo.v7x

variable {F : FTy → Type} [FloatOps F]
-- ==== MoeKernel.lean ====
abbrev S288 : Shape := ⟨1, ![288]⟩
abbrev S1 : Shape := ⟨1, ![1]⟩
abbrev S73728x1024 : Shape := ⟨2, ![73728, 1024]⟩
abbrev S73728x1 : Shape := ⟨2, ![73728, 1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1024x1024x2 : Shape := ⟨4, ![32, 1024, 1024, 2]⟩
abbrev S32x1024x1024x1 : Shape := ⟨4, ![32, 1024, 1024, 1]⟩
abbrev S32x1x1024x2 : Shape := ⟨4, ![32, 1, 1024, 2]⟩
abbrev S32x1x1024x1 : Shape := ⟨4, ![32, 1, 1024, 1]⟩
abbrev S32x1x1024 : Shape := ⟨3, ![32, 1, 1024]⟩
abbrev S256x1024 : Shape := ⟨2, ![256, 1024]⟩
abbrev S256x1 : Shape := ⟨2, ![256, 1]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 21
  | .vmem => 18
  | .smem => 2
  | _ => 0

abbrev bufTy : (tb : Table) → Fin (tcTables nBuf tb) → BufTy
  | .hbm, ⟨0, _⟩ => ⟨S73728x1024, .bf16⟩
  | .hbm, ⟨1, _⟩ => ⟨S73728x1, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S32x1024x1024x2, .f32⟩
  | .hbm, ⟨7, _⟩ => ⟨S32x1024x1024x1, .f32⟩
  | .hbm, ⟨8, _⟩ => ⟨S32x1024x1024, .f32⟩
  | .hbm, ⟨9, _⟩ => ⟨S32x1024x1024, .bf16⟩
  | .hbm, ⟨10, _⟩ => ⟨S32x1024x1024x1, .f32⟩
  | .hbm, ⟨11, _⟩ => ⟨S32x1024x1024, .f32⟩
  | .hbm, ⟨12, _⟩ => ⟨S32x1024x1024, .bf16⟩
  | .hbm, ⟨13, _⟩ => ⟨S32x1024x1024, .bf16⟩
  | .hbm, ⟨14, _⟩ => ⟨S32x1x1024x2, .f32⟩
  | .hbm, ⟨15, _⟩ => ⟨S32x1x1024x1, .f32⟩
  | .hbm, ⟨16, _⟩ => ⟨S32x1x1024, .f32⟩
  | .hbm, ⟨17, _⟩ => ⟨S32x1x1024x1, .f32⟩
  | .hbm, ⟨18, _⟩ => ⟨S32x1x1024, .f32⟩
  | .hbm, ⟨19, _⟩ => ⟨S32x1x1024, .f32⟩
  | .hbm, ⟨20, _⟩ => ⟨S73728x1024, .f32⟩
  | .local _ .vmem, ⟨0, _⟩ => ⟨S256x1024, .bf16⟩
  | .local _ .vmem, ⟨1, _⟩ => ⟨S256x1024, .bf16⟩
  | .local _ .vmem, ⟨2, _⟩ => ⟨S256x1, .f32⟩
  | .local _ .vmem, ⟨3, _⟩ => ⟨S256x1, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S256x1024, .f32⟩
  | .local _ .vmem, ⟨17, _⟩ => ⟨S256x1024, .f32⟩
  | .local _ .smem, ⟨0, _⟩ => ⟨S288, .i32⟩
  | .local _ .smem, ⟨1, _⟩ => ⟨S1, .i32⟩
  | _, _ => ⟨S73728x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MoeReferenceIdeal.lean ====
abbrev S288 : Shape := ⟨1, ![288]⟩
abbrev S1 : Shape := ⟨1, ![1]⟩
abbrev S73728x1024 : Shape := ⟨2, ![73728, 1024]⟩
abbrev S73728x1 : Shape := ⟨2, ![73728, 1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S288x256x1024 : Shape := ⟨3, ![288, 256, 1024]⟩
abbrev S_ : Shape := ⟨0, ![]⟩
abbrev S288x1 : Shape := ⟨2, ![288, 1]⟩
abbrev S288x1024x2048 : Shape := ⟨3, ![288, 1024, 2048]⟩
abbrev S288x256x2048 : Shape := ⟨3, ![288, 256, 2048]⟩
abbrev S288x2048 : Shape := ⟨2, ![288, 2048]⟩
abbrev S288x1x2048 : Shape := ⟨3, ![288, 1, 2048]⟩
abbrev S288x1024x1024 : Shape := ⟨3, ![288, 1024, 1024]⟩
abbrev S288x1024 : Shape := ⟨2, ![288, 1024]⟩
abbrev S288x1x1024 : Shape := ⟨3, ![288, 1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x1024, .bf16⟩
  | .hbm, ⟨3, _⟩ => ⟨S73728x1, .f32⟩
  | .hbm, ⟨4, _⟩ => ⟨S32x1024x2048, .f32⟩
  | .hbm, ⟨5, _⟩ => ⟨S32x2048, .f32⟩
  | .hbm, ⟨6, _⟩ => ⟨S32x1024x1024, .f32⟩
  | .hbm, ⟨7, _⟩ => ⟨S32x1024, .f32⟩
  | .hbm, ⟨8, _⟩ => ⟨S73728x1024, .f32⟩
  | .hbm, ⟨9, _⟩ => ⟨S288x256x1024, .f32⟩
  | .hbm, ⟨10, _⟩ => ⟨S_, .i32⟩
  | .hbm, ⟨11, _⟩ => ⟨S288, .i32⟩
  | .hbm, ⟨12, _⟩ => ⟨S288, .i1⟩
  | .hbm, ⟨13, _⟩ => ⟨S_, .i32⟩
  | .hbm, ⟨14, _⟩ => ⟨S288, .i32⟩
  | .hbm, ⟨15, _⟩ => ⟨S288, .i32⟩
  | .hbm, ⟨16, _⟩ => ⟨S288, .i32⟩
  | .hbm, ⟨17, _⟩ => ⟨S288x1, .i32⟩
  | .hbm, ⟨18, _⟩ => ⟨S288x1024x2048, .f32⟩
  | .hbm, ⟨19, _⟩ => ⟨S288x256x2048, .f32⟩
  | .hbm, ⟨20, _⟩ => ⟨S_, .i32⟩
  | .hbm, ⟨21, _⟩ => ⟨S288, .i32⟩
  | .hbm, ⟨22, _⟩ => ⟨S288, .i1⟩
  | .hbm, ⟨23, _⟩ => ⟨S_, .i32⟩
  | .hbm, ⟨24, _⟩ => ⟨S288, .i32⟩
  | .hbm, ⟨25, _⟩ => ⟨S288, .i32⟩
  | .hbm, ⟨26, _⟩ => ⟨S288, .i32⟩
  | .hbm, ⟨27, _⟩ => ⟨S288x1, .i32⟩
  | .hbm, ⟨28, _⟩ => ⟨S288x2048, .f32⟩
  | .hbm, ⟨29, _⟩ => ⟨S288x1x2048, .f32⟩
  | .hbm, ⟨30, _⟩ => ⟨S288x256x2048, .f32⟩
  | .hbm, ⟨31, _⟩ => ⟨S288x256x2048, .f32⟩
  | .hbm, ⟨32, _⟩ => ⟨S288x256x1024, .f32⟩
  | .hbm, ⟨33, _⟩ => ⟨S_, .f32⟩
  | .hbm, ⟨34, _⟩ => ⟨S288x256x1024, .f32⟩
  | .hbm, ⟨35, _⟩ => ⟨S288x256x1024, .f32⟩
  | .hbm, ⟨36, _⟩ => ⟨S288x256x1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S288x256x1024, .f32⟩
  | .hbm, ⟨41, _⟩ => ⟨S288x256x1024, .f32⟩
  | .hbm, ⟨42, _⟩ => ⟨S_, .f32⟩
  | .hbm, ⟨43, _⟩ => ⟨S288x256x1024, .f32⟩
  | .hbm, ⟨44, _⟩ => ⟨S288x256x1024, .f32⟩
  | .hbm, ⟨45, _⟩ => ⟨S_, .f32⟩
  | .hbm, ⟨46, _⟩ => ⟨S288x256x1024, .f32⟩
  | .hbm, ⟨47, _⟩ => ⟨S288x256x1024, .f32⟩
  | .hbm, ⟨48, _⟩ => ⟨S_, .f32⟩
  | .hbm, ⟨49, _⟩ => ⟨S288x256x1024, .f32⟩
  | .hbm, ⟨50, _⟩ => ⟨S288x256x1024, .f32⟩
  | .hbm, ⟨51, _⟩ => ⟨S288x256x1024, .f32⟩
  | .hbm, ⟨52, _⟩ => ⟨S288x256x1024, .f32⟩
  | .hbm, ⟨53, _⟩ => ⟨S_, .f32⟩
  | .hbm, ⟨54, _⟩ => ⟨S288x256x1024, .f32⟩
  | .hbm, ⟨55, _⟩ => ⟨S288x256x1024, .f32⟩
  | .hbm, ⟨56, _⟩ => ⟨S_, .f32⟩
  | .hbm, ⟨57, _⟩ => ⟨S288x256x1024, .f32⟩
  | .hbm, ⟨58, _⟩ => ⟨S288x256x1024, .f32⟩
  | .hbm, ⟨59, _⟩ => ⟨S288x256x1024, .f32⟩
  | .hbm, ⟨60, _⟩ => ⟨S288x256x1024, .f32⟩
  | .hbm, ⟨61, _⟩ => ⟨S_, .i32⟩
  | .hbm, ⟨62, _⟩ => ⟨S288, .i32⟩
  | .hbm, ⟨63, _⟩ => ⟨S288, .i1⟩
  | .hbm, ⟨64, _⟩ => ⟨S_, .i32⟩
  | .hbm, ⟨65, _⟩ => ⟨S288, .i32⟩
  | .hbm, ⟨66, _⟩ => ⟨S288, .i32⟩
  | .hbm, ⟨67, _⟩ => ⟨S288, .i32⟩
  | .hbm, ⟨68, _⟩ => ⟨S288x1, .i32⟩
  | .hbm, ⟨69, _⟩ => ⟨S288x1024x1024, .f32⟩
  | .hbm, ⟨70, _⟩ => ⟨S288x256x1024, .f32⟩
  | .hbm, ⟨71, _⟩ => ⟨S_, .i32⟩
  | .hbm, ⟨72, _⟩ => ⟨S288, .i32⟩
  | .hbm, ⟨73, _⟩ => ⟨S288, .i1⟩
  | .hbm, ⟨74, _⟩ => ⟨S_, .i32⟩
  | .hbm, ⟨75, _⟩ => ⟨S288, .i32⟩
  | .hbm, ⟨76, _⟩ => ⟨S288, .i32⟩
  | .hbm, ⟨77, _⟩ => ⟨S288, .i32⟩
  | .hbm, ⟨78, _⟩ => ⟨S288x1, .i32⟩
  | .hbm, ⟨79, _⟩ => ⟨S288x1024, .f32⟩
  | .hbm, ⟨80, _⟩ => ⟨S288x1x1024, .f32⟩
  | .hbm, ⟨81, _⟩ => ⟨S288x256x1024, .f32⟩
  | .hbm, ⟨82, _⟩ => ⟨S288x256x1024, .f32⟩
  | .hbm, ⟨83, _⟩ => ⟨S73728x1024, .f32⟩
  | .hbm, ⟨84, _⟩ => ⟨S73728x1024, .f32⟩
  | .hbm, ⟨85, _⟩ => ⟨S73728x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_9 : Ref sig .tc := ⟨.hbm, 61, rfl⟩
abbrev main_v37 : Ref sig .tc := ⟨.hbm, 62, rfl⟩
abbrev main_v38 : Ref sig .tc := ⟨.hbm, 63, rfl⟩
abbrev main_c_10 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩

abbrev nD : Nat := 1
abbrev τ : Topo := Topo.v7x

variable {F : FTy → Type} [FloatOps F]
-- ==== ProjKernel.lean ====
abbrev S16384x1024 : Shape := ⟨2, ![16384, 1024]⟩
abbrev S8x1x1024 : Shape := ⟨3, ![8, 1, 1024]⟩
abbrev S1024 : Shape := ⟨1, ![1024]⟩
abbrev S1024x1568 : Shape := ⟨2, ![1024, 1568]⟩
abbrev S256 : Shape := ⟨1, ![256]⟩
abbrev S256x576 : Shape := ⟨2, ![256, 576]⟩
abbrev S64 : Shape := ⟨1, ![64]⟩
abbrev S32 : Shape := ⟨1, ![32]⟩
abbrev S128 : Shape := ⟨1, ![128]⟩
abbrev S128x384 : Shape := ⟨2, ![128, 384]⟩
abbrev S1024x32 : Shape := ⟨2, ![1024, 32]⟩
abbrev S_ : Shape := ⟨0, ![]⟩
abbrev S1024x128 : Shape := ⟨2, ![1024, 128]⟩
abbrev S1024x384 : Shape := ⟨2, ![1024, 384]⟩
abbrev S1024x1152 : Shape := ⟨2, ![1024, 1152]⟩
abbrev S1024x1664 : Shape := ⟨2, ![1024, 1664]⟩
abbrev S1x1024 : Shape := ⟨2, ![1, 1024]⟩
abbrev S1x256 : Shape := ⟨2, ![1, 256]⟩
abbrev S1x128 : Shape := ⟨2, ![1, 128]⟩
abbrev S256x6x96 : Shape := ⟨3, ![256, 6, 96]⟩
abbrev S256x6x128 : Shape := ⟨3, ![256, 6, 128]⟩
abbrev S256x768 : Shape := ⟨2, ![256, 768]⟩
abbrev S128x6x64 : Shape := ⟨3, ![128, 6, 64]⟩
abbrev S128x6x128 : Shape := ⟨3, ![128, 6, 128]⟩
abbrev S128x768 : Shape := ⟨2, ![128, 768]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S2048x128 : Shape := ⟨2, ![2048, 128]⟩
abbrev S16384x768 : Shape := ⟨2, ![16384, 768]⟩
abbrev S16384x384 : Shape := ⟨2, ![16384, 384]⟩
abbrev S16384x128 : Shape := ⟨2, ![16384, 128]⟩
abbrev S16384x32 : Shape := ⟨2, ![16384, 32]⟩
abbrev S2048x3072 : Shape := ⟨2, ![2048, 3072]⟩
abbrev S16384x256 : Shape := ⟨2, ![16384, 256]⟩
abbrev S256x1024 : Shape := ⟨2, ![256, 1024]⟩
abbrev S1x1x1024 : Shape := ⟨3, ![1, 1, 1024]⟩
abbrev S256x128 : Shape := ⟨2, ![256, 128]⟩
abbrev S256x384 : Shape := ⟨2, ![256, 384]⟩
abbrev S256x32 : Shape := ⟨2, ![256, 32]⟩
abbrev S256x256 : Shape := ⟨2, ![256, 256]⟩
abbrev S256x1 : Shape := ⟨2, ![256, 1]⟩
abbrev S256x1664 : Shape := ⟨2, ![256, 1664]⟩

abbrev nBuf : Space → Nat
  | .hbm => 90
  | .vmem => 44
  | .smem => 0
  | _ => 0

abbrev bufTy : (tb : Table) → Fin (tcTables nBuf tb) → BufTy
  | .hbm, ⟨0, _⟩ => ⟨S16384x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x1568, .f32⟩
  | .hbm, ⟨5, _⟩ => ⟨S256, .f32⟩
  | .hbm, ⟨6, _⟩ => ⟨S256x576, .f32⟩
  | .hbm, ⟨7, _⟩ => ⟨S64, .f32⟩
  | .hbm, ⟨8, _⟩ => ⟨S32, .f32⟩
  | .hbm, ⟨9, _⟩ => ⟨S128, .f32⟩
  | .hbm, ⟨10, _⟩ => ⟨S32, .f32⟩
  | .hbm, ⟨11, _⟩ => ⟨S128x384, .f32⟩
  | .hbm, ⟨12, _⟩ => ⟨S128x384, .f32⟩
  | .hbm, ⟨13, _⟩ => ⟨S64, .f32⟩
  | .hbm, ⟨14, _⟩ => ⟨S1024x32, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x384, .f32⟩
  | .hbm, ⟨19, _⟩ => ⟨S1024x1152, .f32⟩
  | .hbm, ⟨20, _⟩ => ⟨S1024x1664, .f32⟩
  | .hbm, ⟨21, _⟩ => ⟨S1024x1664, .bf16⟩
  | .hbm, ⟨22, _⟩ => ⟨S1x1024, .f32⟩
  | .hbm, ⟨23, _⟩ => ⟨S1x256, .f32⟩
  | .hbm, ⟨24, _⟩ => ⟨S1x128, .f32⟩
  | .hbm, ⟨25, _⟩ => ⟨S256x6x96, .f32⟩
  | .hbm, ⟨26, _⟩ => ⟨S_, .i32⟩
  | .hbm, ⟨27, _⟩ => ⟨S_, .f32⟩
  | .hbm, ⟨28, _⟩ => ⟨S256x6x128, .f32⟩
  | .hbm, ⟨29, _⟩ => ⟨S256x768, .f32⟩
  | .hbm, ⟨30, _⟩ => ⟨S256x768, .bf16⟩
  | .hbm, ⟨31, _⟩ => ⟨S128x6x64, .f32⟩
  | .hbm, ⟨32, _⟩ => ⟨S_, .i32⟩
  | .hbm, ⟨33, _⟩ => ⟨S_, .f32⟩
  | .hbm, ⟨34, _⟩ => ⟨S128x6x128, .f32⟩
  | .hbm, ⟨35, _⟩ => ⟨S128x768, .f32⟩
  | .hbm, ⟨36, _⟩ => ⟨S128x768, .bf16⟩
  | .hbm, ⟨37, _⟩ => ⟨S128x384, .bf16⟩
  | .hbm, ⟨38, _⟩ => ⟨S_, .f32⟩
  | .hbm, ⟨39, _⟩ => ⟨S32, .f32⟩
  | .hbm, ⟨40, _⟩ => ⟨S128, .f32⟩
  | .hbm, ⟨41, _⟩ => ⟨S1x128, .f32⟩
  | .hbm, ⟨42, _⟩ => ⟨S_, .f32⟩
  | .hbm, ⟨43, _⟩ => ⟨S64, .f32⟩
  | .hbm, ⟨44, _⟩ => ⟨S128, .f32⟩
  | .hbm, ⟨45, _⟩ => ⟨S1x128, .f32⟩
  | .hbm, ⟨46, _⟩ => ⟨S_, .f32⟩
  | .hbm, ⟨47, _⟩ => ⟨S64, .f32⟩
  | .hbm, ⟨48, _⟩ => ⟨S128, .f32⟩
  | .hbm, ⟨49, _⟩ => ⟨S1x128, .f32⟩
  | .hbm, ⟨50, _⟩ => ⟨S2048, .i32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S2048, .f32⟩
  | .hbm, ⟨60, _⟩ => ⟨S2048x1, .f32⟩
  | .hbm, ⟨61, _⟩ => ⟨S1x16, .f32⟩
  | .hbm, ⟨62, _⟩ => ⟨S2048x16, .f32⟩
  | .hbm, ⟨63, _⟩ => ⟨S2048x16, .f32⟩
  | .hbm, ⟨64, _⟩ => ⟨S2048x16, .f32⟩
  | .hbm, ⟨65, _⟩ => ⟨S2048x16, .f32⟩
  | .hbm, ⟨66, _⟩ => ⟨S2048x16, .f32⟩
  | .hbm, ⟨67, _⟩ => ⟨S_, .f32⟩
  | .hbm, ⟨68, _⟩ => ⟨S2048x16, .f32⟩
  | .hbm, ⟨69, _⟩ => ⟨S_, .f32⟩
  | .hbm, ⟨70, _⟩ => ⟨S2048x32, .f32⟩
  | .hbm, ⟨71, _⟩ => ⟨S_, .f32⟩
  | .hbm, ⟨72, _⟩ => ⟨S2048x64, .f32⟩
  | .hbm, ⟨73, _⟩ => ⟨S_, .f32⟩
  | .hbm, ⟨74, _⟩ => ⟨S2048x64, .f32⟩
  | .hbm, ⟨75, _⟩ => ⟨S2048x128, .f32⟩
  | .hbm, ⟨76, _⟩ => ⟨S2048x16, .f32⟩
  | .hbm, ⟨77, _⟩ => ⟨S2048x128, .f32⟩
  | .hbm, ⟨78, _⟩ => ⟨S2048x128, .f32⟩
  | .hbm, ⟨79, _⟩ => ⟨S16384x768, .bf16⟩
  | .hbm, ⟨80, _⟩ => ⟨S16384x768, .bf16⟩
  | .hbm, ⟨81, _⟩ => ⟨S16384x384, .bf16⟩
  | .hbm, ⟨82, _⟩ => ⟨S16384x128, .f32⟩
  | .hbm, ⟨83, _⟩ => ⟨S16384x32, .f32⟩
  | .hbm, ⟨84, _⟩ => ⟨S2048x3072, .f32⟩
  | .hbm, ⟨85, _⟩ => ⟨S16384x256, .bf16⟩
  | .hbm, ⟨86, _⟩ => ⟨S16384x256, .bf16⟩
  | .hbm, ⟨87, _⟩ => ⟨S16384x256, .bf16⟩
  | .hbm, ⟨88, _⟩ => ⟨S16384x256, .f32⟩
  | .hbm, ⟨89, _⟩ => ⟨S16384x256, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1664, .bf16⟩
  | .local _ .vmem, ⟨8, _⟩ => ⟨S1x256, .f32⟩
  | .local _ .vmem, ⟨9, _⟩ => ⟨S256x768, .bf16⟩
  | .local _ .vmem, ⟨10, _⟩ => ⟨S1x128, .f32⟩
  | .local _ .vmem, ⟨11, _⟩ => ⟨S128x768, .bf16⟩
  | .local _ .vmem, ⟨12, _⟩ => ⟨S128x384, .bf16⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x768, .bf16⟩
  | .local _ .vmem, ⟨23, _⟩ => ⟨S256x768, .bf16⟩
  | .local _ .vmem, ⟨24, _⟩ => ⟨S256x768, .bf16⟩
  | .local _ .vmem, ⟨25, _⟩ => ⟨S256x768, .bf16⟩
  | .local _ .vmem, ⟨26, _⟩ => ⟨S256x384, .bf16⟩
  | .local _ .vmem, ⟨27, _⟩ => ⟨S256x384, .bf16⟩
  | .local _ .vmem, ⟨28, _⟩ => ⟨S256x128, .f32⟩
  | .local _ .vmem, ⟨29, _⟩ => ⟨S256x128, .f32⟩
  | .local _ .vmem, ⟨30, _⟩ => ⟨S256x32, .f32⟩
  | .local _ .vmem, ⟨31, _⟩ => ⟨S256x32, .f32⟩
  | .local _ .vmem, ⟨32, _⟩ => ⟨S256x384, .f32⟩
  | .local _ .vmem, ⟨33, _⟩ => ⟨S256x384, .f32⟩
  | .local _ .vmem, ⟨34, _⟩ => ⟨S256x256, .bf16⟩
  | .local _ .vmem, ⟨35, _⟩ => ⟨S256x256, .bf16⟩
  | .local _ .vmem, ⟨36, _⟩ => ⟨S256x256, .bf16⟩
  | .local _ .vmem, ⟨37, _⟩ => ⟨S256x256, .bf16⟩
  | .local _ .vmem, ⟨38, _⟩ => ⟨S256x256, .bf16⟩
  | .local _ .vmem, ⟨39, _⟩ => ⟨S256x256, .bf16⟩
  | .local _ .vmem, ⟨40, _⟩ => ⟨S256x256, .f32⟩
  | .local _ .vmem, ⟨41, _⟩ => ⟨S256x256, .f32⟩
  | .local _ .vmem, ⟨42, _⟩ => ⟨S256x256, .f32⟩
  | .local _ .vmem, ⟨43, _⟩ => ⟨S256x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_call1_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_call2_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50_0 : Ref sig .tc := ⟨.hbm, 79, rfl⟩
abbrev main_v50_1 : Ref sig .tc := ⟨.hbm, 80, rfl⟩
abbrev main_v50_2 : Ref sig .tc := ⟨.hbm, 81, rfl⟩
abbrev main_v50_3 : Ref sig .tc := ⟨.hbm, 82, rfl⟩
abbrev main_v50_4 : Ref sig .tc := ⟨.hbm, 83, rfl⟩
abbrev main_v50_5 : Ref sig .tc := ⟨.hbm, 84, rfl⟩
abbrev main_v50_6 : Ref sig .tc := ⟨.hbm, 85, rfl⟩
abbrev main_v50_7 : Ref sig .tc := ⟨.hbm, 86, rfl⟩
abbrev main_v50_8 : Ref sig .tc := ⟨.hbm, 87, rfl⟩
abbrev main_v50_9 : Ref sig .tc := ⟨.hbm, 88, rfl⟩
abbrev main_v50_10 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_stg25_1 : Ref sig .tc := ⟨.vmem, 41, rfl⟩
abbrev cc0_stg26_0 : Ref sig .tc := ⟨.vmem, 42, rfl⟩
abbrev cc0_stg26_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39
abbrev cc0_sem25_0 : DmaSem sig := 40
abbrev cc0_sem25_1 : DmaSem sig := 41
abbrev cc0_sem26_0 : DmaSem sig := 42
abbrev cc0_sem26_1 : DmaSem sig := 43

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_22 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_23 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_24 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_25 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_26 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1664 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S256x768 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S256x768 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S256x384 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S256x32 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S256x384 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S256x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S256x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S256x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S256x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S256x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== ProjReferenceIdeal.lean ====
abbrev S16384x1024 : Shape := ⟨2, ![16384, 1024]⟩
abbrev S8x1x1024 : Shape := ⟨3, ![8, 1, 1024]⟩
abbrev S1024 : Shape := ⟨1, ![1024]⟩
abbrev S1024x1568 : Shape := ⟨2, ![1024, 1568]⟩
abbrev S256 : Shape := ⟨1, ![256]⟩
abbrev S256x576 : Shape := ⟨2, ![256, 576]⟩
abbrev S64 : Shape := ⟨1, ![64]⟩
abbrev S32 : Shape := ⟨1, ![32]⟩
abbrev S128 : Shape := ⟨1, ![128]⟩
abbrev S128x384 : Shape := ⟨2, ![128, 384]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S8x2048x1024 : Shape := ⟨3, ![8, 2048, 1024]⟩
abbrev S8x2048 : Shape := ⟨2, ![8, 2048]⟩
abbrev S8x2048x1 : Shape := ⟨3, ![8, 2048, 1]⟩
abbrev S1x1x1024 : Shape := ⟨3, ![1, 1, 1024]⟩
abbrev S8x2048x1568 : Shape := ⟨3, ![8, 2048, 1568]⟩
abbrev S8x2048x256 : Shape := ⟨3, ![8, 2048, 256]⟩
abbrev S8x2048x128 : Shape := ⟨3, ![8, 2048, 128]⟩
abbrev S8x2048x32 : Shape := ⟨3, ![8, 2048, 32]⟩
abbrev S8x2048x384 : Shape := ⟨3, ![8, 2048, 384]⟩
abbrev S1x1x256 : Shape := ⟨3, ![1, 1, 256]⟩
abbrev S8x2048x576 : Shape := ⟨3, ![8, 2048, 576]⟩
abbrev S8x2048x6x96 : Shape := ⟨4, ![8, 2048, 6, 96]⟩
abbrev S8x2048x6x64 : Shape := ⟨4, ![8, 2048, 6, 64]⟩
abbrev S8x2048x6 : Shape := ⟨3, ![8, 2048, 6]⟩
abbrev S8x2048x6x1 : Shape := ⟨4, ![8, 2048, 6, 1]⟩
abbrev S1x1x1x64 : Shape := ⟨4, ![1, 1, 1, 64]⟩
abbrev S8x2048x6x32 : Shape := ⟨4, ![8, 2048, 6, 32]⟩
abbrev S1x1x1x32 : Shape := ⟨4, ![1, 1, 1, 32]⟩
abbrev S8x2048x6x16 : Shape := ⟨4, ![8, 2048, 6, 16]⟩
abbrev S2048x1x16 : Shape := ⟨3, ![2048, 1, 16]⟩
abbrev S1x2048x1x16 : Shape := ⟨4, ![1, 2048, 1, 16]⟩
abbrev S1x1x128 : Shape := ⟨3, ![1, 1, 128]⟩
abbrev S1x1x32 : Shape := ⟨3, ![1, 1, 32]⟩
abbrev S8x2048x16 : Shape := ⟨3, ![8, 2048, 16]⟩
abbrev S1x2048x16 : Shape := ⟨3, ![1, 2048, 16]⟩
abbrev S8x2048x1x32 : Shape := ⟨4, ![8, 2048, 1, 32]⟩
abbrev S8x2048x6x128 : Shape := ⟨4, ![8, 2048, 6, 128]⟩
abbrev S16384x768 : Shape := ⟨2, ![16384, 768]⟩
abbrev S16384x256 : Shape := ⟨2, ![16384, 256]⟩
abbrev S2048x8x384 : Shape := ⟨3, ![2048, 8, 384]⟩
abbrev S2048x3072 : Shape := ⟨2, ![2048, 3072]⟩
abbrev S16384x384 : Shape := ⟨2, ![16384, 384]⟩
abbrev S16384x128 : Shape := ⟨2, ![16384, 128]⟩
abbrev S16384x32 : Shape := ⟨2, ![16384, 32]⟩

abbrev nBuf : Space → Nat
  | .hbm => 227
  | .vmem => 0
  | .smem => 0
  | _ => 0

abbrev hbmTy0_0 (i : Nat) : BufTy := match i % 128 with
  | 0 => ⟨S16384x1024, .f32⟩
  | 1 => ⟨S8x1x1024, .f32⟩
  | 2 => ⟨S8x1x1024, .f32⟩
  | 3 => ⟨S1024, .f32⟩
  | 4 => ⟨S1024x1568, .f32⟩
  | 5 => ⟨S256, .f32⟩
  | 6 => ⟨S256x576, .f32⟩
  | 7 => ⟨S64, .f32⟩
  | 8 => ⟨S32, .f32⟩
  | 9 => ⟨S128, .f32⟩
  | 10 => ⟨S32, .f32⟩
  | 11 => ⟨S128x384, .f32⟩
  | 12 => ⟨S128x384, .f32⟩
  | 13 => ⟨S64, .f32⟩
  | 14 => ⟨S2048, .i32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S2048, .f32⟩
  | 24 => ⟨S2048x1, .f32⟩
  | 25 => ⟨S1x16, .f32⟩
  | 26 => ⟨S2048x16, .f32⟩
  | 27 => ⟨S2048x16, .f32⟩
  | 28 => ⟨S2048x16, .f32⟩
  | 29 => ⟨S2048x16, .f32⟩
  | 30 => ⟨S2048x16, .f32⟩
  | 31 => ⟨S8x2048x1024, .f32⟩
  | 32 => ⟨S8x2048x1024, .f32⟩
  | 33 => ⟨S_, .f32⟩
  | 34 => ⟨S8x2048, .f32⟩
  | 35 => ⟨S8x2048x1, .f32⟩
  | 36 => ⟨S_, .f32⟩
  | 37 => ⟨S8x2048x1, .f32⟩
  | 38 => ⟨S8x2048x1, .f32⟩
  | 39 => ⟨S_, .f32⟩
  | 40 => ⟨S8x2048x1, .f32⟩
  | 41 => ⟨S8x2048x1, .f32⟩
  | 42 => ⟨S8x2048x1, .f32⟩
  | 43 => ⟨S8x2048x1024, .f32⟩
  | 44 => ⟨S8x2048x1024, .f32⟩
  | 45 => ⟨S1x1x1024, .f32⟩
  | 46 => ⟨S8x2048x1024, .f32⟩
  | 47 => ⟨S8x2048x1024, .f32⟩
  | 48 => ⟨S_, .f32⟩
  | 49 => ⟨S8x1x1024, .f32⟩
  | 50 => ⟨S8x1x1024, .f32⟩
  | 51 => ⟨S8x2048x1024, .f32⟩
  | 52 => ⟨S8x2048x1024, .f32⟩
  | 53 => ⟨S8x2048x1024, .f32⟩
  | 54 => ⟨S8x2048x1024, .f32⟩
  | 55 => ⟨S8x2048x1568, .f32⟩
  | 56 => ⟨S8x2048x256, .f32⟩
  | 57 => ⟨S8x2048x128, .f32⟩
  | 58 => ⟨S8x2048x32, .f32⟩
  | 59 => ⟨S8x2048x384, .f32⟩
  | 60 => ⟨S8x2048x256, .f32⟩
  | 61 => ⟨S8x2048x256, .f32⟩
  | 62 => ⟨S8x2048x256, .f32⟩
  | 63 => ⟨S8x2048x256, .f32⟩
  | 64 => ⟨S_, .f32⟩
  | 65 => ⟨S8x2048, .f32⟩
  | 66 => ⟨S8x2048x1, .f32⟩
  | 67 => ⟨S_, .f32⟩
  | 68 => ⟨S8x2048x1, .f32⟩
  | 69 => ⟨S8x2048x1, .f32⟩
  | 70 => ⟨S_, .f32⟩
  | 71 => ⟨S8x2048x1, .f32⟩
  | 72 => ⟨S8x2048x1, .f32⟩
  | 73 => ⟨S8x2048x1, .f32⟩
  | 74 => ⟨S8x2048x256, .f32⟩
  | 75 => ⟨S8x2048x256, .f32⟩
  | 76 => ⟨S1x1x256, .f32⟩
  | 77 => ⟨S8x2048x256, .f32⟩
  | 78 => ⟨S8x2048x256, .f32⟩
  | 79 => ⟨S8x2048x576, .f32⟩
  | 80 => ⟨S8x2048x6x96, .f32⟩
  | 81 => ⟨S8x2048x6x64, .f32⟩
  | 82 => ⟨S8x2048x6x64, .f32⟩
  | 83 => ⟨S_, .f32⟩
  | 84 => ⟨S8x2048x6, .f32⟩
  | 85 => ⟨S8x2048x6x1, .f32⟩
  | 86 => ⟨S_, .f32⟩
  | 87 => ⟨S8x2048x6x1, .f32⟩
  | 88 => ⟨S8x2048x6x1, .f32⟩
  | 89 => ⟨S_, .f32⟩
  | 90 => ⟨S8x2048x6x1, .f32⟩
  | 91 => ⟨S8x2048x6x1, .f32⟩
  | 92 => ⟨S8x2048x6x1, .f32⟩
  | 93 => ⟨S8x2048x6x64, .f32⟩
  | 94 => ⟨S8x2048x6x64, .f32⟩
  | 95 => ⟨S1x1x1x64, .f32⟩
  | 96 => ⟨S8x2048x6x64, .f32⟩
  | 97 => ⟨S8x2048x6x64, .f32⟩
  | 98 => ⟨S8x2048x6x32, .f32⟩
  | 99 => ⟨S8x2048x6x32, .f32⟩
  | 100 => ⟨S_, .f32⟩
  | 101 => ⟨S8x2048x6, .f32⟩
  | 102 => ⟨S8x2048x6x1, .f32⟩
  | 103 => ⟨S_, .f32⟩
  | 104 => ⟨S8x2048x6x1, .f32⟩
  | 105 => ⟨S8x2048x6x1, .f32⟩
  | 106 => ⟨S_, .f32⟩
  | 107 => ⟨S8x2048x6x1, .f32⟩
  | 108 => ⟨S8x2048x6x1, .f32⟩
  | 109 => ⟨S8x2048x6x1, .f32⟩
  | 110 => ⟨S8x2048x6x32, .f32⟩
  | 111 => ⟨S8x2048x6x32, .f32⟩
  | 112 => ⟨S1x1x1x32, .f32⟩
  | 113 => ⟨S8x2048x6x32, .f32⟩
  | 114 => ⟨S8x2048x6x32, .f32⟩
  | 115 => ⟨S8x2048x6x16, .f32⟩
  | 116 => ⟨S8x2048x6x16, .f32⟩
  | 117 => ⟨S2048x1x16, .f32⟩
  | 118 => ⟨S2048x1x16, .f32⟩
  | 119 => ⟨S1x2048x1x16, .f32⟩
  | 120 => ⟨S8x2048x6x16, .f32⟩
  | 121 => ⟨S8x2048x6x16, .f32⟩
  | 122 => ⟨S1x2048x1x16, .f32⟩
  | 123 => ⟨S8x2048x6x16, .f32⟩
  | 124 => ⟨S8x2048x6x16, .f32⟩
  | 125 => ⟨S8x2048x6x16, .f32⟩
  | 126 => ⟨S1x2048x1x16, .f32⟩
  | 127 => ⟨S8x2048x6x16, .f32⟩
  | _ => ⟨S16384x1024, .f32⟩

abbrev hbmTy0_1 (i : Nat) : BufTy := match i % 128 with
  | 0 => ⟨S8x2048x6x16, .f32⟩
  | 1 => ⟨S1x2048x1x16, .f32⟩
  | 2 => ⟨S8x2048x6x16, .f32⟩
  | 3 => ⟨S8x2048x6x16, .f32⟩
  | 4 => ⟨S8x2048x6x16, .f32⟩
  | 5 => ⟨S8x2048x6x32, .f32⟩
  | 6 => ⟨S8x2048x128, .f32⟩
  | 7 => ⟨S_, .f32⟩
  | 8 => ⟨S8x2048, .f32⟩
  | 9 => ⟨S8x2048x1, .f32⟩
  | 10 => ⟨S_, .f32⟩
  | 11 => ⟨S8x2048x1, .f32⟩
  | 12 => ⟨S8x2048x1, .f32⟩
  | 13 => ⟨S_, .f32⟩
  | 14 => ⟨S8x2048x1, .f32⟩
  | 15 => ⟨S8x2048x1, .f32⟩
  | 16 => ⟨S8x2048x1, .f32⟩
  | 17 => ⟨S8x2048x128, .f32⟩
  | 18 => ⟨S8x2048x128, .f32⟩
  | 19 => ⟨S1x1x128, .f32⟩
  | 20 => ⟨S8x2048x128, .f32⟩
  | 21 => ⟨S8x2048x128, .f32⟩
  | 22 => ⟨S8x2048x32, .f32⟩
  | 23 => ⟨S_, .f32⟩
  | 24 => ⟨S8x2048, .f32⟩
  | 25 => ⟨S8x2048x1, .f32⟩
  | 26 => ⟨S_, .f32⟩
  | 27 => ⟨S8x2048x1, .f32⟩
  | 28 => ⟨S8x2048x1, .f32⟩
  | 29 => ⟨S_, .f32⟩
  | 30 => ⟨S8x2048x1, .f32⟩
  | 31 => ⟨S8x2048x1, .f32⟩
  | 32 => ⟨S8x2048x1, .f32⟩
  | 33 => ⟨S8x2048x32, .f32⟩
  | 34 => ⟨S8x2048x32, .f32⟩
  | 35 => ⟨S1x1x32, .f32⟩
  | 36 => ⟨S8x2048x32, .f32⟩
  | 37 => ⟨S8x2048x32, .f32⟩
  | 38 => ⟨S8x2048x16, .f32⟩
  | 39 => ⟨S8x2048x16, .f32⟩
  | 40 => ⟨S1x2048x16, .f32⟩
  | 41 => ⟨S8x2048x16, .f32⟩
  | 42 => ⟨S8x2048x16, .f32⟩
  | 43 => ⟨S1x2048x16, .f32⟩
  | 44 => ⟨S8x2048x16, .f32⟩
  | 45 => ⟨S8x2048x16, .f32⟩
  | 46 => ⟨S8x2048x16, .f32⟩
  | 47 => ⟨S1x2048x16, .f32⟩
  | 48 => ⟨S8x2048x16, .f32⟩
  | 49 => ⟨S8x2048x16, .f32⟩
  | 50 => ⟨S1x2048x16, .f32⟩
  | 51 => ⟨S8x2048x16, .f32⟩
  | 52 => ⟨S8x2048x16, .f32⟩
  | 53 => ⟨S8x2048x16, .f32⟩
  | 54 => ⟨S8x2048x32, .f32⟩
  | 55 => ⟨S8x2048x384, .f32⟩
  | 56 => ⟨S8x2048x6x64, .f32⟩
  | 57 => ⟨S8x2048x6x64, .f32⟩
  | 58 => ⟨S_, .f32⟩
  | 59 => ⟨S8x2048x6, .f32⟩
  | 60 => ⟨S8x2048x6x1, .f32⟩
  | 61 => ⟨S_, .f32⟩
  | 62 => ⟨S8x2048x6x1, .f32⟩
  | 63 => ⟨S8x2048x6x1, .f32⟩
  | 64 => ⟨S_, .f32⟩
  | 65 => ⟨S8x2048x6x1, .f32⟩
  | 66 => ⟨S8x2048x6x1, .f32⟩
  | 67 => ⟨S8x2048x6x1, .f32⟩
  | 68 => ⟨S8x2048x6x64, .f32⟩
  | 69 => ⟨S8x2048x6x64, .f32⟩
  | 70 => ⟨S1x1x1x64, .f32⟩
  | 71 => ⟨S8x2048x6x64, .f32⟩
  | 72 => ⟨S8x2048x6x64, .f32⟩
  | 73 => ⟨S8x2048x384, .f32⟩
  | 74 => ⟨S_, .f32⟩
  | 75 => ⟨S8x2048x6x32, .f32⟩
  | 76 => ⟨S8x2048x1x32, .f32⟩
  | 77 => ⟨S8x2048x6x32, .f32⟩
  | 78 => ⟨S8x2048x6x128, .f32⟩
  | 79 => ⟨S16384x768, .f32⟩
  | 80 => ⟨S8x2048x6x128, .f32⟩
  | 81 => ⟨S16384x768, .f32⟩
  | 82 => ⟨S16384x256, .f32⟩
  | 83 => ⟨S_, .f32⟩
  | 84 => ⟨S16384x256, .f32⟩
  | 85 => ⟨S16384x256, .f32⟩
  | 86 => ⟨S16384x256, .f32⟩
  | 87 => ⟨S16384x256, .f32⟩
  | 88 => ⟨S2048x8x384, .f32⟩
  | 89 => ⟨S2048x3072, .f32⟩
  | 90 => ⟨S16384x768, .bf16⟩
  | 91 => ⟨S16384x768, .bf16⟩
  | 92 => ⟨S16384x384, .f32⟩
  | 93 => ⟨S16384x384, .bf16⟩
  | 94 => ⟨S16384x128, .f32⟩
  | 95 => ⟨S16384x32, .f32⟩
  | 96 => ⟨S16384x256, .bf16⟩
  | 97 => ⟨S16384x256, .bf16⟩
  | 98 => ⟨S16384x256, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_8 : Ref sig .tc := ⟨.hbm, 83, rfl⟩
abbrev main_v60 : Ref sig .tc := ⟨.hbm, 84, rfl⟩
abbrev main_v61 : Ref sig .tc := ⟨.hbm, 85, rfl⟩
abbrev main_cst_9 : Ref sig .tc := ⟨.hbm, 86, rfl⟩
abbrev main_v62 : Ref sig .tc := ⟨.hbm, 87, rfl⟩
abbrev main_v63 : Ref sig .tc := ⟨.hbm, 88, rfl⟩
abbrev main_cst_10 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_11 : Ref sig .tc := ⟨.hbm, 100, rfl⟩
abbrev main_v74 : Ref sig .tc := ⟨.hbm, 101, rfl⟩
abbrev main_v75 : Ref sig .tc := ⟨.hbm, 102, rfl⟩
abbrev main_cst_12 : Ref sig .tc := ⟨.hbm, 103, rfl⟩
abbrev main_v76 : Ref sig .tc := ⟨.hbm, 104, rfl⟩
abbrev main_v77 : Ref sig .tc := ⟨.hbm, 105, rfl⟩
abbrev main_cst_13 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_14 : Ref sig .tc := ⟨.hbm, 135, rfl⟩
abbrev main_v106 : Ref sig .tc := ⟨.hbm, 136, rfl⟩
abbrev main_v107 : Ref sig .tc := ⟨.hbm, 137, rfl⟩
abbrev main_cst_15 : Ref sig .tc := ⟨.hbm, 138, rfl⟩
abbrev main_v108 : Ref sig .tc := ⟨.hbm, 139, rfl⟩
abbrev main_v109 : Ref sig .tc := ⟨.hbm, 140, rfl⟩
abbrev main_cst_16 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_17 : Ref sig .tc := ⟨.hbm, 151, rfl⟩
abbrev main_v119 : Ref sig .tc := ⟨.hbm, 152, rfl⟩
abbrev main_v120 : Ref sig .tc := ⟨.hbm, 153, rfl⟩
abbrev main_cst_18 : Ref sig .tc := ⟨.hbm, 154, rfl⟩
abbrev main_v121 : Ref sig .tc := ⟨.hbm, 155, rfl⟩
abbrev main_v122 : Ref sig .tc := ⟨.hbm, 156, rfl⟩
abbrev main_cst_19 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_cst_20 : Ref sig .tc := ⟨.hbm, 186, rfl⟩
abbrev main_v151 : Ref sig .tc := ⟨.hbm, 187, rfl⟩
abbrev main_v152 : Ref sig .tc := ⟨.hbm, 188, rfl⟩
abbrev main_cst_21 : Ref sig .tc := ⟨.hbm, 189, rfl⟩
abbrev main_v153 : Ref sig .tc := ⟨.hbm, 190, rfl⟩
abbrev main_v154 : Ref sig .tc := ⟨.hbm, 191, rfl⟩
abbrev main_cst_22 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_cst_23 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_cst_24 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩

abbrev nD : Nat := 1
abbrev τ : Topo := Topo.v7x

variable {F : FTy → Type} [FloatOps F]
-- ==== MlaKernel.lean ====
abbrev S16384x768 : Shape := ⟨2, ![16384, 768]⟩
abbrev S16384x384 : Shape := ⟨2, ![16384, 384]⟩
abbrev S256x256 : Shape := ⟨2, ![256, 256]⟩
abbrev S2048x256 : Shape := ⟨2, ![2048, 256]⟩
abbrev S2048x128 : Shape := ⟨2, ![2048, 128]⟩
abbrev S256x128 : Shape := ⟨2, ![256, 128]⟩
abbrev S2x256x128 : Shape := ⟨3, ![2, 256, 128]⟩
abbrev S1x256x128 : Shape := ⟨3, ![1, 256, 128]⟩
abbrev S256 : Shape := ⟨1, ![256]⟩
abbrev S256x1 : Shape := ⟨2, ![256, 1]⟩

abbrev nBuf : Space → Nat
  | .hbm => 4
  | .vmem => 11
  | .smem => 0
  | _ => 0

abbrev bufTy : (tb : Table) → Fin (tcTables nBuf tb) → BufTy
  | .hbm, ⟨0, _⟩ => ⟨S16384x768, .bf16⟩
  | .hbm, ⟨1, _⟩ => ⟨S16384x768, .bf16⟩
  | .hbm, ⟨2, _⟩ => ⟨S16384x384, .bf16⟩
  | .hbm, ⟨3, _⟩ => ⟨S16384x384, .bf16⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S2x256x128, .f32⟩
  | .local _ .vmem, ⟨9, _⟩ => ⟨S2x256x128, .f32⟩
  | .local _ .vmem, ⟨10, _⟩ => ⟨S2x256x128, .f32⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 3, 8], ![false, false, false]⟩

@[reducible] def k0_t1_loop (i : grid0.Coords) : Scf.Loop 32 :=
  let c0_i32_12 : BitVec 32 := 0#32
  let arg2 : BitVec 32 := BitVec.ofNat 32 (i 2).val
  let v13 : BitVec 32 := Scalar.subi arg2 c0_i32_12
  let c1_i32 : BitVec 32 := 1#32
  let v15 : BitVec 32 := Scalar.divsi v13 c1_i32
  let v16 : BitVec 32 := Scalar.muli v15 c1_i32
  let v17 : BitVec 32 := Scalar.addi c0_i32_12 v16
  let c1_i32_13 : BitVec 32 := 1#32
  ⟨c0_i32_12, v17, c1_i32_13⟩
def k0_mult1 (i : grid0.Coords) (k0_t1 : Fin (k0_t1_loop i).trips) : BitVec 32 :=
  let c0_i32_12 : BitVec 32 := 0#32
  let c1_i32_13 : BitVec 32 := 1#32
  let arg10 : BitVec 32 := Scf.iv c0_i32_12 c1_i32_13 k0_t1
  let c256_i32_78 : BitVec 32 := 256#32
  let v128 : BitVec 32 := Scalar.muli arg10 c256_i32_78
  v128
def k0_off1 (i : grid0.Coords) (k0_t1 : Fin (k0_t1_loop i).trips) : Fin 2 → Nat :=
  let c0_i32_12 : BitVec 32 := 0#32
  let c1_i32_13 : BitVec 32 := 1#32
  let arg10 : BitVec 32 := Scf.iv c0_i32_12 c1_i32_13 k0_t1
  let c256_i32_78 : BitVec 32 := 256#32
  let v128 : BitVec 32 := Scalar.muli arg10 c256_i32_78
  let v129 : BitVec 32 := v128
  let v130 : Index := Scalar.indexCast v129
  let c0_79 : Index := 0#32
  ![v130.toNat, 0]
def k0_off2 (i : grid0.Coords) (k0_t1 : Fin (k0_t1_loop i).trips) : Fin 2 → Nat :=
  let c0_i32_12 : BitVec 32 := 0#32
  let c1_i32_13 : BitVec 32 := 1#32
  let arg10 : BitVec 32 := Scf.iv c0_i32_12 c1_i32_13 k0_t1
  let c256_i32_78 : BitVec 32 := 256#32
  let v128 : BitVec 32 := Scalar.muli arg10 c256_i32_78
  let v129 : BitVec 32 := v128
  let v132 : Index := Scalar.indexCast v129
  let c0_80 : Index := 0#32
  ![v132.toNat, 0]
@[reducible] def k0_t2_loop (i : grid0.Coords) : Scf.Loop 32 :=
  let c0_i32_12 : BitVec 32 := 0#32
  let arg2 : BitVec 32 := BitVec.ofNat 32 (i 2).val
  let v13 : BitVec 32 := Scalar.subi arg2 c0_i32_12
  let c1_i32 : BitVec 32 := 1#32
  let v15 : BitVec 32 := Scalar.divsi v13 c1_i32
  let v16 : BitVec 32 := Scalar.muli v15 c1_i32
  let v17 : BitVec 32 := Scalar.addi c0_i32_12 v16
  let v14 : BitVec 32 := Scalar.addi c0_i32_12 v13
  let c1_i32_14 : BitVec 32 := 1#32
  ⟨v17, v14, c1_i32_14⟩
def k0_mult2 (i : grid0.Coords) (k0_t2 : Fin (k0_t2_loop i).trips) : BitVec 32 :=
  let c0_i32_12 : BitVec 32 := 0#32
  let arg2 : BitVec 32 := BitVec.ofNat 32 (i 2).val
  let v13 : BitVec 32 := Scalar.subi arg2 c0_i32_12
  let c1_i32 : BitVec 32 := 1#32
  let v15 : BitVec 32 := Scalar.divsi v13 c1_i32
  let v16 : BitVec 32 := Scalar.muli v15 c1_i32
  let v17 : BitVec 32 := Scalar.addi c0_i32_12 v16
  let c1_i32_14 : BitVec 32 := 1#32
  let arg10 : BitVec 32 := Scf.iv v17 c1_i32_14 k0_t2
  let c256_i32_78 : BitVec 32 := 256#32
  let v128 : BitVec 32 := Scalar.muli arg10 c256_i32_78
  v128
def k0_off3 (i : grid0.Coords) (k0_t2 : Fin (k0_t2_loop i).trips) : Fin 2 → Nat :=
  let c0_i32_12 : BitVec 32 := 0#32
  let arg2 : BitVec 32 := BitVec.ofNat 32 (i 2).val
  let v13 : BitVec 32 := Scalar.subi arg2 c0_i32_12
  let c1_i32 : BitVec 32 := 1#32
  let v15 : BitVec 32 := Scalar.divsi v13 c1_i32
  let v16 : BitVec 32 := Scalar.muli v15 c1_i32
  let v17 : BitVec 32 := Scalar.addi c0_i32_12 v16
  let c1_i32_14 : BitVec 32 := 1#32
  let arg10 : BitVec 32 := Scf.iv v17 c1_i32_14 k0_t2
  let c256_i32_78 : BitVec 32 := 256#32
  let v128 : BitVec 32 := Scalar.muli arg10 c256_i32_78
  let v129 : BitVec 32 := v128
  let v130 : Index := Scalar.indexCast v129
  let c0_79 : Index := 0#32
  ![v130.toNat, 0]
def k0_off4 (i : grid0.Coords) (k0_t2 : Fin (k0_t2_loop i).trips) : Fin 2 → Nat :=
  let c0_i32_12 : BitVec 32 := 0#32
  let arg2 : BitVec 32 := BitVec.ofNat 32 (i 2).val
  let v13 : BitVec 32 := Scalar.subi arg2 c0_i32_12
  let c1_i32 : BitVec 32 := 1#32
  let v15 : BitVec 32 := Scalar.divsi v13 c1_i32
  let v16 : BitVec 32 := Scalar.muli v15 c1_i32
  let v17 : BitVec 32 := Scalar.addi c0_i32_12 v16
  let c1_i32_14 : BitVec 32 := 1#32
  let arg10 : BitVec 32 := Scf.iv v17 c1_i32_14 k0_t2
  let c256_i32_78 : BitVec 32 := 256#32
  let v128 : BitVec 32 := Scalar.muli arg10 c256_i32_78
  let v129 : BitVec 32 := v128
  let v132 : Index := Scalar.indexCast v129
  let c0_80 : Index := 0#32
  ![v132.toNat, 0]
def k0_mult3 (i : grid0.Coords) : BitVec 32 :=
  let arg2 : BitVec 32 := BitVec.ofNat 32 (i 2).val
  let c256_i32 : BitVec 32 := 256#32
  let v18 : BitVec 32 := Scalar.muli arg2 c256_i32
  v18
def k0_off5 (i : grid0.Coords) : Fin 2 → Nat :=
  let arg2 : BitVec 32 := BitVec.ofNat 32 (i 2).val
  let c256_i32 : BitVec 32 := 256#32
  let v18 : BitVec 32 := Scalar.muli arg2 c256_i32
  let v19 : BitVec 32 := v18
  let v20 : Index := Scalar.indexCast v19
  let c0_15 : Index := 0#32
  ![v20.toNat, 0]
def k0_off6 (i : grid0.Coords) : Fin 2 → Nat :=
  let arg2 : BitVec 32 := BitVec.ofNat 32 (i 2).val
  let c256_i32 : BitVec 32 := 256#32
  let v18 : BitVec 32 := Scalar.muli arg2 c256_i32
  let v19 : BitVec 32 := v18
  let v22 : Index := Scalar.indexCast v19
  let c0_16 : Index := 0#32
  ![v22.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaReferenceIdeal.lean ====
abbrev S16384x768 : Shape := ⟨2, ![16384, 768]⟩
abbrev S16384x384 : Shape := ⟨2, ![16384, 384]⟩
abbrev S8x2048x6x128 : Shape := ⟨4, ![8, 2048, 6, 128]⟩
abbrev S8x2048x6x64 : Shape := ⟨4, ![8, 2048, 6, 64]⟩
abbrev S2048 : Shape := ⟨1, ![2048]⟩
abbrev S8x6x2048x2048 : Shape := ⟨4, ![8, 6, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x6x2048 : Shape := ⟨3, ![8, 6, 2048]⟩
abbrev S8x6x2048x1 : Shape := ⟨4, ![8, 6, 2048, 1]⟩
abbrev S8x6x64x2048 : Shape := ⟨4, ![8, 6, 64, 2048]⟩

abbrev nBuf : Space → Nat
  | .hbm => 42
  | .vmem => 0
  | .smem => 0
  | _ => 0

abbrev bufTy : (tb : Table) → Fin (tcTables nBuf tb) → BufTy
  | .hbm, ⟨0, _⟩ => ⟨S16384x768, .bf16⟩
  | .hbm, ⟨1, _⟩ => ⟨S16384x768, .bf16⟩
  | .hbm, ⟨2, _⟩ => ⟨S16384x384, .bf16⟩
  | .hbm, ⟨3, _⟩ => ⟨S16384x768, .f32⟩
  | .hbm, ⟨4, _⟩ => ⟨S8x2048x6x128, .f32⟩
  | .hbm, ⟨5, _⟩ => ⟨S16384x768, .f32⟩
  | .hbm, ⟨6, _⟩ => ⟨S8x2048x6x128, .f32⟩
  | .hbm, ⟨7, _⟩ => ⟨S16384x384, .f32⟩
  | .hbm, ⟨8, _⟩ => ⟨S8x2048x6x64, .f32⟩
  | .hbm, ⟨9, _⟩ => ⟨S2048, .i32⟩
  | .hbm, ⟨10, _⟩ => ⟨S8x6x2048x2048, .f32⟩
  | .hbm, ⟨11, _⟩ => ⟨S_, .f32⟩
  | .hbm, ⟨12, _⟩ => ⟨S8x6x2048x2048, .f32⟩
  | .hbm, ⟨13, _⟩ => ⟨S8x6x2048x2048, .f32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S8x6x2048x2048, .i1⟩
  | .hbm, ⟨22, _⟩ => ⟨S8x6x2048x2048, .f32⟩
  | .hbm, ⟨23, _⟩ => ⟨S8x6x2048x2048, .f32⟩
  | .hbm, ⟨24, _⟩ => ⟨S_, .f32⟩
  | .hbm, ⟨25, _⟩ => ⟨S8x6x2048, .f32⟩
  | .hbm, ⟨26, _⟩ => ⟨S_, .f32⟩
  | .hbm, ⟨27, _⟩ => ⟨S8x6x2048, .f32⟩
  | .hbm, ⟨28, _⟩ => ⟨S8x6x2048, .f32⟩
  | .hbm, ⟨29, _⟩ => ⟨S8x6x2048x1, .f32⟩
  | .hbm, ⟨30, _⟩ => ⟨S8x6x2048x2048, .f32⟩
  | .hbm, ⟨31, _⟩ => ⟨S8x6x2048x2048, .f32⟩
  | .hbm, ⟨32, _⟩ => ⟨S8x6x2048x2048, .f32⟩
  | .hbm, ⟨33, _⟩ => ⟨S_, .f32⟩
  | .hbm, ⟨34, _⟩ => ⟨S8x6x2048, .f32⟩
  | .hbm, ⟨35, _⟩ => ⟨S8x6x2048x1, .f32⟩
  | .hbm, ⟨36, _⟩ => ⟨S8x6x2048x2048, .f32⟩
  | .hbm, ⟨37, _⟩ => ⟨S8x6x2048x2048, .f32⟩
  | .hbm, ⟨38, _⟩ => ⟨S8x6x64x2048, .f32⟩
  | .hbm, ⟨39, _⟩ => ⟨S8x2048x6x64, .f32⟩
  | .hbm, ⟨40, _⟩ => ⟨S16384x384, .f32⟩
  | .hbm, ⟨41, _⟩ => ⟨S16384x384, .bf16⟩
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Sb.Math.lean ====
module

public import Idealize.ShloMosaic.PureOps
public import Idealize.ShloMosaic.PureOps.Ideal
public import Idealize.ShloMosaic.Lib.Pointwise
public import Idealize.ShloMosaic.Lib.WordCmp

@[expose] public section

noncomputable section

namespace Cert.Sb

open Idealize.ShloMosaic

/-- The logarithm of the logistic function of a real number, as the kernel writes it. -/
def LB (x : ℝ) : ℝ := min x 0 - Real.log (1 + Real.exp (-|x|))

/-- The logarithm of one minus the logistic function: the logarithm of the part of the stick that is kept. -/
def LK (x : ℝ) : ℝ := LB x - x

theorem LB_neg (x : ℝ) : LB (-x) = LK x := by
  unfold LK LB
  rw [abs_neg]
  have : min (-x) 0 = min x 0 - x := by
    rcases le_total x 0 with h | h
    · rw [min_eq_right (by linarith), min_eq_left h]; ring
    · rw [min_eq_left (by linarith), min_eq_right h]; ring
  rw [this]; ring

theorem coe_max (x y : ℝ) : ((max x y : ℝ) : EReal) = max (x : EReal) (y : EReal) := EReal.coe_strictMono.monotone.map_max

theorem coe_min (x y : ℝ) : ((min x y : ℝ) : EReal) = min (x : EReal) (y : EReal) := EReal.coe_strictMono.monotone.map_min

theorem absf_coe (x : ℝ) : FloatOps.absf (F := Ideal) (φ := .f32) (x : EReal) = ((|x| : ℝ) : EReal) := by
  show max (x : EReal) (-(x : EReal)) = _
  rw [← EReal.coe_neg, ← coe_max]
  rfl

theorem log1p_exp_coe (y : ℝ) : Ideal.log1p (Ideal.exp (y : EReal)) = ((Real.log (1 + Real.exp y) : ℝ) : EReal) := by
  show Ideal.log (1 + ((Real.exp y : ℝ) : EReal)) = _
  rw [show (1 : EReal) + ((Real.exp y : ℝ) : EReal) = ((1 + Real.exp y : ℝ) : EReal) from by norm_cast]
  show (if 1 + Real.exp y ≤ 0 then (⊥ : EReal) else ((Real.log (1 + Real.exp y) : ℝ) : EReal)) = _
  rw [if_neg (by have := Real.exp_pos y; linarith)]

/-- The kernel's form. -/
theorem kernel_LB (x : ℝ) :
    min (x : EReal) 0 - Ideal.log1p (Ideal.exp (0 - FloatOps.absf (F := Ideal) (φ := .f32) (x : EReal))) = ((LB x : ℝ) : EReal) := by
  rw [absf_coe, zero_sub, ← EReal.coe_neg, log1p_exp_coe, ← EReal.coe_zero, ← coe_min, ← EReal.coe_sub]
  rfl

/-- The reference's form: minus the softplus of minus the number. -/
theorem ref_LB (x : ℝ) :
    -(max (-(x : EReal)) 0 + Ideal.log1p (Ideal.exp (-(FloatOps.absf (F := Ideal) (φ := .f32) (-(x : EReal) - 0))))) = ((LB x : ℝ) : EReal) := by
  rw [sub_zero, ← EReal.coe_neg, absf_coe, ← EReal.coe_neg, log1p_exp_coe, ← EReal.coe_zero, ← coe_max, ← EReal.coe_add, ← EReal.coe_neg]
  refine congrArg _ ?_
  unfold LB
  rw [abs_neg]
  have : max (-x) 0 = -min x 0 := by
    rcases le_total x 0 with h | h
    · rw [max_eq_left (by linarith), min_eq_left h]
    · rw [max_eq_right (by linarith), min_eq_right h]; ring
  rw [this]; ring

/-- Comparing two small numbers as words. -/
theorem slt_nat (a b : ℕ) (ha : a < 2 ^ 31) (hb : b < 2 ^ 31) :
    IntOp.cmpi .slt (BitVec.ofNat 32 a) (BitVec.ofNat 32 b) = if a < b then 1#1 else 0#1 := by
  rw [WordCmp.cmpi_slt_ofNat ha hb]
  by_cases h : a < b
  · rw [if_pos h, decide_eq_true h]; rfl
  · rw [if_neg h, decide_eq_false h]; rfl

theorem negInf : Ideal.ofBits FTy.f32 4286578688#32 = (⊥ : EReal) := by
  simp [Ideal.ofBits, Ideal.ieee]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The kept part's logarithm where the key comes before the query, zero elsewhere. -/
def lkM (z : ℕ → ℕ → ℝ) (t s : ℕ) : ℝ := if s < t then LK (z t s) else 0

/-- The taken part's logarithm where the key comes before the query, minus infinity elsewhere. -/
def lbM (z : ℕ → ℕ → ℝ) (t s : ℕ) : EReal := if s < t then ((LB (z t s) : ℝ) : EReal) else ⊥

/-- The weight of key `s` for query `t`: its share of the stick times what the keys between leave of it. -/
def wt (z : ℕ → ℕ → ℝ) (t s : ℕ) : EReal := Ideal.exp (lbM z t s + ((∑ j ∈ Finset.Ico (s + 1) 2048, lkM z t j : ℝ) : EReal))

theorem wt_of_le (z : ℕ → ℕ → ℝ) {t s : ℕ} (h : t ≤ s) : wt z t s = 0 := by
  unfold wt lbM
  rw [if_neg (by omega), EReal.bot_add]
  rfl

theorem sum_lkM_le (z : ℕ → ℕ → ℝ) (t a e : ℕ) (hte : t ≤ e) (he : e ≤ 2048) :
    ∑ j ∈ Finset.Ico a 2048, lkM z t j = ∑ j ∈ Finset.Ico a e, lkM z t j := by
  by_cases hae : a ≤ e
  · rw [← Finset.sum_Ico_consecutive _ hae he]
    rw [Finset.sum_eq_zero (s := Finset.Ico e 2048), add_zero]
    intro j hj
    rw [Finset.mem_Ico] at hj
    exact if_neg (by omega)
  · rw [Finset.Ico_eq_empty_of_le (by omega : e ≤ a), Finset.sum_empty]
    refine Finset.sum_eq_zero fun j hj => ?_
    rw [Finset.mem_Ico] at hj
    exact if_neg (by omega)

end Cert.Sb

end
-- ==== Proof.Sb.Pay.lean ====
module

public import proofs.«01_k».proof.Proof.Sb.Math
public import proofs.«01_k».proof.Proof.Gen.SbKernelIdeal.Skeleton

@[expose] public section

set_option maxRecDepth 16384

noncomputable section

namespace Cert.SbKernelIdeal.Sb

open Cert.Sb Cert.SbKernelIdeal Cert.SbKernelIdeal.Gen Idealize.ShloMosaic Idealize.ShloMosaic.TcCoe Idealize.SL.Sem

/-- What the table of ones holds. -/
def IsTab (u : Vec Ideal S256x512 .bf16) : Prop := ∀ (j : Fin 256) (s : Fin 512), u (ix2 j s) = if s.val < j.val ∨ 256 ≤ s.val then (1 : EReal) else 0

/-- The scores of a block of 256 queries against a block of 256 keys are the numbers `z`. -/
def IsScore (q k : Vec Ideal S256x128 .bf16) (z : ℕ → ℕ → ℝ) : Prop :=
  ∀ r s : Fin 256, ∑ x : Fin 128, q (ix2 r x) * k (ix2 s x) = ((z r.val s.val : ℝ) : EReal)

/-- A row of logarithms times the table of ones, its high part and its (vanishing) low part. -/
theorem tab_sum (a : ℕ → ℝ) (p : ℕ → Prop) [DecidablePred p] :
    (∑ x : Fin 256, ((a x.val : ℝ) : EReal) * if p x.val then 1 else 0)
        + ∑ x : Fin 256, (((a x.val : ℝ) : EReal) - ((a x.val : ℝ) : EReal)) * (if p x.val then 1 else 0)
      = ((∑ j ∈ (Finset.range 256).filter p, a j : ℝ) : EReal) := by
  have h0 : ∀ x : Fin 256, (((a x.val : ℝ) : EReal) - ((a x.val : ℝ) : EReal)) * (if p x.val then 1 else 0) = 0 := fun x => by
    rw [← EReal.coe_sub, sub_self, EReal.coe_zero, zero_mul]
  have h1 : ∀ x : Fin 256, (((a x.val : ℝ) : EReal) * if p x.val then 1 else 0) = (((if p x.val then a x.val else 0 : ℝ)) : EReal) := fun x => by
    split
    · rw [mul_one]
    · rw [mul_zero, EReal.coe_zero]
  rw [Finset.sum_congr rfl fun x _ => h0 x, Finset.sum_const_zero, add_zero, Finset.sum_congr rfl fun x _ => h1 x, ← coe_sum,
    Fin.sum_univ_eq_sum_range (fun n => if p n then a n else 0) 256, ← Finset.sum_filter]

/-- The sum of the kept logarithms after column `s`, or the whole row's sum from column 256 on. -/
def rowTail (a : ℕ → ℝ) (s : ℕ) : ℝ := ∑ j ∈ (Finset.range 256).filter (fun j => s < j ∨ 256 ≤ s), a j

section unmasked

variable (q k v : Vec Ideal S256x128 .bf16) (u : Vec Ideal S256x512 .bf16) (z : ℕ → ℕ → ℝ)

theorem pay6_eq (hz : IsScore q k z) (r s : Fin 256) : k0_pay6 q k (ix2 r s) = ((LB (z r.val s.val) : ℝ) : EReal) := by
  pointwise [k0_pay6, k0_pay5]
  rw [hz]
  exact kernel_LB _

theorem pay5_eq (hz : IsScore q k z) (r s : Fin 256) : k0_pay5 q k (ix2 r s) = ((z r.val s.val : ℝ) : EReal) := by
  pointwise [k0_pay5]
  exact hz r s

theorem pay7_eq (hz : IsScore q k z) (hu : IsTab u) (r : Fin 256) (s : Fin 512) :
    k0_pay7 q u k (ix2 r s) = ((rowTail (fun j => LK (z r.val j)) s.val : ℝ) : EReal) := by
  pointwise [k0_pay7]
  simp only [pay6_eq q k z hz, pay5_eq q k z hz, hu _ _, ← EReal.coe_sub]
  exact tab_sum (fun j => LB (z r.val j) - z r.val j) (fun j => s.val < j ∨ 256 ≤ s.val)

theorem pay8_eq (hz : IsScore q k z) (hu : IsTab u) (cc : Vec Ideal S1x256x256 .f32) (C : ℕ → ℝ)
    (hc : ∀ r s : Fin 256, cc (ix3 0 r s) = ((C r.val : ℝ) : EReal)) (acc : Vec Ideal S1x256x128 .f32) (r : Fin 256) (l : Fin 128) :
    k0_pay8 q u k v cc acc (ix3 0 r l) = acc (ix3 0 r l) + ∑ x : Fin 256,
      Ideal.exp (((LB (z r.val x.val) : ℝ) : EReal) + ((rowTail (fun j => LK (z r.val j)) x.val : ℝ) : EReal) + ((C r.val : ℝ) : EReal)) * v (ix2 x l) := by
  pointwise [k0_pay8]
  simp only [pay6_eq q k z hz, pay7_eq q k u z hz hu, hc]

theorem pay9_eq (hz : IsScore q k z) (hu : IsTab u) (cc : Vec Ideal S1x256x256 .f32) (C : ℕ → ℝ)
    (hc : ∀ r s : Fin 256, cc (ix3 0 r s) = ((C r.val : ℝ) : EReal)) (r s : Fin 256) :
    k0_pay9 (k0_pay7 q u k) cc (ix3 0 r s) = ((C r.val + ∑ j ∈ Finset.range 256, LK (z r.val j) : ℝ) : EReal) := by
  pointwise [k0_pay9]
  rw [pay7_eq q k u z hz hu, hc, ← EReal.coe_add]
  refine congrArg (fun a : ℝ => ((C r.val + a : ℝ) : EReal)) (Finset.sum_congr (Finset.filter_true_of_mem fun j _ => Or.inr (Nat.le_add_right _ _)) fun _ _ => rfl)

theorem pay12_eq : k0_pay12 q u k = k0_pay7 q u k := rfl
theorem pay13_eq (cc : Vec Ideal S1x256x256 .f32) (acc : Vec Ideal S1x256x128 .f32) : k0_pay13 q u k v cc acc = k0_pay8 q u k v cc acc := rfl
theorem pay2_eq (cc : Vec Ideal S1x256x256 .f32) (w : FVec Ideal S256x512 .f32) : k0_pay2 w cc = k0_pay9 w cc := rfl

end unmasked

section masked

variable (q k v : Vec Ideal S256x128 .bf16) (u : Vec Ideal S256x512 .bf16) (z : ℕ → ℕ → ℝ)

theorem slt_iff (r x : Fin 256) : IntOp.cmpi .slt (BitVec.ofNat 32 x.val) (BitVec.ofNat 32 r.val) = if x.val < r.val then 1#1 else 0#1 :=
  slt_nat _ _ (by have := x.isLt; omega) (by have := r.isLt; omega)

theorem pay28_eq (v8 : Vec Ideal S256x128 .bf16) : k0_pay28 v8 k = k0_pay5 (k0_pay26 v8) k := rfl
theorem pay29_eq (v8 : Vec Ideal S256x128 .bf16) : k0_pay29 v8 k = k0_pay6 (k0_pay26 v8) k := rfl
theorem pay35_eq : k0_pay35 q k = k0_pay5 q k := rfl
theorem pay36_eq : k0_pay36 (k0_pay35 q k) (Scalar.ofBits .f32 0x00000000#32) = k0_pay6 q k := rfl
theorem pay38_eq : k0_pay38 u (k0_pay35 q k) (Scalar.ofBits .f32 0x00000000#32) = k0_pay32 u (subf (k0_pay6 q k) (k0_pay5 q k)) := rfl
theorem pay30_eq (v8 : Vec Ideal S256x128 .bf16) : k0_pay30 v8 k = subf (k0_pay6 (k0_pay26 v8) k) (k0_pay5 (k0_pay26 v8) k) := rfl
theorem pay39_eq (cc : Vec Ideal S1x256x256 .f32) (acc : Vec Ideal S1x256x128 .f32) :
    k0_pay39 u v (k0_pay35 q k) (Scalar.ofBits .f32 0x00000000#32) cc acc = k0_pay33 u v (k0_pay6 q k) (subf (k0_pay6 q k) (k0_pay5 q k)) cc acc := rfl
theorem pay40_eq (cc : Vec Ideal S1x256x256 .f32) :
    k0_pay1 (k0_pay40 u (k0_pay35 q k) (Scalar.ofBits .f32 0x00000000#32) cc) = k0_pay34 u (subf (k0_pay6 q k) (k0_pay5 q k)) cc := rfl

theorem pay32_eq (hz : IsScore q k z) (hu : IsTab u) (r : Fin 256) (s : Fin 512) :
    k0_pay32 u (subf (k0_pay6 q k) (k0_pay5 q k)) (ix2 r s) = ((rowTail (fun j => if j < r.val then LK (z r.val j) else 0) s.val : ℝ) : EReal) := by
  pointwise [k0_pay32, k0_pay31]
  have h0 : ∀ x : Fin 256, Scalar.select (IntOp.cmpi .slt (BitVec.ofNat 32 x.val) (BitVec.ofNat 32 r.val)) (k0_pay6 q k (ix2 r x) - k0_pay5 q k (ix2 r x)) 0
      = (((if x.val < r.val then LK (z r.val x.val) else 0 : ℝ)) : EReal) := fun x => by
    rw [pay6_eq q k z hz, pay5_eq q k z hz, slt_iff, ← EReal.coe_sub]
    split <;> rfl
  have h1 : ∀ x : Fin 256, Scalar.select (IntOp.cmpi .slt (BitVec.ofNat 32 x.val) (BitVec.ofNat 32 r.val)) ((k0_pay6 q k (ix2 r x) - k0_pay5 q k (ix2 r x)) * u (ix2 x s)) 0
      = (((if x.val < r.val then LK (z r.val x.val) else 0 : ℝ)) : EReal) * if s.val < x.val ∨ 256 ≤ s.val then 1 else 0 := fun x => by
    rw [← h0 x, ← hu x s, slt_iff]
    split
    · rfl
    · exact (zero_mul _).symm
  simp only [h1]
  simp only [h0, hu _ _]
  exact tab_sum (fun j => if j < r.val then LK (z r.val j) else 0) (fun j => s.val < j ∨ 256 ≤ s.val)

theorem pay33_eq (hz : IsScore q k z) (hu : IsTab u) (cc : Vec Ideal S1x256x256 .f32) (C : ℕ → ℝ)
    (hc : ∀ r s : Fin 256, cc (ix3 0 r s) = ((C r.val : ℝ) : EReal)) (acc : Vec Ideal S1x256x128 .f32) (r : Fin 256) (l : Fin 128) :
    k0_pay33 u v (k0_pay6 q k) (subf (k0_pay6 q k) (k0_pay5 q k)) cc acc (ix3 0 r l) = acc (ix3 0 r l) + ∑ x : Fin 256,
      Ideal.exp ((if x.val < r.val then ((LB (z r.val x.val) : ℝ) : EReal) else ⊥) + ((rowTail (fun j => if j < r.val then LK (z r.val j) else 0) x.val : ℝ) : EReal) + ((C r.val : ℝ) : EReal)) * v (ix2 x l) := by
  pointwise [k0_pay33, k0_pay31]
  have h0 : ∀ x : Fin 256, Scalar.select (IntOp.cmpi .slt (BitVec.ofNat 32 x.val) (BitVec.ofNat 32 r.val)) (k0_pay6 q k (ix2 r x)) (Ideal.ofBits FTy.f32 4286578688#32)
      = if x.val < r.val then ((LB (z r.val x.val) : ℝ) : EReal) else ⊥ := fun x => by
    rw [pay6_eq q k z hz, slt_iff, negInf]
    split <;> rfl
  simp only [h0, pay32_eq q k u z hz hu, hc]

theorem pay34_eq (hz : IsScore q k z) (hu : IsTab u) (cc : Vec Ideal S1x256x256 .f32) (C : ℕ → ℝ)
    (hc : ∀ r s : Fin 256, cc (ix3 0 r s) = ((C r.val : ℝ) : EReal)) (r s : Fin 256) :
    k0_pay34 u (subf (k0_pay6 q k) (k0_pay5 q k)) cc (ix3 0 r s) = ((C r.val + ∑ j ∈ Finset.range 256, if j < r.val then LK (z r.val j) else 0 : ℝ) : EReal) := by
  pointwise [k0_pay34]
  rw [pay32_eq q k u z hz hu, hc, ← EReal.coe_add]
  refine congrArg (fun a : ℝ => ((C r.val + a : ℝ) : EReal)) (Finset.sum_congr (Finset.filter_true_of_mem fun j _ => Or.inr (Nat.le_add_right _ _)) fun _ _ => rfl)

end masked

end Cert.SbKernelIdeal.Sb
-- ==== Proof.Sb.Trip.lean ====
module

public import proofs.«01_k».proof.Proof.Sb.Pay
public import proofs.«01_k».proof.Proof.Gen.SbKernelIdeal.Loops
public import Idealize.ShloMosaic.Lib.WritesUnit
public import Idealize.ShloMosaic.Lib.Pipeline.ValueKit.Tiles

@[expose] public section

set_option maxRecDepth 16384

noncomputable section

namespace Cert.SbKernelIdeal.Sb

open Cert.Sb Cert.SbKernelIdeal Cert.SbKernelIdeal.Gen Idealize.ShloMosaic Idealize.ShloMosaic.TcCoe Idealize.SL.Sem

variable (𝒱 : Variants) (c : Dev nD) (bd : Option 𝒱.V) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S2x256x128 .f32) (harg8 : arg8.IsWhole) (arg9 : Memref sig .tc .vmem S2x256x256 .f32) (harg9 : arg9.IsWhole) (arg2 : BitVec 32) (v13 : Vec Ideal S256x128 .bf16) (v16 : FVec Ideal S256x128 .bf16) (v17 : Vec Ideal S256x512 .bf16) (X_arg4 : BufTy.Contents (Elt Ideal) arg4.view.ty) (X_arg5 : BufTy.Contents (Elt Ideal) arg5.view.ty)

/-- The keys (or values) trip `k` reads. -/
abbrev blk (arg : Memref sig .tc .vmem S2048x128 .bf16) (X : BufTy.Contents (Elt Ideal) arg.view.ty) (k : Fin (k0_t1_loop i).trips) : Vec Ideal S256x128 .bf16 :=
  View.readAt (Elt Ideal) arg.view (Rect.unit (s := S2048x128) (k0_off2 i k) S256x128.size (k0_off2_inb i k)).toLoadRect X

abbrev a0 (arg8 : Memref sig .tc .vmem S2x256x128 .f32) (f8 : BufTy.Contents (Elt Ideal) arg8.view.ty) : Vec Ideal S1x256x128 .f32 :=
  View.readAt (Elt Ideal) arg8.view (Rect.unit (s := S2x256x128) ![0, 0, 0] S1x256x128.size inb_S2x256x128_S1x256x128_0_0_0).toLoadRect f8
abbrev a1 (arg8 : Memref sig .tc .vmem S2x256x128 .f32) (f8 : BufTy.Contents (Elt Ideal) arg8.view.ty) : Vec Ideal S1x256x128 .f32 :=
  View.readAt (Elt Ideal) arg8.view (Rect.unit (s := S2x256x128) ![1, 0, 0] S1x256x128.size inb_S2x256x128_S1x256x128_1_0_0).toLoadRect f8
abbrev c0 (arg9 : Memref sig .tc .vmem S2x256x256 .f32) (f9 : BufTy.Contents (Elt Ideal) arg9.view.ty) : Vec Ideal S1x256x256 .f32 :=
  View.readAt (Elt Ideal) arg9.view (Rect.unit (s := S2x256x256) ![0, 0, 0] S1x256x256.size inb_S2x256x256_S1x256x256_0_0_0).toLoadRect f9
abbrev c1 (arg9 : Memref sig .tc .vmem S2x256x256 .f32) (f9 : BufTy.Contents (Elt Ideal) arg9.view.ty) : Vec Ideal S1x256x256 .f32 :=
  View.readAt (Elt Ideal) arg9.view (Rect.unit (s := S2x256x256) ![1, 0, 0] S1x256x256.size inb_S2x256x256_S1x256x256_1_0_0).toLoadRect f9

abbrev two8 (w1 w0 : Vec Ideal S1x256x128 .f32) : List (View.Piece (Elt Ideal) S2x256x128 .f32) :=
  [⟨Rect.unit ![1, 0, 0] ![1, 256, 128] inb_S2x256x128_S1x256x128_1_0_0, w1⟩, ⟨Rect.unit ![0, 0, 0] ![1, 256, 128] inb_S2x256x128_S1x256x128_0_0_0, w0⟩]
abbrev two9 (w1 w0 : Vec Ideal S1x256x256 .f32) : List (View.Piece (Elt Ideal) S2x256x256 .f32) :=
  [⟨Rect.unit ![1, 0, 0] ![1, 256, 256] inb_S2x256x256_S1x256x256_1_0_0, w1⟩, ⟨Rect.unit ![0, 0, 0] ![1, 256, 256] inb_S2x256x256_S1x256x256_0_0_0, w0⟩]

theorem trip_eq (k : Fin (k0_t1_loop i).trips) (f8 : BufTy.Contents (Elt Ideal) arg8.view.ty) (f9 : BufTy.Contents (Elt Ideal) arg9.view.ty) :
    tripL_k0_t1 𝒱 c bd i arg3 harg3 arg4 harg4 arg5 harg5 arg6 harg6 arg7 harg7 arg8 harg8 arg9 harg9 arg2 v13 v16 v17 X_arg4 X_arg5 k f8 f9
      = (two8 (k0_pay8 v16 v17 (blk i arg4 X_arg4 k) (blk i arg5 X_arg5 k) (c1 arg9 f9) (a1 arg8 f8))
          (k0_pay8 v13 v17 (blk i arg4 X_arg4 k) (blk i arg5 X_arg5 k) (c0 arg9 f9) (a0 arg8 f8)),
        two9 (k0_pay9 (k0_pay7 v16 v17 (blk i arg4 X_arg4 k)) (c1 arg9 f9))
          (k0_pay9 (k0_pay7 v13 v17 (blk i arg4 X_arg4 k)) (c0 arg9 f9))) := by
  unfold tripL_k0_t1 trip_k0_t1
  dsimp only
  unfold trip_k0_t1.sl.r_4 trip_k0_t1.sl.r_3 trip_k0_t1.sl.r_2 trip_k0_t1.sl.v193 trip_k0_t1.sl.v197 trip_k0_t1.sl.r trip_k0_t1.sl.r_1
  rw [pay13_eq, pay12_eq, pay2_eq]

theorem a0_apply (f8 : BufTy.Contents (Elt Ideal) arg8.view.ty) (r : Fin 256) (l : Fin 128) :
    a0 arg8 f8 (ix3 0 r l) = arg8.view.read (Elt Ideal) f8 (ix3 0 r l) := by
  show arg8.view.read (Elt Ideal) f8 ((Rect.unit (s := S2x256x128) ![0, 0, 0] ![1, 256, 128] inb_S2x256x128_S1x256x128_0_0_0).idx (ix3 0 r l)) = _
  refine congrArg (arg8.view.read (Elt Ideal) f8) (funext fun a => Fin.ext (by
    match a with
    | ⟨0, _⟩ => rfl
    | ⟨1, _⟩ => show 0 + 1 * r.val = r.val; omega
    | ⟨2, _⟩ => show 0 + 1 * l.val = l.val; omega))
theorem a1_apply (f8 : BufTy.Contents (Elt Ideal) arg8.view.ty) (r : Fin 256) (l : Fin 128) :
    a1 arg8 f8 (ix3 0 r l) = arg8.view.read (Elt Ideal) f8 (ix3 1 r l) := by
  show arg8.view.read (Elt Ideal) f8 ((Rect.unit (s := S2x256x128) ![1, 0, 0] ![1, 256, 128] inb_S2x256x128_S1x256x128_1_0_0).idx (ix3 0 r l)) = _
  refine congrArg (arg8.view.read (Elt Ideal) f8) (funext fun a => Fin.ext (by
    match a with
    | ⟨0, _⟩ => rfl
    | ⟨1, _⟩ => show 0 + 1 * r.val = r.val; omega
    | ⟨2, _⟩ => show 0 + 1 * l.val = l.val; omega))
theorem c0_apply (f9 : BufTy.Contents (Elt Ideal) arg9.view.ty) (r s : Fin 256) :
    c0 arg9 f9 (ix3 0 r s) = arg9.view.read (Elt Ideal) f9 (ix3 0 r s) := by
  show arg9.view.read (Elt Ideal) f9 ((Rect.unit (s := S2x256x256) ![0, 0, 0] ![1, 256, 256] inb_S2x256x256_S1x256x256_0_0_0).idx (ix3 0 r s)) = _
  refine congrArg (arg9.view.read (Elt Ideal) f9) (funext fun a => Fin.ext (by
    match a with
    | ⟨0, _⟩ => rfl
    | ⟨1, _⟩ => show 0 + 1 * r.val = r.val; omega
    | ⟨2, _⟩ => show 0 + 1 * s.val = s.val; omega))
theorem c1_apply (f9 : BufTy.Contents (Elt Ideal) arg9.view.ty) (r s : Fin 256) :
    c1 arg9 f9 (ix3 0 r s) = arg9.view.read (Elt Ideal) f9 (ix3 1 r s) := by
  show arg9.view.read (Elt Ideal) f9 ((Rect.unit (s := S2x256x256) ![1, 0, 0] ![1, 256, 256] inb_S2x256x256_S1x256x256_1_0_0).idx (ix3 0 r s)) = _
  refine congrArg (arg9.view.read (Elt Ideal) f9) (funext fun a => Fin.ext (by
    match a with
    | ⟨0, _⟩ => rfl
    | ⟨1, _⟩ => show 0 + 1 * r.val = r.val; omega
    | ⟨2, _⟩ => show 0 + 1 * s.val = s.val; omega))

theorem two8_apply1 (f8 : BufTy.Contents (Elt Ideal) arg8.view.ty) (w1 w0 : Vec Ideal S1x256x128 .f32) (L) (r : Fin 256) (l : Fin 128) :
    arg8.view.read (Elt Ideal) (arg8.view.writes (Elt Ideal) f8 (two8 w1 w0 ++ L)) (ix3 1 r l) = w1 (ix3 0 r l) :=
  View.read_writes_cons_unit_of_mem _ _ _ _ _ _ _ rfl fun a => by
    match a with
    | ⟨0, _⟩ => rfl
    | ⟨1, _⟩ => exact (Nat.zero_add r.val).symm
    | ⟨2, _⟩ => exact (Nat.zero_add l.val).symm
theorem two8_apply0 (f8 : BufTy.Contents (Elt Ideal) arg8.view.ty) (w1 w0 : Vec Ideal S1x256x128 .f32) (L) (r : Fin 256) (l : Fin 128) :
    arg8.view.read (Elt Ideal) (arg8.view.writes (Elt Ideal) f8 (two8 w1 w0 ++ L)) (ix3 0 r l) = w0 (ix3 0 r l) :=
  (View.read_writes_cons_unit_of_not_mem _ _ _ _ _ _ rfl (0 : Fin 3) (Or.inl Nat.zero_lt_one)).trans
    (View.read_writes_cons_unit_of_mem _ _ _ _ _ _ _ rfl fun a => by
    match a with
    | ⟨0, _⟩ => rfl
    | ⟨1, _⟩ => exact (Nat.zero_add r.val).symm
    | ⟨2, _⟩ => exact (Nat.zero_add l.val).symm)
theorem two9_apply1 (f9 : BufTy.Contents (Elt Ideal) arg9.view.ty) (w1 w0 : Vec Ideal S1x256x256 .f32) (L) (r s : Fin 256) :
    arg9.view.read (Elt Ideal) (arg9.view.writes (Elt Ideal) f9 (two9 w1 w0 ++ L)) (ix3 1 r s) = w1 (ix3 0 r s) :=
  View.read_writes_cons_unit_of_mem _ _ _ _ _ _ _ rfl fun a => by
    match a with
    | ⟨0, _⟩ => rfl
    | ⟨1, _⟩ => exact (Nat.zero_add r.val).symm
    | ⟨2, _⟩ => exact (Nat.zero_add s.val).symm
theorem two9_apply0 (f9 : BufTy.Contents (Elt Ideal) arg9.view.ty) (w1 w0 : Vec Ideal S1x256x256 .f32) (L) (r s : Fin 256) :
    arg9.view.read (Elt Ideal) (arg9.view.writes (Elt Ideal) f9 (two9 w1 w0 ++ L)) (ix3 0 r s) = w0 (ix3 0 r s) :=
  (View.read_writes_cons_unit_of_not_mem _ _ _ _ _ _ rfl (0 : Fin 3) (Or.inl Nat.zero_lt_one)).trans
    (View.read_writes_cons_unit_of_mem _ _ _ _ _ _ _ rfl fun a => by
    match a with
    | ⟨0, _⟩ => rfl
    | ⟨1, _⟩ => exact (Nat.zero_add r.val).symm
    | ⟨2, _⟩ => exact (Nat.zero_add s.val).symm)

/-- What the two running buffers hold: the weighted sums `A` and the sums of kept logarithms `C`, per head and row. -/
structure Holds (f8 : BufTy.Contents (Elt Ideal) arg8.view.ty) (f9 : BufTy.Contents (Elt Ideal) arg9.view.ty)
    (A : Fin 2 → Fin 256 → Fin 128 → EReal) (C : Fin 2 → ℕ → ℝ) : Prop where
  a0 : ∀ r l, arg8.view.read (Elt Ideal) f8 (ix3 0 r l) = A 0 r l
  a1 : ∀ r l, arg8.view.read (Elt Ideal) f8 (ix3 1 r l) = A 1 r l
  c0 : ∀ r s, arg9.view.read (Elt Ideal) f9 (ix3 0 r s) = ((C 0 r.val : ℝ) : EReal)
  c1 : ∀ r s, arg9.view.read (Elt Ideal) f9 (ix3 1 r s) = ((C 1 r.val : ℝ) : EReal)

/-- One block's contribution to a weighted sum. -/
def blockTerm (z : ℕ → ℕ → ℝ) (v : Vec Ideal S256x128 .bf16) (C : ℕ → ℝ) (r : Fin 256) (l : Fin 128) : EReal :=
  ∑ x : Fin 256, Ideal.exp (((LB (z r.val x.val) : ℝ) : EReal) + ((rowTail (fun j => LK (z r.val j)) x.val : ℝ) : EReal) + ((C r.val : ℝ) : EReal)) * v (ix2 x l)

/-- One trip: each head's sums take the block's contribution. -/
theorem trip_holds (k : Fin (k0_t1_loop i).trips) (z : Fin 2 → ℕ → ℕ → ℝ)
    (hz0 : IsScore v13 (blk i arg4 X_arg4 k) (z 0)) (hz1 : IsScore v16 (blk i arg4 X_arg4 k) (z 1)) (hu : IsTab v17)
    (f8 : BufTy.Contents (Elt Ideal) arg8.view.ty) (f9 : BufTy.Contents (Elt Ideal) arg9.view.ty) (L8 L9)
    (A : Fin 2 → Fin 256 → Fin 128 → EReal) (C : Fin 2 → ℕ → ℝ)
    (h : Holds arg8 arg9 (arg8.view.writes (Elt Ideal) f8 L8) (arg9.view.writes (Elt Ideal) f9 L9) A C) :
    Holds arg8 arg9
      (arg8.view.writes (Elt Ideal) f8 ((tripL_k0_t1 𝒱 c bd i arg3 harg3 arg4 harg4 arg5 harg5 arg6 harg6 arg7 harg7 arg8 harg8 arg9 harg9 arg2 v13 v16 v17 X_arg4 X_arg5 k
        (arg8.view.writes (Elt Ideal) f8 L8) (arg9.view.writes (Elt Ideal) f9 L9)).1 ++ L8))
      (arg9.view.writes (Elt Ideal) f9 ((tripL_k0_t1 𝒱 c bd i arg3 harg3 arg4 harg4 arg5 harg5 arg6 harg6 arg7 harg7 arg8 harg8 arg9 harg9 arg2 v13 v16 v17 X_arg4 X_arg5 k
        (arg8.view.writes (Elt Ideal) f8 L8) (arg9.view.writes (Elt Ideal) f9 L9)).2 ++ L9))
      (fun hh r l => A hh r l + blockTerm (z hh) (blk i arg5 X_arg5 k) (C hh) r l)
      (fun hh r => C hh r + ∑ j ∈ Finset.range 256, LK (z hh r j)) := by
  rw [trip_eq]
  have e0 : ∀ r s : Fin 256, c0 arg9 (arg9.view.writes (Elt Ideal) f9 L9) (ix3 0 r s) = ((C 0 r.val : ℝ) : EReal) := fun r s => (c0_apply _ _ _ _).trans (h.c0 r s)
  have e1 : ∀ r s : Fin 256, c1 arg9 (arg9.view.writes (Elt Ideal) f9 L9) (ix3 0 r s) = ((C 1 r.val : ℝ) : EReal) := fun r s => (c1_apply _ _ _ _).trans (h.c1 r s)
  constructor
  · intro r l
    refine (two8_apply0 arg8 f8 _ _ L8 r l).trans ((pay8_eq v13 _ _ v17 (z 0) hz0 hu _ (C 0) e0 _ r l).trans ?_)
    exact congrArg (· + _) ((a0_apply _ _ _ _).trans (h.a0 r l))
  · intro r l
    refine (two8_apply1 arg8 f8 _ _ L8 r l).trans ((pay8_eq v16 _ _ v17 (z 1) hz1 hu _ (C 1) e1 _ r l).trans ?_)
    exact congrArg (· + _) ((a1_apply _ _ _ _).trans (h.a1 r l))
  · intro r s
    exact (two9_apply0 arg9 f9 _ _ L9 r s).trans (pay9_eq v13 _ v17 (z 0) hz0 hu _ (C 0) e0 r s)
  · intro r s
    exact (two9_apply1 arg9 f9 _ _ L9 r s).trans (pay9_eq v16 _ v17 (z 1) hz1 hu _ (C 1) e1 r s)

end Cert.SbKernelIdeal.Sb
-- ==== Proof.Sb.Math2.lean ====
module

public import proofs.«01_k».proof.Proof.Sb.Pay

@[expose] public section

set_option maxRecDepth 16384

noncomputable section

namespace Cert.SbKernelIdeal.Sb

open Cert.Sb Cert.SbKernelIdeal Cert.SbKernelIdeal.Gen Idealize.ShloMosaic Idealize.ShloMosaic.TcCoe Idealize.SL.Sem

theorem rowTail_lt (a : ℕ → ℝ) {x : ℕ} (hx : x < 256) : rowTail a x = ∑ j ∈ Finset.Ico (x + 1) 256, a j := by
  unfold rowTail
  refine Finset.sum_congr ?_ fun _ _ => rfl
  ext j
  rw [Finset.mem_filter, Finset.mem_range, Finset.mem_Ico]
  omega

theorem sum_fin_Ico {M : Type*} [AddCommMonoid M] (f : ℕ → M) (s0 : ℕ) : ∑ x : Fin 256, f (s0 + x.val) = ∑ s ∈ Finset.Ico s0 (s0 + 256), f s := by
  rw [Fin.sum_univ_eq_sum_range (fun n => f (s0 + n)) 256, Finset.sum_Ico_eq_sum_range, Nat.add_sub_cancel_left]

theorem sum_shift (f : ℕ → ℝ) (s0 a : ℕ) : ∑ j ∈ Finset.Ico a 256, f (s0 + j) = ∑ j ∈ Finset.Ico (s0 + a) (s0 + 256), f j :=
  by
  rw [Finset.sum_Ico_add, Nat.add_comm a, Nat.add_comm 256]

/-- A weight as a block before the diagonal computes it. -/
theorem wt_off (z : ℕ → ℕ → ℝ) (T0 s0 r x : ℕ) (hx : x < 256) (hr : r < 256) (h : s0 + 256 ≤ T0) (hT : T0 + 256 ≤ 2048) :
    Ideal.exp (((LB (z (T0 + r) (s0 + x)) : ℝ) : EReal) + ((rowTail (fun j => LK (z (T0 + r) (s0 + j))) x : ℝ) : EReal)
        + ((∑ j ∈ Finset.Ico (s0 + 256) (T0 + 256), lkM z (T0 + r) j : ℝ) : EReal)) = wt z (T0 + r) (s0 + x) := by
  unfold wt lbM
  rw [if_pos (by omega), add_assoc, ← EReal.coe_add, rowTail_lt _ hx, sum_lkM_le z (T0 + r) (s0 + x + 1) (T0 + 256) (by omega) hT]
  refine congrArg Ideal.exp (congrArg₂ (· + ·) rfl (congrArg (fun a : ℝ => (a : EReal)) ?_))
  rw [← Finset.sum_Ico_consecutive _ (by omega : s0 + x + 1 ≤ s0 + 256) (by omega : s0 + 256 ≤ T0 + 256)]
  refine congrArg (· + _) ?_
  rw [show s0 + x + 1 = s0 + (x + 1) from rfl, ← sum_shift]
  refine Finset.sum_congr rfl fun j hj => ?_
  rw [Finset.mem_Ico] at hj
  exact (if_pos (by omega)).symm

/-- A weight as the diagonal block computes it. -/
theorem wt_diag (z : ℕ → ℕ → ℝ) (T0 r x : ℕ) (hx : x < 256) (hr : r < 256) (hT : T0 + 256 ≤ 2048) :
    Ideal.exp ((if x < r then ((LB (z (T0 + r) (T0 + x)) : ℝ) : EReal) else ⊥) + ((rowTail (fun j => if j < r then LK (z (T0 + r) (T0 + j)) else 0) x : ℝ) : EReal)
        + ((0 : ℝ) : EReal)) = wt z (T0 + r) (T0 + x) := by
  unfold wt lbM
  rw [EReal.coe_zero, add_zero, rowTail_lt _ hx, sum_lkM_le z (T0 + r) (T0 + x + 1) (T0 + 256) (by omega) hT]
  refine congrArg Ideal.exp (congrArg₂ (· + ·) ?_ (congrArg (fun a : ℝ => (a : EReal)) ?_))
  · by_cases hxr : x < r
    · rw [if_pos hxr, if_pos (by omega)]
    · rw [if_neg hxr, if_neg (by omega)]
  · rw [show T0 + x + 1 = T0 + (x + 1) from rfl, ← sum_shift]
    refine Finset.sum_congr rfl fun j hj => ?_
    unfold lkM
    by_cases hjr : j < r
    · rw [if_pos hjr, if_pos (by omega)]
    · rw [if_neg hjr, if_neg (by omega)]

theorem lk_off (z : ℕ → ℕ → ℝ) (T0 s0 r : ℕ) (h : s0 + 256 ≤ T0) :
    (∑ j ∈ Finset.Ico (s0 + 256) (T0 + 256), lkM z (T0 + r) j) + ∑ j ∈ Finset.range 256, LK (z (T0 + r) (s0 + j))
      = ∑ j ∈ Finset.Ico s0 (T0 + 256), lkM z (T0 + r) j := by
  rw [← Finset.sum_Ico_consecutive _ (by omega : s0 ≤ s0 + 256) (by omega : s0 + 256 ≤ T0 + 256), add_comm]
  refine congrArg (· + _) ?_
  rw [Finset.sum_Ico_eq_sum_range, Nat.add_sub_cancel_left]
  refine Finset.sum_congr rfl fun j hj => ?_
  rw [Finset.mem_range] at hj
  exact (if_pos (by omega)).symm

theorem lk_diag (z : ℕ → ℕ → ℝ) (T0 r : ℕ) :
    (∑ j ∈ Finset.range 256, if j < r then LK (z (T0 + r) (T0 + j)) else 0) = ∑ j ∈ Finset.Ico T0 (T0 + 256), lkM z (T0 + r) j := by
  rw [Finset.range_eq_Ico, Finset.sum_Ico_eq_sum_range, Finset.sum_Ico_eq_sum_range, Nat.add_sub_cancel_left]
  refine Finset.sum_congr rfl fun j _ => ?_
  unfold lkM
  rw [Nat.zero_add]
  by_cases hjr : j < r
  · rw [if_pos hjr, if_pos (by omega)]
  · rw [if_neg hjr, if_neg (by omega)]

end Cert.SbKernelIdeal.Sb
-- ==== Proof.Sb.Start.lean ====
module

public import proofs.«01_k».proof.Proof.Sb.Trip
public import proofs.«01_k».proof.Proof.Sb.Math2
public import proofs.«01_k».proof.Proof.Gen.SbKernelIdeal.Value
public import Idealize.ShloMosaic.Lib.WritesUnit
public import Idealize.ShloMosaic.Lib.Pipeline.ValueKit.Tiles

@[expose] public section

set_option maxRecDepth 16384

noncomputable section

namespace Cert.SbKernelIdeal.Sb

open Cert.Sb Cert.SbKernelIdeal Cert.SbKernelIdeal.Gen Idealize.ShloMosaic Idealize.ShloMosaic.TcCoe Idealize.SL.Sem

theorem off1_all : ∀ x : Fin 8, (Scalar.indexCast (Scalar.muli (BitVec.ofNat 32 x.val) 256#32) : Index).toNat = 256 * x.val := by decide
theorem off2_all : ∀ x k : Fin 8, k.val < x.val →
    (Scalar.indexCast (Scalar.muli (Scalar.subi (Scalar.subi (BitVec.ofNat 32 x.val) 1#32) (Scf.iv 0#32 1#32 k.val)) 256#32) : Index).toNat = 256 * (x.val - 1 - k.val) := by decide
theorem trips_all : ∀ x : Fin 8, Scf.trips 0#32 (Scalar.addi 0#32 (Scalar.muli (Scalar.divsi (Scalar.subi (BitVec.ofNat 32 x.val) 0#32) 1#32) 1#32)) 1#32 = x.val := by decide
theorem trips2_all : ∀ x : Fin 8, Scf.trips (Scalar.addi 0#32 (Scalar.muli (Scalar.divsi (Scalar.subi (BitVec.ofNat 32 x.val) 0#32) 1#32) 1#32))
    (Scalar.addi 0#32 (Scalar.subi (BitVec.ofNat 32 x.val) 0#32)) 1#32 = 0 := by decide

theorem trips1 (i : grid0.Coords) : (k0_t1_loop i).trips = (i 2).val := trips_all (i 2)
theorem trips2 (i : grid0.Coords) : (k0_t2_loop i).trips = 0 := trips2_all (i 2)

theorem off1_val (i : grid0.Coords) : k0_off1 i = ![256 * (i 2).val, 0] :=
  congrArg (fun n : ℕ => (![n, 0] : Fin 2 → ℕ)) (off1_all (i 2))
theorem off2_val (i : grid0.Coords) (k : Fin (k0_t1_loop i).trips) : k0_off2 i k = ![256 * ((i 2).val - 1 - k.val), 0] := by
  have hk : k.val < (i 2).val := lt_of_lt_of_eq k.isLt (trips1 i)
  have h8 : (i 2).val < 8 := (i 2).isLt
  exact congrArg (fun n : ℕ => (![n, 0] : Fin 2 → ℕ)) (off2_all (i 2) ⟨k.val, by omega⟩ hk)

variable (c : Dev nD) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S2x256x128 .f32) (harg8 : arg8.IsWhole) (arg9 : Memref sig .tc .vmem S2x256x256 .f32) (harg9 : arg9.IsWhole) (x0 : Vec Ideal S256x128 .bf16) (x1 : Vec Ideal S2048x128 .bf16) (x2 : Vec Ideal S2048x128 .bf16) (x3 : Vec Ideal S256x512 .bf16)

theorem blk_unread (arg : Memref sig .tc .vmem S2048x128 .bf16) (harg : arg.IsWhole) (x : Vec Ideal S2048x128 .bf16) (off : Fin 2 → ℕ) (inb) (n : ℕ) (hoff : off = ![n, 0])
    (s : Fin 256) (l : Fin 128) (hn : n + s.val < 2048) :
    View.readAt (Elt Ideal) arg.view (Rect.unit (s := S2048x128) off S256x128.size inb).toLoadRect (harg.unread x) (ix2 s l) = x (ix2 ⟨n + s.val, hn⟩ l) := by
  subst hoff
  rw [View.readAt_eq_ld, harg.read_unread]
  refine View.ld_unit_apply_of _ _ _ _ _ _ fun a => ?_
  match a with
  | ⟨0, _⟩ => rfl
  | ⟨1, _⟩ => exact (Nat.zero_add l.val).symm

theorem whole_unread {S : Shape} {e : EltTy} (arg : Memref sig .tc .vmem S e) (harg : arg.IsWhole) (x : Vec Ideal S e) (off : Fin S.rank → ℕ) (inb) (h : off = fun _ => 0) :
    View.readAt (Elt Ideal) arg.view (Rect.unit (s := S) off S.size inb).toLoadRect (harg.unread x) = x := by
  rw [View.readAt_eq_ld, harg.read_unread]
  exact View.ld_unit_zero h _ _

/-- The queries with the other head's lanes put to zero. -/
def qh (hh : Fin 2) (x0 : Vec Ideal S256x128 .bf16) : Vec Ideal S256x128 .bf16 := if hh = 0 then k0_pay26 x0 else k0_pay27 x0

/-- A row of the values by number. -/
def vrow (x2 : Vec Ideal S2048x128 .bf16) (s : ℕ) (l : Fin 128) : EReal := if h : s < 2048 then x2 (ix2 ⟨s, h⟩ l) else 0

theorem vrow_lt (x2 : Vec Ideal S2048x128 .bf16) {s : ℕ} (h : s < 2048) (l : Fin 128) : vrow x2 s l = x2 (ix2 ⟨s, h⟩ l) := dif_pos h

/-- The scores of the grid point's queries against all the keys. -/
def Scores (i : grid0.Coords) (x0 : Vec Ideal S256x128 .bf16) (x1 : Vec Ideal S2048x128 .bf16) (z : Fin 2 → ℕ → ℕ → ℝ) : Prop :=
  ∀ (hh : Fin 2) (r : Fin 256) (s : Fin 2048), ∑ x : Fin 128, qh hh x0 (ix2 r x) * x1 (ix2 s x) = ((z hh (256 * (i 2).val + r.val) s.val : ℝ) : EReal)

/-- The weighted sum over the keys from `a` up to the end of the diagonal block. -/
def accAt (i : grid0.Coords) (x2 : Vec Ideal S2048x128 .bf16) (z : Fin 2 → ℕ → ℕ → ℝ) (a : ℕ) (hh : Fin 2) (r : Fin 256) (l : Fin 128) : EReal :=
  ∑ s ∈ Finset.Ico a (256 * (i 2).val + 256), wt (z hh) (256 * (i 2).val + r.val) s * vrow x2 s l

def keptAt (i : grid0.Coords) (z : Fin 2 → ℕ → ℕ → ℝ) (a : ℕ) (hh : Fin 2) (r : ℕ) : ℝ :=
  ∑ s ∈ Finset.Ico a (256 * (i 2).val + 256), lkM (z hh) (256 * (i 2).val + r) s

theorem score_blk (z : Fin 2 → ℕ → ℕ → ℝ) (hz : Scores i x0 x1 z) (hh : Fin 2) (off : Fin 2 → ℕ) (inb) (n : ℕ) (hoff : off = ![n, 0]) (hn : n + 256 ≤ 2048) :
    IsScore (qh hh x0) (View.readAt (Elt Ideal) arg4.view (Rect.unit (s := S2048x128) off S256x128.size inb).toLoadRect (harg4.unread x1))
      (fun r s => z hh (256 * (i 2).val + r) (n + s)) := by
  intro r s
  have hs : n + s.val < 2048 := by have := s.isLt; omega
  exact (Finset.sum_congr rfl fun x _ => congrArg (_ * ·) (blk_unread arg4 harg4 x1 off inb n hoff s x hs)).trans (hz hh r ⟨n + s.val, hs⟩)

/-! The contents after the diagonal block. -/

abbrev S0 := kernelRun0_A.sl.HS0_3 (F := Ideal) c i arg3 harg3 arg4 harg4 arg5 harg5 arg6 harg6 arg8 arg9 x0 x1 x2 x3
abbrev S1 := kernelRun0_A.sl.HS1_3 (F := Ideal) c i arg3 harg3 arg4 harg4 arg6 harg6 arg9 x0 x1 x3

theorem zero8 (f8 : BufTy.Contents (Elt Ideal) arg8.view.ty) (y : S2x256x128.Idx) :
    arg8.view.read (Elt Ideal) (arg8.view.writes (Elt Ideal) f8 kernelRun0_A.sl.HS0_1) y = (0 : EReal) := by
  refine (View.read_writes_cons_unit_of_mem _ _ _ _ _ y y (off' := fun _ => 0) ?_ fun a => (Nat.zero_add _).symm).trans ?_
  · funext a
    match a with
    | ⟨0, _⟩ => rfl
    | ⟨1, _⟩ => rfl
    | ⟨2, _⟩ => rfl
  · pointwise [k0_pay23]
theorem zero9 (f9 : BufTy.Contents (Elt Ideal) arg9.view.ty) (y : S2x256x256.Idx) :
    arg9.view.read (Elt Ideal) (arg9.view.writes (Elt Ideal) f9 kernelRun0_A.sl.HS1_1) y = (0 : EReal) := by
  refine (View.read_writes_cons_unit_of_mem _ _ _ _ _ y y (off' := fun _ => 0) ?_ fun a => (Nat.zero_add _).symm).trans ?_
  · funext a
    match a with
    | ⟨0, _⟩ => rfl
    | ⟨1, _⟩ => rfl
    | ⟨2, _⟩ => rfl
  · pointwise [k0_pay24]

theorem start_holds (z : Fin 2 → ℕ → ℕ → ℝ) (hz : Scores i x0 x1 z) (hu : IsTab x3) :
    Holds arg8 arg9 (arg8.view.writes (Elt Ideal) arg8.view.junk (S0 c i arg3 harg3 arg4 harg4 arg5 harg5 arg6 harg6 arg8 arg9 x0 x1 x2 x3))
      (arg9.view.writes (Elt Ideal) arg9.view.junk (S1 c i arg3 harg3 arg4 harg4 arg6 harg6 arg9 x0 x1 x3))
      (accAt i x2 z (256 * (i 2).val)) (keptAt i z (256 * (i 2).val)) := by
  have h8 : (i 2).val < 8 := (i 2).isLt
  have e3 : View.readAt (Elt Ideal) arg3.view (Rect.unit (s := S256x128) ![0, 0] S256x128.size inb_S256x128_S256x128_0_0).toLoadRect (harg3.unread x0) = x0 :=
    whole_unread arg3 harg3 x0 _ _ (by funext a; match a with | ⟨0, _⟩ => rfl | ⟨1, _⟩ => rfl)
  have e6 : kernelRun0_A.sl.r_2 (F := Ideal) c arg6 harg6 x3 = x3 :=
    whole_unread arg6 harg6 x3 _ _ (by funext a; match a with | ⟨0, _⟩ => rfl | ⟨1, _⟩ => rfl)
  have hs := fun hh => score_blk i arg4 harg4 x0 x1 z hz hh (k0_off1 i) (k0_off1_inb i) _ (off1_val i) (by omega)
  have hv : ∀ (s : Fin 256) (l : Fin 128), kernelRun0_A.sl.r_4 (F := Ideal) c i arg5 harg5 x2 (ix2 s l) = vrow x2 (256 * (i 2).val + s.val) l := fun s l => by
    have hl : 256 * (i 2).val + s.val < 2048 := by have := s.isLt; omega
    rw [vrow_lt x2 hl]
    exact blk_unread arg5 harg5 x2 _ _ _ (off1_val i) s l hl
  have z8 : ∀ r l, kernelRun0_A.sl.v54 (F := Ideal) c arg8 (ix3 0 r l) = (0 : EReal) := fun r l => (a0_apply arg8 _ r l).trans (zero8 arg8 _ _)
  have z9 : ∀ r s : Fin 256, kernelRun0_A.sl.v50 (F := Ideal) c arg9 (ix3 0 r s) = (((0 : ℕ → ℝ) r.val : ℝ) : EReal) := fun r s =>
    ((c0_apply arg9 _ r s).trans (zero9 arg9 _ _)).trans EReal.coe_zero.symm
  have y9 : ∀ r s : Fin 256, kernelRun0_A.sl.v95 (F := Ideal) c i arg3 harg3 arg4 harg4 arg6 harg6 arg9 x0 x1 x3 (ix3 0 r s) = (((0 : ℕ → ℝ) r.val : ℝ) : EReal) := fun r s =>
    ((c1_apply arg9 _ r s).trans ((View.read_writes_cons_unit_of_not_mem _ _ _ _ _ _ rfl (0 : Fin 3) (Or.inr (le_refl 1))).trans (zero9 arg9 _ _))).trans EReal.coe_zero.symm
  have y8 : ∀ r l, kernelRun0_A.sl.v99 (F := Ideal) c i arg3 harg3 arg4 harg4 arg5 harg5 arg6 harg6 arg8 arg9 x0 x1 x2 x3 (ix3 0 r l) = (0 : EReal) := fun r l =>
    (a1_apply arg8 _ r l).trans ((View.read_writes_cons_unit_of_not_mem _ _ _ _ _ _ rfl (0 : Fin 3) (Or.inr (le_refl 1))).trans (zero8 arg8 _ _))
  have hsum : ∀ (hh : Fin 2) (r : Fin 256) (l : Fin 128), (0 : EReal) + ∑ x : Fin 256,
      Ideal.exp ((if x.val < r.val then ((LB (z hh (256 * (i 2).val + r.val) (256 * (i 2).val + x.val)) : ℝ) : EReal) else ⊥)
        + ((rowTail (fun j => if j < r.val then LK (z hh (256 * (i 2).val + r.val) (256 * (i 2).val + j)) else 0) x.val : ℝ) : EReal) + (((0 : ℕ → ℝ) r.val : ℝ) : EReal))
        * kernelRun0_A.sl.r_4 (F := Ideal) c i arg5 harg5 x2 (ix2 x l) = accAt i x2 z (256 * (i 2).val) hh r l := fun hh r l => by
    unfold accAt
    rw [zero_add, ← sum_fin_Ico]
    refine Finset.sum_congr rfl fun x _ => ?_
    rw [hv]
    exact congrArg (· * _) (wt_diag (z hh) (256 * (i 2).val) r.val x.val x.isLt r.isLt (by omega))
  have ksum : ∀ (hh : Fin 2) (r : ℕ), (0 : ℕ → ℝ) r + (∑ j ∈ Finset.range 256, if j < r then LK (z hh (256 * (i 2).val + r) (256 * (i 2).val + j)) else 0)
      = keptAt i z (256 * (i 2).val) hh r := fun hh r => (zero_add _).trans (lk_diag (z hh) _ r)
  constructor
  · intro r l
    refine (two8_apply0 arg8 _ _ _ kernelRun0_A.sl.HS0_1 r l).trans ?_
    unfold kernelRun0_A.sl.r_5 kernelRun0_A.sl.r_6
    rw [e3, e6, pay29_eq, pay30_eq]
    refine (pay33_eq (k0_pay26 x0) _ _ x3 _ (hs 0) hu _ 0 z9 _ r l).trans ?_
    rw [z8]
    exact hsum 0 r l
  · intro r l
    refine (two8_apply1 arg8 _ _ _ kernelRun0_A.sl.HS0_1 r l).trans ?_
    unfold kernelRun0_A.sl.r_7 kernelRun0_A.sl.r_1
    rw [e3, e6]
    refine (congrFun (pay39_eq (k0_pay27 x0) _ _ x3 _ _) _).trans ?_
    refine (pay33_eq (k0_pay27 x0) _ _ x3 _ (hs 1) hu _ 0 y9 _ r l).trans ?_
    rw [y8]
    exact hsum 1 r l
  · intro r s
    refine (two9_apply0 arg9 _ _ _ kernelRun0_A.sl.HS1_1 r s).trans ?_
    unfold kernelRun0_A.sl.r_6
    rw [e3, e6, pay30_eq]
    refine (pay34_eq (k0_pay26 x0) _ x3 _ (hs 0) hu _ 0 z9 r s).trans ?_
    exact congrArg (fun a : ℝ => (a : EReal)) (ksum 0 r.val)
  · intro r s
    refine (two9_apply1 arg9 _ _ _ kernelRun0_A.sl.HS1_1 r s).trans ?_
    unfold kernelRun0_A.sl.r_8 kernelRun0_A.sl.r_7 kernelRun0_A.sl.r_1
    rw [e3, e6]
    refine (congrFun (pay40_eq (k0_pay27 x0) _ x3 _) _).trans ?_
    refine (pay34_eq (k0_pay27 x0) _ x3 _ (hs 1) hu _ 0 y9 r s).trans ?_
    exact congrArg (fun a : ℝ => (a : EReal)) (ksum 1 r.val)

end Cert.SbKernelIdeal.Sb
-- ==== Proof.Sb.Loop.lean ====
module

public import proofs.«01_k».proof.Proof.Sb.Start
public import proofs.«01_k».proof.Proof.Gen.SbKernelIdeal.Value
public import Idealize.ShloMosaic.Lib.WritesUnit
public import Idealize.ShloMosaic.Lib.Pipeline.ValueKit.Tiles

@[expose] public section

set_option maxRecDepth 16384

noncomputable section

namespace Cert.SbKernelIdeal.Sb

open Cert.Sb Cert.SbKernelIdeal Cert.SbKernelIdeal.Gen Idealize.ShloMosaic Idealize.ShloMosaic.TcCoe Idealize.SL.Sem

variable (c : Dev nD) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S2x256x128 .f32) (harg8 : arg8.IsWhole) (arg9 : Memref sig .tc .vmem S2x256x256 .f32) (harg9 : arg9.IsWhole) (x0 : Vec Ideal S256x128 .bf16) (x1 : Vec Ideal S2048x128 .bf16) (x2 : Vec Ideal S2048x128 .bf16) (x3 : Vec Ideal S256x512 .bf16)

theorem acc_step (x2 : Vec Ideal S2048x128 .bf16) (z : Fin 2 → ℕ → ℕ → ℝ) (s0 : ℕ) (hs : s0 + 256 ≤ 256 * (i 2).val) (vb : Vec Ideal S256x128 .bf16)
    (hv : ∀ (s : Fin 256) (l : Fin 128), vb (ix2 s l) = vrow x2 (s0 + s.val) l) (hh : Fin 2) (r : Fin 256) (l : Fin 128) :
    accAt i x2 z (s0 + 256) hh r l + blockTerm (fun r s => z hh (256 * (i 2).val + r) (s0 + s)) vb (keptAt i z (s0 + 256) hh) r l = accAt i x2 z s0 hh r l := by
  have h8 : (i 2).val < 8 := (i 2).isLt
  unfold accAt blockTerm keptAt
  rw [← Finset.sum_Ico_consecutive _ (by omega : s0 ≤ s0 + 256) (by omega : s0 + 256 ≤ 256 * (i 2).val + 256), add_comm]
  refine congrArg (· + _) ?_
  rw [← sum_fin_Ico]
  refine Finset.sum_congr rfl fun x _ => ?_
  rw [hv]
  exact congrArg (· * _) (wt_off (z hh) (256 * (i 2).val) s0 r.val x.val x.isLt r.isLt hs (by omega))

theorem ar1 (n k : ℕ) : n - (k + 1) = n - 1 - k := by omega
theorem ar2 (n k : ℕ) (h : k + 1 ≤ n) : 256 * (n - 1 - k) + 256 = 256 * (n - k) := by omega
theorem ar3 (n k : ℕ) (h : n < 8) : 256 * (n - 1 - k) + 256 ≤ 2048 := by omega
theorem ar4 (n k : ℕ) (h : k + 1 ≤ n) : 256 * (n - 1 - k) + 256 ≤ 256 * n := by omega
theorem ar5 (n k s : ℕ) (h : n < 8) (hs : s < 256) : 256 * (n - 1 - k) + s < 2048 := by omega

section gen
variable (arg2 : BitVec 32) (v13 : Vec Ideal S256x128 .bf16) (v16 : FVec Ideal S256x128 .bf16) (v17 : Vec Ideal S256x512 .bf16)
  (f8 : BufTy.Contents (Elt Ideal) arg8.view.ty) (f9 : BufTy.Contents (Elt Ideal) arg9.view.ty)

/-- The pieces the first `k` trips leave. -/
abbrev pb (k : ℕ) := pb_k0_t1 (F := Ideal) Variants.none c none i arg3 harg3 arg4 harg4 arg5 harg5 arg6 harg6 arg7 harg7 arg8 harg8 arg9 harg9 arg2 v13 v16 v17 (harg4.unread x1) (harg5.unread x2) f8 f9 k

theorem loop_holds (z : Fin 2 → ℕ → ℕ → ℝ) (hz : Scores i x0 x1 z) (hu : IsTab v17) (h0 : v13 = qh 0 x0) (h1 : v16 = qh 1 x0)
    (H : Holds arg8 arg9 f8 f9 (accAt i x2 z (256 * (i 2).val)) (keptAt i z (256 * (i 2).val))) (k : ℕ) (hk : k ≤ (i 2).val) :
    Holds arg8 arg9
      (arg8.view.writes (Elt Ideal) f8 (pb c i arg3 harg3 arg4 harg4 arg5 harg5 arg6 harg6 arg7 harg7 arg8 harg8 arg9 harg9 x1 x2 arg2 v13 v16 v17 f8 f9 k).1)
      (arg9.view.writes (Elt Ideal) f9 (pb c i arg3 harg3 arg4 harg4 arg5 harg5 arg6 harg6 arg7 harg7 arg8 harg8 arg9 harg9 x1 x2 arg2 v13 v16 v17 f8 f9 k).2)
      (accAt i x2 z (256 * ((i 2).val - k))) (keptAt i z (256 * ((i 2).val - k))) := by
  induction k with
  | zero => exact H
  | succ k ih =>
    have h8 : (i 2).val < 8 := (i 2).isLt
    have hkt : k < (k0_t1_loop i).trips := lt_of_lt_of_eq hk (trips1 i).symm
    have ih := ih (Nat.le_of_succ_le hk)
    have hs := fun hh => score_blk i arg4 harg4 x0 x1 z hz hh (k0_off2 i ⟨k, hkt⟩) (k0_off2_inb i ⟨k, hkt⟩) _ (off2_val i ⟨k, hkt⟩) (ar3 _ _ h8)
    have hv : ∀ (s : Fin 256) (l : Fin 128), blk i arg5 (harg5.unread x2) ⟨k, hkt⟩ (ix2 s l) = vrow x2 (256 * ((i 2).val - 1 - k) + s.val) l := fun s l => by
      have hl : 256 * ((i 2).val - 1 - k) + s.val < 2048 := ar5 _ _ _ h8 s.isLt
      rw [vrow_lt x2 hl]
      exact blk_unread arg5 harg5 x2 _ _ _ (off2_val i ⟨k, hkt⟩) s l hl
    have hstep := trip_holds Variants.none c none i arg3 harg3 arg4 harg4 arg5 harg5 arg6 harg6 arg7 harg7 arg8 harg8 arg9 harg9 arg2 v13 v16 v17 (harg4.unread x1) (harg5.unread x2) ⟨k, hkt⟩ (fun hh r s => z hh (256 * (i 2).val + r) (256 * ((i 2).val - 1 - k) + s))
      (h0 ▸ hs 0) (h1 ▸ hs 1) hu _ _ _ _ _ _ ih
    have hpb := pb_k0_t1_succ (F := Ideal) Variants.none c none i arg3 harg3 arg4 harg4 arg5 harg5 arg6 harg6 arg7 harg7 arg8 harg8 arg9 harg9 arg2 v13 v16 v17 (harg4.unread x1) (harg5.unread x2) f8 f9 ⟨k, hkt⟩
    have eA : (fun hh r l => accAt i x2 z (256 * ((i 2).val - k)) hh r l
        + blockTerm (fun r s => z hh (256 * (i 2).val + r) (256 * ((i 2).val - 1 - k) + s)) (blk i arg5 (harg5.unread x2) ⟨k, hkt⟩) (keptAt i z (256 * ((i 2).val - k)) hh) r l)
        = accAt i x2 z (256 * ((i 2).val - (k + 1))) := by
      funext hh r l
      have := acc_step i x2 z (256 * ((i 2).val - 1 - k)) (ar4 _ _ hk) _ hv hh r l
      rw [show 256 * ((i 2).val - 1 - k) + 256 = 256 * ((i 2).val - k) from ar2 _ _ hk] at this
      rw [show (i 2).val - (k + 1) = (i 2).val - 1 - k from ar1 _ _]
      exact this
    have eC : (fun hh r => keptAt i z (256 * ((i 2).val - k)) hh r + ∑ j ∈ Finset.range 256, LK (z hh (256 * (i 2).val + r) (256 * ((i 2).val - 1 - k) + j)))
        = keptAt i z (256 * ((i 2).val - (k + 1))) := by
      funext hh r
      have := lk_off (z hh) (256 * (i 2).val) (256 * ((i 2).val - 1 - k)) r (ar4 _ _ hk)
      rw [show 256 * ((i 2).val - 1 - k) + 256 = 256 * ((i 2).val - k) from ar2 _ _ hk] at this
      rw [show (i 2).val - (k + 1) = (i 2).val - 1 - k from ar1 _ _]
      exact this
    rw [← eA, ← eC]
    unfold pb
    rw [hpb]
    exact hstep

end gen

/-- What the grid point's output block holds. -/
theorem out_eq (z : Fin 2 → ℕ → ℕ → ℝ) (hz : Scores i x0 x1 z) (hu : IsTab x3) (r : Fin 256) (l : Fin 128) :
    out0_A_4 (F := Ideal) c i arg3 harg3 arg4 harg4 arg5 harg5 arg6 harg6 arg7 harg7 arg8 harg8 arg9 harg9 x0 x1 x2 x3 (ix2 r l) = accAt i x2 z 0 (if l.val < 64 then 0 else 1) r l := by
  have e6 : kernelRun0_A.sl.r_2 (F := Ideal) c arg6 harg6 x3 = x3 :=
    whole_unread arg6 harg6 x3 _ _ (by funext a; match a with | ⟨0, _⟩ => rfl | ⟨1, _⟩ => rfl)
  have e3 : View.readAt (Elt Ideal) arg3.view (Rect.unit (s := S256x128) ![0, 0] S256x128.size inb_S256x128_S256x128_0_0).toLoadRect (harg3.unread x0) = x0 :=
    whole_unread arg3 harg3 x0 _ _ (by funext a; match a with | ⟨0, _⟩ => rfl | ⟨1, _⟩ => rfl)
  have H := loop_holds c i arg3 harg3 arg4 harg4 arg5 harg5 arg6 harg6 arg7 harg7 arg8 harg8 arg9 harg9 x0 x1 x2 (BitVec.ofNat 32 (i 2).val) (kernelRun0_A.sl.r c arg3 harg3 x0) (kernelRun0_A.sl.r_1 c arg3 harg3 x0) (kernelRun0_A.sl.r_2 c arg6 harg6 x3)
    _ _ z hz (e6.symm ▸ hu) (congrArg k0_pay26 e3) (congrArg k0_pay27 e3)
    (start_holds c i arg3 harg3 arg4 harg4 arg5 harg5 arg6 harg6 arg8 arg9 x0 x1 x2 x3 z hz hu) (Scf.trips (k0_t1_loop i).lb (k0_t1_loop i).ub (k0_t1_loop i).st) (le_of_eq (trips1 i))
  rw [show (i 2).val - Scf.trips (k0_t1_loop i).lb (k0_t1_loop i).ub (k0_t1_loop i).st = 0 from Nat.sub_eq_zero_of_le (le_of_eq (trips1 i).symm), Nat.mul_zero,
    ← View.writes_append, ← View.writes_append] at H
  have v0 : ∀ r l, kernelRun0_A.sl.v121 (F := Ideal) c i arg3 harg3 arg4 harg4 arg5 harg5 arg6 harg6 arg7 harg7 arg8 harg8 arg9 harg9 x0 x1 x2 x3 (ix3 0 r l) = accAt i x2 z 0 0 r l := fun r l => by
    unfold kernelRun0_A.sl.v121
    rw [show Scf.trips (k0_t2_loop i).lb (k0_t2_loop i).ub (k0_t2_loop i).st = 0 from trips2 i, pb_k0_t2.eq_1]
    exact (a0_apply arg8 _ r l).trans (H.a0 r l)
  have v1 : ∀ r l, kernelRun0_A.sl.v123 (F := Ideal) c i arg3 harg3 arg4 harg4 arg5 harg5 arg6 harg6 arg7 harg7 arg8 harg8 arg9 harg9 x0 x1 x2 x3 (ix3 0 r l) = accAt i x2 z 0 1 r l := fun r l => by
    unfold kernelRun0_A.sl.v123
    rw [show Scf.trips (k0_t2_loop i).lb (k0_t2_loop i).ub (k0_t2_loop i).st = 0 from trips2 i, pb_k0_t2.eq_1]
    exact (a1_apply arg8 _ r l).trans (H.a1 r l)
  unfold out0_A_4 kernelRun0_A
  dsimp only
  refine (View.read_writes_cons_unit_of_mem _ _ _ _ _ (ix2 r l) (ix2 r l) rfl fun a => ?_).trans ?_
  · match a with
    | ⟨0, _⟩ => exact (Nat.zero_add _).symm
    | ⟨1, _⟩ => exact (Nat.zero_add _).symm
  · pointwise [k0_pay4]
    rw [v0, v1]
    have e9 : kernelRun0_A.sl.v9 (ix2 r l) = BitVec.ofNat 32 l.val := by pointwise [kernelRun0_A.sl.v9]
    rw [e9]
    show Scalar.select (IntOp.cmpi .slt (BitVec.ofNat 32 l.val) (BitVec.ofNat 32 64)) _ _ = _
    rw [slt_nat _ _ (by have := l.isLt; omega) (by omega)]
    by_cases h : l.val < 64
    · rw [if_pos h, if_pos h]; rfl
    · rw [if_neg h, if_neg h]; rfl

end Cert.SbKernelIdeal.Sb
-- ==== Proof.Sb.Spec.lean ====
module

public import proofs.«01_k».proof.Proof.Sb.Math
public import Idealize.ShloMosaic.PureOps
public import Idealize.ShloMosaic.PureOps.Ideal
public import Idealize.ShloMosaic.Lib.Pointwise
public import Idealize.ShloMosaic.Lib.WordCmp

@[expose] public section

noncomputable section

namespace Cert.Sb

open Idealize.ShloMosaic

/-- The score of query `t` against key `s` in sequence `b`, head `h`, as a real number. -/
def Zr (q k : Fin 16384 → Fin 256 → EReal) (b h t s : ℕ) : ℝ :=
  if H : (b < 8 ∧ h < 4) ∧ t < 2048 ∧ s < 2048 then
    (∑ d : Fin 64, q ⟨2048 * b + t, by omega⟩ ⟨64 * h + d.val, by have := d.isLt; omega⟩ * k ⟨2048 * b + s, by omega⟩ ⟨64 * h + d.val, by have := d.isLt; omega⟩).toReal
  else 0

/-- Every entry is a real number. -/
def IsReal (q : Fin 16384 → Fin 256 → EReal) : Prop := ∀ i j, ∃ x : ℝ, q i j = ((x : ℝ) : EReal)

theorem Zr_eq (q k : Fin 16384 → Fin 256 → EReal) (hq : IsReal q) (hk : IsReal k) {b h t s : ℕ} (hb : b < 8) (hh : h < 4) (ht : t < 2048) (hs : s < 2048) :
    ∑ d : Fin 64, q ⟨2048 * b + t, by omega⟩ ⟨64 * h + d.val, by have := d.isLt; omega⟩ * k ⟨2048 * b + s, by omega⟩ ⟨64 * h + d.val, by have := d.isLt; omega⟩
      = ((Zr q k b h t s : ℝ) : EReal) := by
  unfold Zr
  rw [dif_pos ⟨⟨hb, hh⟩, ht, hs⟩]
  choose qr hqr using hq
  choose kr hkr using hk
  simp only [hqr, hkr, ← EReal.coe_mul]
  rw [← coe_sum, EReal.toReal_coe]

/-- The layer's stick-breaking attention: each query's values weighted by their shares of the stick. -/
def spec (q k v : Fin 16384 → Fin 256 → EReal) (R : Fin 16384) (C : Fin 256) : EReal :=
  ∑ s : Fin 2048, wt (Zr q k (R.val / 2048) (C.val / 64)) (R.val % 2048) s.val * v ⟨2048 * (R.val / 2048) + s.val, by have := s.isLt; have := R.isLt; omega⟩ C

end Cert.Sb

end
-- ==== Proof.Sb.Tab.lean ====
module

public import proofs.«01_k».proof.SbKernelIdeal

@[expose] public section

set_option maxRecDepth 16384

noncomputable section

namespace Cert.SbKernelIdeal.Sb

open Cert.SbKernelIdeal Idealize.ShloMosaic

/-- The entry the table of ones holds at row `j`, column `s`: one to the left of the diagonal and in the right half. -/
abbrev tabWord (j s : ℕ) : BitVec 16 := if s < j ∨ 256 ≤ s then 0x3F80#16 else 0#16

/-- Whether the `n` entries of the table from entry `b` on are the ones `tabWord` says. -/
def tabOk (b n : ℕ) : Bool :=
  Nat.rec true (fun i ih => bif Nat.beq (lit0t (b + i)).toNat (tabWord ((b + i) / 512) ((b + i) % 512)).toNat then ih else false) n

end Cert.SbKernelIdeal.Sb
-- ==== Proof.Sb.Tab0.lean ====
module

public import proofs.«01_k».proof.Proof.Sb.Tab

@[expose] public section

set_option maxRecDepth 16384

noncomputable section

namespace Cert.SbKernelIdeal.Sb

theorem tab0_0 : tabOk 0 4096 = true := by
  decide +kernel

theorem tab0_1 : tabOk 4096 4096 = true := by
  decide +kernel

theorem tab0_2 : tabOk 8192 4096 = true := by
  decide +kernel

theorem tab0_3 : tabOk 12288 4096 = true := by
  decide +kernel

end Cert.SbKernelIdeal.Sb
-- ==== Proof.Sb.Tab1.lean ====
module

public import proofs.«01_k».proof.Proof.Sb.Tab

@[expose] public section

set_option maxRecDepth 16384

noncomputable section

namespace Cert.SbKernelIdeal.Sb

theorem tab1_0 : tabOk 16384 4096 = true := by
  decide +kernel

theorem tab1_1 : tabOk 20480 4096 = true := by
  decide +kernel

theorem tab1_2 : tabOk 24576 4096 = true := by
  decide +kernel

theorem tab1_3 : tabOk 28672 4096 = true := by
  decide +kernel

end Cert.SbKernelIdeal.Sb
-- ==== Proof.Sb.Tab2.lean ====
module

public import proofs.«01_k».proof.Proof.Sb.Tab

@[expose] public section

set_option maxRecDepth 16384

noncomputable section

namespace Cert.SbKernelIdeal.Sb

theorem tab2_0 : tabOk 32768 4096 = true := by
  decide +kernel

theorem tab2_1 : tabOk 36864 4096 = true := by
  decide +kernel

theorem tab2_2 : tabOk 40960 4096 = true := by
  decide +kernel

theorem tab2_3 : tabOk 45056 4096 = true := by
  decide +kernel

end Cert.SbKernelIdeal.Sb
-- ==== Proof.Sb.Tab3.lean ====
module

public import proofs.«01_k».proof.Proof.Sb.Tab

@[expose] public section

set_option maxRecDepth 16384

noncomputable section

namespace Cert.SbKernelIdeal.Sb

theorem tab3_0 : tabOk 49152 4096 = true := by
  decide +kernel

theorem tab3_1 : tabOk 53248 4096 = true := by
  decide +kernel

theorem tab3_2 : tabOk 57344 4096 = true := by
  decide +kernel

theorem tab3_3 : tabOk 61440 4096 = true := by
  decide +kernel

end Cert.SbKernelIdeal.Sb
-- ==== Proof.Sb.Tab4.lean ====
module

public import proofs.«01_k».proof.Proof.Sb.Tab

@[expose] public section

set_option maxRecDepth 16384

noncomputable section

namespace Cert.SbKernelIdeal.Sb

theorem tab4_0 : tabOk 65536 4096 = true := by
  decide +kernel

theorem tab4_1 : tabOk 69632 4096 = true := by
  decide +kernel

theorem tab4_2 : tabOk 73728 4096 = true := by
  decide +kernel

theorem tab4_3 : tabOk 77824 4096 = true := by
  decide +kernel

end Cert.SbKernelIdeal.Sb
-- ==== Proof.Sb.Tab5.lean ====
module

public import proofs.«01_k».proof.Proof.Sb.Tab

@[expose] public section

set_option maxRecDepth 16384

noncomputable section

namespace Cert.SbKernelIdeal.Sb

theorem tab5_0 : tabOk 81920 4096 = true := by
  decide +kernel

theorem tab5_1 : tabOk 86016 4096 = true := by
  decide +kernel

theorem tab5_2 : tabOk 90112 4096 = true := by
  decide +kernel

theorem tab5_3 : tabOk 94208 4096 = true := by
  decide +kernel

end Cert.SbKernelIdeal.Sb
-- ==== Proof.Sb.Tab6.lean ====
module

public import proofs.«01_k».proof.Proof.Sb.Tab

@[expose] public section

set_option maxRecDepth 16384

noncomputable section

namespace Cert.SbKernelIdeal.Sb

theorem tab6_0 : tabOk 98304 4096 = true := by
  decide +kernel

theorem tab6_1 : tabOk 102400 4096 = true := by
  decide +kernel

theorem tab6_2 : tabOk 106496 4096 = true := by
  decide +kernel

theorem tab6_3 : tabOk 110592 4096 = true := by
  decide +kernel

end Cert.SbKernelIdeal.Sb
-- ==== Proof.Sb.Tab7.lean ====
module

public import proofs.«01_k».proof.Proof.Sb.Tab

@[expose] public section

set_option maxRecDepth 16384

noncomputable section

namespace Cert.SbKernelIdeal.Sb

theorem tab7_0 : tabOk 114688 4096 = true := by
  decide +kernel

theorem tab7_1 : tabOk 118784 4096 = true := by
  decide +kernel

theorem tab7_2 : tabOk 122880 4096 = true := by
  decide +kernel

theorem tab7_3 : tabOk 126976 4096 = true := by
  decide +kernel

end Cert.SbKernelIdeal.Sb
-- ==== Proof.Sb.TabAll.lean ====
module

public import proofs.«01_k».proof.Proof.Sb.Tab0
public import proofs.«01_k».proof.Proof.Sb.Tab1
public import proofs.«01_k».proof.Proof.Sb.Tab2
public import proofs.«01_k».proof.Proof.Sb.Tab3
public import proofs.«01_k».proof.Proof.Sb.Tab4
public import proofs.«01_k».proof.Proof.Sb.Tab5
public import proofs.«01_k».proof.Proof.Sb.Tab6
public import proofs.«01_k».proof.Proof.Sb.Tab7

@[expose] public section

set_option maxRecDepth 16384

noncomputable section

namespace Cert.SbKernelIdeal.Sb

open Cert.SbKernelIdeal Idealize.ShloMosaic

theorem tabOk_spec (b : ℕ) : ∀ n, tabOk b n = true → ∀ i < n, lit0t (b + i) = tabWord ((b + i) / 512) ((b + i) % 512)
  | 0, _, i, hi => absurd hi (Nat.not_lt_zero i)
  | n + 1, h, i, hi => by
    have h' : (bif Nat.beq (lit0t (b + n)).toNat (tabWord ((b + n) / 512) ((b + n) % 512)).toNat then tabOk b n else false) = true := h
    rw [Bool.cond_eq_ite] at h'
    split at h'
    · rename_i hb
      rcases Nat.lt_succ_iff_lt_or_eq.mp hi with hlt | rfl
      · exact tabOk_spec b n h' i hlt
      · exact BitVec.eq_of_toNat_eq (Nat.eq_of_beq_eq_true hb)
    · exact absurd h' (by decide)

/-- The table's word at flat position `i`. -/
theorem tab_word (i : ℕ) (hi : i < 131072) : lit0t i = tabWord (i / 512) (i % 512) := by
  have key : ∀ b, tabOk b 4096 = true → b ≤ i → i < b + 4096 → lit0t i = tabWord (i / 512) (i % 512) := by
    intro b hb h1 h2
    have h := tabOk_spec b 4096 hb (i - b) (by omega)
    rwa [Nat.add_sub_cancel' h1] at h
  by_cases h0 : i < 4096
  · exact key 0 tab0_0 (by omega) h0
  by_cases h1 : i < 8192
  · exact key 4096 tab0_1 (by omega) h1
  by_cases h2 : i < 12288
  · exact key 8192 tab0_2 (by omega) h2
  by_cases h3 : i < 16384
  · exact key 12288 tab0_3 (by omega) h3
  by_cases h4 : i < 20480
  · exact key 16384 tab1_0 (by omega) h4
  by_cases h5 : i < 24576
  · exact key 20480 tab1_1 (by omega) h5
  by_cases h6 : i < 28672
  · exact key 24576 tab1_2 (by omega) h6
  by_cases h7 : i < 32768
  · exact key 28672 tab1_3 (by omega) h7
  by_cases h8 : i < 36864
  · exact key 32768 tab2_0 (by omega) h8
  by_cases h9 : i < 40960
  · exact key 36864 tab2_1 (by omega) h9
  by_cases h10 : i < 45056
  · exact key 40960 tab2_2 (by omega) h10
  by_cases h11 : i < 49152
  · exact key 45056 tab2_3 (by omega) h11
  by_cases h12 : i < 53248
  · exact key 49152 tab3_0 (by omega) h12
  by_cases h13 : i < 57344
  · exact key 53248 tab3_1 (by omega) h13
  by_cases h14 : i < 61440
  · exact key 57344 tab3_2 (by omega) h14
  by_cases h15 : i < 65536
  · exact key 61440 tab3_3 (by omega) h15
  by_cases h16 : i < 69632
  · exact key 65536 tab4_0 (by omega) h16
  by_cases h17 : i < 73728
  · exact key 69632 tab4_1 (by omega) h17
  by_cases h18 : i < 77824
  · exact key 73728 tab4_2 (by omega) h18
  by_cases h19 : i < 81920
  · exact key 77824 tab4_3 (by omega) h19
  by_cases h20 : i < 86016
  · exact key 81920 tab5_0 (by omega) h20
  by_cases h21 : i < 90112
  · exact key 86016 tab5_1 (by omega) h21
  by_cases h22 : i < 94208
  · exact key 90112 tab5_2 (by omega) h22
  by_cases h23 : i < 98304
  · exact key 94208 tab5_3 (by omega) h23
  by_cases h24 : i < 102400
  · exact key 98304 tab6_0 (by omega) h24
  by_cases h25 : i < 106496
  · exact key 102400 tab6_1 (by omega) h25
  by_cases h26 : i < 110592
  · exact key 106496 tab6_2 (by omega) h26
  by_cases h27 : i < 114688
  · exact key 110592 tab6_3 (by omega) h27
  by_cases h28 : i < 118784
  · exact key 114688 tab7_0 (by omega) h28
  by_cases h29 : i < 122880
  · exact key 118784 tab7_1 (by omega) h29
  by_cases h30 : i < 126976
  · exact key 122880 tab7_2 (by omega) h30
  by_cases h31 : i < 131072
  · exact key 126976 tab7_3 (by omega) h31
  omega

end Cert.SbKernelIdeal.Sb
-- ==== Proof.Sb.Blocks.lean ====
module

public import proofs.«01_k».proof.Proof.Sb.Loop
public import proofs.«01_k».proof.Proof.Sb.Spec
public import proofs.«01_k».proof.Proof.Sb.TabAll
public import proofs.«01_k».proof.Proof.Gen.SbKernelIdeal.Value
public import Idealize.ShloMosaic.Lib.WritesUnit
public import Idealize.ShloMosaic.Lib.Pipeline.ValueKit.Tiles

@[expose] public section

set_option maxRecDepth 16384

noncomputable section

namespace Cert.SbKernelIdeal.Sb

open Cert.Sb Cert.SbKernelIdeal Cert.SbKernelIdeal.Gen Idealize.ShloMosaic Idealize.ShloMosaic.TcCoe Idealize.SL.Sem

variable (m : (ℓ : Loc nD τ sig) → Buf (Elt Ideal) ℓ) (c : Dev nD)

abbrev argQ (r : Fin 16384) (l : Fin 256) : EReal := m ((c : Thread nD τ).loc main_arg0) (ix2 r l)
abbrev argK (r : Fin 16384) (l : Fin 256) : EReal := m ((c : Thread nD τ).loc main_arg1) (ix2 r l)
abbrev argV (r : Fin 16384) (l : Fin 256) : EReal := m ((c : Thread nD τ).loc main_arg2) (ix2 r l)

theorem c0_all : ∀ x z : Fin 8, (Scalar.addi (Scalar.muli (BitVec.ofNat 32 x.val) 8#32) (BitVec.ofNat 32 z.val)).toNat = 8 * x.val + z.val := by decide
theorem c1_all : ∀ x : Fin 8, (BitVec.ofNat 32 x.val).toNat = x.val := by decide
theorem c2_all : ∀ x : Fin 2, (BitVec.ofNat 32 x.val).toNat = x.val := by decide

theorem ix_q (t : Fin cfg0.N) : win0_0.index t 0 = 8 * (grid0.coords t 0).val + (grid0.coords t 2).val ∧ win0_0.index t 1 = (grid0.coords t 1).val :=
  ⟨c0_all (grid0.coords t 0) (grid0.coords t 2), c2_all (grid0.coords t 1)⟩
theorem ix_k (t : Fin cfg0.N) : win0_1.index t 0 = (grid0.coords t 0).val ∧ win0_1.index t 1 = (grid0.coords t 1).val :=
  ⟨c1_all (grid0.coords t 0), c2_all (grid0.coords t 1)⟩
theorem ix_v (t : Fin cfg0.N) : win0_2.index t 0 = (grid0.coords t 0).val ∧ win0_2.index t 1 = (grid0.coords t 1).val :=
  ⟨c1_all (grid0.coords t 0), c2_all (grid0.coords t 1)⟩
theorem ix_o (t : Fin cfg0.N) : win0_4.index t 0 = 8 * (grid0.coords t 0).val + (grid0.coords t 2).val ∧ win0_4.index t 1 = (grid0.coords t 1).val :=
  ⟨c0_all (grid0.coords t 0) (grid0.coords t 2), c2_all (grid0.coords t 1)⟩

theorem lt0 (t : Fin cfg0.N) : (grid0.coords t 0).val < 8 := (grid0.coords t 0).isLt
theorem lt1 (t : Fin cfg0.N) : (grid0.coords t 1).val < 2 := (grid0.coords t 1).isLt
theorem lt2 (t : Fin cfg0.N) : (grid0.coords t 2).val < 8 := (grid0.coords t 2).isLt

theorem blk_q (t : Fin cfg0.N) (r : Fin 256) (l : Fin 128) : (iblk m c 0 t : Vec Ideal S256x128 .bf16) (ix2 r l)
    = argQ m c ⟨2048 * (grid0.coords t 0).val + (256 * (grid0.coords t 2).val + r.val), by have := lt0 t; have := lt2 t; have := r.isLt; omega⟩
        ⟨128 * (grid0.coords t 1).val + l.val, by have := lt1 t; have := l.isLt; omega⟩ := by
  unfold iblk
  rw [View.read_apply]
  show V m c main_arg0 _ = m _ _
  rw [V_main_arg0]
  congr 1
  funext a
  apply Fin.ext
  match a with
  | ⟨0, _⟩ => show win0_0.index t 0 * 256 + 1 * r.val = 2048 * (grid0.coords t 0).val + (256 * (grid0.coords t 2).val + r.val); rw [(ix_q t).1]; omega
  | ⟨1, _⟩ => show win0_0.index t 1 * 128 + 1 * l.val = 128 * (grid0.coords t 1).val + l.val; rw [(ix_q t).2]; omega

theorem blk_k (t : Fin cfg0.N) (s : Fin 2048) (l : Fin 128) : (iblk m c 1 t : Vec Ideal S2048x128 .bf16) (ix2 s l)
    = argK m c ⟨2048 * (grid0.coords t 0).val + s.val, by have := lt0 t; have := s.isLt; omega⟩
        ⟨128 * (grid0.coords t 1).val + l.val, by have := lt1 t; have := l.isLt; omega⟩ := by
  unfold iblk
  rw [View.read_apply]
  show V m c main_arg1 _ = m _ _
  rw [V_main_arg1]
  congr 1
  funext a
  apply Fin.ext
  match a with
  | ⟨0, _⟩ => show win0_1.index t 0 * 2048 + 1 * s.val = 2048 * (grid0.coords t 0).val + s.val; rw [(ix_k t).1]; omega
  | ⟨1, _⟩ => show win0_1.index t 1 * 128 + 1 * l.val = 128 * (grid0.coords t 1).val + l.val; rw [(ix_k t).2]; omega

theorem blk_v (t : Fin cfg0.N) (s : Fin 2048) (l : Fin 128) : (iblk m c 2 t : Vec Ideal S2048x128 .bf16) (ix2 s l)
    = argV m c ⟨2048 * (grid0.coords t 0).val + s.val, by have := lt0 t; have := s.isLt; omega⟩
        ⟨128 * (grid0.coords t 1).val + l.val, by have := lt1 t; have := l.isLt; omega⟩ := by
  unfold iblk
  rw [View.read_apply]
  show V m c main_arg2 _ = m _ _
  rw [V_main_arg2]
  congr 1
  funext a
  apply Fin.ext
  match a with
  | ⟨0, _⟩ => show win0_2.index t 0 * 2048 + 1 * s.val = 2048 * (grid0.coords t 0).val + s.val; rw [(ix_v t).1]; omega
  | ⟨1, _⟩ => show win0_2.index t 1 * 128 + 1 * l.val = 128 * (grid0.coords t 1).val + l.val; rw [(ix_v t).2]; omega

theorem one_bf16 : Ideal.ofBits .bf16 0x3F80#16 = (1 : EReal) := by
  simp [Ideal.ofBits, Ideal.ieee]
  rw [← EReal.coe_mul, ← EReal.coe_one]
  congr 1
  norm_num
theorem zero_bf16 : Ideal.ofBits .bf16 0x0000#16 = (0 : EReal) := by
  simp [Ideal.ofBits, Ideal.ieee]

theorem V_cst : V m c main_cst = fun i => FloatOps.ofBits (F := Ideal) .bf16 (lit0 (S256x512.rowMajor i)) := by
  unfold V
  after_results
  rfl

theorem tab_is (t : Fin cfg0.N) : IsTab (iblk m c 3 t : Vec Ideal S256x512 .bf16) := by
  intro j s
  have e : (iblk m c 3 t : Vec Ideal S256x512 .bf16) (ix2 j s) = Ideal.ofBits .bf16 (lit0 (S256x512.rowMajor (ix2 j s))) := by
    unfold iblk
    rw [View.read_apply]
    show V m c main_cst _ = _
    rw [V_cst]
    show Ideal.ofBits .bf16 (lit0 (S256x512.rowMajor _)) = _
    congr 3
    funext a
    apply Fin.ext
    match a with
    | ⟨0, _⟩ => show 0 * 256 + 1 * j.val = j.val; omega
    | ⟨1, _⟩ => show 0 * 512 + 1 * s.val = s.val; omega
  rw [e]
  have hr : (S256x512.rowMajor (ix2 j s)).val = j.val * 512 + s.val := by
    rw [Shape.rowMajor_val_two]; rfl
  have hw : lit0 (S256x512.rowMajor (ix2 j s)) = tabWord j.val s.val := by
    show lit0t (S256x512.rowMajor (ix2 j s)).val = _
    rw [hr, tab_word _ (by have := j.isLt; have := s.isLt; omega)]
    have := s.isLt
    congr 1 <;> omega
  rw [hw]
  unfold tabWord
  by_cases h : s.val < j.val ∨ 256 ≤ s.val
  · rw [if_pos h, if_pos h]; exact one_bf16
  · rw [if_neg h, if_neg h]; exact zero_bf16

end Cert.SbKernelIdeal.Sb
-- ==== Proof.Sb.Final.lean ====
module

public import proofs.«01_k».proof.Proof.Sb.Blocks
public import proofs.«01_k».proof.Proof.Gen.SbKernelIdeal.Value
public import Idealize.ShloMosaic.Lib.WritesUnit
public import Idealize.ShloMosaic.Lib.Pipeline.ValueKit.Tiles

@[expose] public section

set_option maxRecDepth 16384

noncomputable section

namespace Cert.SbKernelIdeal.Sb

open Cert.Sb Cert.SbKernelIdeal Cert.SbKernelIdeal.Gen Idealize.ShloMosaic Idealize.ShloMosaic.TcCoe Idealize.SL.Sem

variable (m : (ℓ : Loc nD τ sig) → Buf (Elt Ideal) ℓ) (c : Dev nD)

theorem qh_zero (x0 : Vec Ideal S256x128 .bf16) (r : Fin 256) (x : Fin 128) : qh 0 x0 (ix2 r x) = if x.val < 64 then x0 (ix2 r x) else 0 := by
  rw [show qh 0 x0 = k0_pay26 x0 from rfl]
  pointwise [k0_pay26]
  show Scalar.select (IntOp.cmpi .slt (BitVec.ofNat 32 x.val) (BitVec.ofNat 32 64)) _ _ = _
  rw [slt_nat _ _ (by have := x.isLt; omega) (by omega)]
  by_cases h : x.val < 64
  · rw [if_pos h, if_pos h]; rfl
  · rw [if_neg h, if_neg h]; exact zero_bf16

theorem qh_one (x0 : Vec Ideal S256x128 .bf16) (r : Fin 256) (x : Fin 128) : qh 1 x0 (ix2 r x) = if x.val < 64 then 0 else x0 (ix2 r x) := by
  rw [show qh 1 x0 = k0_pay27 x0 from rfl]
  pointwise [k0_pay27]
  show Scalar.select (IntOp.cmpi .slt (BitVec.ofNat 32 x.val) (BitVec.ofNat 32 64)) _ _ = _
  rw [slt_nat _ _ (by have := x.isLt; omega) (by omega)]
  by_cases h : x.val < 64
  · rw [if_pos h, if_pos h]; exact zero_bf16
  · rw [if_neg h, if_neg h]; rfl

theorem sum_half (f : Fin 128 → EReal) : ∑ x : Fin 128, f x = (∑ d : Fin 64, f ⟨d.val, by have := d.isLt; omega⟩) + ∑ d : Fin 64, f ⟨64 + d.val, by have := d.isLt; omega⟩ :=
  Fin.sum_univ_add (a := 64) (b := 64) f

/-- The sum over 128 lanes with the other head's queries masked is the sum over the head's own 64. -/
theorem head_sum (x0 : Vec Ideal S256x128 .bf16) (hh : Fin 2) (r : Fin 256) (g : Fin 128 → EReal) :
    ∑ x : Fin 128, qh hh x0 (ix2 r x) * g x = ∑ d : Fin 64, x0 (ix2 r ⟨64 * hh.val + d.val, by have := d.isLt; have := hh.isLt; omega⟩) * g ⟨64 * hh.val + d.val, by have := d.isLt; have := hh.isLt; omega⟩ := by
  rw [sum_half]
  match hh with
  | 0 =>
    rw [Finset.sum_eq_zero (s := Finset.univ) (f := fun d : Fin 64 => qh 0 x0 (ix2 r ⟨64 + d.val, _⟩) * g ⟨64 + d.val, _⟩)
      (fun d _ => by rw [qh_zero, if_neg (by show ¬ 64 + d.val < 64; omega), zero_mul]), add_zero]
    refine Finset.sum_congr rfl fun d _ => ?_
    rw [qh_zero, if_pos (by show d.val < 64; exact d.isLt)]
    have e : (⟨d.val, by have := d.isLt; omega⟩ : Fin 128) = ⟨64 * (0 : Fin 2).val + d.val, by have := d.isLt; show 64 * 0 + d.val < 128; omega⟩ := Fin.ext (by show d.val = 64 * 0 + d.val; omega)
    rw [e]
  | 1 =>
    rw [Finset.sum_eq_zero (s := Finset.univ) (f := fun d : Fin 64 => qh 1 x0 (ix2 r ⟨d.val, _⟩) * g ⟨d.val, _⟩)
      (fun d _ => by rw [qh_one, if_pos (by show d.val < 64; exact d.isLt), zero_mul]), zero_add]
    refine Finset.sum_congr rfl fun d _ => ?_
    rw [qh_one, if_neg (by show ¬ 64 + d.val < 64; omega)]
    have e : (⟨64 + d.val, by have := d.isLt; omega⟩ : Fin 128) = ⟨64 * (1 : Fin 2).val + d.val, by have := d.isLt; show 64 * 1 + d.val < 128; omega⟩ := Fin.ext (by show 64 + d.val = 64 * 1 + d.val; omega)
    rw [e]

/-- The scores of a grid point, head by head. -/
def zt (t : Fin cfg0.N) (hh : Fin 2) : ℕ → ℕ → ℝ := Zr (argQ m c) (argK m c) (grid0.coords t 0).val (2 * (grid0.coords t 1).val + hh.val)

theorem scores (hq : IsReal (argQ m c)) (hk : IsReal (argK m c)) (t : Fin cfg0.N) :
    Scores (grid0.coords t) (iblk m c 0 t) (iblk m c 1 t) (zt m c t) := by
  intro hh r s
  rw [head_sum]
  have l0 := lt0 t
  have l1 := lt1 t
  have l2 := lt2 t
  have lh := hh.isLt
  have lr := r.isLt
  refine Eq.trans (Finset.sum_congr rfl fun d _ => ?_) (Zr_eq (argQ m c) (argK m c) hq hk l0 (h := 2 * (grid0.coords t 1).val + hh.val) (by omega) (t := 256 * (grid0.coords t 2).val + r.val) (by omega) s.isLt)
  have ld := d.isLt
  rw [blk_q, blk_k]
  have e : (⟨128 * (grid0.coords t 1).val + (64 * hh.val + d.val), by omega⟩ : Fin 256) = ⟨64 * (2 * (grid0.coords t 1).val + hh.val) + d.val, by omega⟩ := Fin.ext (by show 128 * (grid0.coords t 1).val + (64 * hh.val + d.val) = 64 * (2 * (grid0.coords t 1).val + hh.val) + d.val; omega)
  exact congrArg₂ (· * ·) (congrArg (argQ m c _) e) (congrArg (argK m c _) e)

theorem acc_full (i : grid0.Coords) (hi : (i 2).val < 8) (x2 : Vec Ideal S2048x128 .bf16) (z : Fin 2 → ℕ → ℕ → ℝ) (hh : Fin 2) (r : Fin 256) (l : Fin 128) :
    accAt i x2 z 0 hh r l = ∑ s : Fin 2048, wt (z hh) (256 * (i 2).val + r.val) s.val * x2 (ix2 s l) := by
  unfold accAt
  have lr := r.isLt
  have h1 : ∀ s : Fin 2048, wt (z hh) (256 * (i 2).val + r.val) s.val * x2 (ix2 s l) = (fun n => wt (z hh) (256 * (i 2).val + r.val) n * vrow x2 n l) s.val := fun s => by
    show _ = _ * vrow x2 s.val l
    rw [vrow_lt x2 s.isLt]
  rw [Finset.sum_congr rfl fun s _ => h1 s, Fin.sum_univ_eq_sum_range (fun n => wt (z hh) (256 * (i 2).val + r.val) n * vrow x2 n l) 2048, Finset.range_eq_Ico]
  refine Finset.sum_subset (Finset.Ico_subset_Ico_right (by omega)) fun n hn hn' => ?_
  rw [Finset.mem_Ico] at hn hn'
  rw [wt_of_le _ (by omega), zero_mul]

/-- The output array, entry by entry. -/
def G : S16384x256.Idx → EReal := fun x => spec (argQ m c) (argK m c) (argV m c) (x 0) (x 1)

theorem ar_d (b q r : ℕ) (hq : q < 8) (hr : r < 256) : (2048 * b + (256 * q + r)) / 2048 = b ∧ (2048 * b + (256 * q + r)) % 2048 = 256 * q + r := by omega
theorem ar_e (p l : ℕ) (hl : l < 128) : (128 * p + l) / 64 = 2 * p + (if l < 64 then 0 else 1) := by split <;> omega

theorem flushed_spec (hq : IsReal (argQ m c)) (hk : IsReal (argK m c)) (t : Fin cfg0.N) :
    (dats m 0 c).flushed 4 t = ((cfg0.win 4).blk t).view.read (Elt Ideal) (G m c) := by
  rw [Value.flushed4_A]
  funext y
  rw [View.read_apply]
  have l0 := lt0 t
  have l1 := lt1 t
  have l2 := lt2 t
  have H : ∀ (r : Fin 256) (l : Fin 128), accAt (grid0.coords t) (iblk m c 2 t) (zt m c t) 0 (if l.val < 64 then 0 else 1) r l
      = spec (argQ m c) (argK m c) (argV m c) ⟨2048 * (grid0.coords t 0).val + (256 * (grid0.coords t 2).val + r.val), by have := r.isLt; omega⟩ ⟨128 * (grid0.coords t 1).val + l.val, by have := l.isLt; omega⟩ := fun r l => by
    rw [acc_full _ l2]
    unfold spec
    refine Finset.sum_congr rfl fun s _ => ?_
    rw [blk_v]
    have d1 := ar_d (grid0.coords t 0).val (grid0.coords t 2).val r.val l2 r.isLt
    have d2 := ar_e (grid0.coords t 1).val l.val l.isLt
    have z1 : zt m c t (if l.val < 64 then 0 else 1) = Zr (argQ m c) (argK m c) ((2048 * (grid0.coords t 0).val + (256 * (grid0.coords t 2).val + r.val)) / 2048) ((128 * (grid0.coords t 1).val + l.val) / 64) := by
      rw [d1.1, d2]
      unfold zt
      split <;> rfl
    rw [z1]
    show _ = wt _ ((2048 * (grid0.coords t 0).val + (256 * (grid0.coords t 2).val + r.val)) % 2048) s.val * _
    rw [d1.2]
    refine congrArg₂ (· * ·) rfl (congrArg (fun n => argV m c n _) (Fin.ext ?_))
    show _ = 2048 * ((2048 * (grid0.coords t 0).val + (256 * (grid0.coords t 2).val + r.val)) / 2048) + s.val
    rw [d1.1]
  have h := (out_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t)
    (zt m c t) (scores m c hq hk t) (tab_is m c t) (y 0) (y 1)).trans (H (y 0) (y 1))
  refine Eq.trans ?_ (h.trans ?_)
  · refine congrArg (out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t)) ?_
    funext a
    match a with
    | ⟨0, _⟩ => rfl
    | ⟨1, _⟩ => rfl
  · show spec _ _ _ _ _ = spec _ _ _ _ _
    congr 1
    · apply Fin.ext
      show 2048 * (grid0.coords t 0).val + (256 * (grid0.coords t 2).val + (y 0).val) = win0_4.index t 0 * 256 + 1 * (y 0).val
      rw [(ix_o t).1]; omega
    · apply Fin.ext
      show 128 * (grid0.coords t 1).val + (y 1).val = win0_4.index t 1 * 128 + 1 * (y 1).val
      rw [(ix_o t).2]; omega

theorem cover (i : S16384x256.Idx) : ∃ t : Fin cfg0.N, (cfg0.win 4).flush t = true ∧ i ∈ ((cfg0.win 4).blk t).view.set := by
  have h0 : (i 0).val < 16384 := (i 0).isLt
  have h1 : (i 1).val < 256 := (i 1).isLt
  have hN : 16 * ((i 0).val / 2048) + 8 * ((i 1).val / 128) + (i 0).val % 2048 / 256 < 128 := by omega
  let t : Fin cfg0.N := ⟨16 * ((i 0).val / 2048) + 8 * ((i 1).val / 128) + (i 0).val % 2048 / 256, hN⟩
  refine ⟨t, flush0_4 t, ?_⟩
  let x : S256x128.Idx := ix2 ⟨(i 0).val % 256, by omega⟩ ⟨(i 1).val % 128, by omega⟩
  have c0 : (grid0.coords t 0).val = (i 0).val / 2048 := by
    show (16 * ((i 0).val / 2048) + 8 * ((i 1).val / 128) + (i 0).val % 2048 / 256) / 16 % 8 = _
    omega
  have c1 : (grid0.coords t 1).val = (i 1).val / 128 := by
    show (16 * ((i 0).val / 2048) + 8 * ((i 1).val / 128) + (i 0).val % 2048 / 256) / 8 % 2 = _
    omega
  have c2 : (grid0.coords t 2).val = (i 0).val % 2048 / 256 := by
    show (16 * ((i 0).val / 2048) + 8 * ((i 1).val / 128) + (i 0).val % 2048 / 256) / 1 % 8 = _
    omega
  have e : ((cfg0.win 4).blk t).view.emb x = i := by
    funext a
    apply Fin.ext
    match a with
    | ⟨0, _⟩ => show win0_4.index t 0 * 256 + 1 * ((i 0).val % 256) = (i 0).val; rw [(ix_o t).1, c0, c2]; omega
    | ⟨1, _⟩ => show win0_4.index t 1 * 128 + 1 * ((i 1).val % 128) = (i 1).val; rw [(ix_o t).2, c1]; omega
  rw [← e]
  exact ((cfg0.win 4).blk t).view.emb_mem_set x

/-- The kernel's output array is the layer's attention. -/
theorem arr_eq (hq : IsReal (argQ m c)) (hk : IsReal (argK m c)) : (dats m 0 c).arrAt 4 cfg0.N = G m c :=
  (dats m 0 c).arrAt_eq_of_cover 4 (G m c) (fun t _ => flushed_spec m c hq hk t) (cover)

end Cert.SbKernelIdeal.Sb
-- ==== Proof.Sb.Ref.lean ====
module

public import proofs.«01_k».proof.Proof.Sb.Spec
public import proofs.«01_k».proof.Proof.Gen.SbReferenceIdeal.Run
public import Idealize.ShloMosaic.Lib.Pipeline.ValueKit.Tiles

@[expose] public section

set_option maxRecDepth 16384

noncomputable section

namespace Cert.SbReferenceIdeal.Sb

open Cert.Sb Cert.SbReferenceIdeal Cert.SbReferenceIdeal.Gen Idealize.ShloMosaic Idealize.ShloMosaic.TcCoe Idealize.SL.Sem

theorem foldl_plus {N : ℕ} (f : Fin N → EReal) (v : EReal) : (List.finRange N).foldl (fun r n => r + f n) v = v + ∑ n, f n := by
  have h : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [h, ← List.sum_ofFn, List.ofFn_eq_map]

/-- The sum over a window, as a sum over the window's positions in order. -/
theorem window_sum {s t : Shape} (window strides lo hi : Fin s.rank → Nat) (h : s.ReduceWindows window strides lo hi t) (x : s.Idx → EReal) (init : EReal) (j : t.Idx) :
    Ideal.hostReduceWindowAdd window strides lo hi h x init j = init + ∑ n : Fin (⟨s.rank, window⟩ : Shape).numel,
      (if hin : ∀ a, lo a ≤ (j (a.cast h.1.symm)).val * strides a + ((⟨s.rank, window⟩ : Shape).rowMajor.symm n a).val
          ∧ (j (a.cast h.1.symm)).val * strides a + ((⟨s.rank, window⟩ : Shape).rowMajor.symm n a).val - lo a < s.size a
        then x (fun a => ⟨(j (a.cast h.1.symm)).val * strides a + ((⟨s.rank, window⟩ : Shape).rowMajor.symm n a).val - lo a, (hin a).2⟩) else init) := by
  unfold Ideal.hostReduceWindowAdd Host.reduceWindow
  dsimp only
  rw [foldl_plus]
  refine congrArg _ (Finset.sum_congr rfl fun n _ => ?_)
  split <;> rfl

/-- The running sum from the right along the last axis, at an entry. -/
theorem suffix_sum (x : FVec Ideal S8x4x2048x2048 .f32) (init : FVec Ideal S_ .f32) (h0 : init (Shape.Idx.first h_S_) = 0) (b : Fin 8) (h : Fin 4) (t s : Fin 2048) :
    (Host.reduceWindowAdd ![1, 1, 1, 2048] ![1, 1, 1, 1] ![0, 0, 0, 0] ![0, 0, 0, 2047] x init reduceWindows_S8x4x2048x2048_S8x4x2048x2048_w1s1p0_0_w1s1p0_0_w1s1p0_0_w2048s1p0_2047 h_S_ : FVec Ideal S8x4x2048x2048 .f32) (ix4 b h t s)
      = ∑ n : Fin 2048, if H : s.val + n.val < 2048 then x (ix4 b h t ⟨s.val + n.val, H⟩) else 0 := by
  unfold Host.reduceWindowAdd
  rw [h0, Ideal.hostReduceWindowAdd_def, window_sum, zero_add]
  let W : Shape := ⟨4, ![1, 1, 1, 2048]⟩
  let g : W.Idx → EReal := fun w => if H : s.val + (w 3).val < 2048 then x (ix4 b h t ⟨s.val + (w 3).val, H⟩) else 0
  have e1 : ∑ n : Fin 2048, (if H : s.val + n.val < 2048 then x (ix4 b h t ⟨s.val + n.val, H⟩) else 0) = ∑ w : W.Idx, g w := by
    have hb : Function.Bijective (fun n : Fin 2048 => (ix4 (0 : Fin 1) (0 : Fin 1) (0 : Fin 1) n : W.Idx)) := by
      constructor
      · intro a a' haa
        exact congrFun haa 3
      · intro w
        refine ⟨w 3, funext fun a => ?_⟩
        match a with
        | ⟨0, _⟩ => exact Subsingleton.elim (α := Fin 1) _ _
        | ⟨1, _⟩ => exact Subsingleton.elim (α := Fin 1) _ _
        | ⟨2, _⟩ => exact Subsingleton.elim (α := Fin 1) _ _
        | ⟨3, _⟩ => rfl
    exact hb.sum_comp g
  rw [e1, ← Equiv.sum_comp W.rowMajor.symm g]
  refine Finset.sum_congr rfl fun n _ => ?_
  show _ = if H : s.val + (W.rowMajor.symm n 3).val < 2048 then x (ix4 b h t ⟨s.val + (W.rowMajor.symm n 3).val, H⟩) else 0
  have w0 : (W.rowMajor.symm n 0).val = 0 := Nat.lt_one_iff.mp (W.rowMajor.symm n 0).isLt
  have w1 : (W.rowMajor.symm n 1).val = 0 := Nat.lt_one_iff.mp (W.rowMajor.symm n 1).isLt
  have w2 : (W.rowMajor.symm n 2).val = 0 := Nat.lt_one_iff.mp (W.rowMajor.symm n 2).isLt
  have hb := b.isLt
  have hh := h.isLt
  have ht := t.isLt
  split
  · next hin =>
    have h3 := (hin 3).2
    change s.val * 1 + (W.rowMajor.symm n 3).val - 0 < 2048 at h3
    rw [dif_pos (by omega)]
    refine congrArg x (funext fun a => Fin.ext ?_)
    match a with
    | ⟨0, _⟩ => show b.val * 1 + (W.rowMajor.symm n 0).val - 0 = b.val; omega
    | ⟨1, _⟩ => show h.val * 1 + (W.rowMajor.symm n 1).val - 0 = h.val; omega
    | ⟨2, _⟩ => show t.val * 1 + (W.rowMajor.symm n 2).val - 0 = t.val; omega
    | ⟨3, _⟩ => show s.val * 1 + (W.rowMajor.symm n 3).val - 0 = s.val + (W.rowMajor.symm n 3).val; omega
  · next hin =>
    rw [dif_neg fun H => hin fun a => by
      match a with
      | ⟨0, _⟩ => show 0 ≤ b.val * 1 + (W.rowMajor.symm n 0).val ∧ b.val * 1 + (W.rowMajor.symm n 0).val - 0 < 8; omega
      | ⟨1, _⟩ => show 0 ≤ h.val * 1 + (W.rowMajor.symm n 1).val ∧ h.val * 1 + (W.rowMajor.symm n 1).val - 0 < 4; omega
      | ⟨2, _⟩ => show 0 ≤ t.val * 1 + (W.rowMajor.symm n 2).val ∧ t.val * 1 + (W.rowMajor.symm n 2).val - 0 < 2048; omega
      | ⟨3, _⟩ => show 0 ≤ s.val * 1 + (W.rowMajor.symm n 3).val ∧ s.val * 1 + (W.rowMajor.symm n 3).val - 0 < 2048; omega]

theorem suffix_real (f : ℕ → ℝ) (s : ℕ) :
    (∑ n : Fin 2048, if H : s + n.val < 2048 then ((f (s + n.val) : ℝ) : EReal) else 0) = ((∑ j ∈ Finset.Ico s 2048, f j : ℝ) : EReal) := by
  have h1 : ∀ n : Fin 2048, (if H : s + n.val < 2048 then ((f (s + n.val) : ℝ) : EReal) else 0) = (((if s + n.val < 2048 then f (s + n.val) else 0 : ℝ)) : EReal) := fun n => by
    split <;> rfl
  rw [Finset.sum_congr rfl fun n _ => h1 n, ← coe_sum, Fin.sum_univ_eq_sum_range (fun n => if s + n < 2048 then f (s + n) else 0) 2048,
    Finset.sum_Ico_eq_sum_range]
  congr 1
  refine (Finset.sum_subset (s₁ := Finset.range (2048 - s)) (fun n hn => ?_) fun n hn hn' => ?_).symm.trans (Finset.sum_congr rfl fun n hn => ?_)
  · rw [Finset.mem_range] at hn ⊢; omega
  · rw [Finset.mem_range] at hn hn'; rw [if_neg (by omega)]
  · rw [Finset.mem_range] at hn; rw [if_pos (by omega)]

theorem zero_f32 : Ideal.ofBits .f32 0x00000000#32 = (0 : EReal) := by
  simp [Ideal.ofBits, Ideal.ieee]

/-- The scores. -/
def sc (q k : FVec Ideal S16384x256 .bf16) : FVec Ideal S8x4x2048x2048 .f32 :=
  Host.dotGeneral dot_S8x2048x4x64_S8x2048x4x64_S8x4x2048x2048_3_3_1_1_02_02 none (shapeCast S8x2048x4x64 (extf .f32 q bitsLt_bf16_f32) shapeCasts_S16384x256_S8x2048x4x64) (shapeCast S8x2048x4x64 (extf .f32 k bitsLt_bf16_f32) shapeCasts_S16384x256_S8x2048x4x64)

/-- The logarithm of the logistic function, as the reference computes it. -/
def ls (z : FVec Ideal S8x4x2048x2048 .f32) : FVec Ideal S8x4x2048x2048 .f32 :=
  Host.negf (select (cmpf .une (subf (Host.negf z) (broadcastInDim S8x4x2048x2048 ![] bcast_S_S8x4x2048x2048 (constant S_ .f32 0x00000000#32))) (subf (Host.negf z) (broadcastInDim S8x4x2048x2048 ![] bcast_S_S8x4x2048x2048 (constant S_ .f32 0x00000000#32))))
    (addf (Host.negf z) (broadcastInDim S8x4x2048x2048 ![] bcast_S_S8x4x2048x2048 (constant S_ .f32 0x00000000#32)))
    (addf (maximumf (Host.negf z) (broadcastInDim S8x4x2048x2048 ![] bcast_S_S8x4x2048x2048 (constant S_ .f32 0x00000000#32))) (Host.log1p (Host.exp (Host.negf (Host.absf (subf (Host.negf z) (broadcastInDim S8x4x2048x2048 ![] bcast_S_S8x4x2048x2048 (constant S_ .f32 0x00000000#32)))))))))

/-- Which keys come before the query. -/
def mask : IVec S8x4x2048x2048 1 :=
  broadcastInDim S8x4x2048x2048 ![2, 3] bcast_S2048x2048_S8x4x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

def lbV (z : FVec Ideal S8x4x2048x2048 .f32) : FVec Ideal S8x4x2048x2048 .f32 :=
  select mask (ls z) (broadcastInDim S8x4x2048x2048 ![] bcast_S_S8x4x2048x2048 (id (constant S_ .f32 0xFF800000#32)))

def lkV (z : FVec Ideal S8x4x2048x2048 .f32) : FVec Ideal S8x4x2048x2048 .f32 :=
  select mask (ls (Host.negf z)) (broadcastInDim S8x4x2048x2048 ![] bcast_S_S8x4x2048x2048 (id (constant S_ .f32 0x00000000#32)))

/-- The running sums from the right of the kept logarithms. -/
def cs (x : FVec Ideal S8x4x2048x2048 .f32) : FVec Ideal S8x4x2048x2048 .f32 :=
  Host.reduceWindowAdd ![1, 1, 1, 2048] ![1, 1, 1, 1] ![0, 0, 0, 0] ![0, 0, 0, 2047] x (broadcastInDim S_ ![] bcast_S_S_ (constant S_ .f32 0x00000000#32)) reduceWindows_S8x4x2048x2048_S8x4x2048x2048_w1s1p0_0_w1s1p0_0_w1s1p0_0_w2048s1p0_2047 h_S_

def wV (z : FVec Ideal S8x4x2048x2048 .f32) : FVec Ideal S8x4x2048x2048 .f32 := Host.exp (addf (lbV z) (subf (cs (lkV z)) (lkV z)))

def outV (v : FVec Ideal S16384x256 .bf16) (w : FVec Ideal S8x4x2048x2048 .f32) : FVec Ideal S16384x256 .bf16 :=
  truncf .bf16 (shapeCast S16384x256 (transpose S8x2048x4x64 [0, 3, 1, 2] (Host.dotGeneral dot_S8x2048x4x64_S8x4x2048x2048_S8x4x64x2048_1_3_3_2_02_01 none (shapeCast S8x2048x4x64 (extf .f32 v bitsLt_bf16_f32) shapeCasts_S16384x256_S8x2048x4x64) w) transposes_S8x4x64x2048_S8x2048x4x64_0_3_1_2) shapeCasts_S8x2048x4x64_S16384x256) bitsLt_bf16_f32

theorem res_eq (m : (ℓ : Loc nD τ sig) → Buf (Elt Ideal) ℓ) (c : Dev nD) :
    Value.res_main_v25 m c = outV (m ((c.tc : Thread nD τ).loc main_arg2)) (wV (sc (m ((c.tc : Thread nD τ).loc main_arg0)) (m ((c.tc : Thread nD τ).loc main_arg1)))) := rfl

theorem mask_eq (b : Fin 8) (h : Fin 4) (t s : Fin 2048) : mask (ix4 b h t s) = if s.val < t.val then 1#1 else 0#1 := by
  pointwise [mask]
  exact slt_nat _ _ (by have := s.isLt; omega) (by have := t.isLt; omega)

theorem ls_eq (z : FVec Ideal S8x4x2048x2048 .f32) (b : Fin 8) (h : Fin 4) (t s : Fin 2048) (x : ℝ) (hx : z (ix4 b h t s) = ((x : ℝ) : EReal)) :
    ls z (ix4 b h t s) = ((LB x : ℝ) : EReal) := by
  pointwise [ls]
  rw [hx]
  rw [if_neg (fun h => h rfl)]
  have := ref_LB x
  rw [sub_zero] at this
  exact this

theorem sc_eq (q k : FVec Ideal S16384x256 .bf16) (b : Fin 8) (h : Fin 4) (t s : Fin 2048) :
    sc q k (ix4 b h t s) = ∑ d : Fin 64, q (ix2 ⟨2048 * b.val + t.val, by have := b.isLt; have := t.isLt; omega⟩ ⟨64 * h.val + d.val, by have := h.isLt; have := d.isLt; omega⟩)
      * k (ix2 ⟨2048 * b.val + s.val, by have := b.isLt; have := s.isLt; omega⟩ ⟨64 * h.val + d.val, by have := h.isLt; have := d.isLt; omega⟩) := by
  pointwise [sc]
  refine Finset.sum_congr rfl fun d _ => ?_
  refine congrArg₂ (· * ·) (congrArg q ?_) (congrArg k ?_)
  · exact congrArg₂ ix2 (Fin.ext (by show b.val * 2048 + t.val = 2048 * b.val + t.val; omega)) (Fin.ext (by show h.val * 64 + d.val = 64 * h.val + d.val; omega))
  · exact congrArg₂ ix2 (Fin.ext (by show b.val * 2048 + s.val = 2048 * b.val + s.val; omega)) (Fin.ext (by show h.val * 64 + d.val = 64 * h.val + d.val; omega))

theorem lbV_eq (z : FVec Ideal S8x4x2048x2048 .f32) (b : Fin 8) (h : Fin 4) (t s : Fin 2048) : lbV z (ix4 b h t s) = if s.val < t.val then ls z (ix4 b h t s) else ⊥ := by
  pointwise [lbV]
  rw [mask_eq]
  by_cases hs : s.val < t.val
  · rw [if_pos hs, if_pos hs]; rfl
  · rw [if_neg hs, if_neg hs]; exact negInf

theorem lkV_eq (z : FVec Ideal S8x4x2048x2048 .f32) (b : Fin 8) (h : Fin 4) (t s : Fin 2048) : lkV z (ix4 b h t s) = if s.val < t.val then ls (Host.negf z) (ix4 b h t s) else 0 := by
  pointwise [lkV]
  rw [mask_eq]
  by_cases hs : s.val < t.val
  · rw [if_pos hs, if_pos hs]; rfl
  · rw [if_neg hs, if_neg hs]; exact zero_f32

theorem outV_eq (v : FVec Ideal S16384x256 .bf16) (w : FVec Ideal S8x4x2048x2048 .f32) (R : Fin 16384) (C : Fin 256) :
    outV v w (ix2 R C) = ∑ s : Fin 2048, v (ix2 ⟨2048 * (R.val / 2048) + s.val, by have := R.isLt; have := s.isLt; omega⟩ C)
      * w (ix4 ⟨R.val / 2048, by have := R.isLt; omega⟩ ⟨C.val / 64, by have := C.isLt; omega⟩ ⟨R.val % 2048, by omega⟩ s) := by
  pointwise [outV]
  refine Finset.sum_congr rfl fun s _ => ?_
  refine congrArg₂ (· * ·) (congrArg v ?_) rfl
  exact congrArg₂ ix2 (Fin.ext (by show R.val / 2048 * 2048 + s.val = 2048 * (R.val / 2048) + s.val; omega)) rfl

variable (q k v : Fin 16384 → Fin 256 → EReal)

/-- The weights, from scores that are real numbers. -/
theorem wV_eq (zz : FVec Ideal S8x4x2048x2048 .f32) (z : ℕ → ℕ → ℝ) (b : Fin 8) (h : Fin 4) (t : Fin 2048) (hz : ∀ s : Fin 2048, zz (ix4 b h t s) = ((z t.val s.val : ℝ) : EReal)) (s : Fin 2048) :
    wV zz (ix4 b h t s) = wt z t.val s.val := by
  have hlk : ∀ s : Fin 2048, lkV zz (ix4 b h t s) = ((lkM z t.val s.val : ℝ) : EReal) := fun s => by
    rw [lkV_eq]
    unfold lkM
    by_cases hs : s.val < t.val
    · rw [if_pos hs, if_pos hs, ls_eq (Host.negf zz) b h t s (-(z t.val s.val)) (by
        show -(zz (ix4 b h t s)) = _
        rw [hz, EReal.coe_neg]), LB_neg]
    · rw [if_neg hs, if_neg hs]; rfl
  have hlb : lbV zz (ix4 b h t s) = lbM z t.val s.val := by
    rw [lbV_eq]
    unfold lbM
    by_cases hs : s.val < t.val
    · rw [if_pos hs, if_pos hs, ls_eq zz b h t s _ (hz s)]
    · rw [if_neg hs, if_neg hs]
  have hcs : cs (lkV zz) (ix4 b h t s) = ((∑ j ∈ Finset.Ico s.val 2048, lkM z t.val j : ℝ) : EReal) := by
    unfold cs
    rw [suffix_sum _ _ (by pointwise [])]
    refine Eq.trans (Finset.sum_congr rfl fun n _ => ?_) (suffix_real (fun j => lkM z t.val j) s.val)
    split
    · rw [hlk]
    · rfl
  show Ideal.exp (lbV zz (ix4 b h t s) + (cs (lkV zz) (ix4 b h t s) - lkV zz (ix4 b h t s))) = _
  rw [hlb, hcs, hlk, ← EReal.coe_sub]
  unfold wt
  rw [Finset.sum_eq_sum_Ico_succ_bot s.isLt, add_sub_cancel_left]

/-- The reference's result is the layer's attention. -/
theorem ref_spec (m : (ℓ : Loc nD τ sig) → Buf (Elt Ideal) ℓ) (c : Dev nD)
    (hq : ∀ r l, m ((c.tc : Thread nD τ).loc main_arg0) (ix2 r l) = q r l) (hk : ∀ r l, m ((c.tc : Thread nD τ).loc main_arg1) (ix2 r l) = k r l)
    (hv : ∀ r l, m ((c.tc : Thread nD τ).loc main_arg2) (ix2 r l) = v r l) (rq : IsReal q) (rk : IsReal k) (R : Fin 16384) (C : Fin 256) :
    Value.res_main_v25 m c (ix2 R C) = spec q k v R C := by
  rw [res_eq]
  have hR := R.isLt
  have hC := C.isLt
  refine (outV_eq _ _ R C).trans ?_
  unfold spec
  refine Finset.sum_congr rfl fun s _ => ?_
  rw [wV_eq _ (Zr q k (R.val / 2048) (C.val / 64)) _ _ ⟨R.val % 2048, by omega⟩ (fun s' => by
    rw [sc_eq]
    refine Eq.trans (Finset.sum_congr rfl fun d _ => ?_) (Zr_eq q k rq rk (b := R.val / 2048) (h := C.val / 64) (t := R.val % 2048) (by omega) (by omega) (by omega) s'.isLt)
    exact congrArg₂ (· * ·) (hq _ _) (hk _ _)) s]
  rw [mul_comm]
  exact congrArg₂ (· * ·) rfl (hv _ _)

end Cert.SbReferenceIdeal.Sb
-- ==== Proof.Sb.Pre.lean ====
module

public import proofs.«01_k».proof.Proof.Sb.Spec
public import proofs.«01_k».proof.Pre_qkv_finite
public import Idealize.ShloMosaic.Lib.ReduceAll
public import Idealize.ShloMosaic.Lib.Pipeline.ValueKit.Tiles

@[expose] public section

set_option maxRecDepth 16384

noncomputable section

namespace Cert.Pre_qkv_finite.Sb

open Cert.Sb Idealize.ShloMosaic

theorem facts : Cert.Pre_qkv_finite.Facts where
  bitsLt_bf16_f32 := by decide
  bcast_S_S16384x256 := by decide
  reducesTo_S16384x256_S_d0_1 := by decide
  h_S_ := by decide

theorem real_of_lt (x : EReal) (h : max x (-x) < ⊤) : ∃ r : ℝ, x = ((r : ℝ) : EReal) := by
  induction x with
  | bot => exact absurd h (by simp)
  | coe r => exact ⟨r, rfl⟩
  | top => exact absurd h (by simp)

theorem posInf : Ideal.ofBits FTy.f32 0x7F800000#32 = (⊤ : EReal) := by
  simp [Ideal.ofBits, Ideal.ieee]

/-- Every entry of an array compares below infinity in absolute value. -/
def Below [Facts] (q : FVec Ideal S16384x256 .bf16) : IVec S16384x256 1 :=
  cmpf .olt (Host.absf (extf .f32 q Facts.bitsLt_bf16_f32)) (broadcastInDim S16384x256 ![] Facts.bcast_S_S16384x256 (constant (F := Ideal) S_ .f32 0x7F800000#32))

theorem below_real [Facts] (q : FVec Ideal S16384x256 .bf16) (r : Fin 16384) (l : Fin 256) (h : Below q (ix2 r l) = 1#1) : ∃ x : ℝ, q (ix2 r l) = ((x : ℝ) : EReal) := by
  refine real_of_lt _ ?_
  have h' : Ideal.cmp .olt (max (q (ix2 r l)) (-(q (ix2 r l)))) (Ideal.ofBits FTy.f32 0x7F800000#32) = 1#1 := h
  rw [posInf] at h'
  by_contra hn
  rw [show Ideal.cmp .olt (max (q (ix2 r l)) (-(q (ix2 r l)))) ⊤ = 0#1 from congrArg BitVec.ofBool (decide_eq_false hn)] at h'
  exact absurd h' (by decide)

theorem reals [Facts] (q k v : FVec Ideal S16384x256 .bf16) (h : fn (F := Ideal) q k v = fun _ => 1#1) :
    IsReal (fun r l => q (ix2 r l)) ∧ IsReal (fun r l => k (ix2 r l)) := by
  have h0 : IntOp.andi (Host.reduce IntOp.andi (Below q) (constantI S_ 1 1#1) Facts.reducesTo_S16384x256_S_d0_1 Facts.h_S_ ix0)
      (Host.reduce IntOp.andi (Below k) (constantI S_ 1 1#1) Facts.reducesTo_S16384x256_S_d0_1 Facts.h_S_ ix0) = 1#1 := congrFun h ix0
  have hs : ∀ a b : BitVec 1, IntOp.andi a b = 1#1 → a = 1#1 ∧ b = 1#1 := by decide
  haveI : Subsingleton S_.Idx := ⟨fun a b => funext fun i => i.elim0⟩
  obtain ⟨hq, hk⟩ := hs _ _ h0
  exact ⟨fun r l => below_real q r l (Host.reduce_andi_all _ _ _ _ _ hq _), fun r l => below_real k r l (Host.reduce_andi_all _ _ _ _ _ hk _)⟩

end Cert.Pre_qkv_finite.Sb
-- ==== Proof.Moe.KI.Points.lean ====
/- The schedule of the mixture-of-experts call: the staging memrefs at a grid point and the points at which
   the windows whose index maps read no table are fetched and written back. -/
module

public import proofs.«01_k».proof.Proof.Gen.MoeKernelIdeal
public import Idealize.ShloMosaic.Lib.Pipeline.Kit

@[expose] public section

noncomputable section

namespace Cert.MoeKernelIdeal.Gen

open Idealize.ShloMosaic Idealize.ShloMosaic.TcCoe
open Idealize.SL Idealize.SL.Sem

variable {F : FTy → Type} [FloatOps F]

theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- The output window is written back after every grid point. -/
theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

abbrev bodyAt0 (a : (pcfg0 (F := F)).Adm) (t : Fin (cfg0 a).N) : Prog (TpuEff nD τ sig (Elt F) Λ₀ .tc) PUnit :=
  cc0__moe_body (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8))

end Cert.MoeKernelIdeal.Gen

end
-- ==== Proof.Moe.KI.Runs.lean ====
/- What the runs of the body share: the arrays as the region finds them, the tables, the input blocks, and the
   reduction of the frame claim to the run of the pipeline. -/
module

public import proofs.«01_k».proof.Proof.Gen.MoeKernelIdeal.Launch
public import proofs.«01_k».proof.Proof.Gen.MoeKernelIdeal.Skeleton
public import proofs.«01_k».proof.Proof.Moe.KI.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MoeKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- The device's arrays when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is its host operations and then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered. -/
def tbl : pre0.Contents (Elt F) := fun j => V m (0 : Dev nD) (pre0.ref j)
/-- On every device the tables hold those contents; there is one device. -/
theorem V_pre (c : Dev nD) (j : Fin 2) : V m c (pre0.ref j) = tbl m j := by
  obtain rfl : c = 0 := Subsingleton.elim _ _; rfl
/-- The tables' contents put every block inside its array. -/
abbrev Ok : Prop := ok0 (F := F) (tbl m)
/-- The tables' contents with the proof that they put every block inside its array. -/
abbrev adm (hO : Ok m) : (pcfg0 (F := F)).Adm := ⟨tbl m, hO⟩
abbrev cfgM (hO : Ok m) : Pipeline.Cfg sig Λ₀ := cfg0 (adm m hO)

abbrev tbM0_0 : Memref sig .tc .smem S288 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables handed to the body, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- A window's block at a grid point, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run of the pipeline: the arguments end as they were. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) h

/-! ## The body's branch conditions -/

/-- The condition of the first branch: the block is in use. -/
abbrev cond0_0 (i : grid0.Coords) (v2 : BitVec 32) : Prop := (Scalar.cmpi .ne (Scalar.extui (Scalar.cmpi .slt (BitVec.ofNat 32 (i 0).val) v2)) 0#32) = 1#1
/-- The condition of the second branch: the block is not in use. -/
abbrev cond0_1 (i : grid0.Coords) (v : BitVec 32) : Prop := (Scalar.cmpi .ne (Scalar.extui (Scalar.cmpi .sge (BitVec.ofNat 32 (i 0).val) v)) 0#32) = 1#1

/-- Exactly one of the two branches is taken. -/
theorem cond0_1_iff (i : grid0.Coords) (v : BitVec 32) : cond0_1 i v ↔ ¬cond0_0 i v := by
  unfold cond0_0 cond0_1
  have h1 : IntOp.cmpi .slt (BitVec.ofNat 32 (i 0).val) v = BitVec.ofBool (decide ((BitVec.ofNat 32 (i 0).val).toInt < v.toInt)) := rfl
  have h2 : IntOp.cmpi .sge (BitVec.ofNat 32 (i 0).val) v = BitVec.ofBool (decide (v.toInt ≤ (BitVec.ofNat 32 (i 0).val).toInt)) := rfl
  change IntOp.cmpi .ne (Scalar.extui (IntOp.cmpi .sge (BitVec.ofNat 32 (i 0).val) v)) 0#32 = 1#1 ↔ ¬IntOp.cmpi .ne (Scalar.extui (IntOp.cmpi .slt (BitVec.ofNat 32 (i 0).val) v)) 0#32 = 1#1
  rw [h1, h2]
  by_cases h : (BitVec.ofNat 32 (i 0).val).toInt < v.toInt
  · rw [decide_eq_true h, decide_eq_false (not_le.mpr h)]; decide
  · rw [decide_eq_false h, decide_eq_true (not_lt.mp h)]; decide

/-! ## The kernel body on any staging memrefs: a subtype the run finds -/

/-- The output's staging buffer through which its contents are stated. -/
abbrev VO0_8 : View sig .tc .vmem S256x1024 .f32 := (Memref.whole cc0_stg8_0 : Memref sig .tc .vmem S256x1024 .f32).view
abbrev ms0_0 (hO : Ok m) (t : Fin (cfgM m hO).N) : Memref sig .tc .vmem S256x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024x1024 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x1024 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x1024 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S256x1024 .f32 := spec0_8.stage ((cfgM m hO).slots t 8)
abbrev hs0_8 (hO : Ok m) (t : Fin (cfgM m hO).N) : (ms0_8 m hO t).IsWhole := hstage0_8 (((cfgM m hO).slots t 8).cast nbuf0_8)

end Cert.MoeKernelIdeal.Gen

end
-- ==== Proof.Moe.KI.RunA.lean ====
/- One run of the body where the block is in use: the products of the expert and the store of the result. -/
module

public import proofs.«01_k».proof.Proof.Moe.KI.Runs

@[expose] public section

set_option maxRecDepth 16384

noncomputable section

namespace Cert.MoeKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
/-- A run of the body where the block is in use: what its stores leave in the output, with the proof. -/
noncomputable def kernelRun0_A (c : Dev nD) (i : grid0.Coords) (arg3 : Memref sig .tc .vmem S256x1024 .bf16) (harg3 : arg3.IsWhole) (arg4 : Memref sig .tc .vmem S256x1 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S256x1024 .f32) (harg11 : arg11.IsWhole)
    (x0 : Vec F S256x1024 .bf16) (x1 : Vec F S256x1 .f32) (x2 : Vec F S1x1024x1024 .bf16) (x3 : Vec F S1x1024x1024 .bf16) (x4 : Vec F S1x1024x1024 .bf16) (x5 : Vec F S1x1x1024 .f32) (x6 : Vec F S1x1x1024 .f32) (x7 : Vec F S1x1x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) :
    { L8 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ tbPt0 c tbM0_0 xt0 ∗ tbPt0 c tbM0_1 xt1) -∗ K ⟨⟩))
          ⊢ wp frame (wpE (defs₀ (F := F)) Variants.none c none) E (cc0__moe_body i tbM0_0 htbM0_0 tbM0_1 htbM0_1 arg3 harg3 arg4 harg4 arg5 harg5 arg6 harg6 arg7 harg7 arg8 harg8 arg9 harg9 arg10 harg10 arg11 harg11) K } := by
  refine ⟨?_, fun E K => ?run⟩
  case run =>
    have hc1 := fun h => (cond0_1_iff i _).mp h hc0
    simp only [cc0__moe_body_eq_skeleton]; unfold cc0__moe_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HT0]; · iexact HT0
    iexact HT1

end Cert.MoeKernelIdeal.Gen

end
-- ==== Proof.Moe.KI.RunB.lean ====
/- One run of the body where the block is not in use: the store of zeros. -/
module

public import proofs.«01_k».proof.Proof.Moe.KI.RunA

@[expose] public section

set_option maxRecDepth 16384

noncomputable section

namespace Cert.MoeKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
/-- A run of the body where the block is not in use: what its stores leave in the output, with the proof. -/
noncomputable def kernelRun0_B (c : Dev nD) (i : grid0.Coords) (arg3 : Memref sig .tc .vmem S256x1024 .bf16) (harg3 : arg3.IsWhole) (arg4 : Memref sig .tc .vmem S256x1 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S256x1024 .f32) (harg11 : arg11.IsWhole)
    (x0 : Vec F S256x1024 .bf16) (x1 : Vec F S256x1 .f32) (x2 : Vec F S1x1024x1024 .bf16) (x3 : Vec F S1x1024x1024 .bf16) (x4 : Vec F S1x1024x1024 .bf16) (x5 : Vec F S1x1x1024 .f32) (x6 : Vec F S1x1x1024 .f32) (x7 : Vec F S1x1x1024 .f32) (xt0 : TbBuf0 (F := F) c tbM0_0) (xt1 : TbBuf0 (F := F) c tbM0_1) (hc0 : ¬cond0_0 i (tbM0_1.view.readAt (Elt F) (Rect.unit (s := S1) ![0] S1.size inb_S1_S1_0).toLoadRect xt1 (Shape.Idx.first (numel1_S1.symm ▸ Nat.one_pos)))) :
    { L8 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ tbPt0 c tbM0_0 xt0 ∗ tbPt0 c tbM0_1 xt1) -∗ K ⟨⟩))
          ⊢ wp frame (wpE (defs₀ (F := F)) Variants.none c none) E (cc0__moe_body i tbM0_0 htbM0_0 tbM0_1 htbM0_1 arg3 harg3 arg4 harg4 arg5 harg5 arg6 harg6 arg7 harg7 arg8 harg8 arg9 harg9 arg10 harg10 arg11 harg11) K } := by
  refine ⟨?_, fun E K => ?run⟩
  case run =>
    have hc1 := (cond0_1_iff i _).mpr hc0
    simp only [cc0__moe_body_eq_skeleton]; unfold cc0__moe_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HT0]; · iexact HT0
    iexact HT1

end Cert.MoeKernelIdeal.Gen

end
-- ==== Proof.Moe.KI.Frame.lean ====
/- What the output block holds after each grid point, the proof data of the pipeline, the body obligation, and
   the run of the whole program. -/
module

public import proofs.«01_k».proof.Proof.Moe.KI.RunB
public import Idealize.ShloMosaic.Lib.Claim

@[expose] public section

set_option maxRecDepth 16384

noncomputable section

namespace Cert.MoeKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores of a block in use cover the output block. -/
theorem cover0_A_8 (c : Dev nD) (i : grid0.Coords) (arg3 : Memref sig .tc .vmem S256x1024 .bf16) (harg3 : arg3.IsWhole) (arg4 : Memref sig .tc .vmem S256x1 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S256x1024 .f32) (harg11 : arg11.IsWhole)
    (x0 : Vec F S256x1024 .bf16) (x1 : Vec F S256x1 .f32) (x2 : Vec F S1x1024x1024 .bf16) (x3 : Vec F S1x1024x1024 .bf16) (x4 : Vec F S1x1024x1024 .bf16) (x5 : Vec F S1x1x1024 .f32) (x6 : Vec F S1x1x1024 .f32) (x7 : Vec F S1x1x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (y : S256x1024.Idx) :
    ∃ pc ∈ (kernelRun0_A c i arg3 harg3 arg4 harg4 arg5 harg5 arg6 harg6 arg7 harg7 arg8 harg8 arg9 harg9 arg10 harg10 arg11 harg11 x0 x1 x2 x3 x4 x5 x6 x7 xt0 xt1 hc0).1, y ∈ pc.1.set :=
  View.cover_of_tiledL (kernelRun0_A c i arg3 harg3 arg4 harg4 arg5 harg5 arg6 harg6 arg7 harg7 arg8 harg8 arg9 harg9 arg10 harg10 arg11 harg11 x0 x1 x2 x3 x4 x5 x6 x7 xt0 xt1 hc0).1 S256x1024.size (by sl_kernel_rfl) y

/-- What a block in use leaves in the output. -/
def out0_A_8 (c : Dev nD) (i : grid0.Coords) (arg3 : Memref sig .tc .vmem S256x1024 .bf16) (harg3 : arg3.IsWhole) (arg4 : Memref sig .tc .vmem S256x1 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S256x1024 .f32) (harg11 : arg11.IsWhole)
    (x0 : Vec F S256x1024 .bf16) (x1 : Vec F S256x1 .f32) (x2 : Vec F S1x1024x1024 .bf16) (x3 : Vec F S1x1024x1024 .bf16) (x4 : Vec F S1x1024x1024 .bf16) (x5 : Vec F S1x1x1024 .f32) (x6 : Vec F S1x1x1024 .f32) (x7 : Vec F S1x1x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) : Vec F S256x1024 .f32 :=
  VO0_8.read (Elt F) (VO0_8.writes (Elt F) VO0_8.junk (kernelRun0_A c i arg3 harg3 arg4 harg4 arg5 harg5 arg6 harg6 arg7 harg7 arg8 harg8 arg9 harg9 arg10 harg10 arg11 harg11 x0 x1 x2 x3 x4 x5 x6 x7 xt0 xt1 hc0).1)

/-- The store of a block not in use covers the output block. -/
theorem cover0_B_8 (c : Dev nD) (i : grid0.Coords) (arg3 : Memref sig .tc .vmem S256x1024 .bf16) (harg3 : arg3.IsWhole) (arg4 : Memref sig .tc .vmem S256x1 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S256x1024 .f32) (harg11 : arg11.IsWhole)
    (x0 : Vec F S256x1024 .bf16) (x1 : Vec F S256x1 .f32) (x2 : Vec F S1x1024x1024 .bf16) (x3 : Vec F S1x1024x1024 .bf16) (x4 : Vec F S1x1024x1024 .bf16) (x5 : Vec F S1x1x1024 .f32) (x6 : Vec F S1x1x1024 .f32) (x7 : Vec F S1x1x1024 .f32) (xt0 : TbBuf0 (F := F) c tbM0_0) (xt1 : TbBuf0 (F := F) c tbM0_1) (hc0 : ¬cond0_0 i (tbM0_1.view.readAt (Elt F) (Rect.unit (s := S1) ![0] S1.size inb_S1_S1_0).toLoadRect xt1 (Shape.Idx.first (numel1_S1.symm ▸ Nat.one_pos)))) (y : S256x1024.Idx) :
    ∃ pc ∈ (kernelRun0_B c i arg3 harg3 arg4 harg4 arg5 harg5 arg6 harg6 arg7 harg7 arg8 harg8 arg9 harg9 arg10 harg10 arg11 harg11 x0 x1 x2 x3 x4 x5 x6 x7 xt0 xt1 hc0).1, y ∈ pc.1.set :=
  View.cover_of_tiledL (kernelRun0_B c i arg3 harg3 arg4 harg4 arg5 harg5 arg6 harg6 arg7 harg7 arg8 harg8 arg9 harg9 arg10 harg10 arg11 harg11 x0 x1 x2 x3 x4 x5 x6 x7 xt0 xt1 hc0).1 S256x1024.size (by sl_kernel_rfl) y

/-- What a block not in use leaves in the output. -/
def out0_B_8 (c : Dev nD) (i : grid0.Coords) (arg3 : Memref sig .tc .vmem S256x1024 .bf16) (harg3 : arg3.IsWhole) (arg4 : Memref sig .tc .vmem S256x1 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S256x1024 .f32) (harg11 : arg11.IsWhole)
    (x0 : Vec F S256x1024 .bf16) (x1 : Vec F S256x1 .f32) (x2 : Vec F S1x1024x1024 .bf16) (x3 : Vec F S1x1024x1024 .bf16) (x4 : Vec F S1x1024x1024 .bf16) (x5 : Vec F S1x1x1024 .f32) (x6 : Vec F S1x1x1024 .f32) (x7 : Vec F S1x1x1024 .f32) (xt0 : TbBuf0 (F := F) c tbM0_0) (xt1 : TbBuf0 (F := F) c tbM0_1) (hc0 : ¬cond0_0 i (tbM0_1.view.readAt (Elt F) (Rect.unit (s := S1) ![0] S1.size inb_S1_S1_0).toLoadRect xt1 (Shape.Idx.first (numel1_S1.symm ▸ Nat.one_pos)))) : Vec F S256x1024 .f32 :=
  VO0_8.read (Elt F) (VO0_8.writes (Elt F) VO0_8.junk (kernelRun0_B c i arg3 harg3 arg4 harg4 arg5 harg5 arg6 harg6 arg7 harg7 arg8 harg8 arg9 harg9 arg10 harg10 arg11 harg11 x0 x1 x2 x3 x4 x5 x6 x7 xt0 xt1 hc0).1)

/-! ## What the outputs hold after each point -/

/-- What the output holds after a grid point. -/
def outsAt0 (hO : Ok m) (c : Dev nD) (t : Fin (cfgM m hO).N) : Vec F S256x1024 .f32 :=
  if h0 : cond0_0 (grid0.coords t) (tbM0_1.view.readAt (Elt F) (Rect.unit (s := S1) ![0] S1.size inb_S1_S1_0).toLoadRect (tbl m 1) (Shape.Idx.first (numel1_S1.symm ▸ Nat.one_pos))) then
    out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) h0
  else
    out0_B_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) h0

theorem outsAt0_A (hO : Ok m) (c : Dev nD) (t : Fin (cfgM m hO).N) (h0 : cond0_0 (grid0.coords t) (tbM0_1.view.readAt (Elt F) (Rect.unit (s := S1) ![0] S1.size inb_S1_S1_0).toLoadRect (tbl m 1) (Shape.Idx.first (numel1_S1.symm ▸ Nat.one_pos)))) :
    outsAt0 m hO c t = out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) h0 := by
  unfold outsAt0; exact (dif_pos h0).trans rfl

theorem outsAt0_B (hO : Ok m) (c : Dev nD) (t : Fin (cfgM m hO).N) (h0 : ¬cond0_0 (grid0.coords t) (tbM0_1.view.readAt (Elt F) (Rect.unit (s := S1) ![0] S1.size inb_S1_S1_0).toLoadRect (tbl m 1) (Shape.Idx.first (numel1_S1.symm ▸ Nat.one_pos)))) :
    outsAt0 m hO c t = out0_B_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) h0 := by
  unfold outsAt0; exact (dif_neg h0).trans rfl

/-! ## The pipeline's proof data -/

/-- The pipeline's proof data: the arrays as the region finds them, and what the body leaves at each point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => (outsAt0 m hO c t)
  Φ _ := iprop(Pipeline.ΦA spec0 c ∗ Pipeline.ΦT pre0 (tbl m) c)
  q _ := fullShare
  owed _ := 0

/-- The proof data's arrays are those the region finds. -/
theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = (outsAt0 m hO c t) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body obligation, at a generic point -/

/-- What the body is called with at a grid point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t))

set_option maxHeartbeats 1600000 in
/-- The body at any grid point, the inputs holding their blocks. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8]
  rw [show (dats m hO 0 c).Φ t.castSucc = iprop(Pipeline.ΦA spec0 c ∗ Pipeline.ΦT pre0 (tbl m) c) from rfl, PhiT0_eq]
  by_cases h0 : cond0_0 (grid0.coords t) (tbM0_1.view.readAt (Elt F) (Rect.unit (s := S1) ![0] S1.size inb_S1_S1_0).toLoadRect (tbl m 1) (Shape.Idx.first (numel1_S1.symm ▸ Nat.one_pos)))
  · rw [outsAt0_A m hO c t h0]
    unfold out0_A_8
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) (tbl m 1) h0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HT0]; · iexact HT0
    isplitl [HT1]; · iexact HT1
    iintro ⟨H0, H1, H2, H3, H4, H5, H6, H7, ⟨%e8, H8⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _)
  · rw [outsAt0_B m hO c t h0]
    unfold out0_B_8
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) (tbl m 1) h0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HT0]; · iexact HT0
    isplitl [HT1]; · iexact HT1
    iintro ⟨H0, H1, H2, H3, H4, H5, H6, H7, ⟨%e8, H8⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover0_B_8 c _ _ _ _ _ _ _ _ _ _ _ _ _ _ _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The output window is stored at every point: one of the two branches is taken. -/
theorem idle8 (a : (pcfg0 (F := F)).Adm) (t : Fin (cfg0 a).N) : (cfg0 a).idle 8 ((cfg0 a).grid.coords t) = false := by
  obtain ⟨pf, ha⟩ := a
  show (!(k0_cond1 (grid0.coords t) (pf.atD 1 ![0]) == 1#1) && !(k0_cond2 (grid0.coords t) (pf.atD 1 ![0]) == 1#1)) = false
  generalize pf.atD 1 ![0] = v
  by_cases h : cond0_0 (grid0.coords t) v
  · have h1 : k0_cond1 (grid0.coords t) v = 1#1 := h
    rw [h1]; rfl
  · have h1 : k0_cond2 (grid0.coords t) v = 1#1 := (cond0_1_iff _ v).mpr h
    rw [h1, beq_self_eq_true, Bool.not_true, Bool.and_false]

/-- The body meets the pipeline's demand at every grid point. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => sep_mono .rfl (sep_mono .rfl (sep_mono .rfl (sep_mono .rfl (sep_mono .rfl (sep_mono .rfl (sep_mono .rfl (sep_mono .rfl (sep_mono .rfl (sep_mono .rfl (?_))))))))))
  have h := idle8 (adm m hO) t
  split
  · rename_i heq
    exact absurd (show false = true from heq) Bool.false_ne_true
  split
  · rename_i heq
    exact absurd (h.symm.trans heq) (by decide)
  · exact .rfl

/-! ## The run and the frame -/
set_option backward.isDefEq.respectTransparency.types false in
/-- The program runs, and every semaphore counter ends at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The program runs, and ends with the arrays the proof data say. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end as they were. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO)

/-- The frame: the program runs, its arguments end as they were, and every counter is zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.MoeKernelIdeal.Gen

end
-- ==== Proof.Moe.Pre.lean ====
module

public import proofs.«01_k».proof.Pre_blocks_routed
public import Idealize.ShloMosaic.PureOps
public import Idealize.ShloMosaic.PureOps.Ideal
public import Idealize.ShloMosaic.Lib.Pointwise
public import Idealize.ShloMosaic.Lib.WordCmp
public import Idealize.ShloMosaic.Lib.ReduceAll
public import Idealize.ShloMosaic.Lib.WordCmp
public import Idealize.ShloMosaic.Lib.Pipeline.ValueKit.Tiles

/-! What the precondition of the expert product says: every block's expert is one of the 32, and the rows of a block
    that is not in use have weight zero. -/

@[expose] public section

set_option maxRecDepth 16384

noncomputable section

namespace Cert.Pre_blocks_routed.Moe

open Idealize.ShloMosaic

theorem facts : Cert.Pre_blocks_routed.Facts where
  bcast_S288_S288x1_0 := by decide
  shapeCasts_S1_S_ := by decide
  bcast_S_S288x1 := by decide
  bcast_S_S288 := by decide
  reducesTo_S288_S_d0 := by decide
  h_S_ := by decide
  shapeCasts_S73728x1_S288x256 := by decide
  bcast_S_S288x256 := by decide
  bcast_S288x1_S288x256_0_1 := by decide
  reducesTo_S288x256_S_d0_1 := by decide

variable {F : FTy → Type} [FloatOps F]

/-- Every block's expert lies in range. -/
def Experts [Facts] (e : IVec S288 32) : IVec S288 1 :=
  andi (cmpi .sge e (broadcastInDim S288 ![] Facts.bcast_S_S288 (constantI S_ 32 0#32)))
    (cmpi .slt e (broadcastInDim S288 ![] Facts.bcast_S_S288 (constantI S_ 32 32#32)))

/-- A row's block is in use, or the row's weight is zero. -/
def Rows [Facts] (n : IVec S1 32) (g : FVec F S73728x1 .f32) : IVec S288x256 1 :=
  ori (broadcastInDim S288x256 ![0, 1] Facts.bcast_S288x1_S288x256_0_1 (cmpi .slt (broadcastInDim S288x1 ![0] Facts.bcast_S288_S288x1_0 (iotaInDim S288 32 0))
      (broadcastInDim S288x1 ![] Facts.bcast_S_S288x1 (shapeCast S_ n Facts.shapeCasts_S1_S_))))
    (cmpf .oeq (shapeCast S288x256 g Facts.shapeCasts_S73728x1_S288x256) (broadcastInDim S288x256 ![] Facts.bcast_S_S288x256 (constant (F := F) S_ .f32 0x00000000#32)))

theorem split [Facts] (e : IVec S288 32) (n : IVec S1 32) (x : FVec F S73728x1024 .bf16) (g : FVec F S73728x1 .f32)
    (w : FVec F S32x1024x2048 .f32) (b : FVec F S32x2048 .f32) (wd : FVec F S32x1024x1024 .f32) (bd : FVec F S32x1024 .f32)
    (h : fn (F := F) e n x g w b wd bd = fun _ => 1#1) :
    (∀ i, Experts e i = 1#1) ∧ ∀ i, Rows n g i = 1#1 := by
  have h0 : IntOp.andi (Host.reduce IntOp.andi (Experts e) (constantI S_ 1 1#1) Facts.reducesTo_S288_S_d0 Facts.h_S_ ix0)
      (Host.reduce IntOp.andi (Rows n g) (constantI S_ 1 1#1) Facts.reducesTo_S288x256_S_d0_1 Facts.h_S_ ix0) = 1#1 := congrFun h ix0
  have hs : ∀ a b : BitVec 1, IntOp.andi a b = 1#1 → a = 1#1 ∧ b = 1#1 := by decide
  haveI : Subsingleton S_.Idx := ⟨fun a b => funext fun i => i.elim0⟩
  obtain ⟨he, hg⟩ := hs _ _ h0
  exact ⟨fun i => Host.reduce_andi_all _ _ _ _ _ he _, fun i => Host.reduce_andi_all _ _ _ _ _ hg _⟩

theorem expert_lt [Facts] (e : IVec S288 32) (i : S288.Idx) (h : Experts e i = 1#1) : (e i).toNat < 32 := by
  have h' : IntOp.andi (IntOp.cmpi .sge (e i) 0#32) (IntOp.cmpi .slt (e i) (BitVec.ofNat 32 32)) = 1#1 := h
  rw [WordCmp.andi_sge_zero_slt_ofNat (by decide)] at h'
  by_contra hn
  rw [decide_eq_false hn] at h'
  exact absurd h' (by decide)

theorem zero_f32 : Ideal.ofBits .f32 0x00000000#32 = (0 : EReal) := by
  simp [Ideal.ofBits, Ideal.ieee]

theorem row_gate [Facts] (n : IVec S1 32) (g : FVec Ideal S73728x1 .f32) (i : Fin 288) (r : Fin 256) (h : Rows n g (ix2 i r) = 1#1) :
    IntOp.cmpi .slt (BitVec.ofNat 32 i.val) (n (ix1 0)) = 1#1 ∨ g (ix2 ⟨256 * i.val + r.val, by have := i.isLt; have := r.isLt; omega⟩ 0) = 0 := by
  have hs : ∀ a b : BitVec 1, IntOp.ori a b = 1#1 → a = 1#1 ∨ b = 1#1 := by decide
  have e1 : shapeCast S_ n Facts.shapeCasts_S1_S_ ix0 = n (ix1 0) := by
    pointwise
  have e2 : shapeCast S288x256 g Facts.shapeCasts_S73728x1_S288x256 (ix2 i r) = g (ix2 ⟨256 * i.val + r.val, by have := i.isLt; have := r.isLt; omega⟩ 0) := by
    pointwise
    exact congrArg (fun j => g (ix2 j 0)) (Fin.ext (by show i.val * 256 + r.val = 256 * i.val + r.val; omega))
  have h' : IntOp.ori (IntOp.cmpi .slt (BitVec.ofNat 32 i.val) (shapeCast S_ n Facts.shapeCasts_S1_S_ ix0))
      (Ideal.cmp .oeq (shapeCast S288x256 g Facts.shapeCasts_S73728x1_S288x256 (ix2 i r)) (Ideal.ofBits .f32 0x00000000#32)) = 1#1 := by
    refine Eq.trans ?_ h
    show IntOp.ori (IntOp.cmpi .slt _ (shapeCast S_ n _ _)) _ = IntOp.ori (IntOp.cmpi .slt _ (shapeCast S_ n _ _)) _
    congr 3
    exact funext fun a => a.elim0
  rw [e1, e2, zero_f32] at h'
  refine (hs _ _ h').imp id fun hz => ?_
  by_contra hn
  exact absurd ((congrArg BitVec.ofBool (decide_eq_false hn)).symm.trans hz) (by decide)

end Cert.Pre_blocks_routed.Moe
-- ==== Proof.Moe.KI.Ok.lean ====
/- From the precondition: every block index the experts' numbers lead to lies inside its array. -/
module

public import proofs.«01_k».proof.Proof.Moe.KI.Frame
public import proofs.«01_k».proof.Proof.Moe.Pre

@[expose] public section

set_option maxRecDepth 16384

noncomputable section

namespace Cert.MoeKernelIdeal.Moe

open Cert.MoeKernelIdeal Cert.MoeKernelIdeal.Gen Idealize.ShloMosaic Idealize.ShloMosaic.TcCoe Idealize.SL.Sem

variable {F : FTy → Type} [FloatOps F]
variable (m : (ℓ : Loc nD τ sig) → Buf (Elt F) ℓ)

/-- The expert of block `i`. -/
abbrev expert (i : Fin 288) : BitVec 32 := m (((0 : Dev nD) : Thread nD τ).loc main_arg0) (ix1 i)

/-- The number a block index map reads for grid point `i`. -/
abbrev word (i : grid0.Coords) : BitVec 32 :=
  (tbl m).at 0 (Rect.unit (s := S288) ![(Scalar.indexCast (BitVec.ofNat 32 (i 0).val)).toNat] S1.size (k0_off1_inb i)) numel1_S1

/-- The number a block index map reads for grid point `i` is the expert of block `i`. -/
theorem table_at (i : grid0.Coords) :
    word m i = expert m (i 0) := by
  show V m 0 main_arg0 _ = _
  rw [V_main_arg0]
  show m _ _ = m _ _
  congr 1
  funext a
  apply Fin.ext
  match a with
  | ⟨0, _⟩ =>
    have l := (i 0).isLt
    have e : (Scalar.indexCast (BitVec.ofNat 32 (i 0).val)).toNat = (i 0).val := congrFun (k0_off1_eq i) 0
    show (Scalar.indexCast (BitVec.ofNat 32 (i 0).val)).toNat + 1 * 0 = (i 0).val
    rw [e]; omega

theorem ok_of_lt (h : ∀ i : Fin 288, (expert m i).toNat < 32) : Ok m := by
  have h2 : ∀ i : grid0.Coords, ∀ a, (cc0_transform_2 k0_off1_inb numel1_S1 (tbl m) i a + 1) * S1x1024x1024.size a ≤ S32x1024x1024.size a := fun i a => by
    have l := h (i 0)
    rw [← table_at m i] at l
    match a with
    | ⟨0, _⟩ => show ((word m i).toNat + 1) * 1 ≤ 32; omega
    | ⟨1, _⟩ => show (0 + 1) * 1024 ≤ 1024; omega
    | ⟨2, _⟩ => show (0 + 1) * 1024 ≤ 1024; omega
  have h5 : ∀ i : grid0.Coords, ∀ a, (cc0_transform_5 k0_off1_inb numel1_S1 (tbl m) i a + 1) * S1x1x1024.size a ≤ S32x1x1024.size a := fun i a => by
    have l := h (i 0)
    rw [← table_at m i] at l
    match a with
    | ⟨0, _⟩ => show ((word m i).toNat + 1) * 1 ≤ 32; omega
    | ⟨1, _⟩ => show (0 + 1) * 1 ≤ 1; omega
    | ⟨2, _⟩ => show (0 + 1) * 1024 ≤ 1024; omega
  exact ⟨fun i => ⟨h2 i, .inr (Affine.block_words_dvd (of_decide_eq_true rfl) (by decide))⟩,
    fun i => ⟨h2 i, .inr (Affine.block_words_dvd (of_decide_eq_true rfl) (by decide))⟩,
    fun i => ⟨h2 i, .inr (Affine.block_words_dvd (of_decide_eq_true rfl) (by decide))⟩,
    fun i => ⟨h5 i, .inl rfl⟩, fun i => ⟨h5 i, .inl rfl⟩, fun i => ⟨h5 i, .inl rfl⟩⟩

end Cert.MoeKernelIdeal.Moe
-- ==== Proof.Moe.Same.lean ====
/- The experts' kernel and its idealized form are the same program where no operation is rewritten, so that the
   frame proved for the one at any format is the frame of the other. -/
module

public import proofs.«01_k».proof.Defs
public import proofs.«01_k».proof.Proof.Gen.MoeKernel
public import proofs.«01_k».proof.Proof.Moe.KI.Ok
public import proofs.«01_k».proof.Proof.Moe.Pre

@[expose] public section

set_option maxRecDepth 65536

noncomputable section

namespace Cert.Moe

open Idealize.ShloMosaic Idealize.SL.Sem

set_option maxHeartbeats 4000000 in
/-- The two kernels' bodies are the same at every label. -/
theorem defs₀_eq : @Cert.MoeKernel.defs₀ Bits _ Cert.MoeKernel.Gen.facts = @Cert.MoeKernelIdeal.defs₀ Bits _ Cert.MoeKernelIdeal.Gen.facts := by
  unfold Cert.MoeKernel.defs₀ Cert.MoeKernelIdeal.defs₀
  refine congrArg Defs.onTc ?_
  funext l a
  match l, a with
  | 0, (t, s) => rfl

set_option maxHeartbeats 4000000 in
/-- The two programs' body tables are the same. -/
theorem defs_eq : @Cert.MoeKernel.defs Bits _ Cert.MoeKernel.Gen.facts = @Cert.MoeKernelIdeal.defs Bits _ Cert.MoeKernelIdeal.Gen.facts := by
  unfold Cert.MoeKernel.defs Cert.MoeKernelIdeal.defs
  exact congrArg (Pipeline.defs _) defs₀_eq

set_option maxHeartbeats 4000000 in
/-- The frame of the kernel, which is the frame of the idealized one at machine numbers. -/
theorem frame : Cert.quiescent_MoeKernel (hMoeKernel := Cert.MoeKernel.Gen.facts) (hPre_blocks_routed := Cert.Pre_blocks_routed.Moe.facts) := by
  intro m g hp
  have hO : Cert.MoeKernelIdeal.Gen.Ok (F := Bits) m := Cert.MoeKernelIdeal.Moe.ok_of_lt m fun i => @Cert.Pre_blocks_routed.Moe.expert_lt Cert.Pre_blocks_routed.Moe.facts _ (ix1 i)
    ((@Cert.Pre_blocks_routed.Moe.split Bits _ Cert.Pre_blocks_routed.Moe.facts _ _ _ _ _ _ _ _ (hp 0)).1 _)
  have h := Cert.MoeKernelIdeal.Gen.frame (F := Bits) m g hO
  have h2 := Eq.mpr (congrArg (fun D => θ_run D (onTc (τ := Cert.MoeKernelIdeal.τ) (Cert.MoeKernelIdeal.main (F := Bits))) ⟨m, fun _ => 0, g⟩ _) defs_eq) h
  exact h2

end Cert.Moe

end
-- ==== Proof.Moe.Spec.lean ====
module

public import Idealize.ShloMosaic.PureOps
public import Idealize.ShloMosaic.PureOps.Ideal
public import Idealize.ShloMosaic.Lib.Pointwise
public import Idealize.ShloMosaic.Lib.WordCmp
public import Idealize.ShloMosaic.Lib.Pipeline.ValueKit.Tiles

/-! The expert product of one row, as a formula of the arrays, and what gathering whole rows of a table reads. -/

@[expose] public section

set_option maxRecDepth 16384

noncomputable section

namespace Cert.Moe

open Idealize.ShloMosaic

/-- The dimension numbers of `table[list]` for a table `[N, A, B]` and a list of `n` numbers. -/
abbrev slabDims (N A B n : Nat) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Gathering whole slabs of a table along its first axis: entry `(c, y, z)` of the result is entry `(b, y, z)` of
    the table, `b` the number the list holds at `c`. -/
theorem gather_slab {α : Type} {N A B n : Nat}
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32)
    (c : Fin n) (y : Fin A) (z : Fin B) (b : Fin N) (hb : (idx (ix2 c (0 : Fin 1))).toInt = b.val) :
    Host.gather (slabDims N A B n wf) x idx (ix3 c y z) = x (ix3 b y z) := by
  unfold Host.gather
  congr 1
  funext a
  refine Fin.ext ?_
  show (slabDims N A B n wf).start (ix3 c y z) idx a + (slabDims N A B n wf).batchCoord (ix3 c y z) a + (slabDims N A B n wf).offCoord (ix3 c y z) a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (List.mem_singleton.mpr rfl)), Nat.add_zero]
    unfold GatherDims.start
    rw [dif_pos (show (⟨0, h0⟩ : Fin 3) ∈ (slabDims N A B n wf).startIndexMap from List.mem_singleton.mpr rfl)]
    have hsi : (slabDims N A B n wf).siIdx (ix3 c y z) ⟨List.idxOf (⟨0, h0⟩ : Fin 3) (slabDims N A B n wf).startIndexMap,
        List.idxOf_lt_length_iff.2 (List.mem_singleton.mpr rfl)⟩ = ix2 c (0 : Fin 1) := by
      funext b'; refine Fin.ext ?_
      match b' with
      | ⟨0, _⟩ => rfl
      | ⟨1, _⟩ => rfl
    rw [hsi, hb]
    show min ((b.val : Int)).toNat (N - 1) = b.val
    have := b.isLt
    omega
  | ⟨1, h1⟩ =>
    unfold GatherDims.start
    rw [dif_neg (show (⟨1, h1⟩ : Fin 3) ∉ (slabDims N A B n wf).startIndexMap from fun h => absurd (congrArg Fin.val (List.mem_singleton.mp h)) Nat.one_ne_zero), Nat.zero_add]
    rfl
  | ⟨2, h2⟩ =>
    unfold GatherDims.start
    rw [dif_neg (show (⟨2, h2⟩ : Fin 3) ∉ (slabDims N A B n wf).startIndexMap from fun h => absurd (congrArg Fin.val (List.mem_singleton.mp h)) (Nat.succ_ne_zero 1)), Nat.zero_add]
    rfl

/-- The dimension numbers of `table[list]` for a table `[N, A]` and a list of `n` numbers. -/
abbrev rowDims (N A n : Nat) (wf : GatherDims.WF ⟨2, ![N, A]⟩ ⟨2, ![n, 1]⟩ ⟨2, ![n, A]⟩ [1] [0] [] [0] [] 1 ![1, A]) :
    GatherDims ⟨2, ![N, A]⟩ ⟨2, ![n, 1]⟩ ⟨2, ![n, A]⟩ where
  offsetDims := [1]
  collapsedSliceDims := [0]
  operandBatchingDims := []
  startIndicesBatchingDims := []
  startIndexMap := [0]
  indexVectorDim := 1
  sliceSizes := ![1, A]
  wf := wf

/-- Gathering whole rows of a table: entry `(c, y)` of the result is entry `(b, y)` of the table, `b` the number the
    list holds at `c`. -/
theorem gather_row {α : Type} {N A n : Nat}
    (wf : GatherDims.WF ⟨2, ![N, A]⟩ ⟨2, ![n, 1]⟩ ⟨2, ![n, A]⟩ [1] [0] [] [0] [] 1 ![1, A])
    (x : (⟨2, ![N, A]⟩ : Shape).Idx → α) (idx : IVec ⟨2, ![n, 1]⟩ 32)
    (c : Fin n) (y : Fin A) (b : Fin N) (hb : (idx (ix2 c (0 : Fin 1))).toInt = b.val) :
    Host.gather (rowDims N A n wf) x idx (ix2 c y) = x (ix2 b y) := by
  unfold Host.gather
  congr 1
  funext a
  refine Fin.ext ?_
  show (rowDims N A n wf).start (ix2 c y) idx a + (rowDims N A n wf).batchCoord (ix2 c y) a + (rowDims N A n wf).offCoord (ix2 c y) a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (List.mem_singleton.mpr rfl)), Nat.add_zero]
    unfold GatherDims.start
    rw [dif_pos (show (⟨0, h0⟩ : Fin 2) ∈ (rowDims N A n wf).startIndexMap from List.mem_singleton.mpr rfl)]
    have hsi : (rowDims N A n wf).siIdx (ix2 c y) ⟨List.idxOf (⟨0, h0⟩ : Fin 2) (rowDims N A n wf).startIndexMap,
        List.idxOf_lt_length_iff.2 (List.mem_singleton.mpr rfl)⟩ = ix2 c (0 : Fin 1) := by
      funext b'; refine Fin.ext ?_
      match b' with
      | ⟨0, _⟩ => rfl
      | ⟨1, _⟩ => rfl
    rw [hsi, hb]
    show min ((b.val : Int)).toNat (N - 1) = b.val
    have := b.isLt
    omega
  | ⟨1, h1⟩ =>
    unfold GatherDims.start
    rw [dif_neg (show (⟨1, h1⟩ : Fin 2) ∉ (rowDims N A n wf).startIndexMap from fun h => absurd (congrArg Fin.val (List.mem_singleton.mp h)) Nat.one_ne_zero), Nat.zero_add]
    rfl

/-- The sixteen-bit and thirty-two-bit constants of the activation, kept as the words they are. -/
abbrev seven : EReal := Ideal.ofBits .f32 0x40E00000#32
abbrev minusSeven : EReal := Ideal.ofBits .f32 0xC0E00000#32
abbrev one : EReal := Ideal.ofBits .f32 0x3F800000#32
abbrev slope : EReal := Ideal.ofBits .f32 0x3FD9DB23#32

theorem one_eq : one = 1 := by
  simp [one, Ideal.ofBits, Ideal.ieee]
  rw [← EReal.coe_mul, ← EReal.coe_one]
  congr 1
  norm_num

/-- The activation of a gate entry and a linear entry: the gate capped at seven, the linear part clipped to
    `[-7, 7]`, and `(up + 1) · g · σ(1.702 g)`. -/
def act (g u : EReal) : EReal :=
  (min seven (max minusSeven u) + one) * (min g seven * Ideal.logistic (slope * min g seven))

/-- One entry of the expert product: row `x`, the expert's interleaved first weights and bias `w`, `b` (even columns
    the gate, odd columns the linear part), one column of its second weights and bias, and the row's weight. -/
def entry (x : Fin 1024 → EReal) (w : Fin 1024 → Fin 2048 → EReal) (b : Fin 2048 → EReal) (wd : Fin 1024 → EReal) (bd gate : EReal) : EReal :=
  ((∑ f : Fin 1024, act ((∑ d : Fin 1024, x d * w d ⟨2 * f.val, by have := f.isLt; omega⟩) + b ⟨2 * f.val, by have := f.isLt; omega⟩)
      ((∑ d : Fin 1024, x d * w d ⟨1 + 2 * f.val, by have := f.isLt; omega⟩) + b ⟨1 + 2 * f.val, by have := f.isLt; omega⟩) * wd f) + bd) * gate

end Cert.Moe
-- ==== Proof.Moe.Ref.lean ====
module

public import proofs.«01_k».proof.Proof.Moe.Spec
public import proofs.«01_k».proof.Proof.Gen.MoeReferenceIdeal.Run
public import Idealize.ShloMosaic.Lib.Pipeline.ValueKit.Tiles

/-! The reference's result, entry by entry. -/

@[expose] public section

set_option maxRecDepth 16384

noncomputable section

namespace Cert.MoeReferenceIdeal.Moe

open Cert.Moe Cert.MoeReferenceIdeal Cert.MoeReferenceIdeal.Gen Idealize.ShloMosaic Idealize.ShloMosaic.TcCoe Idealize.SL.Sem

/-- The experts' numbers as the gathers take them. -/
def list (e : IVec S288 32) : IVec S288x1 32 :=
  broadcastInDim S288x1 ![0] bcast_S288_S288x1_0 (select (cmpi .slt e (broadcastInDim S288 ![] bcast_S_S288 (constantI S_ 32 0#32))) (addi e (broadcastInDim S288 ![] bcast_S_S288 (constantI S_ 32 32#32))) e)

theorem pick : ∀ x : Fin 32, (Scalar.select (IntOp.cmpi .slt (BitVec.ofNat 32 x.val) 0#32) (IntOp.addi (BitVec.ofNat 32 x.val) 32#32) (BitVec.ofNat 32 x.val)).toInt = x.val := by decide

theorem list_at (e : IVec S288 32) (n : Fin 288) (h : (e (ix1 n)).toNat < 32) : (list e (ix2 n (0 : Fin 1))).toInt = (e (ix1 n)).toNat := by
  have h' := pick ⟨(e (ix1 n)).toNat, h⟩
  rw [show BitVec.ofNat 32 (⟨(e (ix1 n)).toNat, h⟩ : Fin 32).val = e (ix1 n) from BitVec.ofNat_toNat .. |>.trans (BitVec.setWidth_eq _)] at h'
  refine Eq.trans (congrArg BitVec.toInt ?_) h'
  unfold list
  pointwise

/-- The first product with its bias, the expert's columns interleaved. -/
def first (x : FVec Ideal S73728x1024 .bf16) (e : IVec S288 32) (w : FVec Ideal S32x1024x2048 .f32) (b : FVec Ideal S32x2048 .f32) : FVec Ideal S288x256x2048 .f32 :=
  addf (Host.dotGeneral dot_S288x256x1024_S288x1024x2048_S288x256x2048_2_1_1_2_0_0 none (shapeCast _ (extf .f32 x bitsLt_bf16_f32) shapeCasts_S73728x1024_S288x256x1024) (Host.gather gather_S32x1024x2048_S288x1_S288x1024x2048_12_0_n_n_0_1_110242048 w (list e)))
    (broadcastInDim S288x256x2048 ![0, 1, 2] bcast_S288x1x2048_S288x256x2048_0_1_2 (broadcastInDim S288x1x2048 ![0, 2] bcast_S288x2048_S288x1x2048_0_2 (Host.gather gather_S32x2048_S288x1_S288x2048_1_0_n_n_0_1_12048 b (list e))))

theorem first_at (x : FVec Ideal S73728x1024 .bf16) (e : IVec S288 32) (w : FVec Ideal S32x1024x2048 .f32) (b : FVec Ideal S32x2048 .f32)
    (n : Fin 288) (h : (e (ix1 n)).toNat < 32) (r : Fin 256) (f : Fin 2048) :
    first x e w b (ix3 n r f) = (∑ d : Fin 1024, x (ix2 ⟨n.val * 256 + r.val, by have := n.isLt; have := r.isLt; omega⟩ d) * w (ix3 ⟨(e (ix1 n)).toNat, h⟩ d f)) + b (ix2 ⟨(e (ix1 n)).toNat, h⟩ f) := by
  have g1 := fun d => gather_slab gather_S32x1024x2048_S288x1_S288x1024x2048_12_0_n_n_0_1_110242048_wf w (list e) n d f ⟨_, h⟩ (list_at e n h)
  have g2 := gather_row gather_S32x2048_S288x1_S288x2048_1_0_n_n_0_1_12048_wf b (list e) n f ⟨_, h⟩ (list_at e n h)
  unfold first
  generalize list e = le at g1 g2
  pointwise
  exact congrArg₂ (· + ·) (Finset.sum_congr rfl fun d _ => congrArg₂ (· * ·) rfl (g1 d)) g2

/-- The activation of the interleaved columns. -/
def hidden (g : FVec Ideal S288x256x2048 .f32) : FVec Ideal S288x256x1024 .f32 :=
  mulf (addf (minimumf (broadcastInDim S288x256x1024 ![] bcast_S_S288x256x1024 (id (constant S_ .f32 0x40E00000#32))) (maximumf (broadcastInDim S288x256x1024 ![] bcast_S_S288x256x1024 (id (constant S_ .f32 0xC0E00000#32))) (Host.slice S288x256x1024 ![0, 0, 1] ![1, 1, 2] g slicesBy_S288x256x2048_S288x256x1024_0s1_0s1_1s2))) (broadcastInDim S288x256x1024 ![] bcast_S_S288x256x1024 (constant S_ .f32 0x3F800000#32)))
    (mulf (minimumf (Host.slice S288x256x1024 ![0, 0, 0] ![1, 1, 2] g slicesBy_S288x256x2048_S288x256x1024_0s1_0s1_0s2) (broadcastInDim S288x256x1024 ![] bcast_S_S288x256x1024 (constant S_ .f32 0x40E00000#32)))
      (Host.divf (broadcastInDim S288x256x1024 ![] bcast_S_S288x256x1024 (constant S_ .f32 0x3F800000#32)) (addf (broadcastInDim S288x256x1024 ![] bcast_S_S288x256x1024 (constant S_ .f32 0x3F800000#32)) (Host.exp (Host.negf (mulf (broadcastInDim S288x256x1024 ![] bcast_S_S288x256x1024 (constant S_ .f32 0x3FD9DB23#32)) (minimumf (Host.slice S288x256x1024 ![0, 0, 0] ![1, 1, 2] g slicesBy_S288x256x2048_S288x256x1024_0s1_0s1_0s2) (broadcastInDim S288x256x1024 ![] bcast_S_S288x256x1024 (constant S_ .f32 0x40E00000#32)))))))))

theorem hidden_at (g : FVec Ideal S288x256x2048 .f32) (n : Fin 288) (r : Fin 256) (f : Fin 1024) :
    hidden g (ix3 n r f) = act (g (ix3 n r ⟨2 * f.val, by have := f.isLt; omega⟩)) (g (ix3 n r ⟨1 + 2 * f.val, by have := f.isLt; omega⟩)) := by
  unfold hidden act
  rw [show Ideal.logistic = fun x => Ideal.div one (one + Ideal.exp (-x)) from funext fun x => by rw [one_eq]; rfl]
  pointwise
  rfl

/-- The reference's result as a function of the arrays. -/
def out (e : IVec S288 32) (x : FVec Ideal S73728x1024 .bf16) (gate : FVec Ideal S73728x1 .f32) (w : FVec Ideal S32x1024x2048 .f32) (b : FVec Ideal S32x2048 .f32)
    (wd : FVec Ideal S32x1024x1024 .f32) (bd : FVec Ideal S32x1024 .f32) : FVec Ideal S73728x1024 .f32 :=
  mulf (shapeCast _ (addf (Host.dotGeneral dot_S288x256x1024_S288x1024x1024_S288x256x1024_2_1_1_2_0_0 none (hidden (first x e w b)) (Host.gather gather_S32x1024x1024_S288x1_S288x1024x1024_12_0_n_n_0_1_110241024 wd (list e)))
      (broadcastInDim S288x256x1024 ![0, 1, 2] bcast_S288x1x1024_S288x256x1024_0_1_2 (broadcastInDim S288x1x1024 ![0, 2] bcast_S288x1024_S288x1x1024_0_2 (Host.gather gather_S32x1024_S288x1_S288x1024_1_0_n_n_0_1_11024 bd (list e))))) shapeCasts_S288x256x1024_S73728x1024)
      (broadcastInDim S73728x1024 ![0, 1] bcast_S73728x1_S73728x1024_0_1 gate)

theorem out_eq (m : (ℓ : Loc nD τ sig) → Buf (Elt Ideal) ℓ) (c : Dev nD) :
    Value.res_out0 m c = out (m ((c.tc : Thread nD τ).loc main_arg0)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl

/-- The reference's result, at an entry. -/
theorem out_at (e : IVec S288 32) (x : FVec Ideal S73728x1024 .bf16) (gate : FVec Ideal S73728x1 .f32) (w : FVec Ideal S32x1024x2048 .f32) (b : FVec Ideal S32x2048 .f32)
    (wd : FVec Ideal S32x1024x1024 .f32) (bd : FVec Ideal S32x1024 .f32) (n : Fin 288) (r : Fin 256) (y : Fin 1024) (h : (e (ix1 n)).toNat < 32) :
    out e x gate w b wd bd (ix2 ⟨n.val * 256 + r.val, by have := n.isLt; have := r.isLt; omega⟩ y)
      = entry (fun d => x (ix2 ⟨n.val * 256 + r.val, by have := n.isLt; have := r.isLt; omega⟩ d))
          (fun d f => w (ix3 ⟨_, h⟩ d f)) (fun f => b (ix2 ⟨_, h⟩ f))
          (fun f => wd (ix3 ⟨_, h⟩ f y)) (bd (ix2 ⟨_, h⟩ y))
          (gate (ix2 ⟨n.val * 256 + r.val, by have := n.isLt; have := r.isLt; omega⟩ 0)) := by
  have g1 := fun d => gather_slab gather_S32x1024x1024_S288x1_S288x1024x1024_12_0_n_n_0_1_110241024_wf wd (list e) n d y ⟨_, h⟩ (list_at e n h)
  have g2 := gather_row gather_S32x1024_S288x1_S288x1024_1_0_n_n_0_1_11024_wf bd (list e) n y ⟨_, h⟩ (list_at e n h)
  have g3 : ∀ f, hidden (first x e w b) (ix3 n r f) = _ := fun f => (hidden_at _ n r f).trans (congrArg₂ act (first_at x e w b n h r _) (first_at x e w b n h r _))
  unfold out entry
  generalize hidden (first x e w b) = hid at g3 ⊢
  generalize list e = le at g1 g2 ⊢
  pointwise
  refine congrArg₂ (· * ·) (congrArg₂ (· + ·) (Finset.sum_congr rfl fun f _ => congrArg₂ (· * ·) (g3 f) (g1 f)) g2) rfl

end Cert.MoeReferenceIdeal.Moe
-- ==== Proof.Moe.Blocks.lean ====
module

public import proofs.«01_k».proof.Proof.Moe.Spec
public import proofs.«01_k».proof.Proof.Moe.KI.Ok

/-! What the blocks staged at a grid point hold, in terms of the arguments. -/

@[expose] public section

set_option maxRecDepth 16384

noncomputable section

namespace Cert.MoeKernelIdeal.Moe

open Cert.Moe Cert.MoeKernelIdeal Cert.MoeKernelIdeal.Gen Idealize.ShloMosaic Idealize.ShloMosaic.TcCoe Idealize.SL.Sem

variable (m : (ℓ : Loc nD τ sig) → Buf (Elt Ideal) ℓ) (c : Dev nD)

abbrev argX : FVec Ideal S73728x1024 .bf16 := m ((c : Thread nD τ).loc main_arg2)
abbrev argG : FVec Ideal S73728x1 .f32 := m ((c : Thread nD τ).loc main_arg3)
abbrev argW : FVec Ideal S32x1024x2048 .f32 := m ((c : Thread nD τ).loc main_arg4)
abbrev argB : FVec Ideal S32x2048 .f32 := m ((c : Thread nD τ).loc main_arg5)
abbrev argWd : FVec Ideal S32x1024x1024 .f32 := m ((c : Thread nD τ).loc main_arg6)
abbrev argBd : FVec Ideal S32x1024 .f32 := m ((c : Thread nD τ).loc main_arg7)

/-! ## The arrays the host operations leave -/

theorem V_gate : (V m c main_v3 : FVec Ideal S32x1024x1024 .bf16) = truncf .bf16 (shapeCast S32x1024x1024 (extractStridedSlice S32x1024x1024x1 ![0, 0, 0, 0] (shapeCast S32x1024x1024x2 (argW m c) shapeCasts_S32x1024x2048_S32x1024x1024x2) slices_S32x1024x1024x2_S32x1024x1024x1_0_0_0_0) shapeCasts_S32x1024x1024x1_S32x1024x1024) bitsLt_bf16_f32 := by
  unfold V
  after_results
  rfl
theorem V_up : (V m c main_v6 : FVec Ideal S32x1024x1024 .bf16) = truncf .bf16 (shapeCast S32x1024x1024 (extractStridedSlice S32x1024x1024x1 ![0, 0, 0, 1] (shapeCast S32x1024x1024x2 (argW m c) shapeCasts_S32x1024x2048_S32x1024x1024x2) slices_S32x1024x1024x2_S32x1024x1024x1_0_0_0_1) shapeCasts_S32x1024x1024x1_S32x1024x1024) bitsLt_bf16_f32 := by
  unfold V
  after_results
  rfl
theorem V_down : (V m c main_v7 : FVec Ideal S32x1024x1024 .bf16) = truncf .bf16 (argWd m c) bitsLt_bf16_f32 := by
  unfold V
  after_results
theorem V_bgate : (V m c main_v10 : FVec Ideal S32x1x1024 .f32) = shapeCast S32x1x1024 (extractStridedSlice S32x1x1024x1 ![0, 0, 0, 0] (shapeCast S32x1x1024x2 (argB m c) shapeCasts_S32x2048_S32x1x1024x2) slices_S32x1x1024x2_S32x1x1024x1_0_0_0_0) shapeCasts_S32x1x1024x1_S32x1x1024 := by
  unfold V
  after_results
  rfl
theorem V_bup : (V m c main_v12 : FVec Ideal S32x1x1024 .f32) = shapeCast S32x1x1024 (extractStridedSlice S32x1x1024x1 ![0, 0, 0, 1] (shapeCast S32x1x1024x2 (argB m c) shapeCasts_S32x2048_S32x1x1024x2) slices_S32x1x1024x2_S32x1x1024x1_0_0_0_1) shapeCasts_S32x1x1024x1_S32x1x1024 := by
  unfold V
  after_results
  rfl
theorem V_bdown : (V m c main_v13 : FVec Ideal S32x1x1024 .f32) = shapeCast S32x1x1024 (argBd m c) shapeCasts_S32x1024_S32x1x1024 := by
  unfold V
  after_results
  rfl

theorem gate_at (e : Fin 32) (d f : Fin 1024) : (V m c main_v3 : FVec Ideal S32x1024x1024 .bf16) (ix3 e d f) = argW m c (ix3 e d ⟨2 * f.val, by have := f.isLt; omega⟩) := by
  rw [V_gate]
  pointwise
  exact congrArg (fun n => argW m c (ix3 e d n)) (Fin.ext (Nat.mul_comm _ _))
theorem up_at (e : Fin 32) (d f : Fin 1024) : (V m c main_v6 : FVec Ideal S32x1024x1024 .bf16) (ix3 e d f) = argW m c (ix3 e d ⟨1 + 2 * f.val, by have := f.isLt; omega⟩) := by
  rw [V_up]
  pointwise
  exact congrArg (fun n => argW m c (ix3 e d n)) (Fin.ext (by show f.val * 2 + 1 = 1 + 2 * f.val; omega))
theorem down_at (e : Fin 32) (f y : Fin 1024) : (V m c main_v7 : FVec Ideal S32x1024x1024 .bf16) (ix3 e f y) = argWd m c (ix3 e f y) := by
  rw [V_down]
  rfl
theorem bgate_at (e : Fin 32) (f : Fin 1024) : (V m c main_v10 : FVec Ideal S32x1x1024 .f32) (ix3 e 0 f) = argB m c (ix2 e ⟨2 * f.val, by have := f.isLt; omega⟩) := by
  rw [V_bgate]
  pointwise
  exact congrArg (fun n => argB m c (ix2 e n)) (Fin.ext (Nat.mul_comm _ _))
theorem bup_at (e : Fin 32) (f : Fin 1024) : (V m c main_v12 : FVec Ideal S32x1x1024 .f32) (ix3 e 0 f) = argB m c (ix2 e ⟨1 + 2 * f.val, by have := f.isLt; omega⟩) := by
  rw [V_bup]
  pointwise
  exact congrArg (fun n => argB m c (ix2 e n)) (Fin.ext (by show f.val * 2 + 1 = 1 + 2 * f.val; omega))
theorem bdown_at (e : Fin 32) (y : Fin 1024) : (V m c main_v13 : FVec Ideal S32x1x1024 .f32) (ix3 e 0 y) = argBd m c (ix2 e y) := by
  rw [V_bdown]
  pointwise

/-! ## Where a block's entries lie in its array -/

theorem c_all : ∀ x : Fin 288, (BitVec.ofNat 32 x.val).toNat = x.val := by decide
theorem lt_grid (i : grid0.Coords) : (i 0).val < 288 := (i 0).isLt

section
variable (a : (pcfg0 (F := Ideal)).Adm) (t : Fin (cfg0 a).N)

/-- The number a block index map reads at a grid point. -/
abbrev wordAt (i : grid0.Coords) : BitVec 32 :=
  a.1.at 0 (Rect.unit (s := S288) ![(Scalar.indexCast (BitVec.ofNat 32 (i 0).val)).toNat] S1.size (k0_off1_inb i)) numel1_S1

theorem emb_x (r : Fin 256) (d : Fin 1024) : (((cfg0 a).win 0).blk t).view.emb (ix2 r d) = (ix2 ⟨(grid0.coords t 0).val * 256 + r.val, by have := lt_grid (grid0.coords t); have := r.isLt; omega⟩ d : S73728x1024.Idx) := by
  funext b
  apply Fin.ext
  match b with
  | ⟨0, _⟩ => show (BitVec.ofNat 32 (grid0.coords t 0).val).toNat * 256 + 1 * r.val = (grid0.coords t 0).val * 256 + r.val; rw [c_all (grid0.coords t 0)]; omega
  | ⟨1, _⟩ => show 0 * 1024 + 1 * d.val = d.val; omega

theorem emb_o (r : Fin 256) (d : Fin 1024) : (((cfg0 a).win 8).blk t).view.emb (ix2 r d) = (ix2 ⟨(grid0.coords t 0).val * 256 + r.val, by have := lt_grid (grid0.coords t); have := r.isLt; omega⟩ d : S73728x1024.Idx) := by
  funext b
  apply Fin.ext
  match b with
  | ⟨0, _⟩ => show (BitVec.ofNat 32 (grid0.coords t 0).val).toNat * 256 + 1 * r.val = (grid0.coords t 0).val * 256 + r.val; rw [c_all (grid0.coords t 0)]; omega
  | ⟨1, _⟩ => show 0 * 1024 + 1 * d.val = d.val; omega

theorem emb_g (r : Fin 256) : (((cfg0 a).win 1).blk t).view.emb (ix2 r 0) = (ix2 ⟨(grid0.coords t 0).val * 256 + r.val, by have := lt_grid (grid0.coords t); have := r.isLt; omega⟩ 0 : S73728x1.Idx) := by
  funext b
  apply Fin.ext
  match b with
  | ⟨0, _⟩ => show (BitVec.ofNat 32 (grid0.coords t 0).val).toNat * 256 + 1 * r.val = (grid0.coords t 0).val * 256 + r.val; rw [c_all (grid0.coords t 0)]; omega
  | ⟨1, _⟩ => show 0 * 1 + 1 * 0 = 0; omega

theorem emb_2 (e : Fin 32) (h : (wordAt a (grid0.coords t)).toNat = e.val) (d f : Fin 1024) : (((cfg0 a).win 2).blk t).view.emb (ix3 0 d f) = (ix3 e d f : S32x1024x1024.Idx) := by
  funext b
  apply Fin.ext
  match b with
  | ⟨0, _⟩ => show (wordAt a (grid0.coords t)).toNat * 1 + 1 * 0 = e.val; omega
  | ⟨1, _⟩ => show 0 * 1024 + 1 * d.val = d.val; omega
  | ⟨2, _⟩ => show 0 * 1024 + 1 * f.val = f.val; omega

theorem emb_3 (e : Fin 32) (h : (wordAt a (grid0.coords t)).toNat = e.val) (d f : Fin 1024) : (((cfg0 a).win 3).blk t).view.emb (ix3 0 d f) = (ix3 e d f : S32x1024x1024.Idx) := by
  funext b
  apply Fin.ext
  match b with
  | ⟨0, _⟩ => show (wordAt a (grid0.coords t)).toNat * 1 + 1 * 0 = e.val; omega
  | ⟨1, _⟩ => show 0 * 1024 + 1 * d.val = d.val; omega
  | ⟨2, _⟩ => show 0 * 1024 + 1 * f.val = f.val; omega

theorem emb_4 (e : Fin 32) (h : (wordAt a (grid0.coords t)).toNat = e.val) (d f : Fin 1024) : (((cfg0 a).win 4).blk t).view.emb (ix3 0 d f) = (ix3 e d f : S32x1024x1024.Idx) := by
  funext b
  apply Fin.ext
  match b with
  | ⟨0, _⟩ => show (wordAt a (grid0.coords t)).toNat * 1 + 1 * 0 = e.val; omega
  | ⟨1, _⟩ => show 0 * 1024 + 1 * d.val = d.val; omega
  | ⟨2, _⟩ => show 0 * 1024 + 1 * f.val = f.val; omega

theorem emb_5 (e : Fin 32) (h : (wordAt a (grid0.coords t)).toNat = e.val) (f : Fin 1024) : (((cfg0 a).win 5).blk t).view.emb (ix3 0 0 f) = (ix3 e 0 f : S32x1x1024.Idx) := by
  funext b
  apply Fin.ext
  match b with
  | ⟨0, _⟩ => show (wordAt a (grid0.coords t)).toNat * 1 + 1 * 0 = e.val; omega
  | ⟨1, _⟩ => show 0 * 1 + 1 * 0 = 0; omega
  | ⟨2, _⟩ => show 0 * 1024 + 1 * f.val = f.val; omega

theorem emb_6 (e : Fin 32) (h : (wordAt a (grid0.coords t)).toNat = e.val) (f : Fin 1024) : (((cfg0 a).win 6).blk t).view.emb (ix3 0 0 f) = (ix3 e 0 f : S32x1x1024.Idx) := by
  funext b
  apply Fin.ext
  match b with
  | ⟨0, _⟩ => show (wordAt a (grid0.coords t)).toNat * 1 + 1 * 0 = e.val; omega
  | ⟨1, _⟩ => show 0 * 1 + 1 * 0 = 0; omega
  | ⟨2, _⟩ => show 0 * 1024 + 1 * f.val = f.val; omega

theorem emb_7 (e : Fin 32) (h : (wordAt a (grid0.coords t)).toNat = e.val) (f : Fin 1024) : (((cfg0 a).win 7).blk t).view.emb (ix3 0 0 f) = (ix3 e 0 f : S32x1x1024.Idx) := by
  funext b
  apply Fin.ext
  match b with
  | ⟨0, _⟩ => show (wordAt a (grid0.coords t)).toNat * 1 + 1 * 0 = e.val; omega
  | ⟨1, _⟩ => show 0 * 1 + 1 * 0 = 0; omega
  | ⟨2, _⟩ => show 0 * 1024 + 1 * f.val = f.val; omega

end

/-! ## The blocks -/

variable (hO : Ok m) (t : Fin (cfgM m hO).N)

theorem blk_x (r : Fin 256) (d : Fin 1024) : (iblk m hO c 0 t : Vec Ideal S256x1024 .bf16) (ix2 r d)
    = argX m c (ix2 ⟨(grid0.coords t 0).val * 256 + r.val, by have := lt_grid (grid0.coords t); have := r.isLt; omega⟩ d) :=
  (congrArg (V m c main_arg2) (emb_x (adm m hO) t r d)).trans (congrFun (V_main_arg2 m c) _)

theorem blk_g (r : Fin 256) : (iblk m hO c 1 t : Vec Ideal S256x1 .f32) (ix2 r 0)
    = argG m c (ix2 ⟨(grid0.coords t 0).val * 256 + r.val, by have := lt_grid (grid0.coords t); have := r.isLt; omega⟩ 0) :=
  (congrArg (V m c main_arg3) (emb_g (adm m hO) t r)).trans (congrFun (V_main_arg3 m c) _)

theorem word_val : (wordAt (adm m hO) (grid0.coords t)).toNat = (expert m (grid0.coords t 0)).toNat := congrArg BitVec.toNat (table_at m (grid0.coords t))

theorem blk_wg (h : (expert m (grid0.coords t 0)).toNat < 32) (d f : Fin 1024) : (iblk m hO c 2 t : Vec Ideal S1x1024x1024 .bf16) (ix3 0 d f)
    = argW m c (ix3 ⟨_, h⟩ d ⟨2 * f.val, by have := f.isLt; omega⟩) :=
  (congrArg (V m c main_v3) (emb_2 (adm m hO) t ⟨_, h⟩ (word_val m hO t) d f)).trans (gate_at m c _ d f)

theorem blk_wu (h : (expert m (grid0.coords t 0)).toNat < 32) (d f : Fin 1024) : (iblk m hO c 3 t : Vec Ideal S1x1024x1024 .bf16) (ix3 0 d f)
    = argW m c (ix3 ⟨_, h⟩ d ⟨1 + 2 * f.val, by have := f.isLt; omega⟩) :=
  (congrArg (V m c main_v6) (emb_3 (adm m hO) t ⟨_, h⟩ (word_val m hO t) d f)).trans (up_at m c _ d f)

theorem blk_wd (h : (expert m (grid0.coords t 0)).toNat < 32) (d f : Fin 1024) : (iblk m hO c 4 t : Vec Ideal S1x1024x1024 .bf16) (ix3 0 d f)
    = argWd m c (ix3 ⟨_, h⟩ d f) :=
  (congrArg (V m c main_v7) (emb_4 (adm m hO) t ⟨_, h⟩ (word_val m hO t) d f)).trans (down_at m c _ d f)

theorem blk_bg (h : (expert m (grid0.coords t 0)).toNat < 32) (f : Fin 1024) : (iblk m hO c 5 t : Vec Ideal S1x1x1024 .f32) (ix3 0 0 f)
    = argB m c (ix2 ⟨_, h⟩ ⟨2 * f.val, by have := f.isLt; omega⟩) :=
  (congrArg (V m c main_v10) (emb_5 (adm m hO) t ⟨_, h⟩ (word_val m hO t) f)).trans (bgate_at m c _ f)

theorem blk_bu (h : (expert m (grid0.coords t 0)).toNat < 32) (f : Fin 1024) : (iblk m hO c 6 t : Vec Ideal S1x1x1024 .f32) (ix3 0 0 f)
    = argB m c (ix2 ⟨_, h⟩ ⟨1 + 2 * f.val, by have := f.isLt; omega⟩) :=
  (congrArg (V m c main_v12) (emb_6 (adm m hO) t ⟨_, h⟩ (word_val m hO t) f)).trans (bup_at m c _ f)

theorem blk_bd (h : (expert m (grid0.coords t 0)).toNat < 32) (f : Fin 1024) : (iblk m hO c 7 t : Vec Ideal S1x1x1024 .f32) (ix3 0 0 f)
    = argBd m c (ix2 ⟨_, h⟩ f) :=
  (congrArg (V m c main_v13) (emb_7 (adm m hO) t ⟨_, h⟩ (word_val m hO t) f)).trans (bdown_at m c _ f)

/-! ## The body's values -/

theorem pay_at (x : Vec Ideal S256x1024 .bf16) (g : Vec Ideal S256x1 .f32) (wg wu wd : Vec Ideal S1x1024x1024 .bf16) (bg bu bd : Vec Ideal S1x1x1024 .f32) (r : Fin 256) (y : Fin 1024) :
    k0_pay1 (k0_pay3 x wg bg wu bu wd) bd g (ix2 r y)
      = ((∑ f : Fin 1024, act ((∑ d : Fin 1024, x (ix2 r d) * wg (ix3 0 d f)) + bg (ix3 0 0 f)) ((∑ d : Fin 1024, x (ix2 r d) * wu (ix3 0 d f)) + bu (ix3 0 0 f)) * wd (ix3 0 f y)) + bd (ix3 0 0 y)) * g (ix2 r 0) := by
  unfold act
  pointwise [k0_pay1, k0_pay3]

end Cert.MoeKernelIdeal.Moe
-- ==== Proof.Moe.Final.lean ====
module

public import proofs.«01_k».proof.Proof.Moe.Blocks
public import proofs.«01_k».proof.Proof.Moe.Ref
public import Idealize.ShloMosaic.Lib.WritesUnit
public import Idealize.ShloMosaic.Lib.Pipeline.ValueKit.Tiles

/-! The expert kernel's output array: every entry is the layer's formula at its row, whether the block of the row is in
use (the kernel computes it) or not (the kernel stores zero, and the row's gate is zero). -/

@[expose] public section

set_option maxRecDepth 16384

noncomputable section

namespace Cert.MoeKernelIdeal.Moe

open Cert.Moe Cert.MoeKernelIdeal Cert.MoeKernelIdeal.Gen Idealize.ShloMosaic Idealize.ShloMosaic.TcCoe Idealize.SL.Sem

/-- A whole buffer loaded whole is its contents. -/
theorem whole_unread {S : Shape} {e : EltTy} (arg : Memref sig .tc .vmem S e) (harg : arg.IsWhole) (x : Vec Ideal S e) (off : Fin S.rank → ℕ) (inb) (h : off = fun _ => 0) :
    View.readAt (Elt Ideal) arg.view (Rect.unit (s := S) off S.size inb).toLoadRect (harg.unread x) = x := by
  rw [View.readAt_eq_ld, harg.read_unread]
  exact View.ld_unit_zero h _ _

theorem off2 : (![0, 0] : Fin 2 → ℕ) = fun _ => 0 := by funext a; match a with | ⟨0, _⟩ => rfl | ⟨1, _⟩ => rfl
theorem off3 : (![0, 0, 0] : Fin 3 → ℕ) = fun _ => 0 := by funext a; match a with | ⟨0, _⟩ => rfl | ⟨1, _⟩ => rfl | ⟨2, _⟩ => rfl

section
variable (c : Dev nD) (i : grid0.Coords) (arg3 : Memref sig .tc .vmem S256x1024 .bf16) (harg3 : arg3.IsWhole) (arg4 : Memref sig .tc .vmem S256x1 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S256x1024 .f32) (harg11 : arg11.IsWhole)
  (x0 : Vec Ideal S256x1024 .bf16) (x1 : Vec Ideal S256x1 .f32) (x2 : Vec Ideal S1x1024x1024 .bf16) (x3 : Vec Ideal S1x1024x1024 .bf16) (x4 : Vec Ideal S1x1024x1024 .bf16) (x5 : Vec Ideal S1x1x1024 .f32) (x6 : Vec Ideal S1x1x1024 .f32) (x7 : Vec Ideal S1x1x1024 .f32) (xt0 : TbBuf0 (F := Ideal) c tbM0_0) (xt1 : TbBuf0 (F := Ideal) c tbM0_1)

theorem used_eq (hc0) (r : Fin 256) (l : Fin 1024) :
    out0_A_8 (F := Ideal) c i arg3 harg3 arg4 harg4 arg5 harg5 arg6 harg6 arg7 harg7 arg8 harg8 arg9 harg9 arg10 harg10 arg11 harg11 x0 x1 x2 x3 x4 x5 x6 x7 xt0 xt1 hc0 (ix2 r l)
      = k0_pay1 (k0_pay3 x0 x2 x5 x3 x6 x4) x7 x1 (ix2 r l) := by
  unfold out0_A_8 kernelRun0_A
  dsimp only
  refine (View.read_writes_cons_unit_of_mem _ _ _ _ _ (ix2 r l) (ix2 r l) rfl fun a => ?_).trans ?_
  · match a with
    | ⟨0, _⟩ => exact (Nat.zero_add _).symm
    | ⟨1, _⟩ => exact (Nat.zero_add _).symm
  · refine congrFun (congr (congr (congrArg k0_pay1 ?_) (whole_unread arg10 harg10 x7 _ _ off3)) (whole_unread arg4 harg4 x1 _ _ off2)) _
    unfold kernelRun0_A.sl.r_1
    exact congr (congr (congr (congr (congr (congrArg k0_pay3 (whole_unread arg3 harg3 x0 _ _ off2)) (whole_unread arg5 harg5 x2 _ _ off3)) (whole_unread arg8 harg8 x5 _ _ off3)) (whole_unread arg6 harg6 x3 _ _ off3)) (whole_unread arg9 harg9 x6 _ _ off3)) (whole_unread arg7 harg7 x4 _ _ off3)

theorem unused_eq (hc0) (r : Fin 256) (l : Fin 1024) :
    out0_B_8 (F := Ideal) c i arg3 harg3 arg4 harg4 arg5 harg5 arg6 harg6 arg7 harg7 arg8 harg8 arg9 harg9 arg10 harg10 arg11 harg11 x0 x1 x2 x3 x4 x5 x6 x7 xt0 xt1 hc0 (ix2 r l) = (0 : EReal) := by
  unfold out0_B_8 kernelRun0_B
  dsimp only
  refine (View.read_writes_cons_unit_of_mem _ _ _ _ _ (ix2 r l) (ix2 r l) rfl fun a => ?_).trans ?_
  · match a with
    | ⟨0, _⟩ => exact (Nat.zero_add _).symm
    | ⟨1, _⟩ => exact (Nat.zero_add _).symm
  · exact Cert.Pre_blocks_routed.Moe.zero_f32

end

variable (m : (ℓ : Loc nD τ sig) → Buf (Elt Ideal) ℓ) (c : Dev nD)

/-- The number of blocks in use. -/
abbrev used : BitVec 32 := m ((c : Thread nD τ).loc main_arg1) (ix1 0)

theorem cond_iff (i : grid0.Coords) (v : BitVec 32) : cond0_0 i v ↔ IntOp.cmpi .slt (BitVec.ofNat 32 (i 0).val) v = 1#1 := by
  unfold cond0_0
  show IntOp.cmpi .ne (Scalar.extui (IntOp.cmpi .slt (BitVec.ofNat 32 (i 0).val) v)) 0#32 = 1#1 ↔ _
  generalize IntOp.cmpi .slt (BitVec.ofNat 32 (i 0).val) v = b
  revert b
  decide

theorem used_at : (tbM0_1.view.readAt (Elt Ideal) (Rect.unit (s := S1) ![0] S1.size inb_S1_S1_0).toLoadRect (tbl m 1) (Shape.Idx.first (numel1_S1.symm ▸ Nat.one_pos))) = used m 0 := by
  show V m 0 main_arg1 _ = _
  rw [V_main_arg1]
  refine congrArg (m _) ?_
  funext a
  apply Fin.ext
  match a with
  | ⟨0, _⟩ => rfl

/-- The output array, entry by entry. -/
abbrev G : FVec Ideal S73728x1024 .f32 := Cert.MoeReferenceIdeal.Moe.out (m ((c : Thread nD τ).loc main_arg0)) (argX m c) (argG m c) (argW m c) (argB m c) (argWd m c) (argBd m c)

/-- What the precondition says of the arguments. -/
structure Routed : Prop where
  expert : ∀ n : Fin 288, (expert m n).toNat < 32
  gate : ∀ (n : Fin 288) (r : Fin 256), IntOp.cmpi .slt (BitVec.ofNat 32 n.val) (used m 0) = 1#1 ∨ argG m c (ix2 ⟨256 * n.val + r.val, by have := n.isLt; have := r.isLt; omega⟩ 0) = 0

theorem entry_zero (x : Fin 1024 → EReal) (w : Fin 1024 → Fin 2048 → EReal) (b : Fin 2048 → EReal) (wd : Fin 1024 → EReal) (bd : EReal) : entry x w b wd bd 0 = 0 := by
  unfold entry
  exact mul_zero _

theorem outs_at (h : Routed m 0) (hO : Ok m) (t : Fin (cfgM m hO).N) (r : Fin 256) (l : Fin 1024) :
    outsAt0 m hO 0 t (ix2 r l) = G m 0 (ix2 ⟨(grid0.coords t 0).val * 256 + r.val, by have := lt_grid (grid0.coords t); have := r.isLt; omega⟩ l) := by
  have he := h.expert (grid0.coords t 0)
  refine Eq.trans ?_ (Cert.MoeReferenceIdeal.Moe.out_at (m (((0 : Dev nD) : Thread nD τ).loc main_arg0)) (argX m 0) (argG m 0) (argW m 0) (argB m 0) (argWd m 0) (argBd m 0) (grid0.coords t 0) r l he).symm
  by_cases h0 : cond0_0 (grid0.coords t) (tbM0_1.view.readAt (Elt Ideal) (Rect.unit (s := S1) ![0] S1.size inb_S1_S1_0).toLoadRect (tbl m 1) (Shape.Idx.first (numel1_S1.symm ▸ Nat.one_pos)))
  · rw [outsAt0_A m hO 0 t h0]
    refine (used_eq _ _ _ _ _ _ _ _ _ _ _ _ _ _ _ _ _ _ _ _ _ _ _ _ _ _ _ _ _ _ _ r l).trans ?_
    refine (pay_at _ _ _ _ _ _ _ _ r l).trans ?_
    unfold entry
    rw [blk_g m 0 hO t r, blk_bd m 0 hO t he l]
    refine congrArg (· * _) (congrArg (· + _) (Finset.sum_congr rfl fun f _ => ?_))
    rw [blk_bg m 0 hO t he f, blk_bu m 0 hO t he f, blk_wd m 0 hO t he f l]
    refine congrArg (· * _) (congrArg₂ act (congrArg (· + _) (Finset.sum_congr rfl fun d _ => ?_)) (congrArg (· + _) (Finset.sum_congr rfl fun d _ => ?_)))
    · rw [blk_x m 0 hO t r d, blk_wg m 0 hO t he d f]
    · rw [blk_x m 0 hO t r d, blk_wu m 0 hO t he d f]
  · rw [outsAt0_B m hO 0 t h0]
    refine (unused_eq _ _ _ _ _ _ _ _ _ _ _ _ _ _ _ _ _ _ _ _ _ _ _ _ _ _ _ _ _ _ _ r l).trans ?_
    have hg := (h.gate (grid0.coords t 0) r).resolve_left (fun hh => h0 ((cond_iff _ _).mpr ((used_at m).symm ▸ hh)))
    have e : (⟨256 * (grid0.coords t 0).val + r.val, by have := lt_grid (grid0.coords t); have := r.isLt; omega⟩ : Fin 73728) = ⟨(grid0.coords t 0).val * 256 + r.val, by have := lt_grid (grid0.coords t); have := r.isLt; omega⟩ := Fin.ext (by show 256 * (grid0.coords t 0).val + r.val = (grid0.coords t 0).val * 256 + r.val; omega)
    refine (entry_zero _ _ _ _ _).symm.trans (congrArg (entry _ _ _ _ _) ?_)
    exact hg.symm.trans (congrArg (fun n => argG m 0 (ix2 n 0)) e)

theorem flushed_eq (h : Routed m 0) (hO : Ok m) (t : Fin (cfgM m hO).N) :
    (dats m hO 0 0).flushed 8 t = (((cfgM m hO).win 8).blk t).view.read (Elt Ideal) (G m 0) := by
  show ((cfgM m hO).win 8).cut (grid0.coords t) ((dats m hO 0 0).after 8 t) = _
  rw [after0_8]
  refine funext fun (y : S256x1024.Idx) => ?_
  refine Eq.trans ?_ ((outs_at m h hO t (y 0) (y 1)).trans ?_)
  · refine congrArg (outsAt0 m hO 0 t) ?_
    funext a
    match a with
    | ⟨0, _⟩ => rfl
    | ⟨1, _⟩ => rfl
  · refine (congrArg (G m 0) (emb_o (adm m hO) t (y 0) (y 1)).symm).trans ?_
    refine congrArg (fun z => G m 0 ((((cfgM m hO).win 8).blk t).view.emb z)) ?_
    funext a
    match a with
    | ⟨0, _⟩ => rfl
    | ⟨1, _⟩ => rfl

theorem cover (a : (pcfg0 (F := Ideal)).Adm) (i : S73728x1024.Idx) : ∃ t : Fin (cfg0 a).N, ((cfg0 a).win 8).flush t = true ∧ i ∈ (((cfg0 a).win 8).blk t).view.set := by
  have h0 : (i 0).val < 73728 := (i 0).isLt
  have h1 : (i 1).val < 1024 := (i 1).isLt
  have hN : (i 0).val / 256 < 288 := by omega
  let t : Fin (cfg0 a).N := ⟨(i 0).val / 256, hN⟩
  refine ⟨t, flush0_8 a t, ?_⟩
  have c0 : (grid0.coords t 0).val = (i 0).val / 256 := by
    show (i 0).val / 256 / 1 % 288 = _
    omega
  have e : (((cfg0 a).win 8).blk t).view.emb (ix2 ⟨(i 0).val % 256, by omega⟩ ⟨(i 1).val, h1⟩) = i := by
    refine (emb_o a t _ _).trans ?_
    funext b
    apply Fin.ext
    match b with
    | ⟨0, _⟩ => show (grid0.coords t 0).val * 256 + (i 0).val % 256 = (i 0).val; rw [c0]; omega
    | ⟨1, _⟩ => rfl
  rw [← e]
  exact (((cfg0 a).win 8).blk t).view.emb_mem_set _

/-- The kernel's output array is the reference's. -/
theorem arr_eq (h : Routed m 0) (hO : Ok m) : (dats m hO 0 0).arrAt 8 (cfgM m hO).N = G m 0 :=
  (dats m hO 0 0).arrAt_eq_of_cover 8 (G m 0) (fun t _ => flushed_eq m h hO t) (cover (adm m hO))

end Cert.MoeKernelIdeal.Moe
-- ==== Proof.Proj.KI.Frame.lean ====
/- The proof data of the pipeline, the body obligation, and the run of the whole program. -/
module

public import proofs.«01_k».proof.Proof.Gen.ProjKernelIdeal.Launch
public import proofs.«01_k».proof.Proof.Gen.ProjKernelIdeal.Skeleton
public import proofs.«01_k».proof.Proof.Gen.ProjKernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384
set_option maxHeartbeats 4000000

noncomputable section

namespace Cert.ProjKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1620000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ProjKernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's accesses -/

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S1x1x1024 := Rect.unit (s := S1x1x1024) ![0, 0, 0] S1x1x1024.size inb_S1x1x1024_S1x1x1024_0_0_0
abbrev r0_3 : Rect S1024x1664 := Rect.unit (s := S1024x1664) ![0, 0] S1024x1664.size inb_S1024x1664_S1024x1664_0_0
abbrev r0_4 : Rect S256x128 := Rect.unit (s := S256x128) ![0, 0] S256x128.size inb_S256x128_S256x128_0_0
abbrev r0_5 : Rect S1x128 := Rect.unit (s := S1x128) ![0, 0] S1x128.size inb_S1x128_S1x128_0_0
abbrev r0_6 : Rect S256x32 := Rect.unit (s := S256x32) ![0, 0] S256x32.size inb_S256x32_S256x32_0_0
abbrev r0_7 : Rect S1x256 := Rect.unit (s := S1x256) ![0, 0] S1x256.size inb_S1x256_S1x256_0_0
abbrev r0_8 : Rect S256x768 := Rect.unit (s := S256x768) ![0, 0] S256x768.size inb_S256x768_S256x768_0_0
abbrev r0_9 : Rect S128x768 := Rect.unit (s := S128x768) ![0, 0] S128x768.size inb_S128x768_S128x768_0_0
abbrev r0_10 : Rect S256x768 := Rect.unit (s := S256x768) ![0, 0] S256x128.size inb_S256x768_S256x128_0_0
abbrev r0_11 : Rect S256x768 := Rect.unit (s := S256x768) ![0, 128] S256x128.size inb_S256x768_S256x128_0_128
abbrev r0_12 : Rect S256x768 := Rect.unit (s := S256x768) ![0, 256] S256x128.size inb_S256x768_S256x128_0_256
abbrev r0_13 : Rect S256x768 := Rect.unit (s := S256x768) ![0, 384] S256x128.size inb_S256x768_S256x128_0_384
abbrev r0_14 : Rect S256x768 := Rect.unit (s := S256x768) ![0, 512] S256x128.size inb_S256x768_S256x128_0_512
abbrev r0_15 : Rect S256x768 := Rect.unit (s := S256x768) ![0, 640] S256x128.size inb_S256x768_S256x128_0_640
abbrev r0_16 : Rect S128x384 := Rect.unit (s := S128x384) ![0, 0] S128x384.size inb_S128x384_S128x384_0_0
abbrev r0_17 : Rect S256x384 := Rect.unit (s := S256x384) ![0, 0] S256x384.size inb_S256x384_S256x384_0_0
abbrev r0_18 : Rect S256x256 := Rect.unit (s := S256x256) ![0, 0] S256x256.size inb_S256x256_S256x256_0_0

/-! ## What the body leaves in each output window's buffer -/

/-! ### Values of the body that the stores' payloads, spelt out, would write more than once

    Each is a vector the body binds (often a part call's result), stated over the input windows' blocks and
    numbered on from the skeleton's payload functions (`k0_pay53` …, after `k0_pay52`), so that
    `out0_W` and the values after it name it instead of spelling it out (`unfold_out out0_W` opens a canon
    with them, `unfold_payloads` opens them with the payloads); the comment after each is the printed function's
    name for the value (a count appended where that name is bound again). -/

def k0_pay53 (x0 : Vec F S256x1024 .f32) (x1 : Vec F S1x1x1024 .f32) (x2 : Vec F S1x1x1024 .f32) (x3 : Vec F S1x1024 .f32) (x4 : Vec F S1024x1664 .bf16) (x5 : Vec F S1x256 .f32) (x6 : Vec F S256x768 .bf16) (x7 : Vec F S1x128 .f32) (x8 : Vec F S128x768 .bf16) (x9 : Vec F S128x384 .bf16) (x10 : Vec F S1x128 .f32) (x11 : Vec F S1x128 .f32) (x12 : Vec F S1x128 .f32) (x13 : Vec F S256x128 .f32) (x14 : Vec F S256x128 .f32) (x15 : Vec F S256x128 .f32) : FVec F S256x1664 .f32 :=
  k0_pay5 (View.ld x0 r0_0) (View.ld x3 r0_1) (View.ld x1 r0_2) (View.ld x2 r0_2) (View.ld x4 r0_3) -- `v28`
def k0_pay54 (x0 : Vec F S256x1024 .f32) (x1 : Vec F S1x1x1024 .f32) (x2 : Vec F S1x1x1024 .f32) (x3 : Vec F S1x1024 .f32) (x4 : Vec F S1024x1664 .bf16) (x5 : Vec F S1x256 .f32) (x6 : Vec F S256x768 .bf16) (x7 : Vec F S1x128 .f32) (x8 : Vec F S128x768 .bf16) (x9 : Vec F S128x384 .bf16) (x10 : Vec F S1x128 .f32) (x11 : Vec F S1x128 .f32) (x12 : Vec F S1x128 .f32) (x13 : Vec F S256x128 .f32) (x14 : Vec F S256x128 .f32) (x15 : Vec F S256x128 .f32) : IVec S256x128 1 :=
  k0_pay6 -- `v31`
def k0_pay55 (x0 : Vec F S256x1024 .f32) (x1 : Vec F S1x1x1024 .f32) (x2 : Vec F S1x1x1024 .f32) (x3 : Vec F S1x1024 .f32) (x4 : Vec F S1024x1664 .bf16) (x5 : Vec F S1x256 .f32) (x6 : Vec F S256x768 .bf16) (x7 : Vec F S1x128 .f32) (x8 : Vec F S128x768 .bf16) (x9 : Vec F S128x384 .bf16) (x10 : Vec F S1x128 .f32) (x11 : Vec F S1x128 .f32) (x12 : Vec F S1x128 .f32) (x13 : Vec F S256x128 .f32) (x14 : Vec F S256x128 .f32) (x15 : Vec F S256x128 .f32) : FVec F S256x128 .f32 :=
  k0_pay7 (View.ld x13 r0_4) -- `v33`
def k0_pay56 (x0 : Vec F S256x1024 .f32) (x1 : Vec F S1x1x1024 .f32) (x2 : Vec F S1x1x1024 .f32) (x3 : Vec F S1x1024 .f32) (x4 : Vec F S1024x1664 .bf16) (x5 : Vec F S1x256 .f32) (x6 : Vec F S256x768 .bf16) (x7 : Vec F S1x128 .f32) (x8 : Vec F S128x768 .bf16) (x9 : Vec F S128x384 .bf16) (x10 : Vec F S1x128 .f32) (x11 : Vec F S1x128 .f32) (x12 : Vec F S1x128 .f32) (x13 : Vec F S256x128 .f32) (x14 : Vec F S256x128 .f32) (x15 : Vec F S256x128 .f32) : FVec F S256x128 .f32 :=
  k0_pay8 (View.ld x14 r0_4) -- `v35`
def k0_pay57 (x0 : Vec F S256x1024 .f32) (x1 : Vec F S1x1x1024 .f32) (x2 : Vec F S1x1x1024 .f32) (x3 : Vec F S1x1024 .f32) (x4 : Vec F S1024x1664 .bf16) (x5 : Vec F S1x256 .f32) (x6 : Vec F S256x768 .bf16) (x7 : Vec F S1x128 .f32) (x8 : Vec F S128x768 .bf16) (x9 : Vec F S128x384 .bf16) (x10 : Vec F S1x128 .f32) (x11 : Vec F S1x128 .f32) (x12 : Vec F S1x128 .f32) (x13 : Vec F S256x128 .f32) (x14 : Vec F S256x128 .f32) (x15 : Vec F S256x128 .f32) : FVec F S256x128 .f32 :=
  k0_pay9 (View.ld x15 r0_4) -- `v37`
def k0_pay58 (x0 : Vec F S256x1024 .f32) (x1 : Vec F S1x1x1024 .f32) (x2 : Vec F S1x1x1024 .f32) (x3 : Vec F S1x1024 .f32) (x4 : Vec F S1024x1664 .bf16) (x5 : Vec F S1x256 .f32) (x6 : Vec F S256x768 .bf16) (x7 : Vec F S1x128 .f32) (x8 : Vec F S128x768 .bf16) (x9 : Vec F S128x384 .bf16) (x10 : Vec F S1x128 .f32) (x11 : Vec F S1x128 .f32) (x12 : Vec F S1x128 .f32) (x13 : Vec F S256x128 .f32) (x14 : Vec F S256x128 .f32) (x15 : Vec F S256x128 .f32) : FVec F S256x128 .f32 :=
  k0_pay10 (k0_pay53 x0 x1 x2 x3 x4 x5 x6 x7 x8 x9 x10 x11 x12 x13 x14 x15) (View.ld x7 r0_5) -- `v52`
def k0_pay59 (x0 : Vec F S256x1024 .f32) (x1 : Vec F S1x1x1024 .f32) (x2 : Vec F S1x1x1024 .f32) (x3 : Vec F S1x1024 .f32) (x4 : Vec F S1024x1664 .bf16) (x5 : Vec F S1x256 .f32) (x6 : Vec F S256x768 .bf16) (x7 : Vec F S1x128 .f32) (x8 : Vec F S128x768 .bf16) (x9 : Vec F S128x384 .bf16) (x10 : Vec F S1x128 .f32) (x11 : Vec F S1x128 .f32) (x12 : Vec F S1x128 .f32) (x13 : Vec F S256x128 .f32) (x14 : Vec F S256x128 .f32) (x15 : Vec F S256x128 .f32) : FVec F S256x128 .f32 :=
  k0_pay11 (k0_pay53 x0 x1 x2 x3 x4 x5 x6 x7 x8 x9 x10 x11 x12 x13 x14 x15) (k0_pay55 x0 x1 x2 x3 x4 x5 x6 x7 x8 x9 x10 x11 x12 x13 x14 x15) (k0_pay56 x0 x1 x2 x3 x4 x5 x6 x7 x8 x9 x10 x11 x12 x13 x14 x15) (View.ld x15 r0_4) (View.ld x12 r0_5) -- `v75`
def k0_pay60 (x0 : Vec F S256x1024 .f32) (x1 : Vec F S1x1x1024 .f32) (x2 : Vec F S1x1x1024 .f32) (x3 : Vec F S1x1024 .f32) (x4 : Vec F S1024x1664 .bf16) (x5 : Vec F S1x256 .f32) (x6 : Vec F S256x768 .bf16) (x7 : Vec F S1x128 .f32) (x8 : Vec F S128x768 .bf16) (x9 : Vec F S128x384 .bf16) (x10 : Vec F S1x128 .f32) (x11 : Vec F S1x128 .f32) (x12 : Vec F S1x128 .f32) (x13 : Vec F S256x128 .f32) (x14 : Vec F S256x128 .f32) (x15 : Vec F S256x128 .f32) : FVec F S256x768 .f32 :=
  k0_pay13 (k0_pay53 x0 x1 x2 x3 x4 x5 x6 x7 x8 x9 x10 x11 x12 x13 x14 x15) (View.ld x5 r0_7) (View.ld x6 r0_8) -- `v97`
def k0_pay61 (x0 : Vec F S256x1024 .f32) (x1 : Vec F S1x1x1024 .f32) (x2 : Vec F S1x1x1024 .f32) (x3 : Vec F S1x1024 .f32) (x4 : Vec F S1024x1664 .bf16) (x5 : Vec F S1x256 .f32) (x6 : Vec F S256x768 .bf16) (x7 : Vec F S1x128 .f32) (x8 : Vec F S128x768 .bf16) (x9 : Vec F S128x384 .bf16) (x10 : Vec F S1x128 .f32) (x11 : Vec F S1x128 .f32) (x12 : Vec F S1x128 .f32) (x13 : Vec F S256x128 .f32) (x14 : Vec F S256x128 .f32) (x15 : Vec F S256x128 .f32) : FVec F S256x768 .f32 :=
  k0_pay15 (k0_pay58 x0 x1 x2 x3 x4 x5 x6 x7 x8 x9 x10 x11 x12 x13 x14 x15) (View.ld x8 r0_9) -- `v101`

/-- Window 16's staging buffer after the body, from the input windows' blocks: its 6 stores as pieces, LAST
    FIRST (Lib/Pipeline/FrameBody.lean `View.canon`; the payloads are the skeleton's and the values stated above). -/
def out0_16 (x0 : Vec F S256x1024 .f32) (x1 : Vec F S1x1x1024 .f32) (x2 : Vec F S1x1x1024 .f32) (x3 : Vec F S1x1024 .f32) (x4 : Vec F S1024x1664 .bf16) (x5 : Vec F S1x256 .f32) (x6 : Vec F S256x768 .bf16) (x7 : Vec F S1x128 .f32) (x8 : Vec F S128x768 .bf16) (x9 : Vec F S128x384 .bf16) (x10 : Vec F S1x128 .f32) (x11 : Vec F S1x128 .f32) (x12 : Vec F S1x128 .f32) (x13 : Vec F S256x128 .f32) (x14 : Vec F S256x128 .f32) (x15 : Vec F S256x128 .f32) : Vec F S256x768 .bf16 :=
  View.canon [⟨r0_15, k0_pay48 (k0_pay56 x0 x1 x2 x3 x4 x5 x6 x7 x8 x9 x10 x11 x12 x13 x14 x15) (k0_pay57 x0 x1 x2 x3 x4 x5 x6 x7 x8 x9 x10 x11 x12 x13 x14 x15) (k0_pay46 (k0_pay54 x0 x1 x2 x3 x4 x5 x6 x7 x8 x9 x10 x11 x12 x13 x14 x15) (k0_pay60 x0 x1 x2 x3 x4 x5 x6 x7 x8 x9 x10 x11 x12 x13 x14 x15) (View.ld x10 r0_5)) (k0_pay47 (k0_pay54 x0 x1 x2 x3 x4 x5 x6 x7 x8 x9 x10 x11 x12 x13 x14 x15) (k0_pay55 x0 x1 x2 x3 x4 x5 x6 x7 x8 x9 x10 x11 x12 x13 x14 x15) (k0_pay60 x0 x1 x2 x3 x4 x5 x6 x7 x8 x9 x10 x11 x12 x13 x14 x15) (View.ld x10 r0_5)) 112#32⟩,
    ⟨r0_14, k0_pay42 (k0_pay54 x0 x1 x2 x3 x4 x5 x6 x7 x8 x9 x10 x11 x12 x13 x14 x15) (k0_pay55 x0 x1 x2 x3 x4 x5 x6 x7 x8 x9 x10 x11 x12 x13 x14 x15) (k0_pay56 x0 x1 x2 x3 x4 x5 x6 x7 x8 x9 x10 x11 x12 x13 x14 x15) (k0_pay57 x0 x1 x2 x3 x4 x5 x6 x7 x8 x9 x10 x11 x12 x13 x14 x15) (k0_pay40 (k0_pay60 x0 x1 x2 x3 x4 x5 x6 x7 x8 x9 x10 x11 x12 x13 x14 x15)) (k0_pay41 (k0_pay60 x0 x1 x2 x3 x4 x5 x6 x7 x8 x9 x10 x11 x12 x13 x14 x15)) (View.ld x10 r0_5)⟩,
    ⟨r0_13, k0_pay38 (k0_pay54 x0 x1 x2 x3 x4 x5 x6 x7 x8 x9 x10 x11 x12 x13 x14 x15) (k0_pay55 x0 x1 x2 x3 x4 x5 x6 x7 x8 x9 x10 x11 x12 x13 x14 x15) (k0_pay56 x0 x1 x2 x3 x4 x5 x6 x7 x8 x9 x10 x11 x12 x13 x14 x15) (k0_pay57 x0 x1 x2 x3 x4 x5 x6 x7 x8 x9 x10 x11 x12 x13 x14 x15) (k0_pay33 (k0_pay60 x0 x1 x2 x3 x4 x5 x6 x7 x8 x9 x10 x11 x12 x13 x14 x15)) (k0_pay35 (k0_pay54 x0 x1 x2 x3 x4 x5 x6 x7 x8 x9 x10 x11 x12 x13 x14 x15) (k0_pay60 x0 x1 x2 x3 x4 x5 x6 x7 x8 x9 x10 x11 x12 x13 x14 x15)) (k0_pay36 (k0_pay54 x0 x1 x2 x3 x4 x5 x6 x7 x8 x9 x10 x11 x12 x13 x14 x15) (k0_pay60 x0 x1 x2 x3 x4 x5 x6 x7 x8 x9 x10 x11 x12 x13 x14 x15)) (k0_pay37 (F := F)) (View.ld x10 r0_5)⟩,
    ⟨r0_12, k0_pay31 (k0_pay56 x0 x1 x2 x3 x4 x5 x6 x7 x8 x9 x10 x11 x12 x13 x14 x15) (k0_pay57 x0 x1 x2 x3 x4 x5 x6 x7 x8 x9 x10 x11 x12 x13 x14 x15) (k0_pay29 (k0_pay54 x0 x1 x2 x3 x4 x5 x6 x7 x8 x9 x10 x11 x12 x13 x14 x15) (k0_pay60 x0 x1 x2 x3 x4 x5 x6 x7 x8 x9 x10 x11 x12 x13 x14 x15) (View.ld x10 r0_5)) (k0_pay30 (k0_pay54 x0 x1 x2 x3 x4 x5 x6 x7 x8 x9 x10 x11 x12 x13 x14 x15) (k0_pay55 x0 x1 x2 x3 x4 x5 x6 x7 x8 x9 x10 x11 x12 x13 x14 x15) (k0_pay60 x0 x1 x2 x3 x4 x5 x6 x7 x8 x9 x10 x11 x12 x13 x14 x15) (View.ld x10 r0_5)) 112#32⟩,
    ⟨r0_11, k0_pay25 (k0_pay54 x0 x1 x2 x3 x4 x5 x6 x7 x8 x9 x10 x11 x12 x13 x14 x15) (k0_pay55 x0 x1 x2 x3 x4 x5 x6 x7 x8 x9 x10 x11 x12 x13 x14 x15) (k0_pay56 x0 x1 x2 x3 x4 x5 x6 x7 x8 x9 x10 x11 x12 x13 x14 x15) (k0_pay57 x0 x1 x2 x3 x4 x5 x6 x7 x8 x9 x10 x11 x12 x13 x14 x15) (k0_pay23 (k0_pay60 x0 x1 x2 x3 x4 x5 x6 x7 x8 x9 x10 x11 x12 x13 x14 x15)) (k0_pay24 (k0_pay60 x0 x1 x2 x3 x4 x5 x6 x7 x8 x9 x10 x11 x12 x13 x14 x15)) (View.ld x10 r0_5)⟩,
    ⟨r0_10, k0_pay21 (k0_pay54 x0 x1 x2 x3 x4 x5 x6 x7 x8 x9 x10 x11 x12 x13 x14 x15) (k0_pay55 x0 x1 x2 x3 x4 x5 x6 x7 x8 x9 x10 x11 x12 x13 x14 x15) (k0_pay56 x0 x1 x2 x3 x4 x5 x6 x7 x8 x9 x10 x11 x12 x13 x14 x15) (k0_pay57 x0 x1 x2 x3 x4 x5 x6 x7 x8 x9 x10 x11 x12 x13 x14 x15) (k0_pay16 (k0_pay53 x0 x1 x2 x3 x4 x5 x6 x7 x8 x9 x10 x11 x12 x13 x14 x15) (View.ld x5 r0_7) (View.ld x6 r0_8)) (k0_pay18 (k0_pay53 x0 x1 x2 x3 x4 x5 x6 x7 x8 x9 x10 x11 x12 x13 x14 x15) (k0_pay54 x0 x1 x2 x3 x4 x5 x6 x7 x8 x9 x10 x11 x12 x13 x14 x15) (View.ld x5 r0_7) (View.ld x6 r0_8)) (k0_pay19 (k0_pay53 x0 x1 x2 x3 x4 x5 x6 x7 x8 x9 x10 x11 x12 x13 x14 x15) (k0_pay54 x0 x1 x2 x3 x4 x5 x6 x7 x8 x9 x10 x11 x12 x13 x14 x15) (View.ld x5 r0_7) (View.ld x6 r0_8)) (k0_pay20 (F := F)) (View.ld x10 r0_5)⟩]

/-- Its stores tile the buffer (checked by evaluation), so they cover it. -/
theorem cover0_16 (p0 : Vec F S256x128 .bf16) (p1 : Vec F S256x128 .bf16) (p2 : Vec F S256x128 .bf16) (p3 : Vec F S256x128 .bf16) (p4 : Vec F S256x128 .bf16) (p5 : Vec F S256x128 .bf16) (y : S256x768.Idx) :
    ∃ pc ∈ ([⟨r0_15, p0⟩, ⟨r0_14, p1⟩, ⟨r0_13, p2⟩, ⟨r0_12, p3⟩, ⟨r0_11, p4⟩, ⟨r0_10, p5⟩] : List (View.Piece (Elt F) S256x768 .bf16)), y ∈ pc.1.set :=
  View.cover_of_tiled [⟨r0_15, p0⟩, ⟨r0_14, p1⟩, ⟨r0_13, p2⟩, ⟨r0_12, p3⟩, ⟨r0_11, p4⟩, ⟨r0_10, p5⟩] S256x128.size (by rfl) y

/-- Window 17's staging buffer after the body, from the input windows' blocks: its 6 stores as pieces, LAST
    FIRST (Lib/Pipeline/FrameBody.lean `View.canon`; the payloads are the skeleton's and the values stated above). -/
def out0_17 (x0 : Vec F S256x1024 .f32) (x1 : Vec F S1x1x1024 .f32) (x2 : Vec F S1x1x1024 .f32) (x3 : Vec F S1x1024 .f32) (x4 : Vec F S1024x1664 .bf16) (x5 : Vec F S1x256 .f32) (x6 : Vec F S256x768 .bf16) (x7 : Vec F S1x128 .f32) (x8 : Vec F S128x768 .bf16) (x9 : Vec F S128x384 .bf16) (x10 : Vec F S1x128 .f32) (x11 : Vec F S1x128 .f32) (x12 : Vec F S1x128 .f32) (x13 : Vec F S256x128 .f32) (x14 : Vec F S256x128 .f32) (x15 : Vec F S256x128 .f32) : Vec F S256x768 .bf16 :=
  View.canon [⟨r0_15, k0_pay49 (k0_pay59 x0 x1 x2 x3 x4 x5 x6 x7 x8 x9 x10 x11 x12 x13 x14 x15) (k0_pay61 x0 x1 x2 x3 x4 x5 x6 x7 x8 x9 x10 x11 x12 x13 x14 x15) (View.ld x11 r0_5)⟩,
    ⟨r0_14, k0_pay45 (k0_pay59 x0 x1 x2 x3 x4 x5 x6 x7 x8 x9 x10 x11 x12 x13 x14 x15) (k0_pay43 (k0_pay61 x0 x1 x2 x3 x4 x5 x6 x7 x8 x9 x10 x11 x12 x13 x14 x15)) (k0_pay44 (k0_pay61 x0 x1 x2 x3 x4 x5 x6 x7 x8 x9 x10 x11 x12 x13 x14 x15)) (View.ld x11 r0_5)⟩,
    ⟨r0_13, k0_pay39 (k0_pay59 x0 x1 x2 x3 x4 x5 x6 x7 x8 x9 x10 x11 x12 x13 x14 x15) (k0_pay61 x0 x1 x2 x3 x4 x5 x6 x7 x8 x9 x10 x11 x12 x13 x14 x15) (View.ld x11 r0_5)⟩,
    ⟨r0_12, k0_pay32 (k0_pay59 x0 x1 x2 x3 x4 x5 x6 x7 x8 x9 x10 x11 x12 x13 x14 x15) (k0_pay61 x0 x1 x2 x3 x4 x5 x6 x7 x8 x9 x10 x11 x12 x13 x14 x15) (View.ld x11 r0_5)⟩,
    ⟨r0_11, k0_pay28 (k0_pay59 x0 x1 x2 x3 x4 x5 x6 x7 x8 x9 x10 x11 x12 x13 x14 x15) (k0_pay26 (k0_pay61 x0 x1 x2 x3 x4 x5 x6 x7 x8 x9 x10 x11 x12 x13 x14 x15)) (k0_pay27 (k0_pay61 x0 x1 x2 x3 x4 x5 x6 x7 x8 x9 x10 x11 x12 x13 x14 x15)) (View.ld x11 r0_5)⟩,
    ⟨r0_10, k0_pay22 (k0_pay59 x0 x1 x2 x3 x4 x5 x6 x7 x8 x9 x10 x11 x12 x13 x14 x15) (k0_pay61 x0 x1 x2 x3 x4 x5 x6 x7 x8 x9 x10 x11 x12 x13 x14 x15) (View.ld x11 r0_5)⟩]

/-- Its stores tile the buffer (checked by evaluation), so they cover it. -/
theorem cover0_17 (p0 : Vec F S256x128 .bf16) (p1 : Vec F S256x128 .bf16) (p2 : Vec F S256x128 .bf16) (p3 : Vec F S256x128 .bf16) (p4 : Vec F S256x128 .bf16) (p5 : Vec F S256x128 .bf16) (y : S256x768.Idx) :
    ∃ pc ∈ ([⟨r0_15, p0⟩, ⟨r0_14, p1⟩, ⟨r0_13, p2⟩, ⟨r0_12, p3⟩, ⟨r0_11, p4⟩, ⟨r0_10, p5⟩] : List (View.Piece (Elt F) S256x768 .bf16)), y ∈ pc.1.set :=
  View.cover_of_tiled [⟨r0_15, p0⟩, ⟨r0_14, p1⟩, ⟨r0_13, p2⟩, ⟨r0_12, p3⟩, ⟨r0_11, p4⟩, ⟨r0_10, p5⟩] S256x128.size (by rfl) y

/-- Window 18's staging buffer after the body, from the input windows' blocks: its 1 store as pieces, LAST
    FIRST (Lib/Pipeline/FrameBody.lean `View.canon`; the payloads are the skeleton's and the values stated above). -/
def out0_18 (x0 : Vec F S256x1024 .f32) (x1 : Vec F S1x1x1024 .f32) (x2 : Vec F S1x1x1024 .f32) (x3 : Vec F S1x1024 .f32) (x4 : Vec F S1024x1664 .bf16) (x5 : Vec F S1x256 .f32) (x6 : Vec F S256x768 .bf16) (x7 : Vec F S1x128 .f32) (x8 : Vec F S128x768 .bf16) (x9 : Vec F S128x384 .bf16) (x10 : Vec F S1x128 .f32) (x11 : Vec F S1x128 .f32) (x12 : Vec F S1x128 .f32) (x13 : Vec F S256x128 .f32) (x14 : Vec F S256x128 .f32) (x15 : Vec F S256x128 .f32) : Vec F S256x384 .bf16 :=
  View.canon [⟨r0_17, k0_pay50 (k0_pay14 (k0_pay58 x0 x1 x2 x3 x4 x5 x6 x7 x8 x9 x10 x11 x12 x13 x14 x15)) (View.ld x9 r0_16)⟩]

/-- Its stores tile the buffer (checked by evaluation), so they cover it. -/
theorem cover0_18 (p0 : Vec F S256x384 .bf16) (y : S256x384.Idx) :
    ∃ pc ∈ ([⟨r0_17, p0⟩] : List (View.Piece (Elt F) S256x384 .bf16)), y ∈ pc.1.set :=
  View.cover_of_tiled [⟨r0_17, p0⟩] S256x384.size (by rfl) y

/-- Window 19's staging buffer after the body, from the input windows' blocks: its 1 store as pieces, LAST
    FIRST (Lib/Pipeline/FrameBody.lean `View.canon`; the payloads are the skeleton's and the values stated above). -/
def out0_19 (x0 : Vec F S256x1024 .f32) (x1 : Vec F S1x1x1024 .f32) (x2 : Vec F S1x1x1024 .f32) (x3 : Vec F S1x1024 .f32) (x4 : Vec F S1024x1664 .bf16) (x5 : Vec F S1x256 .f32) (x6 : Vec F S256x768 .bf16) (x7 : Vec F S1x128 .f32) (x8 : Vec F S128x768 .bf16) (x9 : Vec F S128x384 .bf16) (x10 : Vec F S1x128 .f32) (x11 : Vec F S1x128 .f32) (x12 : Vec F S1x128 .f32) (x13 : Vec F S256x128 .f32) (x14 : Vec F S256x128 .f32) (x15 : Vec F S256x128 .f32) : Vec F S256x128 .f32 :=
  View.canon [⟨r0_4, k0_pay10 (k0_pay53 x0 x1 x2 x3 x4 x5 x6 x7 x8 x9 x10 x11 x12 x13 x14 x15) (View.ld x7 r0_5)⟩]

/-- Its stores tile the buffer (checked by evaluation), so they cover it. -/
theorem cover0_19 (p0 : Vec F S256x128 .f32) (y : S256x128.Idx) :
    ∃ pc ∈ ([⟨r0_4, p0⟩] : List (View.Piece (Elt F) S256x128 .f32)), y ∈ pc.1.set :=
  View.cover_of_tiled [⟨r0_4, p0⟩] S256x128.size (by rfl) y

/-- Window 20's staging buffer after the body, from the input windows' blocks: its 1 store as pieces, LAST
    FIRST (Lib/Pipeline/FrameBody.lean `View.canon`; the payloads are the skeleton's and the values stated above). -/
def out0_20 (x0 : Vec F S256x1024 .f32) (x1 : Vec F S1x1x1024 .f32) (x2 : Vec F S1x1x1024 .f32) (x3 : Vec F S1x1024 .f32) (x4 : Vec F S1024x1664 .bf16) (x5 : Vec F S1x256 .f32) (x6 : Vec F S256x768 .bf16) (x7 : Vec F S1x128 .f32) (x8 : Vec F S128x768 .bf16) (x9 : Vec F S128x384 .bf16) (x10 : Vec F S1x128 .f32) (x11 : Vec F S1x128 .f32) (x12 : Vec F S1x128 .f32) (x13 : Vec F S256x128 .f32) (x14 : Vec F S256x128 .f32) (x15 : Vec F S256x128 .f32) : Vec F S256x32 .f32 :=
  View.canon [⟨r0_6, k0_pay12 (k0_pay53 x0 x1 x2 x3 x4 x5 x6 x7 x8 x9 x10 x11 x12 x13 x14 x15) (k0_pay55 x0 x1 x2 x3 x4 x5 x6 x7 x8 x9 x10 x11 x12 x13 x14 x15) (k0_pay56 x0 x1 x2 x3 x4 x5 x6 x7 x8 x9 x10 x11 x12 x13 x14 x15) (View.ld x15 r0_4) (View.ld x12 r0_5)⟩]

/-- Its stores tile the buffer (checked by evaluation), so they cover it. -/
theorem cover0_20 (p0 : Vec F S256x32 .f32) (y : S256x32.Idx) :
    ∃ pc ∈ ([⟨r0_6, p0⟩] : List (View.Piece (Elt F) S256x32 .f32)), y ∈ pc.1.set :=
  View.cover_of_tiled [⟨r0_6, p0⟩] S256x32.size (by rfl) y

/-- Window 21's staging buffer after the body, from the input windows' blocks: its 1 store as pieces, LAST
    FIRST (Lib/Pipeline/FrameBody.lean `View.canon`; the payloads are the skeleton's and the values stated above). -/
def out0_21 (x0 : Vec F S256x1024 .f32) (x1 : Vec F S1x1x1024 .f32) (x2 : Vec F S1x1x1024 .f32) (x3 : Vec F S1x1024 .f32) (x4 : Vec F S1024x1664 .bf16) (x5 : Vec F S1x256 .f32) (x6 : Vec F S256x768 .bf16) (x7 : Vec F S1x128 .f32) (x8 : Vec F S128x768 .bf16) (x9 : Vec F S128x384 .bf16) (x10 : Vec F S1x128 .f32) (x11 : Vec F S1x128 .f32) (x12 : Vec F S1x128 .f32) (x13 : Vec F S256x128 .f32) (x14 : Vec F S256x128 .f32) (x15 : Vec F S256x128 .f32) : Vec F S256x384 .f32 :=
  View.canon [⟨r0_17, k0_pay51 (k0_pay53 x0 x1 x2 x3 x4 x5 x6 x7 x8 x9 x10 x11 x12 x13 x14 x15)⟩]

/-- Its stores tile the buffer (checked by evaluation), so they cover it. -/
theorem cover0_21 (p0 : Vec F S256x384 .f32) (y : S256x384.Idx) :
    ∃ pc ∈ ([⟨r0_17, p0⟩] : List (View.Piece (Elt F) S256x384 .f32)), y ∈ pc.1.set :=
  View.cover_of_tiled [⟨r0_17, p0⟩] S256x384.size (by rfl) y

/-- Window 22's staging buffer after the body, from the input windows' blocks: its 1 store as pieces, LAST
    FIRST (Lib/Pipeline/FrameBody.lean `View.canon`; the payloads are the skeleton's and the values stated above). -/
def out0_22 (x0 : Vec F S256x1024 .f32) (x1 : Vec F S1x1x1024 .f32) (x2 : Vec F S1x1x1024 .f32) (x3 : Vec F S1x1024 .f32) (x4 : Vec F S1024x1664 .bf16) (x5 : Vec F S1x256 .f32) (x6 : Vec F S256x768 .bf16) (x7 : Vec F S1x128 .f32) (x8 : Vec F S128x768 .bf16) (x9 : Vec F S128x384 .bf16) (x10 : Vec F S1x128 .f32) (x11 : Vec F S1x128 .f32) (x12 : Vec F S1x128 .f32) (x13 : Vec F S256x128 .f32) (x14 : Vec F S256x128 .f32) (x15 : Vec F S256x128 .f32) : Vec F S256x256 .bf16 :=
  View.canon [⟨r0_18, k0_pay52 (k0_pay53 x0 x1 x2 x3 x4 x5 x6 x7 x8 x9 x10 x11 x12 x13 x14 x15)⟩]

/-- Its stores tile the buffer (checked by evaluation), so they cover it. -/
theorem cover0_22 (p0 : Vec F S256x256 .bf16) (y : S256x256.Idx) :
    ∃ pc ∈ ([⟨r0_18, p0⟩] : List (View.Piece (Elt F) S256x256 .bf16)), y ∈ pc.1.set :=
  View.cover_of_tiled [⟨r0_18, p0⟩] S256x256.size (by rfl) y

/-- Window 23's staging buffer after the body, from the input windows' blocks: its 1 store as pieces, LAST
    FIRST (Lib/Pipeline/FrameBody.lean `View.canon`; the payloads are the skeleton's and the values stated above). -/
def out0_23 (x0 : Vec F S256x1024 .f32) (x1 : Vec F S1x1x1024 .f32) (x2 : Vec F S1x1x1024 .f32) (x3 : Vec F S1x1024 .f32) (x4 : Vec F S1024x1664 .bf16) (x5 : Vec F S1x256 .f32) (x6 : Vec F S256x768 .bf16) (x7 : Vec F S1x128 .f32) (x8 : Vec F S128x768 .bf16) (x9 : Vec F S128x384 .bf16) (x10 : Vec F S1x128 .f32) (x11 : Vec F S1x128 .f32) (x12 : Vec F S1x128 .f32) (x13 : Vec F S256x128 .f32) (x14 : Vec F S256x128 .f32) (x15 : Vec F S256x128 .f32) : Vec F S256x256 .bf16 :=
  View.canon [⟨r0_18, k0_pay3 (k0_pay53 x0 x1 x2 x3 x4 x5 x6 x7 x8 x9 x10 x11 x12 x13 x14 x15)⟩]

/-- Its stores tile the buffer (checked by evaluation), so they cover it. -/
theorem cover0_23 (p0 : Vec F S256x256 .bf16) (y : S256x256.Idx) :
    ∃ pc ∈ ([⟨r0_18, p0⟩] : List (View.Piece (Elt F) S256x256 .bf16)), y ∈ pc.1.set :=
  View.cover_of_tiled [⟨r0_18, p0⟩] S256x256.size (by rfl) y

/-- Window 24's staging buffer after the body, from the input windows' blocks: its 1 store as pieces, LAST
    FIRST (Lib/Pipeline/FrameBody.lean `View.canon`; the payloads are the skeleton's and the values stated above). -/
def out0_24 (x0 : Vec F S256x1024 .f32) (x1 : Vec F S1x1x1024 .f32) (x2 : Vec F S1x1x1024 .f32) (x3 : Vec F S1x1024 .f32) (x4 : Vec F S1024x1664 .bf16) (x5 : Vec F S1x256 .f32) (x6 : Vec F S256x768 .bf16) (x7 : Vec F S1x128 .f32) (x8 : Vec F S128x768 .bf16) (x9 : Vec F S128x384 .bf16) (x10 : Vec F S1x128 .f32) (x11 : Vec F S1x128 .f32) (x12 : Vec F S1x128 .f32) (x13 : Vec F S256x128 .f32) (x14 : Vec F S256x128 .f32) (x15 : Vec F S256x128 .f32) : Vec F S256x256 .bf16 :=
  View.canon [⟨r0_18, k0_pay4 (k0_pay53 x0 x1 x2 x3 x4 x5 x6 x7 x8 x9 x10 x11 x12 x13 x14 x15)⟩]

/-- Its stores tile the buffer (checked by evaluation), so they cover it. -/
theorem cover0_24 (p0 : Vec F S256x256 .bf16) (y : S256x256.Idx) :
    ∃ pc ∈ ([⟨r0_18, p0⟩] : List (View.Piece (Elt F) S256x256 .bf16)), y ∈ pc.1.set :=
  View.cover_of_tiled [⟨r0_18, p0⟩] S256x256.size (by rfl) y

/-- Window 25's staging buffer after the body, from the input windows' blocks: its 1 store as pieces, LAST
    FIRST (Lib/Pipeline/FrameBody.lean `View.canon`; the payloads are the skeleton's and the values stated above). -/
def out0_25 (x0 : Vec F S256x1024 .f32) (x1 : Vec F S1x1x1024 .f32) (x2 : Vec F S1x1x1024 .f32) (x3 : Vec F S1x1024 .f32) (x4 : Vec F S1024x1664 .bf16) (x5 : Vec F S1x256 .f32) (x6 : Vec F S256x768 .bf16) (x7 : Vec F S1x128 .f32) (x8 : Vec F S128x768 .bf16) (x9 : Vec F S128x384 .bf16) (x10 : Vec F S1x128 .f32) (x11 : Vec F S1x128 .f32) (x12 : Vec F S1x128 .f32) (x13 : Vec F S256x128 .f32) (x14 : Vec F S256x128 .f32) (x15 : Vec F S256x128 .f32) : Vec F S256x256 .f32 :=
  View.canon [⟨r0_18, k0_pay1 (k0_pay53 x0 x1 x2 x3 x4 x5 x6 x7 x8 x9 x10 x11 x12 x13 x14 x15)⟩]

/-- Its stores tile the buffer (checked by evaluation), so they cover it. -/
theorem cover0_25 (p0 : Vec F S256x256 .f32) (y : S256x256.Idx) :
    ∃ pc ∈ ([⟨r0_18, p0⟩] : List (View.Piece (Elt F) S256x256 .f32)), y ∈ pc.1.set :=
  View.cover_of_tiled [⟨r0_18, p0⟩] S256x256.size (by rfl) y

/-- Window 26's staging buffer after the body, from the input windows' blocks: its 1 store as pieces, LAST
    FIRST (Lib/Pipeline/FrameBody.lean `View.canon`; the payloads are the skeleton's and the values stated above). -/
def out0_26 (x0 : Vec F S256x1024 .f32) (x1 : Vec F S1x1x1024 .f32) (x2 : Vec F S1x1x1024 .f32) (x3 : Vec F S1x1024 .f32) (x4 : Vec F S1024x1664 .bf16) (x5 : Vec F S1x256 .f32) (x6 : Vec F S256x768 .bf16) (x7 : Vec F S1x128 .f32) (x8 : Vec F S128x768 .bf16) (x9 : Vec F S128x384 .bf16) (x10 : Vec F S1x128 .f32) (x11 : Vec F S1x128 .f32) (x12 : Vec F S1x128 .f32) (x13 : Vec F S256x128 .f32) (x14 : Vec F S256x128 .f32) (x15 : Vec F S256x128 .f32) : Vec F S256x256 .f32 :=
  View.canon [⟨r0_18, k0_pay2 (k0_pay53 x0 x1 x2 x3 x4 x5 x6 x7 x8 x9 x10 x11 x12 x13 x14 x15)⟩]

/-- Its stores tile the buffer (checked by evaluation), so they cover it. -/
theorem cover0_26 (p0 : Vec F S256x256 .f32) (y : S256x256.Idx) :
    ∃ pc ∈ ([⟨r0_18, p0⟩] : List (View.Piece (Elt F) S256x256 .f32)), y ∈ pc.1.set :=
  View.cover_of_tiled [⟨r0_18, p0⟩] S256x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S256x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1664 .bf16) (harg6 : arg6.IsWhole) (arg7 : Memref sig .tc .vmem S1x256 .f32) (harg7 : arg7.IsWhole) (arg8 : Memref sig .tc .vmem S256x768 .bf16) (harg8 : arg8.IsWhole) (arg9 : Memref sig .tc .vmem S1x128 .f32) (harg9 : arg9.IsWhole) (arg10 : Memref sig .tc .vmem S128x768 .bf16) (harg10 : arg10.IsWhole) (arg11 : Memref sig .tc .vmem S128x384 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x768 .bf16) (harg18 : arg18.IsWhole) (arg19 : Memref sig .tc .vmem S256x768 .bf16) (harg19 : arg19.IsWhole) (arg20 : Memref sig .tc .vmem S256x384 .bf16) (harg20 : arg20.IsWhole) (arg21 : Memref sig .tc .vmem S256x128 .f32) (harg21 : arg21.IsWhole) (arg22 : Memref sig .tc .vmem S256x32 .f32) (harg22 : arg22.IsWhole) (arg23 : Memref sig .tc .vmem S256x384 .f32) (harg23 : arg23.IsWhole) (arg24 : Memref sig .tc .vmem S256x256 .bf16) (harg24 : arg24.IsWhole) (arg25 : Memref sig .tc .vmem S256x256 .bf16) (harg25 : arg25.IsWhole) (arg26 : Memref sig .tc .vmem S256x256 .bf16) (harg26 : arg26.IsWhole) (arg27 : Memref sig .tc .vmem S256x256 .f32) (harg27 : arg27.IsWhole) (arg28 : Memref sig .tc .vmem S256x256 .f32) (harg28 : arg28.IsWhole)
    (x0 : Vec F S256x1024 .f32) (x1 : Vec F S1x1x1024 .f32) (x2 : Vec F S1x1x1024 .f32) (x3 : Vec F S1x1024 .f32) (x4 : Vec F S1024x1664 .bf16) (x5 : Vec F S1x256 .f32) (x6 : Vec F S256x768 .bf16) (x7 : Vec F S1x128 .f32) (x8 : Vec F S128x768 .bf16) (x9 : Vec F S128x384 .bf16) (x10 : Vec F S1x128 .f32) (x11 : Vec F S1x128 .f32) (x12 : Vec F S1x128 .f32) (x13 : Vec F S256x128 .f32) (x14 : Vec F S256x128 .f32) (x15 : Vec F S256x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (out0_16 x0 x1 x2 x3 x4 x5 x6 x7 x8 x9 x10 x11 x12 x13 x14 x15) ∗ owns (c : Thread nD τ) arg19 fullShare (out0_17 x0 x1 x2 x3 x4 x5 x6 x7 x8 x9 x10 x11 x12 x13 x14 x15) ∗ owns (c : Thread nD τ) arg20 fullShare (out0_18 x0 x1 x2 x3 x4 x5 x6 x7 x8 x9 x10 x11 x12 x13 x14 x15) ∗ owns (c : Thread nD τ) arg21 fullShare (out0_19 x0 x1 x2 x3 x4 x5 x6 x7 x8 x9 x10 x11 x12 x13 x14 x15) ∗ owns (c : Thread nD τ) arg22 fullShare (out0_20 x0 x1 x2 x3 x4 x5 x6 x7 x8 x9 x10 x11 x12 x13 x14 x15) ∗ owns (c : Thread nD τ) arg23 fullShare (out0_21 x0 x1 x2 x3 x4 x5 x6 x7 x8 x9 x10 x11 x12 x13 x14 x15) ∗ owns (c : Thread nD τ) arg24 fullShare (out0_22 x0 x1 x2 x3 x4 x5 x6 x7 x8 x9 x10 x11 x12 x13 x14 x15) ∗ owns (c : Thread nD τ) arg25 fullShare (out0_23 x0 x1 x2 x3 x4 x5 x6 x7 x8 x9 x10 x11 x12 x13 x14 x15) ∗ owns (c : Thread nD τ) arg26 fullShare (out0_24 x0 x1 x2 x3 x4 x5 x6 x7 x8 x9 x10 x11 x12 x13 x14 x15) ∗ owns (c : Thread nD τ) arg27 fullShare (out0_25 x0 x1 x2 x3 x4 x5 x6 x7 x8 x9 x10 x11 x12 x13 x14 x15) ∗ owns (c : Thread nD τ) arg28 fullShare (out0_26 x0 x1 x2 x3 x4 x5 x6 x7 x8 x9 x10 x11 x12 x13 x14 x15)) -∗ K ⟨⟩))
      ⊢ wp frame (wpE (defs₀ (F := F)) Variants.none c none) E (cc0__proj_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0__proj_body_eq_skeleton]; unfold cc0__proj_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (View.read_writes_eq_canon _ _ _ (cover0_16 _ _ _ _ _ _)).trans ?_
    rfl
  isplitl [H17]
  · iexists _; isplitr
    swap; · iexact H17
    ipureintro
    refine (View.read_writes_eq_canon _ _ _ (cover0_17 _ _ _ _ _ _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  iexists _; isplitr
  swap; · iexact H26
  ipureintro
  refine (View.read_writes_eq_canon _ _ _ (cover0_26 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 27, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- THE FRAME: `Cert.quiescent_ProjKernelIdeal`'s statement (Defs.lean) at any `F` — Proof.lean cites it at `Bits`:
    `theorem Cert.Proof.claim : Cert.Claim := ⟨Cert.ProjKernelIdeal.Gen.facts, fun m ρ _ => Cert.ProjKernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.ProjKernelIdeal.Gen

end
-- ==== Proof.Proj.Same.lean ====
/- The projections' kernel and its idealized form are the same program where no operation is rewritten, so that the
   frame proved for the one at any format is the frame of the other. -/
module

public import proofs.«01_k».proof.Defs
public import proofs.«01_k».proof.Proof.Gen.ProjKernel
public import proofs.«01_k».proof.Proof.Proj.KI.Frame

@[expose] public section

set_option maxRecDepth 65536

noncomputable section

namespace Cert.Proj

open Idealize.ShloMosaic Idealize.SL.Sem

set_option maxHeartbeats 4000000 in
/-- The two kernels' bodies are the same at every label. -/
theorem defs₀_eq : @Cert.ProjKernel.defs₀ Bits _ Cert.ProjKernel.Gen.facts = @Cert.ProjKernelIdeal.defs₀ Bits _ Cert.ProjKernelIdeal.Gen.facts := by
  unfold Cert.ProjKernel.defs₀ Cert.ProjKernelIdeal.defs₀
  refine congrArg Defs.onTc ?_
  funext l a
  match l, a with
  | 0, (t, s) => rfl

set_option maxHeartbeats 4000000 in
/-- The two programs' body tables are the same. -/
theorem defs_eq : @Cert.ProjKernel.defs Bits _ Cert.ProjKernel.Gen.facts = @Cert.ProjKernelIdeal.defs Bits _ Cert.ProjKernelIdeal.Gen.facts := by
  unfold Cert.ProjKernel.defs Cert.ProjKernelIdeal.defs
  exact congrArg (Pipeline.defs _) defs₀_eq

set_option maxHeartbeats 4000000 in
/-- The frame of the kernel, which is the frame of the idealized one at machine numbers. -/
theorem frame : Cert.quiescent_ProjKernel (hProjKernel := Cert.ProjKernel.Gen.facts) := by
  intro m g _
  have h := Cert.ProjKernelIdeal.Gen.frame (F := Bits) m g
  have h2 := Eq.mpr (congrArg (fun D => θ_run D (onTc (τ := Cert.ProjKernelIdeal.τ) (Cert.ProjKernelIdeal.main (F := Bits))) ⟨m, fun _ => 0, g⟩ _) defs_eq) h
  exact h2

end Cert.Proj

end
-- ==== Proof.Proj.KI.Value.lean ====
/- What each grid point writes back, and the run with the arrays named. -/
module

public import proofs.«01_k».proof.Proof.Proj.KI.Frame
public import Idealize.ShloMosaic.Lib.Pipeline.Value

@[expose] public section

noncomputable section

namespace Cert.ProjKernelIdeal.Value

open Cert.ProjKernelIdeal Cert.ProjKernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 16's array: the body's result for that window (`Gen.out0_16`: its stores
    as pieces over the input windows' blocks), read through the window's block. -/
theorem flushed16 (c : Dev nD) (t : Fin cfg0.N) :
    (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 16).cut (grid0.coords t) ((dats m 0 c).after 16 t) = _
  rw [after0_16]

/-- WHAT POINT `t` WRITES BACK to output window 17's array: the body's result for that window (`Gen.out0_17`: its stores
    as pieces over the input windows' blocks), read through the window's block. -/
theorem flushed17 (c : Dev nD) (t : Fin cfg0.N) :
    (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 17).cut (grid0.coords t) ((dats m 0 c).after 17 t) = _
  rw [after0_17]

/-- WHAT POINT `t` WRITES BACK to output window 18's array: the body's result for that window (`Gen.out0_18`: its stores
    as pieces over the input windows' blocks), read through the window's block. -/
theorem flushed18 (c : Dev nD) (t : Fin cfg0.N) :
    (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 18).cut (grid0.coords t) ((dats m 0 c).after 18 t) = _
  rw [after0_18]

/-- WHAT POINT `t` WRITES BACK to output window 19's array: the body's result for that window (`Gen.out0_19`: its stores
    as pieces over the input windows' blocks), read through the window's block. -/
theorem flushed19 (c : Dev nD) (t : Fin cfg0.N) :
    (dats m 0 c).flushed 19 t = (cfg0.win 19).cut (grid0.coords t) (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 19).cut (grid0.coords t) ((dats m 0 c).after 19 t) = _
  rw [after0_19]

/-- WHAT POINT `t` WRITES BACK to output window 20's array: the body's result for that window (`Gen.out0_20`: its stores
    as pieces over the input windows' blocks), read through the window's block. -/
theorem flushed20 (c : Dev nD) (t : Fin cfg0.N) :
    (dats m 0 c).flushed 20 t = (cfg0.win 20).cut (grid0.coords t) (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 20).cut (grid0.coords t) ((dats m 0 c).after 20 t) = _
  rw [after0_20]

/-- WHAT POINT `t` WRITES BACK to output window 21's array: the body's result for that window (`Gen.out0_21`: its stores
    as pieces over the input windows' blocks), read through the window's block. -/
theorem flushed21 (c : Dev nD) (t : Fin cfg0.N) :
    (dats m 0 c).flushed 21 t = (cfg0.win 21).cut (grid0.coords t) (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 21).cut (grid0.coords t) ((dats m 0 c).after 21 t) = _
  rw [after0_21]

/-- WHAT POINT `t` WRITES BACK to output window 22's array: the body's result for that window (`Gen.out0_22`: its stores
    as pieces over the input windows' blocks), read through the window's block. -/
theorem flushed22 (c : Dev nD) (t : Fin cfg0.N) :
    (dats m 0 c).flushed 22 t = (cfg0.win 22).cut (grid0.coords t) (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 22).cut (grid0.coords t) ((dats m 0 c).after 22 t) = _
  rw [after0_22]

/-- WHAT POINT `t` WRITES BACK to output window 23's array: the body's result for that window (`Gen.out0_23`: its stores
    as pieces over the input windows' blocks), read through the window's block. -/
theorem flushed23 (c : Dev nD) (t : Fin cfg0.N) :
    (dats m 0 c).flushed 23 t = (cfg0.win 23).cut (grid0.coords t) (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 23).cut (grid0.coords t) ((dats m 0 c).after 23 t) = _
  rw [after0_23]

/-- WHAT POINT `t` WRITES BACK to output window 24's array: the body's result for that window (`Gen.out0_24`: its stores
    as pieces over the input windows' blocks), read through the window's block. -/
theorem flushed24 (c : Dev nD) (t : Fin cfg0.N) :
    (dats m 0 c).flushed 24 t = (cfg0.win 24).cut (grid0.coords t) (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 24).cut (grid0.coords t) ((dats m 0 c).after 24 t) = _
  rw [after0_24]

/-- WHAT POINT `t` WRITES BACK to output window 25's array: the body's result for that window (`Gen.out0_25`: its stores
    as pieces over the input windows' blocks), read through the window's block. -/
theorem flushed25 (c : Dev nD) (t : Fin cfg0.N) :
    (dats m 0 c).flushed 25 t = (cfg0.win 25).cut (grid0.coords t) (out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 25).cut (grid0.coords t) ((dats m 0 c).after 25 t) = _
  rw [after0_25]

/-- WHAT POINT `t` WRITES BACK to output window 26's array: the body's result for that window (`Gen.out0_26`: its stores
    as pieces over the input windows' blocks), read through the window's block. -/
theorem flushed26 (c : Dev nD) (t : Fin cfg0.N) :
    (dats m 0 c).flushed 26 t = (cfg0.win 26).cut (grid0.coords t) (out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 26).cut (grid0.coords t) ((dats m 0 c).after 26 t) = _
  rw [after0_26]

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v50_0) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v50_1) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v50_2) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v50_3) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v50_4) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v50_5) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v50_6) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v50_7) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v50_8) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v50_9) = (dats m 0 c).arrAt 25 cfg0.N :=
  (h c).1 25

/-- After the frame run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v50_10) = (dats m 0 c).arrAt 26 cfg0.N :=
  (h c).1 26

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

set_option maxHeartbeats 2000000 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v50_0) = (dats m 0 c).arrAt 16 cfg0.N
      ∧ r.2.mem ((c : Thread nD τ).loc main_v50_1) = (dats m 0 c).arrAt 17 cfg0.N
      ∧ r.2.mem ((c : Thread nD τ).loc main_v50_2) = (dats m 0 c).arrAt 18 cfg0.N
      ∧ r.2.mem ((c : Thread nD τ).loc main_v50_3) = (dats m 0 c).arrAt 19 cfg0.N
      ∧ r.2.mem ((c : Thread nD τ).loc main_v50_4) = (dats m 0 c).arrAt 20 cfg0.N
      ∧ r.2.mem ((c : Thread nD τ).loc main_v50_5) = (dats m 0 c).arrAt 21 cfg0.N
      ∧ r.2.mem ((c : Thread nD τ).loc main_v50_6) = (dats m 0 c).arrAt 22 cfg0.N
      ∧ r.2.mem ((c : Thread nD τ).loc main_v50_7) = (dats m 0 c).arrAt 23 cfg0.N
      ∧ r.2.mem ((c : Thread nD τ).loc main_v50_8) = (dats m 0 c).arrAt 24 cfg0.N
      ∧ r.2.mem ((c : Thread nD τ).loc main_v50_9) = (dats m 0 c).arrAt 25 cfg0.N
      ∧ r.2.mem ((c : Thread nD τ).loc main_v50_10) = (dats m 0 c).arrAt 26 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨post16 m r h c,
      post17 m r h c,
      post18 m r h c,
      post19 m r h c,
      post20 m r h c,
      post21 m r h c,
      post22 m r h c,
      post23 m r h c,
      post24 m r h c,
      post25 m r h c,
      post26 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c⟩)
    (run_main m ρ)

end Cert.ProjKernelIdeal.Value

end
-- ==== Proof.Proj.Spec.lean ====
module

public import Idealize.ShloMosaic.PureOps
public import Idealize.ShloMosaic.PureOps.Ideal
public import Idealize.ShloMosaic.Lib.Pointwise

/-! The projections of one token, from its row of the joint product, and the laws that take the padded lanes off. -/

@[expose] public section

noncomputable section

namespace Cert.Proj

open Idealize.ShloMosaic

/-- A number given by its bits. -/
abbrev lit (w : BitVec 32) : EReal := Ideal.ofBits .f32 w

/-- The constant added under every root. -/
abbrev eps : EReal := lit 0x358637BD#32

/-- A row over the root of its mean square, with a gain. -/
def rms {n : ℕ} (N : BitVec 32) (v g : Fin n → EReal) (i : Fin n) : EReal :=
  v i * Ideal.rsqrt (Ideal.div (∑ k, v k * v k) (lit N) + eps) * g i

/-- The rotation of 32 numbers, in two halves. -/
def rope (k : Fin 32 → EReal) (c s : Fin 16 → EReal) (l : Fin 32) : EReal :=
  if h : l.val < 16 then k ⟨l.val, by omega⟩ * c ⟨l.val, h⟩ - k ⟨16 + l.val, by omega⟩ * s ⟨l.val, h⟩
  else k ⟨l.val - 16, by omega⟩ * s ⟨l.val - 16, by omega⟩ + k ⟨l.val, l.isLt⟩ * c ⟨l.val - 16, by omega⟩

/-- The token's row, normalised and modulated. -/
def hid (x g sc sh : Fin 1024 → EReal) (d : Fin 1024) : EReal :=
  rms 0x44800000#32 x g d * (1 + sc d) + sh d

/-- The compressed keys and values. -/
def ckv (Z : Fin 1568 → EReal) (g : Fin 128 → EReal) : Fin 128 → EReal :=
  rms 0x43000000#32 (fun l : Fin 128 => Z ⟨256 + l.val, by omega⟩) g

/-- The rotary key. -/
def kpe (Z : Fin 1568 → EReal) (g : Fin 32 → EReal) (c s : Fin 16 → EReal) : Fin 32 → EReal :=
  rope (rms 0x42000000#32 (fun l : Fin 32 => Z ⟨384 + l.val, by omega⟩) g) c s

/-- The queries' product. -/
def qa (Z : Fin 1568 → EReal) (g : Fin 256 → EReal) (w : Fin 256 → Fin 576 → EReal) (n : Fin 576) : EReal :=
  ∑ k : Fin 256, rms 0x43800000#32 (fun l : Fin 256 => Z ⟨l.val, by omega⟩) g k * w k n

/-- The queries, a head of 64, 32 rotary and 32 zero lanes. -/
def qv (A : Fin 576 → EReal) (gn : Fin 64 → EReal) (gr : Fin 32 → EReal) (c s : Fin 16 → EReal) (h : Fin 6) (l : Fin 128) : EReal :=
  if h1 : l.val < 64 then rms 0x42800000#32 (fun x : Fin 64 => A ⟨h.val * 96 + x.val, by omega⟩) gn ⟨l.val, h1⟩
  else if h2 : l.val - 64 < 32 then rope (rms 0x42000000#32 (fun x : Fin 32 => A ⟨h.val * 96 + (64 + x.val), by omega⟩) gr) c s ⟨l.val - 64, h2⟩
  else 0

/-- The keys, a head of 64, 32 rotary and 32 zero lanes. -/
def kv (A : Fin 384 → EReal) (gn : Fin 64 → EReal) (P : Fin 32 → EReal) (h : Fin 6) (l : Fin 128) : EReal :=
  if h1 : l.val < 64 then rms 0x42800000#32 (fun x : Fin 64 => A ⟨h.val * 64 + x.val, by omega⟩) gn ⟨l.val, h1⟩
  else if h2 : l.val - 64 < 32 then P ⟨l.val - 64, h2⟩
  else 0

/-! ## Laws -/

theorem lit_zero : lit 0x00000000#32 = 0 := by simp [lit, Ideal.ofBits, Ideal.ieee]
theorem lit_one : lit 0x3F800000#32 = 1 := by
  simp [lit, Ideal.ofBits, Ideal.ieee]
  rw [← EReal.coe_mul, ← EReal.coe_one]
  congr 1
  norm_num
theorem lit_64 : lit 0x42800000#32 = ((64 : ℝ) : EReal) := by
  simp [lit, Ideal.ofBits, Ideal.ieee]
  rw [← EReal.coe_mul]
  congr 1
  norm_num
theorem lit_32 : lit 0x42000000#32 = ((32 : ℝ) : EReal) := by
  simp [lit, Ideal.ofBits, Ideal.ieee]
  rw [← EReal.coe_mul]
  congr 1
  norm_num
theorem lit_64th : lit 0x3C800000#32 = ((64⁻¹ : ℝ) : EReal) := by
  simp [lit, Ideal.ofBits, Ideal.ieee]
  rw [← EReal.coe_mul]
  congr 1
  norm_num
theorem lit_32nd : lit 0x3D000000#32 = ((32⁻¹ : ℝ) : EReal) := by
  simp [lit, Ideal.ofBits, Ideal.ieee]
  rw [← EReal.coe_mul]
  congr 1
  norm_num

theorem div_64 (a : EReal) : Ideal.div a (lit 0x42800000#32) = a * lit 0x3C800000#32 := by
  rw [lit_64, lit_64th, Ideal.div, if_neg (by norm_num), ← EReal.coe_inv]
theorem div_32 (a : EReal) : Ideal.div a (lit 0x42000000#32) = a * lit 0x3D000000#32 := by
  rw [lit_32, lit_32nd, Ideal.div, if_neg (by norm_num), ← EReal.coe_inv]

theorem sum_split (f : Fin 128 → EReal) : ∑ x : Fin 128, f x = (∑ d : Fin 64, f ⟨d.val, by omega⟩) + ∑ d : Fin 64, f ⟨64 + d.val, by omega⟩ :=
  Fin.sum_univ_add (a := 64) (b := 64) f
theorem sum_split' (f : Fin 64 → EReal) : ∑ x : Fin 64, f x = (∑ d : Fin 32, f ⟨d.val, by omega⟩) + ∑ d : Fin 32, f ⟨32 + d.val, by omega⟩ :=
  Fin.sum_univ_add (a := 32) (b := 32) f

/-- Lanes that are zero from 64 on: the sum is over the first 64. -/
theorem sum_low (f : Fin 128 → EReal) (h : ∀ x : Fin 128, 64 ≤ x.val → f x = 0) :
    ∑ x : Fin 128, f x = ∑ d : Fin 64, f ⟨d.val, by omega⟩ := by
  rw [sum_split, Finset.sum_eq_zero (s := Finset.univ) (f := fun d : Fin 64 => f ⟨64 + d.val, by omega⟩) (fun d _ => h _ (Nat.le_add_right _ _)), add_zero]

/-- Lanes that are zero outside the 32 after the first 64. -/
theorem sum_mid (f : Fin 128 → EReal) (h0 : ∀ x : Fin 128, x.val < 64 → f x = 0) (h1 : ∀ x : Fin 128, 96 ≤ x.val → f x = 0) :
    ∑ x : Fin 128, f x = ∑ d : Fin 32, f ⟨64 + d.val, by omega⟩ := by
  rw [sum_split, Finset.sum_eq_zero (s := Finset.univ) (f := fun d : Fin 64 => f ⟨d.val, by omega⟩) (fun d _ => h0 _ d.isLt), zero_add, sum_split',
    Finset.sum_eq_zero (s := Finset.univ) (f := fun d : Fin 32 => f ⟨64 + (32 + d.val), by omega⟩) (fun d _ => h1 _ (by show 96 ≤ 64 + (32 + d.val); omega)), add_zero]

/-- The tables of the rotation over 128 lanes. -/
def tcos (c : Fin 16 → EReal) (l : Fin 128) : EReal :=
  if l.val < 64 then 1 else if h : l.val - 64 < 16 then c ⟨l.val - 64, h⟩ else if h : l.val - 64 - 16 < 16 then c ⟨l.val - 64 - 16, h⟩ else 0
def tsa (s : Fin 16 → EReal) (l : Fin 128) : EReal :=
  if l.val < 64 then 0 else if h : l.val - 64 < 16 then - s ⟨l.val - 64, h⟩ else 0
def tsb (s : Fin 16 → EReal) (l : Fin 128) : EReal :=
  if l.val < 64 then 0 else if h : l.val - 64 < 16 then 0 else if h : l.val - 64 - 16 < 16 then s ⟨l.val - 64 - 16, h⟩ else 0

/-- The rotation over 128 lanes. -/
def rot (y cs sa sb : Fin 128 → EReal) (l : Fin 128) : EReal :=
  y l * cs l + y ⟨(l.val + 16) % 128, by omega⟩ * sa l + y ⟨(l.val + 112) % 128, by omega⟩ * sb l

theorem rot_eq (y : Fin 128 → EReal) (k : Fin 32 → EReal) (c s : Fin 16 → EReal) (hk : ∀ i : Fin 32, y ⟨64 + i.val, by omega⟩ = k i) (l : Fin 128) :
    rot y (tcos c) (tsa s) (tsb s) l = if l.val < 64 then y l else if h : l.val - 64 < 32 then rope k c s ⟨l.val - 64, h⟩ else 0 := by
  have hl := l.isLt
  have hy : ∀ (a : ℕ) (ha : a < 128) (i : ℕ) (hi : i < 32), a = 64 + i → y ⟨a, ha⟩ = k ⟨i, hi⟩ := fun a ha i hi e => by
    subst e; exact hk ⟨i, hi⟩
  unfold rot tcos tsa tsb
  by_cases h1 : l.val < 64
  · rw [if_pos h1, if_pos h1, if_pos h1, if_pos h1, mul_one, mul_zero, mul_zero, add_zero, add_zero]
  rw [if_neg h1, if_neg h1, if_neg h1, if_neg h1]
  by_cases h2 : l.val - 64 < 16
  · rw [dif_pos h2, dif_pos h2, dif_pos h2, dif_pos (by omega), mul_zero, add_zero, mul_neg, rope, dif_pos h2,
      show y l = k ⟨l.val - 64, by omega⟩ from hy l.val hl _ _ (by omega),
      hy ((l.val + 16) % 128) (by omega) (16 + (l.val - 64)) (by omega) (by omega), sub_eq_add_neg]
  rw [dif_neg h2, dif_neg h2, dif_neg h2]
  by_cases h3 : l.val - 64 - 16 < 16
  · rw [dif_pos h3, dif_pos h3, dif_pos (by omega), mul_zero, add_zero, rope, dif_neg h2,
      show y l = k ⟨l.val - 64, by omega⟩ from hy l.val hl _ _ (by omega),
      hy ((l.val + 112) % 128) (by omega) (l.val - 64 - 16) (by omega) (by omega), add_comm]
  · rw [dif_neg h3, dif_neg h3, dif_neg (by omega), mul_zero, mul_zero, mul_zero, add_zero, add_zero]

/-- A head of the queries as its 128 lanes are computed. -/
def qlane (a g : Fin 128 → EReal) (l : Fin 128) : EReal :=
  a l * (if l.val < 64 then Ideal.rsqrt ((∑ x : Fin 128, if x.val < 64 then a x * a x else 0) * lit 0x3C800000#32 + eps)
    else Ideal.rsqrt ((∑ x : Fin 128, if x.val < 64 then 0 else a x * a x) * lit 0x3D000000#32 + eps)) * g l

theorem qlane_low (a g : Fin 128 → EReal) (v gn : Fin 64 → EReal) (hv : ∀ i : Fin 64, a ⟨i.val, by omega⟩ = v i) (hg : ∀ i : Fin 64, g ⟨i.val, by omega⟩ = gn i)
    (l : Fin 128) (h : l.val < 64) : qlane a g l = rms 0x42800000#32 v gn ⟨l.val, h⟩ := by
  unfold qlane rms
  rw [if_pos h, div_64, sum_low _ (fun x hx => if_neg (by omega)), ← hv ⟨l.val, h⟩, ← hg ⟨l.val, h⟩]
  have e : (∑ d : Fin 64, if d.val < 64 then a ⟨d.val, by omega⟩ * a ⟨d.val, by omega⟩ else 0) = ∑ k, v k * v k :=
    Finset.sum_congr rfl (fun d _ => by rw [if_pos d.isLt, hv d])
  rw [e]

theorem qlane_mid (a g : Fin 128 → EReal) (v gr : Fin 32 → EReal) (hv : ∀ i : Fin 32, a ⟨64 + i.val, by omega⟩ = v i) (hg : ∀ i : Fin 32, g ⟨64 + i.val, by omega⟩ = gr i)
    (h0 : ∀ x : Fin 128, 96 ≤ x.val → a x = 0)
    (i : Fin 32) : qlane a g ⟨64 + i.val, by omega⟩ = rms 0x42000000#32 v gr i := by
  unfold qlane rms
  rw [if_neg (by show ¬ 64 + i.val < 64; omega), div_32, sum_mid _ (fun x hx => if_pos hx) (fun x hx => by rw [if_neg (by omega), h0 x hx, zero_mul]), hv i, hg i]
  have e : (∑ d : Fin 32, if 64 + d.val < 64 then (0 : EReal) else a ⟨64 + d.val, by omega⟩ * a ⟨64 + d.val, by omega⟩) = ∑ k, v k * v k :=
    Finset.sum_congr rfl (fun d _ => by rw [if_neg (by omega), hv d])
  rw [e]

/-- A head of the queries: the padded lanes are the head's own. -/
theorem qhead_eq (a g : Fin 128 → EReal) (A : Fin 576 → EReal) (gn : Fin 64 → EReal) (gr : Fin 32 → EReal) (c s : Fin 16 → EReal) (h : Fin 6)
    (ha : ∀ l : Fin 128, a l = if hl : l.val < 96 then A ⟨h.val * 96 + l.val, by omega⟩ else 0)
    (hg0 : ∀ i : Fin 64, g ⟨i.val, by omega⟩ = gn i) (hg1 : ∀ i : Fin 32, g ⟨64 + i.val, by omega⟩ = gr i) (l : Fin 128) :
    rot (qlane a g) (tcos c) (tsa s) (tsb s) l = qv A gn gr c s h l := by
  rw [rot_eq (qlane a g) (rms 0x42000000#32 (fun x : Fin 32 => A ⟨h.val * 96 + (64 + x.val), by omega⟩) gr) c s
    (qlane_mid a g _ gr (fun i => by rw [ha, dif_pos (by show 64 + i.val < 96; omega)]) hg1 (fun x hx => by rw [ha, dif_neg (by omega)]))]
  unfold qv
  by_cases h1 : l.val < 64
  · rw [if_pos h1, dif_pos h1, qlane_low a g _ gn (fun i => by rw [ha, dif_pos (by show i.val < 96; omega)]) hg0 l h1]
  · rw [if_neg h1, dif_neg h1]

/-- A head of the keys as its 128 lanes are computed. -/
def klane (a g : Fin 128 → EReal) (l : Fin 128) : EReal :=
  a l * Ideal.rsqrt ((∑ x : Fin 128, a x * a x) * lit 0x3C800000#32 + eps) * g l

theorem khead_eq (a g kr : Fin 128 → EReal) (A : Fin 384 → EReal) (gn : Fin 64 → EReal) (P : Fin 32 → EReal) (h : Fin 6)
    (ha : ∀ l : Fin 128, a l = if hl : l.val < 64 then A ⟨h.val * 64 + l.val, by omega⟩ else 0)
    (hg0 : ∀ i : Fin 64, g ⟨i.val, by omega⟩ = gn i)
    (hkr : ∀ l : Fin 128, kr l = if l.val < 64 then 0 else if hl : l.val - 64 < 32 then P ⟨l.val - 64, hl⟩ else 0) (l : Fin 128) :
    klane a g l + kr l = kv A gn P h l := by
  unfold kv klane
  rw [hkr]
  by_cases h1 : l.val < 64
  · rw [if_pos h1, dif_pos h1, add_zero, sum_low _ (fun x hx => by rw [ha x, dif_neg (by omega), zero_mul]), ha l, dif_pos h1]
    unfold rms
    rw [div_64, ← hg0 ⟨l.val, h1⟩]
    have e : (∑ d : Fin 64, a ⟨d.val, by omega⟩ * a ⟨d.val, by omega⟩) = ∑ k : Fin 64, A ⟨h.val * 64 + k.val, by omega⟩ * A ⟨h.val * 64 + k.val, by omega⟩ :=
      Finset.sum_congr rfl (fun d _ => by rw [ha ⟨d.val, by omega⟩, dif_pos d.isLt])
    rw [e]
  · rw [if_neg h1, dif_neg h1, ha l, dif_neg h1, zero_mul, zero_mul, zero_add]

/-- The rotary key's lanes as they are computed. -/
def krlane (a g : Fin 128 → EReal) (l : Fin 128) : EReal :=
  a l * Ideal.rsqrt ((∑ x : Fin 128, a x * a x) * lit 0x3D000000#32 + eps) * g l

theorem kr_eq (a g : Fin 128 → EReal) (Z : Fin 1568 → EReal) (gr : Fin 32 → EReal) (c s : Fin 16 → EReal)
    (h0 : ∀ x : Fin 128, x.val < 64 → a x = 0) (h1 : ∀ x : Fin 128, 96 ≤ x.val → a x = 0) (hv : ∀ i : Fin 32, a ⟨64 + i.val, by omega⟩ = Z ⟨384 + i.val, by omega⟩)
    (hg : ∀ i : Fin 32, g ⟨64 + i.val, by omega⟩ = gr i) (l : Fin 128) :
    rot (krlane a g) (tcos c) (tsa s) (tsb s) l = if l.val < 64 then 0 else if hl : l.val - 64 < 32 then kpe Z gr c s ⟨l.val - 64, hl⟩ else 0 := by
  rw [rot_eq (krlane a g) (rms 0x42000000#32 (fun x : Fin 32 => Z ⟨384 + x.val, by omega⟩) gr) c s (fun i => by
    unfold krlane rms
    rw [div_32, sum_mid _ (fun x hx => by rw [h0 x hx, zero_mul]) (fun x hx => by rw [h1 x hx, zero_mul]), hv i, hg i]
    have e : (∑ d : Fin 32, a ⟨64 + d.val, by omega⟩ * a ⟨64 + d.val, by omega⟩) = ∑ k : Fin 32, Z ⟨384 + k.val, by omega⟩ * Z ⟨384 + k.val, by omega⟩ :=
      Finset.sum_congr rfl (fun d _ => by rw [hv d])
    rw [e])]
  by_cases h2 : l.val < 64
  · rw [if_pos h2, if_pos h2, krlane, h0 l h2, zero_mul, zero_mul]
  · rw [if_neg h2, if_neg h2]; rfl

end Cert.Proj
end
-- ==== Proof.Proj.Pay.lean ====
module

public import proofs.«01_k».proof.Proof.Proj.KI.Value
public import proofs.«01_k».proof.Proof.Proj.Spec
public import proofs.«01_k».proof.Proof.Sb.Math
public import Idealize.ShloMosaic.PureOps
public import Idealize.ShloMosaic.PureOps.Ideal
public import Idealize.ShloMosaic.Lib.Pointwise
public import Idealize.ShloMosaic.Lib.WordCmp
public import Idealize.ShloMosaic.Lib.KernelVsHost
public import Idealize.ShloMosaic.Lib.Pipeline.ValueKit.Tiles

/-! What the body's values are, element by element. -/

@[expose] public section

set_option maxRecDepth 16384

noncomputable section

namespace Cert.ProjKernelIdeal.Proj

open Cert.Proj Cert.ProjKernelIdeal Cert.ProjKernelIdeal.Gen Idealize.ShloMosaic

/-- The mask of the first 64 lanes. -/
theorem mask_at (r : Fin 256) (l : Fin 128) : k0_pay6 (ix2 r l) = if l.val < 64 then 1#1 else 0#1 := by
  pointwise [k0_pay6]
  show IntOp.cmpi .slt (BitVec.ofNat 32 l.val) (BitVec.ofNat 32 64) = _
  rw [Cert.Sb.slt_nat _ _ (by have := l.isLt; omega) (by omega)]

theorem rot112 (x : FVec Ideal S256x128 .f32) (r : Fin 256) (l : Fin 128) :
    dynamicRotate 1 112#32 none x rotates_S256x128_d1 (ix2 r l) = x (ix2 r ⟨(l.val + 16) % 128, by omega⟩) :=
  dynamicRotate_apply _ _ _ _ _ _ (fun b => by
    match b with
    | ⟨0, _⟩ => rfl
    | ⟨1, _⟩ => show (l.val + 16) % 128 = (l.val + 128 - 112 % 128) % 128; omega)

theorem rot16 (x : FVec Ideal S256x128 .f32) (r : Fin 256) (l : Fin 128) :
    dynamicRotate 1 16#32 none x rotates_S256x128_d1 (ix2 r l) = x (ix2 r ⟨(l.val + 112) % 128, by omega⟩) :=
  dynamicRotate_apply _ _ _ _ _ _ (fun b => by
    match b with
    | ⟨0, _⟩ => rfl
    | ⟨1, _⟩ => show (l.val + 112) % 128 = (l.val + 128 - 16 % 128) % 128; omega)

theorem rot64 (x : FVec Ideal S256x128 .f32) (r : Fin 256) (l : Fin 128) :
    dynamicRotate 1 64#32 none x rotates_S256x128_d1 (ix2 r l) = x (ix2 r ⟨(l.val + 64) % 128, by omega⟩) :=
  dynamicRotate_apply _ _ _ _ _ _ (fun b => by
    match b with
    | ⟨0, _⟩ => rfl
    | ⟨1, _⟩ => show (l.val + 64) % 128 = (l.val + 128 - 64 % 128) % 128; omega)

/-! ## The heads, one computation each -/

/-- A head of the queries, normalised, before the rotation. -/
def qnorm (s : FVec Ideal S256x128 .f32) (g : FVec Ideal S1x128 .f32) : FVec Ideal S256x128 .f32 :=
  mulf (mulf s (select k0_pay6
    (broadcastTo S256x128 (shapeCast S256x1 (rsqrt (addf (mulf (shapeCast S256x1 (multiReduction .add [1] S256 (select k0_pay6 (mulf s s) (broadcast S256x128 (Scalar.ofBits .f32 0x00000000#32))) 0x00000000#32 reduces_S256x128_S256 (.inl rfl) rfl) shapeCasts_S256_S256x1) (broadcast S256x1 (Scalar.ofBits .f32 0x3C800000#32))) (broadcast S256x1 (Scalar.ofBits .f32 0x358637BD#32)))) shapeCasts_S256x1_S256x1) broadcasts_S256x1_S256x128)
    (broadcastTo S256x128 (shapeCast S256x1 (rsqrt (addf (mulf (shapeCast S256x1 (multiReduction .add [1] S256 (select k0_pay6 (broadcast S256x128 (Scalar.ofBits .f32 0x00000000#32)) (mulf s s)) 0x00000000#32 reduces_S256x128_S256 (.inl rfl) rfl) shapeCasts_S256_S256x1) (broadcast S256x1 (Scalar.ofBits .f32 0x3D000000#32))) (broadcast S256x1 (Scalar.ofBits .f32 0x358637BD#32)))) shapeCasts_S256x1_S256x1) broadcasts_S256x1_S256x128)))
    (broadcastTo S256x128 (shapeCast S1x128 g shapeCasts_S1x128_S1x128) broadcasts_S1x128_S256x128)

/-- The rotation of a head's lanes. -/
def ropev (y cs sa sb : FVec Ideal S256x128 .f32) : FVec Ideal S256x128 .f32 :=
  addf (addf (mulf y cs) (mulf (dynamicRotate 1 112#32 none y rotates_S256x128_d1) sa)) (mulf (dynamicRotate 1 16#32 none y rotates_S256x128_d1) sb)

def qhead (s : FVec Ideal S256x128 .f32) (cs sa sb : FVec Ideal S256x128 .f32) (g : FVec Ideal S1x128 .f32) : FVec Ideal S256x128 .bf16 :=
  truncf .bf16 (ropev (qnorm s g) cs sa sb) bitsLt_bf16_f32

/-- A head of the keys. -/
def khead (s kr : FVec Ideal S256x128 .f32) (g : FVec Ideal S1x128 .f32) : FVec Ideal S256x128 .bf16 :=
  truncf .bf16 (addf (mulf (mulf s (broadcastTo S256x128 (rsqrt (addf (mulf (shapeCast S256x1 (multiReduction .add [1] S256 (mulf s s) 0x00000000#32 reduces_S256x128_S256 (.inl rfl) rfl) shapeCasts_S256_S256x1) (broadcast S256x1 (Scalar.ofBits .f32 0x3C800000#32))) (broadcast S256x1 (Scalar.ofBits .f32 0x358637BD#32)))) broadcasts_S256x1_S256x128))
    (broadcastTo S256x128 (shapeCast S1x128 g shapeCasts_S1x128_S1x128) broadcasts_S1x128_S256x128)) kr) bitsLt_bf16_f32

section
variable (z : FVec Ideal S256x1664 .f32) (gl : FVec Ideal S1x256 .f32) (w : FVec Ideal S256x768 .bf16) (qa ka : FVec Ideal S256x768 .f32)
  (cs sa sb kr : FVec Ideal S256x128 .f32) (g : FVec Ideal S1x128 .f32)

theorem q0_eq : k0_pay21 k0_pay6 cs sa sb (k0_pay16 z gl w) (k0_pay18 z k0_pay6 gl w) (k0_pay19 z k0_pay6 gl w) (k0_pay20 (F := Ideal)) g = qhead (extractStridedSlice S256x128 ![0, 0] (k0_pay13 z gl w) slices_S256x768_o0_0_S256x128) cs sa sb g := rfl
theorem q1_eq : k0_pay25 k0_pay6 cs sa sb (k0_pay23 qa) (k0_pay24 qa) g = qhead (extractStridedSlice S256x128 ![0, 128] qa slices_S256x768_o0_128_S256x128) cs sa sb g := rfl
theorem q2_eq : k0_pay31 sa sb (k0_pay29 k0_pay6 qa g) (k0_pay30 k0_pay6 cs qa g) 112#32 = qhead (extractStridedSlice S256x128 ![0, 256] qa slices_S256x768_o0_256_S256x128) cs sa sb g := rfl
theorem q3_eq : k0_pay38 k0_pay6 cs sa sb (k0_pay33 qa) (k0_pay35 k0_pay6 qa) (k0_pay36 k0_pay6 qa) (k0_pay37 (F := Ideal)) g = qhead (extractStridedSlice S256x128 ![0, 384] qa slices_S256x768_o0_384_S256x128) cs sa sb g := rfl
theorem q4_eq : k0_pay42 k0_pay6 cs sa sb (k0_pay40 qa) (k0_pay41 qa) g = qhead (extractStridedSlice S256x128 ![0, 512] qa slices_S256x768_o0_512_S256x128) cs sa sb g := rfl
theorem q5_eq : k0_pay48 sa sb (k0_pay46 k0_pay6 qa g) (k0_pay47 k0_pay6 cs qa g) 112#32 = qhead (extractStridedSlice S256x128 ![0, 640] qa slices_S256x768_o0_640_S256x128) cs sa sb g := rfl
theorem k0_eq : k0_pay22 kr ka g = khead (extractStridedSlice S256x128 ![0, 0] ka slices_S256x768_o0_0_S256x128) kr g := rfl
theorem k1_eq : k0_pay28 kr (k0_pay26 ka) (k0_pay27 ka) g = khead (extractStridedSlice S256x128 ![0, 128] ka slices_S256x768_o0_128_S256x128) kr g := rfl
theorem k2_eq : k0_pay32 kr ka g = khead (extractStridedSlice S256x128 ![0, 256] ka slices_S256x768_o0_256_S256x128) kr g := rfl
theorem k3_eq : k0_pay39 kr ka g = khead (extractStridedSlice S256x128 ![0, 384] ka slices_S256x768_o0_384_S256x128) kr g := rfl
theorem k4_eq : k0_pay45 kr (k0_pay43 ka) (k0_pay44 ka) g = khead (extractStridedSlice S256x128 ![0, 512] ka slices_S256x768_o0_512_S256x128) kr g := rfl
theorem k5_eq : k0_pay49 kr ka g = khead (extractStridedSlice S256x128 ![0, 640] ka slices_S256x768_o0_640_S256x128) kr g := rfl
end

/-- A row of a block. -/
abbrev row {n : ℕ} {φ : FTy} (s : FVec Ideal ⟨2, ![256, n]⟩ φ) (r : Fin 256) (l : Fin n) : EReal := s (ix2 r l)
/-- A row vector. -/
abbrev one {n : ℕ} {φ : FTy} (s : FVec Ideal ⟨2, ![1, n]⟩ φ) (l : Fin n) : EReal := s (ix2 (0 : Fin 1) l)

theorem qnorm_at (s : FVec Ideal S256x128 .f32) (g : FVec Ideal S1x128 .f32) (r : Fin 256) (l : Fin 128) :
    qnorm s g (ix2 r l) = qlane (row s r) (one g) l := by
  have e1 : ∀ (x : Fin 128) (a b : EReal), Scalar.select (k0_pay6 (ix2 r x)) a b = if x.val < 64 then a else b := fun x a b => by
    rw [mask_at]
    by_cases h : x.val < 64
    · rw [if_pos h, if_pos h]; rfl
    · rw [if_neg h, if_neg h]; rfl
  pointwise [qnorm]
  simp only [e1]
  rfl

theorem ropev_at (y cs sa sb : FVec Ideal S256x128 .f32) (r : Fin 256) (l : Fin 128) :
    ropev y cs sa sb (ix2 r l) = rot (row y r) (row cs r) (row sa r) (row sb r) l := by
  unfold ropev
  show y (ix2 r l) * cs (ix2 r l) + dynamicRotate 1 112#32 none y rotates_S256x128_d1 (ix2 r l) * sa (ix2 r l) + dynamicRotate 1 16#32 none y rotates_S256x128_d1 (ix2 r l) * sb (ix2 r l) = _
  rw [rot112, rot16]
  rfl

theorem qhead_at (s cs sa sb : FVec Ideal S256x128 .f32) (g : FVec Ideal S1x128 .f32) (r : Fin 256) (l : Fin 128) :
    qhead s cs sa sb g (ix2 r l) = rot (qlane (row s r) (one g)) (row cs r) (row sa r) (row sb r) l := by
  show ropev (qnorm s g) cs sa sb (ix2 r l) = _
  rw [ropev_at]
  exact congrArg (fun y => rot y (row cs r) (row sa r) (row sb r) l) (funext (fun x => qnorm_at s g r x))

theorem khead_at (s kr : FVec Ideal S256x128 .f32) (g : FVec Ideal S1x128 .f32) (r : Fin 256) (l : Fin 128) :
    khead s kr g (ix2 r l) = klane (row s r) (one g) l + row kr r l := by
  pointwise [khead]
  rfl

theorem pay5_at (x : Vec Ideal S256x1024 .f32) (g : Vec Ideal S1x1024 .f32) (sc sh : Vec Ideal S1x1x1024 .f32) (w : Vec Ideal S1024x1664 .bf16) (r : Fin 256) (l : Fin 1664) :
    k0_pay5 x g sc sh w (ix2 r l) = ∑ d : Fin 1024, hid (fun d => x (ix2 r d)) (fun d => g (ix2 (0 : Fin 1) d)) (fun d => sc (ix3 (0 : Fin 1) (0 : Fin 1) d)) (fun d => sh (ix3 (0 : Fin 1) (0 : Fin 1) d)) d * w (ix2 d l) := by
  pointwise [k0_pay5]
  rfl

theorem pay10_at (z : FVec Ideal S256x1664 .f32) (g : Vec Ideal S1x128 .f32) (r : Fin 256) (l : Fin 128) :
    k0_pay10 z g (ix2 r l) = rms 0x43000000#32 (fun x : Fin 128 => z (ix2 r ⟨256 + x.val, by omega⟩)) (fun x => g (ix2 (0 : Fin 1) x)) l := by
  pointwise [k0_pay10]
  rfl

/-- The rotary key before the rotation. -/
def krn (z : FVec Ideal S256x1664 .f32) (g : FVec Ideal S1x128 .f32) : FVec Ideal S256x128 .f32 :=
  mulf (mulf (extractStridedSlice S256x128 ![0, 384] z slices_S256x1664_o0_384_S256x128) (broadcastTo S256x128 (rsqrt (addf (mulf (shapeCast S256x1 (multiReduction .add [1] S256 (mulf (extractStridedSlice S256x128 ![0, 384] z slices_S256x1664_o0_384_S256x128) (extractStridedSlice S256x128 ![0, 384] z slices_S256x1664_o0_384_S256x128)) 0x00000000#32 reduces_S256x128_S256 (.inl rfl) rfl) shapeCasts_S256_S256x1) (broadcast S256x1 (Scalar.ofBits .f32 0x3D000000#32))) (broadcast S256x1 (Scalar.ofBits .f32 0x358637BD#32)))) broadcasts_S256x1_S256x128))
    (broadcastTo S256x128 (shapeCast S1x128 g shapeCasts_S1x128_S1x128) broadcasts_S1x128_S256x128)

theorem pay9_self (v : Vec Ideal S256x128 .f32) : k0_pay9 v = v := by
  refine funext fun (y : S256x128.Idx) => ?_
  pointwise [k0_pay9]
theorem pay8_self (v : Vec Ideal S256x128 .f32) : k0_pay8 v = v := pay9_self v
theorem pay7_self (v : Vec Ideal S256x128 .f32) : k0_pay7 v = v := pay9_self v

theorem pay11_at (z : FVec Ideal S256x1664 .f32) (cs sa sb : FVec Ideal S256x128 .f32) (g : FVec Ideal S1x128 .f32) (r : Fin 256) (l : Fin 128) :
    k0_pay11 z cs sa sb g (ix2 r l) = rot (krlane (fun x : Fin 128 => z (ix2 r ⟨384 + x.val, by omega⟩)) (one g)) (row cs r) (row sa r) (row sb r) l := by
  have e : k0_pay11 z cs sa sb g = ropev (krn z g) cs sa (k0_pay9 sb) := rfl
  rw [e, pay9_self, ropev_at]
  refine congrArg (fun y => rot y (row cs r) (row sa r) (row sb r) l) (funext (fun x => ?_))
  show krn z g (ix2 r x) = _
  pointwise [krn]
  rfl

theorem pay12_at (z : FVec Ideal S256x1664 .f32) (cs sa sb : FVec Ideal S256x128 .f32) (g : FVec Ideal S1x128 .f32) (r : Fin 256) (l : Fin 32) :
    k0_pay12 z cs sa sb g (ix2 r l) = k0_pay11 z cs sa sb g (ix2 r ⟨64 + l.val, by omega⟩) := by
  have e : k0_pay12 z cs sa sb g (ix2 r l) = dynamicRotate 1 64#32 none (k0_pay11 z cs sa sb g) rotates_S256x128_d1 (ix2 r ⟨l.val, by omega⟩) := by
    unfold k0_pay12
    generalize dynamicRotate 1 64#32 none (k0_pay11 z cs sa sb g) rotates_S256x128_d1 = u
    pointwise
  rw [e, rot64]
  exact congrArg (k0_pay11 z cs sa sb g) (congrArg (ix2 r) (Fin.ext (by show (l.val + 64) % 128 = 64 + l.val; omega)))

theorem pay13_at (z : FVec Ideal S256x1664 .f32) (g : Vec Ideal S1x256 .f32) (w : Vec Ideal S256x768 .bf16) (r : Fin 256) (n : Fin 768) :
    k0_pay13 z g w (ix2 r n) = ∑ k : Fin 256, rms 0x43800000#32 (fun x : Fin 256 => z (ix2 r ⟨x.val, by omega⟩)) (fun x => g (ix2 (0 : Fin 1) x)) k * w (ix2 k n) := by
  pointwise [k0_pay13]
  rfl

theorem pay15_at (v : FVec Ideal S256x128 .f32) (w : Vec Ideal S128x768 .bf16) (r : Fin 256) (n : Fin 768) :
    k0_pay15 v w (ix2 r n) = ∑ k : Fin 128, v (ix2 r k) * w (ix2 k n) := by
  pointwise [k0_pay15, k0_pay14]

theorem pay50_at (v : FVec Ideal S256x128 .f32) (w : Vec Ideal S128x384 .bf16) (r : Fin 256) (n : Fin 384) :
    k0_pay50 (k0_pay14 v) w (ix2 r n) = ∑ k : Fin 128, v (ix2 r k) * w (ix2 k n) := by
  pointwise [k0_pay50, k0_pay14]

end Cert.ProjKernelIdeal.Proj
end
-- ==== Proof.Proj.Host.lean ====
module

public import proofs.«01_k».proof.Proof.Proj.Pay

/-! What the host operations before the call leave. -/

@[expose] public section

set_option maxRecDepth 16384

noncomputable section

namespace Cert.ProjKernelIdeal.Proj

open Cert.Proj Cert.ProjKernelIdeal Cert.ProjKernelIdeal.Gen Idealize.ShloMosaic Idealize.ShloMosaic.TcCoe Idealize.SL.Sem

variable (m : (ℓ : Loc nD τ sig) → Buf (Elt Ideal) ℓ) (c : Dev nD)

abbrev aX : FVec Ideal S16384x1024 .f32 := m ((c : Thread nD τ).loc main_arg0)
abbrev aSc : FVec Ideal S8x1x1024 .f32 := m ((c : Thread nD τ).loc main_arg1)
abbrev aSh : FVec Ideal S8x1x1024 .f32 := m ((c : Thread nD τ).loc main_arg2)
abbrev aGm : FVec Ideal S1024 .f32 := m ((c : Thread nD τ).loc main_arg3)
abbrev aW : FVec Ideal S1024x1568 .f32 := m ((c : Thread nD τ).loc main_arg4)
abbrev aGq : FVec Ideal S256 .f32 := m ((c : Thread nD τ).loc main_arg5)
abbrev aUq : FVec Ideal S256x576 .f32 := m ((c : Thread nD τ).loc main_arg6)
abbrev aQn : FVec Ideal S64 .f32 := m ((c : Thread nD τ).loc main_arg7)
abbrev aQr : FVec Ideal S32 .f32 := m ((c : Thread nD τ).loc main_arg8)
abbrev aGkv : FVec Ideal S128 .f32 := m ((c : Thread nD τ).loc main_arg9)
abbrev aKr : FVec Ideal S32 .f32 := m ((c : Thread nD τ).loc main_arg10)
abbrev aUk : FVec Ideal S128x384 .f32 := m ((c : Thread nD τ).loc main_arg11)
abbrev aUv : FVec Ideal S128x384 .f32 := m ((c : Thread nD τ).loc main_arg12)
abbrev aKn : FVec Ideal S64 .f32 := m ((c : Thread nD τ).loc main_arg13)

abbrev z_ : FVec Ideal S_ .f32 := sitofp .f32 (constantI S_ 32 0#32)

theorem V_w1 : (V m c main_v5 : FVec Ideal S1024x1664 .bf16) = truncf .bf16 (concatenate S1024x1664 1 [⟨S1024x384, extractStridedSlice S1024x384 ![0, 0] (aW m c) slices_S1024x1568_S1024x384_0_0⟩, ⟨S1024x128, pad S1024x128 ![0, 64] ![0, 32] ![0, 0] (extractStridedSlice S1024x32 ![0, 384] (aW m c) slices_S1024x1568_S1024x32_0_384) z_ pads_S1024x32_S1024x128_000_64320 h_S_⟩, ⟨S1024x1152, extractStridedSlice S1024x1152 ![0, 416] (aW m c) slices_S1024x1568_S1024x1152_0_416⟩] concatenates_S1024x384_S1024x128_S1024x1152_S1024x1664_d1) bitsLt_bf16_f32 := by
  unfold V
  simp only [hostOps0, hostOps0_1, hostOps0_2, hostOps0_3, hostOps0_4, hostOps0_5, hostOps0_6, List.flatten_cons, List.flatten_nil, List.append_nil, List.cons_append, List.nil_append]
  after_results
  rfl
theorem V_gm : (V m c main_v6 : FVec Ideal S1x1024 .f32) = shapeCast S1x1024 (aGm m c) shapeCasts_S1024_S1x1024 := by
  unfold V
  simp only [hostOps0, hostOps0_1, hostOps0_2, hostOps0_3, hostOps0_4, hostOps0_5, hostOps0_6, List.flatten_cons, List.flatten_nil, List.append_nil, List.cons_append, List.nil_append]
  after_results
  rfl
theorem V_gq : (V m c main_v7 : FVec Ideal S1x256 .f32) = shapeCast S1x256 (aGq m c) shapeCasts_S256_S1x256 := by
  unfold V
  simp only [hostOps0, hostOps0_1, hostOps0_2, hostOps0_3, hostOps0_4, hostOps0_5, hostOps0_6, List.flatten_cons, List.flatten_nil, List.append_nil, List.cons_append, List.nil_append]
  after_results
  rfl
theorem V_gkv : (V m c main_v8 : FVec Ideal S1x128 .f32) = shapeCast S1x128 (aGkv m c) shapeCasts_S128_S1x128 := by
  unfold V
  simp only [hostOps0, hostOps0_1, hostOps0_2, hostOps0_3, hostOps0_4, hostOps0_5, hostOps0_6, List.flatten_cons, List.flatten_nil, List.append_nil, List.cons_append, List.nil_append]
  after_results
  rfl
theorem V_uq : (V m c main_v12 : FVec Ideal S256x768 .bf16) = truncf .bf16 (shapeCast S256x768 (pad S256x6x128 ![0, 0, 0] ![0, 0, 32] ![0, 0, 0] (shapeCast S256x6x96 (aUq m c) shapeCasts_S256x576_S256x6x96) z_ pads_S256x6x96_S256x6x128_000_000_0320 h_S_) shapeCasts_S256x6x128_S256x768) bitsLt_bf16_f32 := by
  unfold V
  simp only [hostOps0, hostOps0_1, hostOps0_2, hostOps0_3, hostOps0_4, hostOps0_5, hostOps0_6, List.flatten_cons, List.flatten_nil, List.append_nil, List.cons_append, List.nil_append]
  after_results
  rfl
theorem V_uk : (V m c main_v16 : FVec Ideal S128x768 .bf16) = truncf .bf16 (shapeCast S128x768 (pad S128x6x128 ![0, 0, 0] ![0, 0, 64] ![0, 0, 0] (shapeCast S128x6x64 (aUk m c) shapeCasts_S128x384_S128x6x64) z_ pads_S128x6x64_S128x6x128_000_000_0640 h_S_) shapeCasts_S128x6x128_S128x768) bitsLt_bf16_f32 := by
  unfold V
  simp only [hostOps0, hostOps0_1, hostOps0_2, hostOps0_3, hostOps0_4, hostOps0_5, hostOps0_6, List.flatten_cons, List.flatten_nil, List.append_nil, List.cons_append, List.nil_append]
  after_results
  rfl
theorem V_uv : (V m c main_v17 : FVec Ideal S128x384 .bf16) = truncf .bf16 (aUv m c) bitsLt_bf16_f32 := by
  unfold V
  simp only [hostOps0, hostOps0_1, hostOps0_2, hostOps0_3, hostOps0_4, hostOps0_5, hostOps0_6, List.flatten_cons, List.flatten_nil, List.append_nil, List.cons_append, List.nil_append]
  after_results
theorem V_gqh : (V m c main_v20 : FVec Ideal S1x128 .f32) = shapeCast S1x128 (concatenate S128 0 [⟨S64, aQn m c⟩, ⟨S32, aQr m c⟩, ⟨S32, broadcastInDim S32 ![] bcast_S_S32 (constant S_ .f32 0x00000000#32)⟩] concatenates_S64_S32_S32_S128_d0) shapeCasts_S128_S1x128 := by
  unfold V
  simp only [hostOps0, hostOps0_1, hostOps0_2, hostOps0_3, hostOps0_4, hostOps0_5, hostOps0_6, List.flatten_cons, List.flatten_nil, List.append_nil, List.cons_append, List.nil_append]
  after_results
  rfl
theorem V_gkh : (V m c main_v23 : FVec Ideal S1x128 .f32) = shapeCast S1x128 (concatenate S128 0 [⟨S64, aKn m c⟩, ⟨S64, broadcastInDim S64 ![] bcast_S_S64 (constant S_ .f32 0x00000000#32)⟩] concatenates_S64_S64_S128_d0) shapeCasts_S128_S1x128 := by
  unfold V
  simp only [hostOps0, hostOps0_1, hostOps0_2, hostOps0_3, hostOps0_4, hostOps0_5, hostOps0_6, List.flatten_cons, List.flatten_nil, List.append_nil, List.cons_append, List.nil_append]
  after_results
  rfl
theorem V_gkr : (V m c main_v26 : FVec Ideal S1x128 .f32) = shapeCast S1x128 (concatenate S128 0 [⟨S64, broadcastInDim S64 ![] bcast_S_S64 (constant S_ .f32 0x00000000#32)⟩, ⟨S32, aKr m c⟩, ⟨S32, broadcastInDim S32 ![] bcast_S_S32 (constant S_ .f32 0x00000000#32)⟩] concatenates_S64_S32_S32_S128_d0) shapeCasts_S128_S1x128 := by
  unfold V
  simp only [hostOps0, hostOps0_1, hostOps0_2, hostOps0_3, hostOps0_4, hostOps0_5, hostOps0_6, List.flatten_cons, List.flatten_nil, List.append_nil, List.cons_append, List.nil_append]
  after_results
  rfl

/-- The angles. -/
def angv : FVec Ideal S2048x16 .f32 :=
  mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

theorem V_cos : (V m c main_v46 : FVec Ideal S2048x128 .f32) = concatenate S2048x128 1 [⟨S2048x64, broadcastInDim S2048x64 ![] bcast_S_S2048x64 (constant S_ .f32 0x3F800000#32)⟩, ⟨S2048x16, Host.cos angv⟩, ⟨S2048x16, Host.cos angv⟩, ⟨S2048x32, broadcastInDim S2048x32 ![] bcast_S_S2048x32 (constant S_ .f32 0x00000000#32)⟩] concatenates_S2048x64_S2048x16_S2048x16_S2048x32_S2048x128_d1 := by
  unfold V
  simp only [hostOps0, hostOps0_1, hostOps0_2, hostOps0_3, hostOps0_4, hostOps0_5, hostOps0_6, List.flatten_cons, List.flatten_nil, List.append_nil, List.cons_append, List.nil_append]
  after_results
  rfl
theorem V_sa : (V m c main_v48 : FVec Ideal S2048x128 .f32) = concatenate S2048x128 1 [⟨S2048x64, broadcastInDim S2048x64 ![] bcast_S_S2048x64 (constant S_ .f32 0x00000000#32)⟩, ⟨S2048x16, Host.negf (Host.sin angv)⟩, ⟨S2048x16, broadcastInDim S2048x16 ![] bcast_S_S2048x16 (constant S_ .f32 0x00000000#32)⟩, ⟨S2048x32, broadcastInDim S2048x32 ![] bcast_S_S2048x32 (constant S_ .f32 0x00000000#32)⟩] concatenates_S2048x64_S2048x16_S2048x16_S2048x32_S2048x128_d1 := by
  unfold V
  simp only [hostOps0, hostOps0_1, hostOps0_2, hostOps0_3, hostOps0_4, hostOps0_5, hostOps0_6, List.flatten_cons, List.flatten_nil, List.append_nil, List.cons_append, List.nil_append]
  after_results
  rfl
theorem V_sb : (V m c main_v49 : FVec Ideal S2048x128 .f32) = concatenate S2048x128 1 [⟨S2048x64, broadcastInDim S2048x64 ![] bcast_S_S2048x64 (constant S_ .f32 0x00000000#32)⟩, ⟨S2048x16, broadcastInDim S2048x16 ![] bcast_S_S2048x16 (constant S_ .f32 0x00000000#32)⟩, ⟨S2048x16, Host.sin angv⟩, ⟨S2048x32, broadcastInDim S2048x32 ![] bcast_S_S2048x32 (constant S_ .f32 0x00000000#32)⟩] concatenates_S2048x64_S2048x16_S2048x16_S2048x32_S2048x128_d1 := by
  unfold V
  simp only [hostOps0, hostOps0_1, hostOps0_2, hostOps0_3, hostOps0_4, hostOps0_5, hostOps0_6, List.flatten_cons, List.flatten_nil, List.append_nil, List.cons_append, List.nil_append]
  after_results
  rfl

end Cert.ProjKernelIdeal.Proj
end
-- ==== Proof.Proj.Arr.lean ====
module

public import proofs.«01_k».proof.Proof.Proj.Spec
public import Idealize.ShloMosaic.PureOps
public import Idealize.ShloMosaic.PureOps.Ideal
public import Idealize.ShloMosaic.Lib.Pointwise

/-! The results of the projections, from the arguments. -/

@[expose] public section

noncomputable section

namespace Cert.Proj

open Idealize.ShloMosaic

/-- The arguments, as functions of their coordinates. -/
structure Args where
  x : Fin 16384 → Fin 1024 → EReal
  sc : Fin 8 → Fin 1024 → EReal
  sh : Fin 8 → Fin 1024 → EReal
  gm : Fin 1024 → EReal
  w : Fin 1024 → Fin 1568 → EReal
  gq : Fin 256 → EReal
  uq : Fin 256 → Fin 576 → EReal
  qn : Fin 64 → EReal
  qr : Fin 32 → EReal
  gkv : Fin 128 → EReal
  kr : Fin 32 → EReal
  uk : Fin 128 → Fin 384 → EReal
  uv : Fin 128 → Fin 384 → EReal
  kn : Fin 64 → EReal

/-- The angle of position `t` at frequency `i`. -/
def ang (t : Fin 2048) (i : Fin 16) : EReal :=
  FloatOps.sitofp (F := Ideal) FTy.f32 (BitVec.ofNat 32 t.val) * Ideal.pow (Ideal.ofBits FTy.f32 1176256512#32)
    (Ideal.div (-FloatOps.sitofp (F := Ideal) FTy.f32 (BitVec.ofNat 32 i.val)) (Ideal.ofBits FTy.f32 1098907648#32))
def cosv (t : Fin 2048) (i : Fin 16) : EReal := Ideal.cos (ang t i)
def sinv (t : Fin 2048) (i : Fin 16) : EReal := Ideal.sin (ang t i)

variable (A : Args) (b : Fin 8) (t : Fin 2048)

/-- The joint product of token `t` of sequence `b`. -/
def Z (n : Fin 1568) : EReal :=
  ∑ d : Fin 1024, hid (A.x ⟨b.val * 2048 + t.val, by omega⟩) A.gm (A.sc b) (A.sh b) d * A.w d n

def ockv (n : Fin 128) : EReal := ckv (Z A b t) A.gkv n
def okpe (n : Fin 32) : EReal := kpe (Z A b t) A.kr (cosv t) (sinv t) n
def oqh (h : Fin 6) (l : Fin 128) : EReal := qv (qa (Z A b t) A.gq A.uq) A.qn A.qr (cosv t) (sinv t) h l
def okk (n : Fin 384) : EReal := ∑ k : Fin 128, ockv A b t k * A.uk k n
def okh (h : Fin 6) (l : Fin 128) : EReal := kv (okk A b t) A.kn (okpe A b t) h l
def oq (n : Fin 768) : EReal := oqh A b t ⟨n.val / 128, by omega⟩ ⟨n.val % 128, by omega⟩
def ok (n : Fin 768) : EReal := okh A b t ⟨n.val / 128, by omega⟩ ⟨n.val % 128, by omega⟩
def ov (n : Fin 384) : EReal := ∑ k : Fin 128, ockv A b t k * A.uv k n
def ou (n : Fin 384) : EReal := Z A b t ⟨416 + n.val, by omega⟩
def osq (n : Fin 256) : EReal := Z A b t ⟨800 + n.val, by omega⟩ * lit 0x3E000000#32
def osk (n : Fin 256) : EReal := Z A b t ⟨1056 + n.val, by omega⟩
def osv (n : Fin 256) : EReal := Z A b t ⟨1312 + n.val, by omega⟩

/-- An array of rows, from the rows of every token. -/
def tok {n : ℕ} (f : Fin 8 → Fin 2048 → Fin n → EReal) (y : (⟨2, ![16384, n]⟩ : Shape).Idx) : EReal :=
  f ⟨(y 0).val / 2048, by have : (y 0).val < 16384 := (y 0).isLt; omega⟩ ⟨(y 0).val % 2048, by omega⟩ (y 1)

/-- The array of positions, the sequences side by side. -/
def side (f : Fin 8 → Fin 2048 → Fin 384 → EReal) (y : (⟨2, ![2048, 3072]⟩ : Shape).Idx) : EReal :=
  f ⟨(y 1).val / 384, by have : (y 1).val < 3072 := (y 1).isLt; omega⟩ (y 0) ⟨(y 1).val % 384, by omega⟩

end Cert.Proj
end
-- ==== Proof.Proj.Body.lean ====
module

public import proofs.«01_k».proof.Proof.Proj.Pay
public import proofs.«01_k».proof.Proof.Proj.Arr
public import Idealize.ShloMosaic.Lib.WritesUnit
public import Idealize.ShloMosaic.Lib.Pipeline.ValueKit.Tiles
public import Idealize.ShloMosaic.Lib.Pipeline.ValueKit.Basic

/-! What one grid point leaves in each output's buffer, from what its inputs' blocks hold. -/

@[expose] public section

set_option maxRecDepth 16384

noncomputable section

namespace Cert.ProjKernelIdeal.Proj

open Cert.Proj Cert.ProjKernelIdeal Cert.ProjKernelIdeal.Gen Idealize.ShloMosaic Idealize.ShloMosaic.TcCoe Idealize.SL.Sem

/-- A row of the joint product with the rotary key's lanes padded to 128. -/
def padv (f : Fin 1568 → EReal) (l : Fin 1664) : EReal :=
  if h : l.val < 384 then f ⟨l.val, by omega⟩
  else if h2 : l.val - 384 < 128 then
    if h3 : 64 ≤ l.val - 384 ∧ l.val - 384 - 64 < 32 then f ⟨384 + (l.val - 384 - 64), by omega⟩ else 0
  else f ⟨416 + (l.val - 384 - 128), by omega⟩

theorem sum_padv (a : Fin 1024 → EReal) (w : Fin 1024 → Fin 1568 → EReal) (l : Fin 1664) :
    ∑ d : Fin 1024, a d * padv (w d) l = padv (fun n => ∑ d : Fin 1024, a d * w d n) l := by
  unfold padv
  split
  · rfl
  · split
    · split
      · rfl
      · exact Finset.sum_eq_zero fun d _ => mul_zero _
    · rfl

theorem padv_lo (f : Fin 1568 → EReal) (n : ℕ) (h : n < 384) (h' : n < 1664) : padv f ⟨n, h'⟩ = f ⟨n, by omega⟩ := by
  unfold padv
  rw [dif_pos h]
theorem padv_hi (f : Fin 1568 → EReal) (n k : ℕ) (h' : 512 + n < 1664) (hk : 416 + n = k) (hk' : k < 1568) : padv f ⟨512 + n, h'⟩ = f ⟨k, hk'⟩ := by
  unfold padv
  rw [dif_neg (by show ¬ 512 + n < 384; omega), dif_neg (by show ¬ 512 + n - 384 < 128; omega)]
  refine congrArg f (Fin.ext ?_)
  show 416 + (512 + n - 384 - 128) = k
  omega
theorem padv_mid (f : Fin 1568 → EReal) (x : Fin 128) : padv f ⟨384 + x.val, by omega⟩ = if h : 64 ≤ x.val ∧ x.val - 64 < 32 then f ⟨384 + (x.val - 64), by omega⟩ else 0 := by
  have e : 384 + x.val - 384 = x.val := by omega
  unfold padv
  rw [dif_neg (by show ¬ 384 + x.val < 384; omega), dif_pos (by show 384 + x.val - 384 < 128; omega)]
  by_cases h : 64 ≤ x.val ∧ x.val - 64 < 32
  · rw [dif_pos h, dif_pos (by show 64 ≤ 384 + x.val - 384 ∧ 384 + x.val - 384 - 64 < 32; omega)]
    refine congrArg f (Fin.ext ?_)
    show 384 + (384 + x.val - 384 - 64) = 384 + (x.val - 64)
    omega
  · rw [dif_neg h, dif_neg (by show ¬ (64 ≤ 384 + x.val - 384 ∧ 384 + x.val - 384 - 64 < 32); omega)]

/-- The position of row `r` of tile `i`. -/
abbrev at_ (i : Fin 8) (r : Fin 256) : Fin 2048 := ⟨256 * i.val + r.val, by omega⟩

/-- What a grid point's input blocks hold. -/
structure Blk (A : Args) (b i : Fin 8) (x0 : Vec Ideal S256x1024 .f32) (x1 : Vec Ideal S1x1x1024 .f32) (x2 : Vec Ideal S1x1x1024 .f32) (x3 : Vec Ideal S1x1024 .f32) (x4 : Vec Ideal S1024x1664 .bf16) (x5 : Vec Ideal S1x256 .f32) (x6 : Vec Ideal S256x768 .bf16) (x7 : Vec Ideal S1x128 .f32) (x8 : Vec Ideal S128x768 .bf16) (x9 : Vec Ideal S128x384 .bf16) (x10 : Vec Ideal S1x128 .f32) (x11 : Vec Ideal S1x128 .f32) (x12 : Vec Ideal S1x128 .f32) (x13 : Vec Ideal S256x128 .f32) (x14 : Vec Ideal S256x128 .f32) (x15 : Vec Ideal S256x128 .f32) : Prop where
  h0 : ∀ (r : Fin 256) (d : Fin 1024), x0 (ix2 r d) = A.x ⟨b.val * 2048 + (256 * i.val + r.val), by omega⟩ d
  h1 : ∀ d : Fin 1024, x1 (ix3 (0 : Fin 1) (0 : Fin 1) d) = A.sc b d
  h2 : ∀ d : Fin 1024, x2 (ix3 (0 : Fin 1) (0 : Fin 1) d) = A.sh b d
  h3 : ∀ d : Fin 1024, x3 (ix2 (0 : Fin 1) d) = A.gm d
  h4 : ∀ (d : Fin 1024) (l : Fin 1664), x4 (ix2 d l) = padv (A.w d) l
  h5 : ∀ d : Fin 256, x5 (ix2 (0 : Fin 1) d) = A.gq d
  h6 : ∀ (d : Fin 256) (n : Fin 768), x6 (ix2 d n) = if h : n.val % 128 < 96 then A.uq d ⟨n.val / 128 * 96 + n.val % 128, by omega⟩ else (0 : EReal)
  h7 : ∀ d : Fin 128, x7 (ix2 (0 : Fin 1) d) = A.gkv d
  h8 : ∀ (d : Fin 128) (n : Fin 768), x8 (ix2 d n) = if h : n.val % 128 < 64 then A.uk d ⟨n.val / 128 * 64 + n.val % 128, by omega⟩ else (0 : EReal)
  h9 : ∀ (d : Fin 128) (n : Fin 384), x9 (ix2 d n) = A.uv d n
  h10 : ∀ d : Fin 64, x10 (ix2 (0 : Fin 1) (⟨d.val, by omega⟩ : Fin 128)) = A.qn d
  h10' : ∀ d : Fin 32, x10 (ix2 (0 : Fin 1) (⟨64 + d.val, by omega⟩ : Fin 128)) = A.qr d
  h11 : ∀ d : Fin 64, x11 (ix2 (0 : Fin 1) (⟨d.val, by omega⟩ : Fin 128)) = A.kn d
  h12 : ∀ d : Fin 32, x12 (ix2 (0 : Fin 1) (⟨64 + d.val, by omega⟩ : Fin 128)) = A.kr d
  h13 : ∀ (r : Fin 256) (l : Fin 128), x13 (ix2 r l) = tcos (cosv (at_ i r)) l
  h14 : ∀ (r : Fin 256) (l : Fin 128), x14 (ix2 r l) = tsa (sinv (at_ i r)) l
  h15 : ∀ (r : Fin 256) (l : Fin 128), x15 (ix2 r l) = tsb (sinv (at_ i r)) l

theorem off2 : (![0, 0] : Fin 2 → ℕ) = fun _ => 0 := by funext a; match a with | ⟨0, _⟩ => rfl | ⟨1, _⟩ => rfl
theorem off3 : (![0, 0, 0] : Fin 3 → ℕ) = fun _ => 0 := by funext a; match a with | ⟨0, _⟩ => rfl | ⟨1, _⟩ => rfl | ⟨2, _⟩ => rfl

section
variable {A : Args} {b i : Fin 8} {x0 : Vec Ideal S256x1024 .f32} {x1 : Vec Ideal S1x1x1024 .f32} {x2 : Vec Ideal S1x1x1024 .f32} {x3 : Vec Ideal S1x1024 .f32} {x4 : Vec Ideal S1024x1664 .bf16} {x5 : Vec Ideal S1x256 .f32} {x6 : Vec Ideal S256x768 .bf16} {x7 : Vec Ideal S1x128 .f32} {x8 : Vec Ideal S128x768 .bf16} {x9 : Vec Ideal S128x384 .bf16} {x10 : Vec Ideal S1x128 .f32} {x11 : Vec Ideal S1x128 .f32} {x12 : Vec Ideal S1x128 .f32} {x13 : Vec Ideal S256x128 .f32} {x14 : Vec Ideal S256x128 .f32} {x15 : Vec Ideal S256x128 .f32}
  (H : Blk A b i x0 x1 x2 x3 x4 x5 x6 x7 x8 x9 x10 x11 x12 x13 x14 x15)
include H

theorem z_at (r : Fin 256) (l : Fin 1664) : k0_pay53 x0 x1 x2 x3 x4 x5 x6 x7 x8 x9 x10 x11 x12 x13 x14 x15 (ix2 r l) = padv (Z A b (at_ i r)) l := by
  unfold k0_pay53
  rw [View.ld_unit_zero off2, View.ld_unit_zero off2, View.ld_unit_zero off3, View.ld_unit_zero off3, View.ld_unit_zero off2, pay5_at]
  rw [show Z A b (at_ i r) = fun n => ∑ d : Fin 1024, hid (A.x ⟨b.val * 2048 + (256 * i.val + r.val), by omega⟩) A.gm (A.sc b) (A.sh b) d * A.w d n from rfl, ← sum_padv]
  rw [show (fun d => x0 (ix2 r d)) = A.x ⟨b.val * 2048 + (256 * i.val + r.val), by omega⟩ from funext (H.h0 r),
    show (fun d => x3 (ix2 (0 : Fin 1) d)) = A.gm from funext H.h3, show (fun d => x1 (ix3 (0 : Fin 1) (0 : Fin 1) d)) = A.sc b from funext H.h1, show (fun d => x2 (ix3 (0 : Fin 1) (0 : Fin 1) d)) = A.sh b from funext H.h2]
  exact Finset.sum_congr rfl fun d _ => congrArg _ (H.h4 d l)

theorem c_at (r : Fin 256) (l : Fin 128) : k0_pay58 x0 x1 x2 x3 x4 x5 x6 x7 x8 x9 x10 x11 x12 x13 x14 x15 (ix2 r l) = ockv A b (at_ i r) l := by
  unfold k0_pay58
  rw [View.ld_unit_zero off2, pay10_at]
  unfold ockv ckv
  rw [show (fun x => x7 (ix2 (0 : Fin 1) x)) = A.gkv from funext H.h7]
  refine congrArg (fun v => rms _ v _ _) (funext fun x => ?_)
  rw [z_at H, padv_lo _ _ (by omega)]

theorem qa_at (r : Fin 256) (n : Fin 768) : k0_pay60 x0 x1 x2 x3 x4 x5 x6 x7 x8 x9 x10 x11 x12 x13 x14 x15 (ix2 r n) = if h : n.val % 128 < 96 then qa (Z A b (at_ i r)) A.gq A.uq ⟨n.val / 128 * 96 + n.val % 128, by omega⟩ else 0 := by
  unfold k0_pay60
  rw [View.ld_unit_zero off2, View.ld_unit_zero off2, pay13_at]
  have e1 : (fun x : Fin 256 => k0_pay53 x0 x1 x2 x3 x4 x5 x6 x7 x8 x9 x10 x11 x12 x13 x14 x15 (ix2 r (⟨x.val, by omega⟩ : Fin 1664))) = fun l : Fin 256 => Z A b (at_ i r) ⟨l.val, by omega⟩ := funext fun x => by rw [z_at H, padv_lo _ _ (by omega)]
  rw [e1, show (fun x => x5 (ix2 (0 : Fin 1) x)) = A.gq from funext H.h5]
  unfold qa
  split
  · next h => exact Finset.sum_congr rfl fun d _ => congrArg _ ((H.h6 d n).trans (dif_pos h))
  · next h => exact Finset.sum_eq_zero fun d _ => (congrArg _ ((H.h6 d n).trans (dif_neg h))).trans (mul_zero _)

theorem ka_at (r : Fin 256) (n : Fin 768) : k0_pay61 x0 x1 x2 x3 x4 x5 x6 x7 x8 x9 x10 x11 x12 x13 x14 x15 (ix2 r n) = if h : n.val % 128 < 64 then okk A b (at_ i r) ⟨n.val / 128 * 64 + n.val % 128, by omega⟩ else 0 := by
  unfold k0_pay61
  rw [View.ld_unit_zero off2, pay15_at]
  simp only [c_at H]
  unfold okk
  split
  · next h => exact Finset.sum_congr rfl fun d _ => congrArg _ ((H.h8 d n).trans (dif_pos h))
  · next h => exact Finset.sum_eq_zero fun d _ => (congrArg _ ((H.h8 d n).trans (dif_neg h))).trans (mul_zero _)

theorem kr_at' (cs sa sb : FVec Ideal S256x128 .f32) (hc : cs = x13) (ha : sa = x14) (hb : sb = x15) (r : Fin 256) (l : Fin 128) : k0_pay11 (k0_pay53 x0 x1 x2 x3 x4 x5 x6 x7 x8 x9 x10 x11 x12 x13 x14 x15) cs sa sb x12 (ix2 r l) = if l.val < 64 then 0 else if hl : l.val - 64 < 32 then okpe A b (at_ i r) ⟨l.val - 64, hl⟩ else 0 := by
  subst hc ha hb
  rw [pay11_at]
  rw [show row cs r = tcos (cosv (at_ i r)) from funext (H.h13 r), show row sa r = tsa (sinv (at_ i r)) from funext (H.h14 r), show row sb r = tsb (sinv (at_ i r)) from funext (H.h15 r)]
  unfold okpe
  have e : (fun x : Fin 128 => k0_pay53 (F := Ideal) x0 x1 x2 x3 x4 x5 x6 x7 x8 x9 x10 x11 x12 cs sa sb (ix2 r (⟨384 + x.val, by omega⟩ : Fin 1664))) = fun x : Fin 128 => padv (Z A b (at_ i r)) ⟨384 + x.val, by omega⟩ := funext fun x => z_at H r _
  rw [e]
  refine kr_eq _ _ (Z A b (at_ i r)) A.kr _ _ (fun x hx => ?_) (fun x hx => ?_) (fun x => ?_) H.h12 l
  · rw [padv_mid, dif_neg (by omega)]
  · rw [padv_mid, dif_neg (by omega)]
  · rw [padv_mid]
    refine (dif_pos (by show 64 ≤ 64 + x.val ∧ 64 + x.val - 64 < 32; omega)).trans (congrArg _ (Fin.ext ?_))
    show 384 + (64 + x.val - 64) = 384 + x.val
    omega

theorem kr_at (r : Fin 256) (l : Fin 128) : k0_pay59 x0 x1 x2 x3 x4 x5 x6 x7 x8 x9 x10 x11 x12 x13 x14 x15 (ix2 r l) = if l.val < 64 then 0 else if hl : l.val - 64 < 32 then okpe A b (at_ i r) ⟨l.val - 64, hl⟩ else 0 := by
  unfold k0_pay59
  rw [View.ld_unit_zero off2, View.ld_unit_zero off2]
  refine kr_at' H _ _ _ ?_ ?_ rfl r l
  · unfold k0_pay55; rw [pay7_self, View.ld_unit_zero off2]
  · unfold k0_pay56; rw [pay8_self, View.ld_unit_zero off2]

theorem pe_at (r : Fin 256) (n : Fin 32) : k0_pay12 (k0_pay53 x0 x1 x2 x3 x4 x5 x6 x7 x8 x9 x10 x11 x12 x13 x14 x15) (k0_pay55 x0 x1 x2 x3 x4 x5 x6 x7 x8 x9 x10 x11 x12 x13 x14 x15) (k0_pay56 x0 x1 x2 x3 x4 x5 x6 x7 x8 x9 x10 x11 x12 x13 x14 x15) (View.ld x15 r0_4) (View.ld x12 r0_5) (ix2 r n) = okpe A b (at_ i r) n := by
  rw [View.ld_unit_zero off2, View.ld_unit_zero off2, pay12_at]
  refine (kr_at' H _ _ _ ?_ ?_ rfl r ⟨64 + n.val, by omega⟩).trans ?_
  · unfold k0_pay55; rw [pay7_self, View.ld_unit_zero off2]
  · unfold k0_pay56; rw [pay8_self, View.ld_unit_zero off2]
  · rw [if_neg (by show ¬ 64 + n.val < 64; omega)]
    refine (dif_pos (by show 64 + n.val - 64 < 32; omega)).trans (congrArg _ (Fin.ext ?_))
    show 64 + n.val - 64 = n.val
    omega

theorem qh_at (s : FVec Ideal S256x128 .f32) (j : Fin 6) (hs : ∀ (r : Fin 256) (l : Fin 128), s (ix2 r l) = k0_pay60 x0 x1 x2 x3 x4 x5 x6 x7 x8 x9 x10 x11 x12 x13 x14 x15 (ix2 r (⟨128 * j.val + l.val, by omega⟩ : Fin 768))) (r : Fin 256) (l : Fin 128) :
    qhead s (k0_pay55 x0 x1 x2 x3 x4 x5 x6 x7 x8 x9 x10 x11 x12 x13 x14 x15) (k0_pay56 x0 x1 x2 x3 x4 x5 x6 x7 x8 x9 x10 x11 x12 x13 x14 x15) (k0_pay57 x0 x1 x2 x3 x4 x5 x6 x7 x8 x9 x10 x11 x12 x13 x14 x15) (View.ld x10 r0_5) (ix2 r l) = oqh A b (at_ i r) j l := by
  rw [View.ld_unit_zero off2, qhead_at]
  have e1 : row (k0_pay55 x0 x1 x2 x3 x4 x5 x6 x7 x8 x9 x10 x11 x12 x13 x14 x15) r = tcos (cosv (at_ i r)) := by
    unfold k0_pay55; rw [pay7_self, View.ld_unit_zero off2]; exact funext (H.h13 r)
  have e2 : row (k0_pay56 x0 x1 x2 x3 x4 x5 x6 x7 x8 x9 x10 x11 x12 x13 x14 x15) r = tsa (sinv (at_ i r)) := by
    unfold k0_pay56; rw [pay8_self, View.ld_unit_zero off2]; exact funext (H.h14 r)
  have e3 : row (k0_pay57 x0 x1 x2 x3 x4 x5 x6 x7 x8 x9 x10 x11 x12 x13 x14 x15) r = tsb (sinv (at_ i r)) := by
    unfold k0_pay57; rw [pay9_self, View.ld_unit_zero off2]; exact funext (H.h15 r)
  rw [e1, e2, e3]
  refine qhead_eq _ _ _ _ _ _ _ j (fun l => ?_) H.h10 H.h10' l
  refine (hs r l).trans ((qa_at H r _).trans ?_)
  have m1 : (128 * j.val + l.val) % 128 = l.val := by omega
  have m2 : (128 * j.val + l.val) / 128 = j.val := by omega
  simp only [m1, m2]

theorem kh_at (s : FVec Ideal S256x128 .f32) (j : Fin 6) (hs : ∀ (r : Fin 256) (l : Fin 128), s (ix2 r l) = k0_pay61 x0 x1 x2 x3 x4 x5 x6 x7 x8 x9 x10 x11 x12 x13 x14 x15 (ix2 r (⟨128 * j.val + l.val, by omega⟩ : Fin 768))) (r : Fin 256) (l : Fin 128) :
    khead s (k0_pay59 x0 x1 x2 x3 x4 x5 x6 x7 x8 x9 x10 x11 x12 x13 x14 x15) (View.ld x11 r0_5) (ix2 r l) = okh A b (at_ i r) j l := by
  rw [View.ld_unit_zero off2, khead_at]
  refine khead_eq _ _ _ _ _ _ j (fun l => ?_) H.h11 (kr_at H r) l
  refine (hs r l).trans ((ka_at H r _).trans ?_)
  have m1 : (128 * j.val + l.val) % 128 = l.val := by omega
  have m2 : (128 * j.val + l.val) / 128 = j.val := by omega
  simp only [m1, m2]

end

/-- One head's store is its part of the row of all heads. -/
theorem piece_q (A : Args) (b i : Fin 8) (P : FVec Ideal S256x128 .bf16) (j : Fin 6) (hP : ∀ (r : Fin 256) (l : Fin 128), P (ix2 r l) = oqh A b (at_ i r) j l) (x : S256x128.Idx) (y : S256x768.Idx)
    (e0 : (y 0).val = (x 0).val) (e1 : (y 1).val = 128 * j.val + (x 1).val) : P x = oq A b (at_ i (y 0)) (y 1) := by
  refine (congrArg P (ValueIdx.eq_ix2 x)).trans ((hP (x 0) (x 1)).trans ?_)
  have lx : (x 1).val < 128 := (x 1).isLt
  rw [show (y 0 : Fin 256) = x 0 from Fin.ext e0]
  unfold oq
  refine congrArg₂ (oqh A b (at_ i (x 0))) (Fin.ext ?_) (Fin.ext ?_)
  · show j.val = (y 1).val / 128; omega
  · show (x 1).val = (y 1).val % 128; omega
theorem piece_k (A : Args) (b i : Fin 8) (P : FVec Ideal S256x128 .bf16) (j : Fin 6) (hP : ∀ (r : Fin 256) (l : Fin 128), P (ix2 r l) = okh A b (at_ i r) j l) (x : S256x128.Idx) (y : S256x768.Idx)
    (e0 : (y 0).val = (x 0).val) (e1 : (y 1).val = 128 * j.val + (x 1).val) : P x = ok A b (at_ i (y 0)) (y 1) := by
  refine (congrArg P (ValueIdx.eq_ix2 x)).trans ((hP (x 0) (x 1)).trans ?_)
  have lx : (x 1).val < 128 := (x 1).isLt
  rw [show (y 0 : Fin 256) = x 0 from Fin.ext e0]
  unfold ok
  refine congrArg₂ (okh A b (at_ i (x 0))) (Fin.ext ?_) (Fin.ext ?_)
  · show j.val = (y 1).val / 128; omega
  · show (x 1).val = (y 1).val % 128; omega

section
variable {A : Args} {b i : Fin 8} {x0 : Vec Ideal S256x1024 .f32} {x1 : Vec Ideal S1x1x1024 .f32} {x2 : Vec Ideal S1x1x1024 .f32} {x3 : Vec Ideal S1x1024 .f32} {x4 : Vec Ideal S1024x1664 .bf16} {x5 : Vec Ideal S1x256 .f32} {x6 : Vec Ideal S256x768 .bf16} {x7 : Vec Ideal S1x128 .f32} {x8 : Vec Ideal S128x768 .bf16} {x9 : Vec Ideal S128x384 .bf16} {x10 : Vec Ideal S1x128 .f32} {x11 : Vec Ideal S1x128 .f32} {x12 : Vec Ideal S1x128 .f32} {x13 : Vec Ideal S256x128 .f32} {x14 : Vec Ideal S256x128 .f32} {x15 : Vec Ideal S256x128 .f32}
  (H : Blk A b i x0 x1 x2 x3 x4 x5 x6 x7 x8 x9 x10 x11 x12 x13 x14 x15)
include H

theorem out16_at (y : S256x768.Idx) : out0_16 x0 x1 x2 x3 x4 x5 x6 x7 x8 x9 x10 x11 x12 x13 x14 x15 y = oq A b (at_ i (y 0)) (y 1) := by
  unfold out0_16
  refine View.canon_apply_of_pieces (Val := Elt Ideal) (e := .bf16) (fun y : S256x768.Idx => oq A b (at_ i (y 0)) (y 1)) _ ?_ y (cover0_16 _ _ _ _ _ _ y)
  intro pc hpc x
  rcases List.mem_cons.mp hpc with rfl | hpc
  · refine piece_q A b i _ 5 (fun r l => ?_) x _ ?_ ?_
    · exact (congrFun (q5_eq ..) _).trans (qh_at H _ 5 (fun r l => by pointwise <;> rfl) r l)
    · show 0 + 1 * (x 0).val = (x 0).val; omega
    · show 640 + 1 * (x 1).val = 128 * 5 + (x 1).val; omega
  rcases List.mem_cons.mp hpc with rfl | hpc
  · refine piece_q A b i _ 4 (fun r l => ?_) x _ ?_ ?_
    · exact (congrFun (q4_eq ..) _).trans (qh_at H _ 4 (fun r l => by pointwise <;> rfl) r l)
    · show 0 + 1 * (x 0).val = (x 0).val; omega
    · show 512 + 1 * (x 1).val = 128 * 4 + (x 1).val; omega
  rcases List.mem_cons.mp hpc with rfl | hpc
  · refine piece_q A b i _ 3 (fun r l => ?_) x _ ?_ ?_
    · exact (congrFun (q3_eq ..) _).trans (qh_at H _ 3 (fun r l => by pointwise <;> rfl) r l)
    · show 0 + 1 * (x 0).val = (x 0).val; omega
    · show 384 + 1 * (x 1).val = 128 * 3 + (x 1).val; omega
  rcases List.mem_cons.mp hpc with rfl | hpc
  · refine piece_q A b i _ 2 (fun r l => ?_) x _ ?_ ?_
    · exact (congrFun (q2_eq ..) _).trans (qh_at H _ 2 (fun r l => by pointwise <;> rfl) r l)
    · show 0 + 1 * (x 0).val = (x 0).val; omega
    · show 256 + 1 * (x 1).val = 128 * 2 + (x 1).val; omega
  rcases List.mem_cons.mp hpc with rfl | hpc
  · refine piece_q A b i _ 1 (fun r l => ?_) x _ ?_ ?_
    · exact (congrFun (q1_eq ..) _).trans (qh_at H _ 1 (fun r l => by pointwise <;> rfl) r l)
    · show 0 + 1 * (x 0).val = (x 0).val; omega
    · show 128 + 1 * (x 1).val = 128 * 1 + (x 1).val; omega
  rcases List.mem_cons.mp hpc with rfl | hpc
  · refine piece_q A b i _ 0 (fun r l => ?_) x _ ?_ ?_
    · exact (congrFun (q0_eq ..) _).trans (qh_at H _ 0 (fun r l => by pointwise <;> rfl) r l)
    · show 0 + 1 * (x 0).val = (x 0).val; omega
    · show 0 + 1 * (x 1).val = 128 * 0 + (x 1).val; omega
  exact absurd hpc List.not_mem_nil

theorem out17_at (y : S256x768.Idx) : out0_17 x0 x1 x2 x3 x4 x5 x6 x7 x8 x9 x10 x11 x12 x13 x14 x15 y = ok A b (at_ i (y 0)) (y 1) := by
  unfold out0_17
  refine View.canon_apply_of_pieces (Val := Elt Ideal) (e := .bf16) (fun y : S256x768.Idx => ok A b (at_ i (y 0)) (y 1)) _ ?_ y (cover0_17 _ _ _ _ _ _ y)
  intro pc hpc x
  rcases List.mem_cons.mp hpc with rfl | hpc
  · refine piece_k A b i _ 5 (fun r l => ?_) x _ ?_ ?_
    · exact (congrFun (k5_eq ..) _).trans (kh_at H _ 5 (fun r l => by pointwise <;> rfl) r l)
    · show 0 + 1 * (x 0).val = (x 0).val; omega
    · show 640 + 1 * (x 1).val = 128 * 5 + (x 1).val; omega
  rcases List.mem_cons.mp hpc with rfl | hpc
  · refine piece_k A b i _ 4 (fun r l => ?_) x _ ?_ ?_
    · exact (congrFun (k4_eq ..) _).trans (kh_at H _ 4 (fun r l => by pointwise <;> rfl) r l)
    · show 0 + 1 * (x 0).val = (x 0).val; omega
    · show 512 + 1 * (x 1).val = 128 * 4 + (x 1).val; omega
  rcases List.mem_cons.mp hpc with rfl | hpc
  · refine piece_k A b i _ 3 (fun r l => ?_) x _ ?_ ?_
    · exact (congrFun (k3_eq ..) _).trans (kh_at H _ 3 (fun r l => by pointwise <;> rfl) r l)
    · show 0 + 1 * (x 0).val = (x 0).val; omega
    · show 384 + 1 * (x 1).val = 128 * 3 + (x 1).val; omega
  rcases List.mem_cons.mp hpc with rfl | hpc
  · refine piece_k A b i _ 2 (fun r l => ?_) x _ ?_ ?_
    · exact (congrFun (k2_eq ..) _).trans (kh_at H _ 2 (fun r l => by pointwise <;> rfl) r l)
    · show 0 + 1 * (x 0).val = (x 0).val; omega
    · show 256 + 1 * (x 1).val = 128 * 2 + (x 1).val; omega
  rcases List.mem_cons.mp hpc with rfl | hpc
  · refine piece_k A b i _ 1 (fun r l => ?_) x _ ?_ ?_
    · exact (congrFun (k1_eq ..) _).trans (kh_at H _ 1 (fun r l => by pointwise <;> rfl) r l)
    · show 0 + 1 * (x 0).val = (x 0).val; omega
    · show 128 + 1 * (x 1).val = 128 * 1 + (x 1).val; omega
  rcases List.mem_cons.mp hpc with rfl | hpc
  · refine piece_k A b i _ 0 (fun r l => ?_) x _ ?_ ?_
    · exact (congrFun (k0_eq ..) _).trans (kh_at H _ 0 (fun r l => by pointwise <;> rfl) r l)
    · show 0 + 1 * (x 0).val = (x 0).val; omega
    · show 0 + 1 * (x 1).val = 128 * 0 + (x 1).val; omega
  exact absurd hpc List.not_mem_nil

theorem out18_at (r : Fin 256) (n : Fin 384) : out0_18 x0 x1 x2 x3 x4 x5 x6 x7 x8 x9 x10 x11 x12 x13 x14 x15 (ix2 r n) = ov A b (at_ i r) n := by
  unfold out0_18
  rw [View.canon_cons_unit_zero off2, View.ld_unit_zero off2, pay50_at]
  unfold ov
  exact Finset.sum_congr rfl fun d _ => congrArg₂ (· * ·) (c_at H r d) (H.h9 d n)
theorem out19_at (r : Fin 256) (n : Fin 128) : out0_19 x0 x1 x2 x3 x4 x5 x6 x7 x8 x9 x10 x11 x12 x13 x14 x15 (ix2 r n) = ockv A b (at_ i r) n := by
  unfold out0_19
  rw [View.canon_cons_unit_zero off2]
  exact c_at H r n
theorem out20_at (r : Fin 256) (n : Fin 32) : out0_20 x0 x1 x2 x3 x4 x5 x6 x7 x8 x9 x10 x11 x12 x13 x14 x15 (ix2 r n) = okpe A b (at_ i r) n := by
  unfold out0_20
  rw [View.canon_cons_unit_zero off2]
  exact pe_at H r n
theorem out21_at (r : Fin 256) (n : Fin 384) : out0_21 x0 x1 x2 x3 x4 x5 x6 x7 x8 x9 x10 x11 x12 x13 x14 x15 (ix2 r n) = ou A b (at_ i r) n := by
  unfold out0_21
  rw [View.canon_cons_unit_zero off2]
  refine Eq.trans ?_ ((z_at H r ⟨512 + n.val, by omega⟩).trans (padv_hi _ _ _ _ rfl _))
  pointwise [k0_pay51]
theorem out22_at (r : Fin 256) (n : Fin 256) : out0_22 x0 x1 x2 x3 x4 x5 x6 x7 x8 x9 x10 x11 x12 x13 x14 x15 (ix2 r n) = osq A b (at_ i r) n := by
  unfold out0_22
  rw [View.canon_cons_unit_zero off2]
  refine Eq.trans ?_ (congrArg (· * lit 0x3E000000#32) ((z_at H r ⟨512 + (384 + n.val), by omega⟩).trans (padv_hi _ _ (800 + n.val) _ (by omega) (by omega))))
  have e : (⟨512 + (384 + n.val), by omega⟩ : Fin 1664) = ⟨896 + n.val, by omega⟩ := Fin.ext (by show 512 + (384 + n.val) = 896 + n.val; omega)
  rw [e]
  pointwise [k0_pay52]
theorem sk_at' (r : Fin 256) (n : Fin 256) : k0_pay1 (k0_pay53 x0 x1 x2 x3 x4 x5 x6 x7 x8 x9 x10 x11 x12 x13 x14 x15) (ix2 r n) = osk A b (at_ i r) n := by
  refine Eq.trans ?_ ((z_at H r ⟨512 + (640 + n.val), by omega⟩).trans (padv_hi _ _ (1056 + n.val) _ (by omega) (by omega)))
  have e : (⟨512 + (640 + n.val), by omega⟩ : Fin 1664) = ⟨1152 + n.val, by omega⟩ := Fin.ext (by show 512 + (640 + n.val) = 1152 + n.val; omega)
  rw [e]
  pointwise [k0_pay1]
theorem sv_at' (r : Fin 256) (n : Fin 256) : k0_pay2 (k0_pay53 x0 x1 x2 x3 x4 x5 x6 x7 x8 x9 x10 x11 x12 x13 x14 x15) (ix2 r n) = osv A b (at_ i r) n := by
  refine Eq.trans ?_ ((z_at H r ⟨512 + (896 + n.val), by omega⟩).trans (padv_hi _ _ (1312 + n.val) _ (by omega) (by omega)))
  have e : (⟨512 + (896 + n.val), by omega⟩ : Fin 1664) = ⟨1408 + n.val, by omega⟩ := Fin.ext (by show 512 + (896 + n.val) = 1408 + n.val; omega)
  rw [e]
  pointwise [k0_pay2]
theorem out23_at (r : Fin 256) (n : Fin 256) : out0_23 x0 x1 x2 x3 x4 x5 x6 x7 x8 x9 x10 x11 x12 x13 x14 x15 (ix2 r n) = osk A b (at_ i r) n := by
  unfold out0_23
  rw [View.canon_cons_unit_zero off2]
  exact sk_at' H r n
theorem out24_at (r : Fin 256) (n : Fin 256) : out0_24 x0 x1 x2 x3 x4 x5 x6 x7 x8 x9 x10 x11 x12 x13 x14 x15 (ix2 r n) = osv A b (at_ i r) n := by
  unfold out0_24
  rw [View.canon_cons_unit_zero off2]
  exact sv_at' H r n
theorem out25_at (r : Fin 256) (n : Fin 256) : out0_25 x0 x1 x2 x3 x4 x5 x6 x7 x8 x9 x10 x11 x12 x13 x14 x15 (ix2 r n) = osk A b (at_ i r) n := by
  unfold out0_25
  rw [View.canon_cons_unit_zero off2]
  exact sk_at' H r n
theorem out26_at (r : Fin 256) (n : Fin 256) : out0_26 x0 x1 x2 x3 x4 x5 x6 x7 x8 x9 x10 x11 x12 x13 x14 x15 (ix2 r n) = osv A b (at_ i r) n := by
  unfold out0_26
  rw [View.canon_cons_unit_zero off2]
  exact sv_at' H r n
end

end Cert.ProjKernelIdeal.Proj
end
-- ==== Proof.Proj.Blocks.lean ====
module

public import proofs.«01_k».proof.Proof.Proj.Host
public import proofs.«01_k».proof.Proof.Proj.Body
public import proofs.«01_k».proof.Proof.Proj.KI.Frame

/-! What the blocks of one grid point hold: parts of the arguments, relaid by the operations before the call. -/

@[expose] public section

set_option maxRecDepth 16384

noncomputable section

namespace Cert.ProjKernelIdeal.Proj

open Cert.Proj Cert.ProjKernelIdeal Cert.ProjKernelIdeal.Gen Idealize.ShloMosaic Idealize.ShloMosaic.TcCoe Idealize.SL.Sem

variable (m : (ℓ : Loc nD τ sig) → Buf (Elt Ideal) ℓ) (c : Dev nD)

/-- The kernel's arguments. -/
def argsK : Args where
  x := fun r d => aX m c (ix2 r d)
  sc := fun b d => aSc m c (ix3 b (0 : Fin 1) d)
  sh := fun b d => aSh m c (ix3 b (0 : Fin 1) d)
  gm := fun d => aGm m c (ix1 d)
  w := fun d n => aW m c (ix2 d n)
  gq := fun d => aGq m c (ix1 d)
  uq := fun d n => aUq m c (ix2 d n)
  qn := fun d => aQn m c (ix1 d)
  qr := fun d => aQr m c (ix1 d)
  gkv := fun d => aGkv m c (ix1 d)
  kr := fun d => aKr m c (ix1 d)
  uk := fun d n => aUk m c (ix2 d n)
  uv := fun d n => aUv m c (ix2 d n)
  kn := fun d => aKn m c (ix1 d)

theorem zero_i : FloatOps.sitofp (F := Ideal) FTy.f32 0#32 = (0 : EReal) := by
  show (((0#32 : BitVec 32).toInt : ℝ) : EReal) = 0
  simp

theorem w1_at (d : Fin 1024) (l : Fin 1664) : (V m c main_v5 : FVec Ideal S1024x1664 .bf16) (ix2 d l) = padv ((argsK m c).w d) l := by
  rw [V_w1]
  pointwise
  unfold padv
  simp only [zero_i]
  rfl
theorem gm_at (d : Fin 1024) : (V m c main_v6 : FVec Ideal S1x1024 .f32) (ix2 (0 : Fin 1) d) = (argsK m c).gm d := by
  rw [V_gm]
  pointwise <;> rfl
theorem gq_at (d : Fin 256) : (V m c main_v7 : FVec Ideal S1x256 .f32) (ix2 (0 : Fin 1) d) = (argsK m c).gq d := by
  rw [V_gq]
  pointwise <;> rfl
theorem gkv_at (d : Fin 128) : (V m c main_v8 : FVec Ideal S1x128 .f32) (ix2 (0 : Fin 1) d) = (argsK m c).gkv d := by
  rw [V_gkv]
  pointwise <;> rfl
theorem uq_at (d : Fin 256) (n : Fin 768) : (V m c main_v12 : FVec Ideal S256x768 .bf16) (ix2 d n) = if h : n.val % 128 < 96 then (argsK m c).uq d ⟨n.val / 128 * 96 + n.val % 128, by omega⟩ else (0 : EReal) := by
  rw [V_uq]
  pointwise
  by_cases h : n.val % 128 < 96
  · rw [dif_pos h]
    exact dif_pos ⟨by omega, h⟩
  · rw [dif_neg h]
    exact (dif_neg (fun q => h q.2)).trans zero_i
theorem uk_at (d : Fin 128) (n : Fin 768) : (V m c main_v16 : FVec Ideal S128x768 .bf16) (ix2 d n) = if h : n.val % 128 < 64 then (argsK m c).uk d ⟨n.val / 128 * 64 + n.val % 128, by omega⟩ else (0 : EReal) := by
  rw [V_uk]
  pointwise
  by_cases h : n.val % 128 < 64
  · rw [dif_pos h]
    exact dif_pos ⟨by omega, h⟩
  · rw [dif_neg h]
    exact (dif_neg (fun q => h q.2)).trans zero_i
theorem uv_at (d : Fin 128) (n : Fin 384) : (V m c main_v17 : FVec Ideal S128x384 .bf16) (ix2 d n) = (argsK m c).uv d n := by
  rw [V_uv]
  pointwise <;> rfl
theorem gqn_at (d : Fin 64) : (V m c main_v20 : FVec Ideal S1x128 .f32) (ix2 (0 : Fin 1) (⟨d.val, by omega⟩ : Fin 128)) = (argsK m c).qn d := by
  rw [V_gqh]
  pointwise <;> rfl
theorem gqr_at (d : Fin 32) : (V m c main_v20 : FVec Ideal S1x128 .f32) (ix2 (0 : Fin 1) (⟨64 + d.val, by omega⟩ : Fin 128)) = (argsK m c).qr d := by
  rw [V_gqh]
  pointwise
  exact congrArg (fun i => aQr m c (ix1 i)) (Fin.ext (by first | rfl | omega))
theorem gk_at (d : Fin 64) : (V m c main_v23 : FVec Ideal S1x128 .f32) (ix2 (0 : Fin 1) (⟨d.val, by omega⟩ : Fin 128)) = (argsK m c).kn d := by
  rw [V_gkh]
  pointwise <;> rfl
theorem gkr_at (d : Fin 32) : (V m c main_v26 : FVec Ideal S1x128 .f32) (ix2 (0 : Fin 1) (⟨64 + d.val, by omega⟩ : Fin 128)) = (argsK m c).kr d := by
  rw [V_gkr]
  pointwise
  exact congrArg (fun i => aKr m c (ix1 i)) (Fin.ext (by first | rfl | omega))
theorem ang_at (r : Fin 2048) (i : Fin 16) : angv (ix2 r i) = ang r i := by
  pointwise [angv]
  rfl
theorem cos_at (r : Fin 2048) (l : Fin 128) : (V m c main_v46 : FVec Ideal S2048x128 .f32) (ix2 r l) = tcos (cosv r) l := by
  rw [V_cos]
  pointwise
  simp only [ang_at]
  unfold tcos
  rfl
theorem sa_at (r : Fin 2048) (l : Fin 128) : (V m c main_v48 : FVec Ideal S2048x128 .f32) (ix2 r l) = tsa (sinv r) l := by
  rw [V_sa]
  pointwise
  simp only [ang_at]
  unfold tsa
  split
  · rfl
  · split
    · rfl
    · split <;> rfl
theorem sb_at (r : Fin 2048) (l : Fin 128) : (V m c main_v49 : FVec Ideal S2048x128 .f32) (ix2 r l) = tsb (sinv r) l := by
  rw [V_sb]
  pointwise
  simp only [ang_at]
  unfold tsb
  rfl

theorem c0_all : ∀ x z : Fin 8, (Scalar.addi (Scalar.muli (BitVec.ofNat 32 x.val) 8#32) (BitVec.ofNat 32 z.val)).toNat = 8 * x.val + z.val := by decide
theorem c1_all : ∀ x : Fin 8, (BitVec.ofNat 32 x.val).toNat = x.val := by decide

/-- The sequence and the tile of a grid point. -/
abbrev sq_ (t : Fin cfg0.N) : Fin 8 := grid0.coords t 0
abbrev ti_ (t : Fin cfg0.N) : Fin 8 := grid0.coords t 1

theorem blk0 (t : Fin cfg0.N) (r : Fin 256) (d : Fin 1024) : (iblk m c 0 t : Vec Ideal S256x1024 .f32) (ix2 r d) = (argsK m c).x ⟨(sq_ t).val * 2048 + (256 * (ti_ t).val + r.val), by omega⟩ d := by
  have e := c0_all (sq_ t) (ti_ t)
  unfold iblk
  rw [View.read_apply]
  show V m c main_arg0 _ = m _ _
  rw [V_main_arg0]
  congr 1
  funext a
  apply Fin.ext
  match a with
  | ⟨0, _⟩ =>
    show (Scalar.addi (Scalar.muli (BitVec.ofNat 32 (sq_ t).val) 8#32) (BitVec.ofNat 32 (ti_ t).val)).toNat * 256 + 1 * r.val = (sq_ t).val * 2048 + (256 * (ti_ t).val + r.val)
    omega
  | ⟨1, _⟩ => show 0 * 1024 + 1 * d.val = d.val; omega
theorem blk1 (t : Fin cfg0.N) (d : Fin 1024) : (iblk m c 1 t : Vec Ideal S1x1x1024 .f32) (ix3 (0 : Fin 1) (0 : Fin 1) d) = (argsK m c).sc (sq_ t) d := by
  have e := c1_all (sq_ t)
  unfold iblk
  rw [View.read_apply]
  show V m c main_arg1 _ = m _ _
  rw [V_main_arg1]
  congr 1
  funext a
  apply Fin.ext
  match a with
  | ⟨0, _⟩ => show (BitVec.ofNat 32 (sq_ t).val).toNat * 1 + 1 * 0 = (sq_ t).val; omega
  | ⟨1, _⟩ => rfl
  | ⟨2, _⟩ => show 0 * 1024 + 1 * d.val = d.val; omega
theorem blk2 (t : Fin cfg0.N) (d : Fin 1024) : (iblk m c 2 t : Vec Ideal S1x1x1024 .f32) (ix3 (0 : Fin 1) (0 : Fin 1) d) = (argsK m c).sh (sq_ t) d := by
  have e := c1_all (sq_ t)
  unfold iblk
  rw [View.read_apply]
  show V m c main_arg2 _ = m _ _
  rw [V_main_arg2]
  congr 1
  funext a
  apply Fin.ext
  match a with
  | ⟨0, _⟩ => show (BitVec.ofNat 32 (sq_ t).val).toNat * 1 + 1 * 0 = (sq_ t).val; omega
  | ⟨1, _⟩ => rfl
  | ⟨2, _⟩ => show 0 * 1024 + 1 * d.val = d.val; omega
theorem blk3 (t : Fin cfg0.N) (p : Fin 1) (q : Fin 1024) : (iblk m c 3 t : Vec Ideal S1x1024 .f32) (ix2 p q) = (V m c main_v6 : FVec Ideal S1x1024 .f32) (ix2 p q) := by
  unfold iblk
  rw [View.read_apply]
  show V m c main_v6 _ = V m c main_v6 _
  congr 1
  funext a
  apply Fin.ext
  match a with
  | ⟨0, _⟩ => show 0 * 1 + 1 * p.val = p.val; omega
  | ⟨1, _⟩ => show 0 * 1024 + 1 * q.val = q.val; omega
theorem blk4 (t : Fin cfg0.N) (p : Fin 1024) (q : Fin 1664) : (iblk m c 4 t : Vec Ideal S1024x1664 .bf16) (ix2 p q) = (V m c main_v5 : FVec Ideal S1024x1664 .bf16) (ix2 p q) := by
  unfold iblk
  rw [View.read_apply]
  show V m c main_v5 _ = V m c main_v5 _
  congr 1
  funext a
  apply Fin.ext
  match a with
  | ⟨0, _⟩ => show 0 * 1024 + 1 * p.val = p.val; omega
  | ⟨1, _⟩ => show 0 * 1664 + 1 * q.val = q.val; omega
theorem blk5 (t : Fin cfg0.N) (p : Fin 1) (q : Fin 256) : (iblk m c 5 t : Vec Ideal S1x256 .f32) (ix2 p q) = (V m c main_v7 : FVec Ideal S1x256 .f32) (ix2 p q) := by
  unfold iblk
  rw [View.read_apply]
  show V m c main_v7 _ = V m c main_v7 _
  congr 1
  funext a
  apply Fin.ext
  match a with
  | ⟨0, _⟩ => show 0 * 1 + 1 * p.val = p.val; omega
  | ⟨1, _⟩ => show 0 * 256 + 1 * q.val = q.val; omega
theorem blk6 (t : Fin cfg0.N) (p : Fin 256) (q : Fin 768) : (iblk m c 6 t : Vec Ideal S256x768 .bf16) (ix2 p q) = (V m c main_v12 : FVec Ideal S256x768 .bf16) (ix2 p q) := by
  unfold iblk
  rw [View.read_apply]
  show V m c main_v12 _ = V m c main_v12 _
  congr 1
  funext a
  apply Fin.ext
  match a with
  | ⟨0, _⟩ => show 0 * 256 + 1 * p.val = p.val; omega
  | ⟨1, _⟩ => show 0 * 768 + 1 * q.val = q.val; omega
theorem blk7 (t : Fin cfg0.N) (p : Fin 1) (q : Fin 128) : (iblk m c 7 t : Vec Ideal S1x128 .f32) (ix2 p q) = (V m c main_v8 : FVec Ideal S1x128 .f32) (ix2 p q) := by
  unfold iblk
  rw [View.read_apply]
  show V m c main_v8 _ = V m c main_v8 _
  congr 1
  funext a
  apply Fin.ext
  match a with
  | ⟨0, _⟩ => show 0 * 1 + 1 * p.val = p.val; omega
  | ⟨1, _⟩ => show 0 * 128 + 1 * q.val = q.val; omega
theorem blk8 (t : Fin cfg0.N) (p : Fin 128) (q : Fin 768) : (iblk m c 8 t : Vec Ideal S128x768 .bf16) (ix2 p q) = (V m c main_v16 : FVec Ideal S128x768 .bf16) (ix2 p q) := by
  unfold iblk
  rw [View.read_apply]
  show V m c main_v16 _ = V m c main_v16 _
  congr 1
  funext a
  apply Fin.ext
  match a with
  | ⟨0, _⟩ => show 0 * 128 + 1 * p.val = p.val; omega
  | ⟨1, _⟩ => show 0 * 768 + 1 * q.val = q.val; omega
theorem blk9 (t : Fin cfg0.N) (p : Fin 128) (q : Fin 384) : (iblk m c 9 t : Vec Ideal S128x384 .bf16) (ix2 p q) = (V m c main_v17 : FVec Ideal S128x384 .bf16) (ix2 p q) := by
  unfold iblk
  rw [View.read_apply]
  show V m c main_v17 _ = V m c main_v17 _
  congr 1
  funext a
  apply Fin.ext
  match a with
  | ⟨0, _⟩ => show 0 * 128 + 1 * p.val = p.val; omega
  | ⟨1, _⟩ => show 0 * 384 + 1 * q.val = q.val; omega
theorem blk10 (t : Fin cfg0.N) (p : Fin 1) (q : Fin 128) : (iblk m c 10 t : Vec Ideal S1x128 .f32) (ix2 p q) = (V m c main_v20 : FVec Ideal S1x128 .f32) (ix2 p q) := by
  unfold iblk
  rw [View.read_apply]
  show V m c main_v20 _ = V m c main_v20 _
  congr 1
  funext a
  apply Fin.ext
  match a with
  | ⟨0, _⟩ => show 0 * 1 + 1 * p.val = p.val; omega
  | ⟨1, _⟩ => show 0 * 128 + 1 * q.val = q.val; omega
theorem blk11 (t : Fin cfg0.N) (p : Fin 1) (q : Fin 128) : (iblk m c 11 t : Vec Ideal S1x128 .f32) (ix2 p q) = (V m c main_v23 : FVec Ideal S1x128 .f32) (ix2 p q) := by
  unfold iblk
  rw [View.read_apply]
  show V m c main_v23 _ = V m c main_v23 _
  congr 1
  funext a
  apply Fin.ext
  match a with
  | ⟨0, _⟩ => show 0 * 1 + 1 * p.val = p.val; omega
  | ⟨1, _⟩ => show 0 * 128 + 1 * q.val = q.val; omega
theorem blk12 (t : Fin cfg0.N) (p : Fin 1) (q : Fin 128) : (iblk m c 12 t : Vec Ideal S1x128 .f32) (ix2 p q) = (V m c main_v26 : FVec Ideal S1x128 .f32) (ix2 p q) := by
  unfold iblk
  rw [View.read_apply]
  show V m c main_v26 _ = V m c main_v26 _
  congr 1
  funext a
  apply Fin.ext
  match a with
  | ⟨0, _⟩ => show 0 * 1 + 1 * p.val = p.val; omega
  | ⟨1, _⟩ => show 0 * 128 + 1 * q.val = q.val; omega
theorem blk13 (t : Fin cfg0.N) (r : Fin 256) (l : Fin 128) : (iblk m c 13 t : Vec Ideal S256x128 .f32) (ix2 r l) = (V m c main_v46 : FVec Ideal S2048x128 .f32) (ix2 (at_ (ti_ t) r) l) := by
  have e := c1_all (ti_ t)
  unfold iblk
  rw [View.read_apply]
  show V m c main_v46 _ = V m c main_v46 _
  congr 1
  funext a
  apply Fin.ext
  match a with
  | ⟨0, _⟩ => show (BitVec.ofNat 32 (ti_ t).val).toNat * 256 + 1 * r.val = 256 * (ti_ t).val + r.val; omega
  | ⟨1, _⟩ => show 0 * 128 + 1 * l.val = l.val; omega
theorem blk14 (t : Fin cfg0.N) (r : Fin 256) (l : Fin 128) : (iblk m c 14 t : Vec Ideal S256x128 .f32) (ix2 r l) = (V m c main_v48 : FVec Ideal S2048x128 .f32) (ix2 (at_ (ti_ t) r) l) := by
  have e := c1_all (ti_ t)
  unfold iblk
  rw [View.read_apply]
  show V m c main_v48 _ = V m c main_v48 _
  congr 1
  funext a
  apply Fin.ext
  match a with
  | ⟨0, _⟩ => show (BitVec.ofNat 32 (ti_ t).val).toNat * 256 + 1 * r.val = 256 * (ti_ t).val + r.val; omega
  | ⟨1, _⟩ => show 0 * 128 + 1 * l.val = l.val; omega
theorem blk15 (t : Fin cfg0.N) (r : Fin 256) (l : Fin 128) : (iblk m c 15 t : Vec Ideal S256x128 .f32) (ix2 r l) = (V m c main_v49 : FVec Ideal S2048x128 .f32) (ix2 (at_ (ti_ t) r) l) := by
  have e := c1_all (ti_ t)
  unfold iblk
  rw [View.read_apply]
  show V m c main_v49 _ = V m c main_v49 _
  congr 1
  funext a
  apply Fin.ext
  match a with
  | ⟨0, _⟩ => show (BitVec.ofNat 32 (ti_ t).val).toNat * 256 + 1 * r.val = 256 * (ti_ t).val + r.val; omega
  | ⟨1, _⟩ => show 0 * 128 + 1 * l.val = l.val; omega

/-- A grid point's blocks. -/
theorem blk_all (t : Fin cfg0.N) : Blk (argsK m c) (sq_ t) (ti_ t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) where
  h0 := blk0 m c t
  h1 := blk1 m c t
  h2 := blk2 m c t
  h3 := fun d => (blk3 m c t _ _).trans (gm_at m c d)
  h4 := fun d l => (blk4 m c t _ _).trans (w1_at m c d l)
  h5 := fun d => (blk5 m c t _ _).trans (gq_at m c d)
  h6 := fun d n => (blk6 m c t _ _).trans (uq_at m c d n)
  h7 := fun d => (blk7 m c t _ _).trans (gkv_at m c d)
  h8 := fun d n => (blk8 m c t _ _).trans (uk_at m c d n)
  h9 := fun d n => (blk9 m c t _ _).trans (uv_at m c d n)
  h10 := fun d => (blk10 m c t _ _).trans (gqn_at m c d)
  h10' := fun d => (blk10 m c t _ _).trans (gqr_at m c d)
  h11 := fun d => (blk11 m c t _ _).trans (gk_at m c d)
  h12 := fun d => (blk12 m c t _ _).trans (gkr_at m c d)
  h13 := fun r l => (blk13 m c t r l).trans (cos_at m c _ l)
  h14 := fun r l => (blk14 m c t r l).trans (sa_at m c _ l)
  h15 := fun r l => (blk15 m c t r l).trans (sb_at m c _ l)

end Cert.ProjKernelIdeal.Proj
end
-- ==== Proof.Proj.Final.lean ====
module

public import proofs.«01_k».proof.Proof.Proj.Blocks
public import proofs.«01_k».proof.Proof.Proj.KI.Value

/-! The result arrays of the projections' call. -/

@[expose] public section

set_option maxRecDepth 16384

noncomputable section

namespace Cert.ProjKernelIdeal.Proj

open Cert.Proj Cert.ProjKernelIdeal Cert.ProjKernelIdeal.Gen Idealize.ShloMosaic Idealize.ShloMosaic.TcCoe Idealize.SL.Sem

variable (m : (ℓ : Loc nD τ sig) → Buf (Elt Ideal) ℓ) (c : Dev nD)

/-- An entry of an array of rows, at a tile's row. -/
theorem tok_at {n : ℕ} (f : Fin 8 → Fin 2048 → Fin n → EReal) (b i : Fin 8) (r : Fin 256) (y : (⟨2, ![16384, n]⟩ : Shape).Idx) (k : Fin n)
    (h0 : (y 0).val = (8 * b.val + i.val) * 256 + 1 * r.val) (h1 : (y 1).val = k.val) : tok f y = f b (at_ i r) k := by
  unfold tok
  have e0 : (⟨(y 0).val / 2048, by have : (y 0).val < 16384 := (y 0).isLt; omega⟩ : Fin 8) = b := Fin.ext (by show (y 0).val / 2048 = b.val; omega)
  have e1 : (⟨(y 0).val % 2048, by omega⟩ : Fin 2048) = at_ i r := Fin.ext (by show (y 0).val % 2048 = 256 * i.val + r.val; omega)
  have e2 : (y 1 : Fin n) = k := Fin.ext h1
  rw [e0, e1, e2]

/-- An entry of the array of positions, at a tile's row. -/
theorem side_at (f : Fin 8 → Fin 2048 → Fin 384 → EReal) (b i : Fin 8) (r : Fin 256) (y : (⟨2, ![2048, 3072]⟩ : Shape).Idx) (k : Fin 384)
    (h0 : (y 0).val = i.val * 256 + 1 * r.val) (h1 : (y 1).val = b.val * 384 + 1 * k.val) : side f y = f b (at_ i r) k := by
  unfold side
  have e0 : (⟨(y 1).val / 384, by have : (y 1).val < 3072 := (y 1).isLt; omega⟩ : Fin 8) = b := Fin.ext (by show (y 1).val / 384 = b.val; omega)
  have e1 : (y 0 : Fin 2048) = at_ i r := Fin.ext (by show (y 0).val = 256 * i.val + r.val; omega)
  have e2 : (⟨(y 1).val % 384, by omega⟩ : Fin 384) = k := Fin.ext (by show (y 1).val % 384 = k.val; omega)
  rw [e0, e1, e2]

def G16 : S16384x768.Idx → EReal := tok (oq (argsK m c))

theorem flushed16 (t : Fin cfg0.N) : (dats m 0 c).flushed 16 t = ((cfg0.win 16).blk t).view.read (Elt Ideal) (G16 m c) := by
  rw [Value.flushed16]
  refine funext fun (y : S256x768.Idx) => ?_
  rw [View.read_apply]
  refine (out16_at (blk_all m c t) y).trans ?_
  have e := c0_all (sq_ t) (ti_ t)
  refine (tok_at _ _ _ _ _ _ ?_ ?_).symm
  · show (Scalar.addi (Scalar.muli (BitVec.ofNat 32 (sq_ t).val) 8#32) (BitVec.ofNat 32 (ti_ t).val)).toNat * 256 + 1 * (y 0).val = (8 * (sq_ t).val + (ti_ t).val) * 256 + 1 * (y 0).val
    omega
  · show 0 * 768 + 1 * (y 1).val = (y 1).val
    omega

theorem cover16 (i : S16384x768.Idx) : ∃ t : Fin cfg0.N, (cfg0.win 16).flush t = true ∧ i ∈ ((cfg0.win 16).blk t).view.set := by
  have h0 : (i 0).val < 16384 := (i 0).isLt
  have h1 : (i 1).val < 768 := (i 1).isLt
  have hN : (i 0).val / 256 < 64 := by omega
  let t : Fin cfg0.N := ⟨(i 0).val / 256, hN⟩
  refine ⟨t, flush0_16 t, ?_⟩
  let x : S256x768.Idx := ix2 ⟨(i 0).val % 256, by omega⟩ ⟨(i 1).val, h1⟩
  have c0 : (sq_ t).val = (i 0).val / 2048 := by
    show (i 0).val / 256 / 8 % 8 = _
    omega
  have c1 : (ti_ t).val = (i 0).val / 256 % 8 := by
    show (i 0).val / 256 / 1 % 8 = _
    omega
  have a0 := c0_all (sq_ t) (ti_ t)
  have e : ((cfg0.win 16).blk t).view.emb x = i := by
    funext a
    apply Fin.ext
    match a with
    | ⟨0, _⟩ =>
      show (Scalar.addi (Scalar.muli (BitVec.ofNat 32 (sq_ t).val) 8#32) (BitVec.ofNat 32 (ti_ t).val)).toNat * 256 + 1 * ((i 0).val % 256) = (i 0).val
      omega
    | ⟨1, _⟩ => show 0 * 768 + 1 * (i 1).val = (i 1).val; omega
  rw [← e]
  exact ((cfg0.win 16).blk t).view.emb_mem_set x

theorem arr16 : (dats m 0 c).arrAt 16 cfg0.N = G16 m c :=
  (dats m 0 c).arrAt_eq_of_cover 16 (G16 m c) (fun t _ => flushed16 m c t) cover16

def G17 : S16384x768.Idx → EReal := tok (ok (argsK m c))

theorem flushed17 (t : Fin cfg0.N) : (dats m 0 c).flushed 17 t = ((cfg0.win 17).blk t).view.read (Elt Ideal) (G17 m c) := by
  rw [Value.flushed17]
  refine funext fun (y : S256x768.Idx) => ?_
  rw [View.read_apply]
  refine (out17_at (blk_all m c t) y).trans ?_
  have e := c0_all (sq_ t) (ti_ t)
  refine (tok_at _ _ _ _ _ _ ?_ ?_).symm
  · show (Scalar.addi (Scalar.muli (BitVec.ofNat 32 (sq_ t).val) 8#32) (BitVec.ofNat 32 (ti_ t).val)).toNat * 256 + 1 * (y 0).val = (8 * (sq_ t).val + (ti_ t).val) * 256 + 1 * (y 0).val
    omega
  · show 0 * 768 + 1 * (y 1).val = (y 1).val
    omega

theorem cover17 (i : S16384x768.Idx) : ∃ t : Fin cfg0.N, (cfg0.win 17).flush t = true ∧ i ∈ ((cfg0.win 17).blk t).view.set := by
  have h0 : (i 0).val < 16384 := (i 0).isLt
  have h1 : (i 1).val < 768 := (i 1).isLt
  have hN : (i 0).val / 256 < 64 := by omega
  let t : Fin cfg0.N := ⟨(i 0).val / 256, hN⟩
  refine ⟨t, flush0_17 t, ?_⟩
  let x : S256x768.Idx := ix2 ⟨(i 0).val % 256, by omega⟩ ⟨(i 1).val, h1⟩
  have c0 : (sq_ t).val = (i 0).val / 2048 := by
    show (i 0).val / 256 / 8 % 8 = _
    omega
  have c1 : (ti_ t).val = (i 0).val / 256 % 8 := by
    show (i 0).val / 256 / 1 % 8 = _
    omega
  have a0 := c0_all (sq_ t) (ti_ t)
  have e : ((cfg0.win 17).blk t).view.emb x = i := by
    funext a
    apply Fin.ext
    match a with
    | ⟨0, _⟩ =>
      show (Scalar.addi (Scalar.muli (BitVec.ofNat 32 (sq_ t).val) 8#32) (BitVec.ofNat 32 (ti_ t).val)).toNat * 256 + 1 * ((i 0).val % 256) = (i 0).val
      omega
    | ⟨1, _⟩ => show 0 * 768 + 1 * (i 1).val = (i 1).val; omega
  rw [← e]
  exact ((cfg0.win 17).blk t).view.emb_mem_set x

theorem arr17 : (dats m 0 c).arrAt 17 cfg0.N = G17 m c :=
  (dats m 0 c).arrAt_eq_of_cover 17 (G17 m c) (fun t _ => flushed17 m c t) cover17

def G18 : S16384x384.Idx → EReal := tok (ov (argsK m c))

theorem flushed18 (t : Fin cfg0.N) : (dats m 0 c).flushed 18 t = ((cfg0.win 18).blk t).view.read (Elt Ideal) (G18 m c) := by
  rw [Value.flushed18]
  refine funext fun (y : S256x384.Idx) => ?_
  rw [View.read_apply]
  refine (congrArg (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (ValueIdx.eq_ix2 y)).trans ((out18_at (blk_all m c t) (y 0) (y 1)).trans ?_)
  have e := c0_all (sq_ t) (ti_ t)
  refine (tok_at _ _ _ _ _ _ ?_ ?_).symm
  · show (Scalar.addi (Scalar.muli (BitVec.ofNat 32 (sq_ t).val) 8#32) (BitVec.ofNat 32 (ti_ t).val)).toNat * 256 + 1 * (y 0).val = (8 * (sq_ t).val + (ti_ t).val) * 256 + 1 * (y 0).val
    omega
  · show 0 * 384 + 1 * (y 1).val = (y 1).val
    omega

theorem cover18 (i : S16384x384.Idx) : ∃ t : Fin cfg0.N, (cfg0.win 18).flush t = true ∧ i ∈ ((cfg0.win 18).blk t).view.set := by
  have h0 : (i 0).val < 16384 := (i 0).isLt
  have h1 : (i 1).val < 384 := (i 1).isLt
  have hN : (i 0).val / 256 < 64 := by omega
  let t : Fin cfg0.N := ⟨(i 0).val / 256, hN⟩
  refine ⟨t, flush0_18 t, ?_⟩
  let x : S256x384.Idx := ix2 ⟨(i 0).val % 256, by omega⟩ ⟨(i 1).val, h1⟩
  have c0 : (sq_ t).val = (i 0).val / 2048 := by
    show (i 0).val / 256 / 8 % 8 = _
    omega
  have c1 : (ti_ t).val = (i 0).val / 256 % 8 := by
    show (i 0).val / 256 / 1 % 8 = _
    omega
  have a0 := c0_all (sq_ t) (ti_ t)
  have e : ((cfg0.win 18).blk t).view.emb x = i := by
    funext a
    apply Fin.ext
    match a with
    | ⟨0, _⟩ =>
      show (Scalar.addi (Scalar.muli (BitVec.ofNat 32 (sq_ t).val) 8#32) (BitVec.ofNat 32 (ti_ t).val)).toNat * 256 + 1 * ((i 0).val % 256) = (i 0).val
      omega
    | ⟨1, _⟩ => show 0 * 384 + 1 * (i 1).val = (i 1).val; omega
  rw [← e]
  exact ((cfg0.win 18).blk t).view.emb_mem_set x

theorem arr18 : (dats m 0 c).arrAt 18 cfg0.N = G18 m c :=
  (dats m 0 c).arrAt_eq_of_cover 18 (G18 m c) (fun t _ => flushed18 m c t) cover18

def G19 : S16384x128.Idx → EReal := tok (ockv (argsK m c))

theorem flushed19 (t : Fin cfg0.N) : (dats m 0 c).flushed 19 t = ((cfg0.win 19).blk t).view.read (Elt Ideal) (G19 m c) := by
  rw [Value.flushed19]
  refine funext fun (y : S256x128.Idx) => ?_
  rw [View.read_apply]
  refine (congrArg (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (ValueIdx.eq_ix2 y)).trans ((out19_at (blk_all m c t) (y 0) (y 1)).trans ?_)
  have e := c0_all (sq_ t) (ti_ t)
  refine (tok_at _ _ _ _ _ _ ?_ ?_).symm
  · show (Scalar.addi (Scalar.muli (BitVec.ofNat 32 (sq_ t).val) 8#32) (BitVec.ofNat 32 (ti_ t).val)).toNat * 256 + 1 * (y 0).val = (8 * (sq_ t).val + (ti_ t).val) * 256 + 1 * (y 0).val
    omega
  · show 0 * 128 + 1 * (y 1).val = (y 1).val
    omega

theorem cover19 (i : S16384x128.Idx) : ∃ t : Fin cfg0.N, (cfg0.win 19).flush t = true ∧ i ∈ ((cfg0.win 19).blk t).view.set := by
  have h0 : (i 0).val < 16384 := (i 0).isLt
  have h1 : (i 1).val < 128 := (i 1).isLt
  have hN : (i 0).val / 256 < 64 := by omega
  let t : Fin cfg0.N := ⟨(i 0).val / 256, hN⟩
  refine ⟨t, flush0_19 t, ?_⟩
  let x : S256x128.Idx := ix2 ⟨(i 0).val % 256, by omega⟩ ⟨(i 1).val, h1⟩
  have c0 : (sq_ t).val = (i 0).val / 2048 := by
    show (i 0).val / 256 / 8 % 8 = _
    omega
  have c1 : (ti_ t).val = (i 0).val / 256 % 8 := by
    show (i 0).val / 256 / 1 % 8 = _
    omega
  have a0 := c0_all (sq_ t) (ti_ t)
  have e : ((cfg0.win 19).blk t).view.emb x = i := by
    funext a
    apply Fin.ext
    match a with
    | ⟨0, _⟩ =>
      show (Scalar.addi (Scalar.muli (BitVec.ofNat 32 (sq_ t).val) 8#32) (BitVec.ofNat 32 (ti_ t).val)).toNat * 256 + 1 * ((i 0).val % 256) = (i 0).val
      omega
    | ⟨1, _⟩ => show 0 * 128 + 1 * (i 1).val = (i 1).val; omega
  rw [← e]
  exact ((cfg0.win 19).blk t).view.emb_mem_set x

theorem arr19 : (dats m 0 c).arrAt 19 cfg0.N = G19 m c :=
  (dats m 0 c).arrAt_eq_of_cover 19 (G19 m c) (fun t _ => flushed19 m c t) cover19

def G20 : S16384x32.Idx → EReal := tok (okpe (argsK m c))

theorem flushed20 (t : Fin cfg0.N) : (dats m 0 c).flushed 20 t = ((cfg0.win 20).blk t).view.read (Elt Ideal) (G20 m c) := by
  rw [Value.flushed20]
  refine funext fun (y : S256x32.Idx) => ?_
  rw [View.read_apply]
  refine (congrArg (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (ValueIdx.eq_ix2 y)).trans ((out20_at (blk_all m c t) (y 0) (y 1)).trans ?_)
  have e := c0_all (sq_ t) (ti_ t)
  refine (tok_at _ _ _ _ _ _ ?_ ?_).symm
  · show (Scalar.addi (Scalar.muli (BitVec.ofNat 32 (sq_ t).val) 8#32) (BitVec.ofNat 32 (ti_ t).val)).toNat * 256 + 1 * (y 0).val = (8 * (sq_ t).val + (ti_ t).val) * 256 + 1 * (y 0).val
    omega
  · show 0 * 32 + 1 * (y 1).val = (y 1).val
    omega

theorem cover20 (i : S16384x32.Idx) : ∃ t : Fin cfg0.N, (cfg0.win 20).flush t = true ∧ i ∈ ((cfg0.win 20).blk t).view.set := by
  have h0 : (i 0).val < 16384 := (i 0).isLt
  have h1 : (i 1).val < 32 := (i 1).isLt
  have hN : (i 0).val / 256 < 64 := by omega
  let t : Fin cfg0.N := ⟨(i 0).val / 256, hN⟩
  refine ⟨t, flush0_20 t, ?_⟩
  let x : S256x32.Idx := ix2 ⟨(i 0).val % 256, by omega⟩ ⟨(i 1).val, h1⟩
  have c0 : (sq_ t).val = (i 0).val / 2048 := by
    show (i 0).val / 256 / 8 % 8 = _
    omega
  have c1 : (ti_ t).val = (i 0).val / 256 % 8 := by
    show (i 0).val / 256 / 1 % 8 = _
    omega
  have a0 := c0_all (sq_ t) (ti_ t)
  have e : ((cfg0.win 20).blk t).view.emb x = i := by
    funext a
    apply Fin.ext
    match a with
    | ⟨0, _⟩ =>
      show (Scalar.addi (Scalar.muli (BitVec.ofNat 32 (sq_ t).val) 8#32) (BitVec.ofNat 32 (ti_ t).val)).toNat * 256 + 1 * ((i 0).val % 256) = (i 0).val
      omega
    | ⟨1, _⟩ => show 0 * 32 + 1 * (i 1).val = (i 1).val; omega
  rw [← e]
  exact ((cfg0.win 20).blk t).view.emb_mem_set x

theorem arr20 : (dats m 0 c).arrAt 20 cfg0.N = G20 m c :=
  (dats m 0 c).arrAt_eq_of_cover 20 (G20 m c) (fun t _ => flushed20 m c t) cover20

def G21 : S2048x3072.Idx → EReal := side (ou (argsK m c))

theorem flushed21 (t : Fin cfg0.N) : (dats m 0 c).flushed 21 t = ((cfg0.win 21).blk t).view.read (Elt Ideal) (G21 m c) := by
  rw [Value.flushed21]
  refine funext fun (y : S256x384.Idx) => ?_
  rw [View.read_apply]
  refine (congrArg (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (ValueIdx.eq_ix2 y)).trans ((out21_at (blk_all m c t) (y 0) (y 1)).trans ?_)
  have e0 := c1_all (sq_ t)
  have e1 := c1_all (ti_ t)
  refine (side_at _ _ _ _ _ _ ?_ ?_).symm
  · show (BitVec.ofNat 32 (ti_ t).val).toNat * 256 + 1 * (y 0).val = (ti_ t).val * 256 + 1 * (y 0).val
    omega
  · show (BitVec.ofNat 32 (sq_ t).val).toNat * 384 + 1 * (y 1).val = (sq_ t).val * 384 + 1 * (y 1).val
    omega

theorem cover21 (i : S2048x3072.Idx) : ∃ t : Fin cfg0.N, (cfg0.win 21).flush t = true ∧ i ∈ ((cfg0.win 21).blk t).view.set := by
  have h0 : (i 0).val < 2048 := (i 0).isLt
  have h1 : (i 1).val < 3072 := (i 1).isLt
  have hN : 8 * ((i 1).val / 384) + (i 0).val / 256 < 64 := by omega
  let t : Fin cfg0.N := ⟨8 * ((i 1).val / 384) + (i 0).val / 256, hN⟩
  refine ⟨t, flush0_21 t, ?_⟩
  let x : S256x384.Idx := ix2 ⟨(i 0).val % 256, by omega⟩ ⟨(i 1).val % 384, by omega⟩
  have c0 : (sq_ t).val = (i 1).val / 384 := by
    show (8 * ((i 1).val / 384) + (i 0).val / 256) / 8 % 8 = _
    omega
  have c1 : (ti_ t).val = (i 0).val / 256 := by
    show (8 * ((i 1).val / 384) + (i 0).val / 256) / 1 % 8 = _
    omega
  have a0 := c1_all (sq_ t)
  have a1 := c1_all (ti_ t)
  have e : ((cfg0.win 21).blk t).view.emb x = i := by
    funext a
    apply Fin.ext
    match a with
    | ⟨0, _⟩ => show (BitVec.ofNat 32 (ti_ t).val).toNat * 256 + 1 * ((i 0).val % 256) = (i 0).val; omega
    | ⟨1, _⟩ => show (BitVec.ofNat 32 (sq_ t).val).toNat * 384 + 1 * ((i 1).val % 384) = (i 1).val; omega
  rw [← e]
  exact ((cfg0.win 21).blk t).view.emb_mem_set x

theorem arr21 : (dats m 0 c).arrAt 21 cfg0.N = G21 m c :=
  (dats m 0 c).arrAt_eq_of_cover 21 (G21 m c) (fun t _ => flushed21 m c t) cover21

def G22 : S16384x256.Idx → EReal := tok (osq (argsK m c))

theorem flushed22 (t : Fin cfg0.N) : (dats m 0 c).flushed 22 t = ((cfg0.win 22).blk t).view.read (Elt Ideal) (G22 m c) := by
  rw [Value.flushed22]
  refine funext fun (y : S256x256.Idx) => ?_
  rw [View.read_apply]
  refine (congrArg (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (ValueIdx.eq_ix2 y)).trans ((out22_at (blk_all m c t) (y 0) (y 1)).trans ?_)
  have e := c0_all (sq_ t) (ti_ t)
  refine (tok_at _ _ _ _ _ _ ?_ ?_).symm
  · show (Scalar.addi (Scalar.muli (BitVec.ofNat 32 (sq_ t).val) 8#32) (BitVec.ofNat 32 (ti_ t).val)).toNat * 256 + 1 * (y 0).val = (8 * (sq_ t).val + (ti_ t).val) * 256 + 1 * (y 0).val
    omega
  · show 0 * 256 + 1 * (y 1).val = (y 1).val
    omega

theorem cover22 (i : S16384x256.Idx) : ∃ t : Fin cfg0.N, (cfg0.win 22).flush t = true ∧ i ∈ ((cfg0.win 22).blk t).view.set := by
  have h0 : (i 0).val < 16384 := (i 0).isLt
  have h1 : (i 1).val < 256 := (i 1).isLt
  have hN : (i 0).val / 256 < 64 := by omega
  let t : Fin cfg0.N := ⟨(i 0).val / 256, hN⟩
  refine ⟨t, flush0_22 t, ?_⟩
  let x : S256x256.Idx := ix2 ⟨(i 0).val % 256, by omega⟩ ⟨(i 1).val, h1⟩
  have c0 : (sq_ t).val = (i 0).val / 2048 := by
    show (i 0).val / 256 / 8 % 8 = _
    omega
  have c1 : (ti_ t).val = (i 0).val / 256 % 8 := by
    show (i 0).val / 256 / 1 % 8 = _
    omega
  have a0 := c0_all (sq_ t) (ti_ t)
  have e : ((cfg0.win 22).blk t).view.emb x = i := by
    funext a
    apply Fin.ext
    match a with
    | ⟨0, _⟩ =>
      show (Scalar.addi (Scalar.muli (BitVec.ofNat 32 (sq_ t).val) 8#32) (BitVec.ofNat 32 (ti_ t).val)).toNat * 256 + 1 * ((i 0).val % 256) = (i 0).val
      omega
    | ⟨1, _⟩ => show 0 * 256 + 1 * (i 1).val = (i 1).val; omega
  rw [← e]
  exact ((cfg0.win 22).blk t).view.emb_mem_set x

theorem arr22 : (dats m 0 c).arrAt 22 cfg0.N = G22 m c :=
  (dats m 0 c).arrAt_eq_of_cover 22 (G22 m c) (fun t _ => flushed22 m c t) cover22

def G23 : S16384x256.Idx → EReal := tok (osk (argsK m c))

theorem flushed23 (t : Fin cfg0.N) : (dats m 0 c).flushed 23 t = ((cfg0.win 23).blk t).view.read (Elt Ideal) (G23 m c) := by
  rw [Value.flushed23]
  refine funext fun (y : S256x256.Idx) => ?_
  rw [View.read_apply]
  refine (congrArg (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (ValueIdx.eq_ix2 y)).trans ((out23_at (blk_all m c t) (y 0) (y 1)).trans ?_)
  have e := c0_all (sq_ t) (ti_ t)
  refine (tok_at _ _ _ _ _ _ ?_ ?_).symm
  · show (Scalar.addi (Scalar.muli (BitVec.ofNat 32 (sq_ t).val) 8#32) (BitVec.ofNat 32 (ti_ t).val)).toNat * 256 + 1 * (y 0).val = (8 * (sq_ t).val + (ti_ t).val) * 256 + 1 * (y 0).val
    omega
  · show 0 * 256 + 1 * (y 1).val = (y 1).val
    omega

theorem cover23 (i : S16384x256.Idx) : ∃ t : Fin cfg0.N, (cfg0.win 23).flush t = true ∧ i ∈ ((cfg0.win 23).blk t).view.set := by
  have h0 : (i 0).val < 16384 := (i 0).isLt
  have h1 : (i 1).val < 256 := (i 1).isLt
  have hN : (i 0).val / 256 < 64 := by omega
  let t : Fin cfg0.N := ⟨(i 0).val / 256, hN⟩
  refine ⟨t, flush0_23 t, ?_⟩
  let x : S256x256.Idx := ix2 ⟨(i 0).val % 256, by omega⟩ ⟨(i 1).val, h1⟩
  have c0 : (sq_ t).val = (i 0).val / 2048 := by
    show (i 0).val / 256 / 8 % 8 = _
    omega
  have c1 : (ti_ t).val = (i 0).val / 256 % 8 := by
    show (i 0).val / 256 / 1 % 8 = _
    omega
  have a0 := c0_all (sq_ t) (ti_ t)
  have e : ((cfg0.win 23).blk t).view.emb x = i := by
    funext a
    apply Fin.ext
    match a with
    | ⟨0, _⟩ =>
      show (Scalar.addi (Scalar.muli (BitVec.ofNat 32 (sq_ t).val) 8#32) (BitVec.ofNat 32 (ti_ t).val)).toNat * 256 + 1 * ((i 0).val % 256) = (i 0).val
      omega
    | ⟨1, _⟩ => show 0 * 256 + 1 * (i 1).val = (i 1).val; omega
  rw [← e]
  exact ((cfg0.win 23).blk t).view.emb_mem_set x

theorem arr23 : (dats m 0 c).arrAt 23 cfg0.N = G23 m c :=
  (dats m 0 c).arrAt_eq_of_cover 23 (G23 m c) (fun t _ => flushed23 m c t) cover23

def G24 : S16384x256.Idx → EReal := tok (osv (argsK m c))

theorem flushed24 (t : Fin cfg0.N) : (dats m 0 c).flushed 24 t = ((cfg0.win 24).blk t).view.read (Elt Ideal) (G24 m c) := by
  rw [Value.flushed24]
  refine funext fun (y : S256x256.Idx) => ?_
  rw [View.read_apply]
  refine (congrArg (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (ValueIdx.eq_ix2 y)).trans ((out24_at (blk_all m c t) (y 0) (y 1)).trans ?_)
  have e := c0_all (sq_ t) (ti_ t)
  refine (tok_at _ _ _ _ _ _ ?_ ?_).symm
  · show (Scalar.addi (Scalar.muli (BitVec.ofNat 32 (sq_ t).val) 8#32) (BitVec.ofNat 32 (ti_ t).val)).toNat * 256 + 1 * (y 0).val = (8 * (sq_ t).val + (ti_ t).val) * 256 + 1 * (y 0).val
    omega
  · show 0 * 256 + 1 * (y 1).val = (y 1).val
    omega

theorem cover24 (i : S16384x256.Idx) : ∃ t : Fin cfg0.N, (cfg0.win 24).flush t = true ∧ i ∈ ((cfg0.win 24).blk t).view.set := by
  have h0 : (i 0).val < 16384 := (i 0).isLt
  have h1 : (i 1).val < 256 := (i 1).isLt
  have hN : (i 0).val / 256 < 64 := by omega
  let t : Fin cfg0.N := ⟨(i 0).val / 256, hN⟩
  refine ⟨t, flush0_24 t, ?_⟩
  let x : S256x256.Idx := ix2 ⟨(i 0).val % 256, by omega⟩ ⟨(i 1).val, h1⟩
  have c0 : (sq_ t).val = (i 0).val / 2048 := by
    show (i 0).val / 256 / 8 % 8 = _
    omega
  have c1 : (ti_ t).val = (i 0).val / 256 % 8 := by
    show (i 0).val / 256 / 1 % 8 = _
    omega
  have a0 := c0_all (sq_ t) (ti_ t)
  have e : ((cfg0.win 24).blk t).view.emb x = i := by
    funext a
    apply Fin.ext
    match a with
    | ⟨0, _⟩ =>
      show (Scalar.addi (Scalar.muli (BitVec.ofNat 32 (sq_ t).val) 8#32) (BitVec.ofNat 32 (ti_ t).val)).toNat * 256 + 1 * ((i 0).val % 256) = (i 0).val
      omega
    | ⟨1, _⟩ => show 0 * 256 + 1 * (i 1).val = (i 1).val; omega
  rw [← e]
  exact ((cfg0.win 24).blk t).view.emb_mem_set x

theorem arr24 : (dats m 0 c).arrAt 24 cfg0.N = G24 m c :=
  (dats m 0 c).arrAt_eq_of_cover 24 (G24 m c) (fun t _ => flushed24 m c t) cover24

def G25 : S16384x256.Idx → EReal := tok (osk (argsK m c))

theorem flushed25 (t : Fin cfg0.N) : (dats m 0 c).flushed 25 t = ((cfg0.win 25).blk t).view.read (Elt Ideal) (G25 m c) := by
  rw [Value.flushed25]
  refine funext fun (y : S256x256.Idx) => ?_
  rw [View.read_apply]
  refine (congrArg (out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (ValueIdx.eq_ix2 y)).trans ((out25_at (blk_all m c t) (y 0) (y 1)).trans ?_)
  have e := c0_all (sq_ t) (ti_ t)
  refine (tok_at _ _ _ _ _ _ ?_ ?_).symm
  · show (Scalar.addi (Scalar.muli (BitVec.ofNat 32 (sq_ t).val) 8#32) (BitVec.ofNat 32 (ti_ t).val)).toNat * 256 + 1 * (y 0).val = (8 * (sq_ t).val + (ti_ t).val) * 256 + 1 * (y 0).val
    omega
  · show 0 * 256 + 1 * (y 1).val = (y 1).val
    omega

theorem cover25 (i : S16384x256.Idx) : ∃ t : Fin cfg0.N, (cfg0.win 25).flush t = true ∧ i ∈ ((cfg0.win 25).blk t).view.set := by
  have h0 : (i 0).val < 16384 := (i 0).isLt
  have h1 : (i 1).val < 256 := (i 1).isLt
  have hN : (i 0).val / 256 < 64 := by omega
  let t : Fin cfg0.N := ⟨(i 0).val / 256, hN⟩
  refine ⟨t, flush0_25 t, ?_⟩
  let x : S256x256.Idx := ix2 ⟨(i 0).val % 256, by omega⟩ ⟨(i 1).val, h1⟩
  have c0 : (sq_ t).val = (i 0).val / 2048 := by
    show (i 0).val / 256 / 8 % 8 = _
    omega
  have c1 : (ti_ t).val = (i 0).val / 256 % 8 := by
    show (i 0).val / 256 / 1 % 8 = _
    omega
  have a0 := c0_all (sq_ t) (ti_ t)
  have e : ((cfg0.win 25).blk t).view.emb x = i := by
    funext a
    apply Fin.ext
    match a with
    | ⟨0, _⟩ =>
      show (Scalar.addi (Scalar.muli (BitVec.ofNat 32 (sq_ t).val) 8#32) (BitVec.ofNat 32 (ti_ t).val)).toNat * 256 + 1 * ((i 0).val % 256) = (i 0).val
      omega
    | ⟨1, _⟩ => show 0 * 256 + 1 * (i 1).val = (i 1).val; omega
  rw [← e]
  exact ((cfg0.win 25).blk t).view.emb_mem_set x

theorem arr25 : (dats m 0 c).arrAt 25 cfg0.N = G25 m c :=
  (dats m 0 c).arrAt_eq_of_cover 25 (G25 m c) (fun t _ => flushed25 m c t) cover25

def G26 : S16384x256.Idx → EReal := tok (osv (argsK m c))

theorem flushed26 (t : Fin cfg0.N) : (dats m 0 c).flushed 26 t = ((cfg0.win 26).blk t).view.read (Elt Ideal) (G26 m c) := by
  rw [Value.flushed26]
  refine funext fun (y : S256x256.Idx) => ?_
  rw [View.read_apply]
  refine (congrArg (out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (ValueIdx.eq_ix2 y)).trans ((out26_at (blk_all m c t) (y 0) (y 1)).trans ?_)
  have e := c0_all (sq_ t) (ti_ t)
  refine (tok_at _ _ _ _ _ _ ?_ ?_).symm
  · show (Scalar.addi (Scalar.muli (BitVec.ofNat 32 (sq_ t).val) 8#32) (BitVec.ofNat 32 (ti_ t).val)).toNat * 256 + 1 * (y 0).val = (8 * (sq_ t).val + (ti_ t).val) * 256 + 1 * (y 0).val
    omega
  · show 0 * 256 + 1 * (y 1).val = (y 1).val
    omega

theorem cover26 (i : S16384x256.Idx) : ∃ t : Fin cfg0.N, (cfg0.win 26).flush t = true ∧ i ∈ ((cfg0.win 26).blk t).view.set := by
  have h0 : (i 0).val < 16384 := (i 0).isLt
  have h1 : (i 1).val < 256 := (i 1).isLt
  have hN : (i 0).val / 256 < 64 := by omega
  let t : Fin cfg0.N := ⟨(i 0).val / 256, hN⟩
  refine ⟨t, flush0_26 t, ?_⟩
  let x : S256x256.Idx := ix2 ⟨(i 0).val % 256, by omega⟩ ⟨(i 1).val, h1⟩
  have c0 : (sq_ t).val = (i 0).val / 2048 := by
    show (i 0).val / 256 / 8 % 8 = _
    omega
  have c1 : (ti_ t).val = (i 0).val / 256 % 8 := by
    show (i 0).val / 256 / 1 % 8 = _
    omega
  have a0 := c0_all (sq_ t) (ti_ t)
  have e : ((cfg0.win 26).blk t).view.emb x = i := by
    funext a
    apply Fin.ext
    match a with
    | ⟨0, _⟩ =>
      show (Scalar.addi (Scalar.muli (BitVec.ofNat 32 (sq_ t).val) 8#32) (BitVec.ofNat 32 (ti_ t).val)).toNat * 256 + 1 * ((i 0).val % 256) = (i 0).val
      omega
    | ⟨1, _⟩ => show 0 * 256 + 1 * (i 1).val = (i 1).val; omega
  rw [← e]
  exact ((cfg0.win 26).blk t).view.emb_mem_set x

theorem arr26 : (dats m 0 c).arrAt 26 cfg0.N = G26 m c :=
  (dats m 0 c).arrAt_eq_of_cover 26 (G26 m c) (fun t _ => flushed26 m c t) cover26

end Cert.ProjKernelIdeal.Proj
end
-- ==== Proof.Proj.Ref.lean ====
module

public import proofs.«01_k».proof.Proof.Proj.Arr
public import proofs.«01_k».proof.Proof.Gen.ProjReferenceIdeal.Run
public import Idealize.ShloMosaic.Lib.Pipeline.ValueKit.Tiles

/-! The reference's results, entry by entry. -/

@[expose] public section

set_option maxRecDepth 16384

noncomputable section

namespace Cert.ProjReferenceIdeal.Proj

open Cert.Proj Cert.ProjReferenceIdeal Cert.ProjReferenceIdeal.Gen Cert.ProjReferenceIdeal.Value Idealize.ShloMosaic Idealize.ShloMosaic.TcCoe Idealize.SL.Sem

variable (V0 : Valuation τ sig (Elt Ideal))

/-- The arguments. -/
def args : Args where
  x := fun r d => (V0 (Proc.devRef .tc main_arg0) : FVec Ideal S16384x1024 .f32) (ix2 r d)
  sc := fun b d => (V0 (Proc.devRef .tc main_arg1) : FVec Ideal S8x1x1024 .f32) (ix3 b 0 d)
  sh := fun b d => (V0 (Proc.devRef .tc main_arg2) : FVec Ideal S8x1x1024 .f32) (ix3 b 0 d)
  gm := fun d => (V0 (Proc.devRef .tc main_arg3) : FVec Ideal S1024 .f32) (ix1 d)
  w := fun d n => (V0 (Proc.devRef .tc main_arg4) : FVec Ideal S1024x1568 .f32) (ix2 d n)
  gq := fun d => (V0 (Proc.devRef .tc main_arg5) : FVec Ideal S256 .f32) (ix1 d)
  uq := fun d n => (V0 (Proc.devRef .tc main_arg6) : FVec Ideal S256x576 .f32) (ix2 d n)
  qn := fun d => (V0 (Proc.devRef .tc main_arg7) : FVec Ideal S64 .f32) (ix1 d)
  qr := fun d => (V0 (Proc.devRef .tc main_arg8) : FVec Ideal S32 .f32) (ix1 d)
  gkv := fun d => (V0 (Proc.devRef .tc main_arg9) : FVec Ideal S128 .f32) (ix1 d)
  kr := fun d => (V0 (Proc.devRef .tc main_arg10) : FVec Ideal S32 .f32) (ix1 d)
  uk := fun d n => (V0 (Proc.devRef .tc main_arg11) : FVec Ideal S128x384 .f32) (ix2 d n)
  uv := fun d n => (V0 (Proc.devRef .tc main_arg12) : FVec Ideal S128x384 .f32) (ix2 d n)
  kn := fun d => (V0 (Proc.devRef .tc main_arg13) : FVec Ideal S64 .f32) (ix1 d)

variable (b : Fin 8) (t : Fin 2048)

theorem v12_at (i : Fin 16) : (res_main_v12 V0 : FVec Ideal S2048x16 .f32) (ix2 t i) = ang t i := by
  pointwise [res_main_v12]
  first | done | rfl
theorem v13_at (i : Fin 16) : (res_main_v13 V0 : FVec Ideal S2048x16 .f32) (ix2 t i) = cosv t i := by
  pointwise [res_main_v13]
  first | done | exact congrArg Ideal.cos (v12_at V0 t i)
theorem v14_at (i : Fin 16) : (res_main_v14 V0 : FVec Ideal S2048x16 .f32) (ix2 t i) = sinv t i := by
  pointwise [res_main_v14]
  first | done | exact congrArg Ideal.sin (v12_at V0 t i)
theorem v35_at (n : Fin 1568) : (res_main_v35 V0 : FVec Ideal S8x2048x1568 .f32) (ix3 b t n) = Z (args V0) b t n := by
  unfold Z hid rms args
  pointwise [res_main_v35, res_main_v15]
theorem v36_at (n : Fin 256) : (res_main_v36 V0 : FVec Ideal S8x2048x256 .f32) (ix3 b t n) = Z (args V0) b t ⟨n.val, by omega⟩ := by
  rw [← v35_at]
  pointwise [res_main_v36]
theorem v37_at (n : Fin 128) : (res_main_v37 V0 : FVec Ideal S8x2048x128 .f32) (ix3 b t n) = Z (args V0) b t ⟨256 + n.val, by omega⟩ := by
  rw [← v35_at]
  pointwise [res_main_v37]
theorem v38_at (n : Fin 32) : (res_main_v38 V0 : FVec Ideal S8x2048x32 .f32) (ix3 b t n) = Z (args V0) b t ⟨384 + n.val, by omega⟩ := by
  rw [← v35_at]
  pointwise [res_main_v38]
theorem v57_at (h : Fin 6) (l : Fin 96) : (res_main_v57 V0 : FVec Ideal S8x2048x6x96 .f32) (ix4 b t h l) = qa (Z (args V0) b t) (args V0).gq (args V0).uq ⟨h.val * 96 + l.val, by omega⟩ := by
  unfold qa rms
  simp only [← v36_at]
  pointwise [res_main_v57]
  rfl
theorem v58_at (h : Fin 6) (l : Fin 64) : (res_main_v58 V0 : FVec Ideal S8x2048x6x64 .f32) (ix4 b t h l) = qa (Z (args V0) b t) (args V0).gq (args V0).uq ⟨h.val * 96 + l.val, by omega⟩ := by
  refine Eq.trans ?_ (v57_at V0 b t h ⟨l.val, by omega⟩)
  pointwise [res_main_v58]
theorem v72_at (h : Fin 6) (l : Fin 32) : (res_main_v72 V0 : FVec Ideal S8x2048x6x32 .f32) (ix4 b t h l) = qa (Z (args V0) b t) (args V0).gq (args V0).uq ⟨h.val * 96 + (64 + l.val), by omega⟩ := by
  refine Eq.trans ?_ (v57_at V0 b t h ⟨64 + l.val, by omega⟩)
  pointwise [res_main_v72]
theorem v85_at (h : Fin 6) (l : Fin 32) : (res_main_v85 V0 : FVec Ideal S8x2048x6x32 .f32) (ix4 b t h l) = rms 0x42000000#32 (fun x : Fin 32 => qa (Z (args V0) b t) (args V0).gq (args V0).uq ⟨h.val * 96 + (64 + x.val), by omega⟩) (args V0).qr l := by
  unfold rms
  simp only [← v72_at]
  pointwise [res_main_v85]
  rfl
theorem v117_at (l : Fin 128) : (res_main_v117 V0 : FVec Ideal S8x2048x128 .f32) (ix3 b t l) = ockv (args V0) b t l := by
  unfold ockv ckv rms
  simp only [← v37_at]
  pointwise [res_main_v117]
  rfl
theorem v130_at (l : Fin 32) : (res_main_v130 V0 : FVec Ideal S8x2048x32 .f32) (ix3 b t l) = rms 0x42000000#32 (fun x : Fin 32 => Z (args V0) b t ⟨384 + x.val, by omega⟩) (args V0).kr l := by
  unfold rms
  simp only [← v38_at]
  pointwise [res_main_v130]
  rfl
theorem v147_at (l : Fin 32) : (res_main_v147 V0 : FVec Ideal S8x2048x32 .f32) (ix3 b t l) = okpe (args V0) b t l := by
  unfold okpe kpe rope
  simp only [← v130_at, ← v13_at V0, ← v14_at V0]
  pointwise [res_main_v147, res_main_v131, res_main_v132]
  split
  · rfl
  · next h =>
    have e : (⟨16 + (l.val - 16), by omega⟩ : Fin 32) = l := Fin.ext (by show 16 + (l.val - 16) = l.val; omega)
    rw [e]
theorem v149_at (h : Fin 6) (l : Fin 64) : (res_main_v149 V0 : FVec Ideal S8x2048x6x64 .f32) (ix4 b t h l) = okk (args V0) b t ⟨h.val * 64 + l.val, by omega⟩ := by
  unfold okk
  simp only [← v117_at]
  pointwise [res_main_v149]
  rfl

/-- A row of a list of tokens. -/
abbrev seq (r : Fin 16384) : Fin 8 := ⟨r.val / 2048, by omega⟩
abbrev pos (r : Fin 16384) : Fin 2048 := ⟨r.val % 2048, by omega⟩

variable (r : Fin 16384)

def q4 : FVec Ideal S8x2048x6x128 .f32 := concatenate S8x2048x6x128 3 [⟨S8x2048x6x64, ((mulf (mulf (res_main_v58 V0) (broadcastInDim S8x2048x6x64 ![0, 1, 2, 3] bcast_S8x2048x6x1_S8x2048x6x64_0_1_2_3 (Host.rsqrt (addf (Host.divf (broadcastInDim S8x2048x6x1 ![0, 1, 2] bcast_S8x2048x6_S8x2048x6x1_0_1_2 (Host.reduceAdd (mulf (res_main_v58 V0) (res_main_v58 V0)) (constant S_ .f32 0x00000000#32) reducesTo_S8x2048x6x64_S8x2048x6_d3 h_S_)) (broadcastInDim S8x2048x6x1 ![] bcast_S_S8x2048x6x1 (constant S_ .f32 0x42800000#32))) (broadcastInDim S8x2048x6x1 ![] bcast_S_S8x2048x6x1 (constant S_ .f32 0x358637BD#32)))))) (broadcastInDim S8x2048x6x64 ![0, 1, 2, 3] bcast_S1x1x1x64_S8x2048x6x64_0_1_2_3 (broadcastInDim S1x1x1x64 ![3] bcast_S64_S1x1x1x64_3 (V0 (Proc.devRef .tc main_arg7))))) : (⟨S8x2048x6x64, .f32⟩ : BufTy).Contents (Elt Ideal))⟩, ⟨S8x2048x6x32, ((concatenate S8x2048x6x32 3 [⟨S8x2048x6x16, (subf (mulf (res_main_v86 V0) (broadcastInDim S8x2048x6x16 ![0, 1, 2, 3] bcast_S1x2048x1x16_S8x2048x6x16_0_1_2_3 (broadcastInDim S1x2048x1x16 ![1, 2, 3] bcast_S2048x1x16_S1x2048x1x16_1_2_3 (res_main_v88 V0)))) (mulf (res_main_v87 V0) (broadcastInDim S8x2048x6x16 ![0, 1, 2, 3] bcast_S1x2048x1x16_S8x2048x6x16_0_1_2_3 (broadcastInDim S1x2048x1x16 ![1, 2, 3] bcast_S2048x1x16_S1x2048x1x16_1_2_3 (res_main_v89 V0)))))⟩, ⟨S8x2048x6x16, (addf (mulf (res_main_v86 V0) (broadcastInDim S8x2048x6x16 ![0, 1, 2, 3] bcast_S1x2048x1x16_S8x2048x6x16_0_1_2_3 (broadcastInDim S1x2048x1x16 ![1, 2, 3] bcast_S2048x1x16_S1x2048x1x16_1_2_3 (res_main_v89 V0)))) (mulf (res_main_v87 V0) (broadcastInDim S8x2048x6x16 ![0, 1, 2, 3] bcast_S1x2048x1x16_S8x2048x6x16_0_1_2_3 (broadcastInDim S1x2048x1x16 ![1, 2, 3] bcast_S2048x1x16_S1x2048x1x16_1_2_3 (res_main_v88 V0)))))⟩] concatenates_S8x2048x6x16_S8x2048x6x16_S8x2048x6x32_d3) : (⟨S8x2048x6x32, .f32⟩ : BufTy).Contents (Elt Ideal))⟩, ⟨S8x2048x6x32, ((res_main_v164 V0) : (⟨S8x2048x6x32, .f32⟩ : BufTy).Contents (Elt Ideal))⟩] concatenates_S8x2048x6x64_S8x2048x6x32_S8x2048x6x32_S8x2048x6x128_d3
def qarr : FVec Ideal S16384x768 .bf16 := truncf .bf16 (shapeCast _ (q4 V0) shapeCasts_S8x2048x6x128_S16384x768) bitsLt_bf16_f32
def k4 : FVec Ideal S8x2048x6x128 .f32 := concatenate S8x2048x6x128 3 [⟨S8x2048x6x64, ((mulf (mulf (res_main_v149 V0) (broadcastInDim S8x2048x6x64 ![0, 1, 2, 3] bcast_S8x2048x6x1_S8x2048x6x64_0_1_2_3 (Host.rsqrt (addf (Host.divf (broadcastInDim S8x2048x6x1 ![0, 1, 2] bcast_S8x2048x6_S8x2048x6x1_0_1_2 (Host.reduceAdd (mulf (res_main_v149 V0) (res_main_v149 V0)) (constant S_ .f32 0x00000000#32) reducesTo_S8x2048x6x64_S8x2048x6_d3 h_S_)) (broadcastInDim S8x2048x6x1 ![] bcast_S_S8x2048x6x1 (constant S_ .f32 0x42800000#32))) (broadcastInDim S8x2048x6x1 ![] bcast_S_S8x2048x6x1 (constant S_ .f32 0x358637BD#32)))))) (broadcastInDim S8x2048x6x64 ![0, 1, 2, 3] bcast_S1x1x1x64_S8x2048x6x64_0_1_2_3 (broadcastInDim S1x1x1x64 ![3] bcast_S64_S1x1x1x64_3 (V0 (Proc.devRef .tc main_arg13))))) : (⟨S8x2048x6x64, .f32⟩ : BufTy).Contents (Elt Ideal))⟩, ⟨S8x2048x6x32, ((broadcastInDim S8x2048x6x32 ![0, 1, 2, 3] bcast_S8x2048x1x32_S8x2048x6x32_0_1_2_3 (broadcastInDim S8x2048x1x32 ![0, 1, 3] bcast_S8x2048x32_S8x2048x1x32_0_1_3 (res_main_v147 V0))) : (⟨S8x2048x6x32, .f32⟩ : BufTy).Contents (Elt Ideal))⟩, ⟨S8x2048x6x32, ((res_main_v164 V0) : (⟨S8x2048x6x32, .f32⟩ : BufTy).Contents (Elt Ideal))⟩] concatenates_S8x2048x6x64_S8x2048x6x32_S8x2048x6x32_S8x2048x6x128_d3
def karr : FVec Ideal S16384x768 .bf16 := truncf .bf16 (shapeCast _ (k4 V0) shapeCasts_S8x2048x6x128_S16384x768) bitsLt_bf16_f32

abbrev e85 (h : Fin 6) (i : Fin 32) : EReal := (res_main_v85 V0 : FVec Ideal S8x2048x6x32 .f32) (ix4 b t h i)
abbrev e13 (i : Fin 16) : EReal := (res_main_v13 V0 : FVec Ideal S2048x16 .f32) (ix2 t i)
abbrev e14 (i : Fin 16) : EReal := (res_main_v14 V0 : FVec Ideal S2048x16 .f32) (ix2 t i)
theorem qrope_at (h : Fin 6) (i : Fin 32) :
    (if h1 : i.val < 16 then
        e85 V0 b t h ⟨i.val, by omega⟩ * e13 V0 t ⟨i.val, h1⟩ -
          e85 V0 b t h ⟨16 + i.val, by omega⟩ * e14 V0 t ⟨i.val, h1⟩
      else
        e85 V0 b t h ⟨i.val - 16, by omega⟩ * e14 V0 t ⟨i.val - 16, by omega⟩ +
          e85 V0 b t h ⟨16 + (i.val - 16), by omega⟩ * e13 V0 t ⟨i.val - 16, by omega⟩)
      = rope (rms 0x42000000#32 (fun x : Fin 32 => qa (Z (args V0) b t) (args V0).gq (args V0).uq ⟨h.val * 96 + (64 + x.val), by omega⟩) (args V0).qr) (cosv t) (sinv t) i := by
  unfold rope
  simp only [← v85_at, ← v13_at V0, ← v14_at V0]
  split
  · rfl
  · next h3 =>
    have e : (⟨16 + (i.val - 16), by omega⟩ : Fin 32) = i := Fin.ext (by show 16 + (i.val - 16) = i.val; omega)
    rw [e]
theorem q4_at (h : Fin 6) (l : Fin 128) : q4 V0 (ix4 b t h l) = oqh (args V0) b t h l := by
  unfold oqh
  pointwise [q4, res_main_v86, res_main_v87, res_main_v88, res_main_v89, res_main_v164]
  unfold qv
  split
  · next h1 =>
    unfold rms
    simp only [← v58_at]
    rw [v58_at V0 b t h ⟨l.val, h1⟩]
    rfl
  · split
    · next h1 h2 => exact qrope_at V0 b t h ⟨l.val - 64, h2⟩
    · rfl
theorem k4_at (h : Fin 6) (l : Fin 128) : k4 V0 (ix4 b t h l) = okh (args V0) b t h l := by
  unfold okh
  pointwise [k4, res_main_v164]
  unfold kv
  split
  · next h1 =>
    unfold rms
    simp only [← v149_at]
    rw [v149_at V0 b t h ⟨l.val, h1⟩]
    rfl
  · split
    · simp only [← v147_at]
    · rfl
theorem q_at (n : Fin 768) : qarr V0 (ix2 r n) = oq (args V0) (seq r) (pos r) n := by
  unfold oq
  rw [← q4_at]
  pointwise [qarr]
theorem k_at (n : Fin 768) : karr V0 (ix2 r n) = ok (args V0) (seq r) (pos r) n := by
  unfold ok
  rw [← k4_at]
  pointwise [karr]
theorem v_at (n : Fin 384) : (truncf .bf16 (shapeCast S16384x384 (Host.dotGeneral (φ₁ := .f32) (φ₂ := .f32) dot_S8x2048x128_S128x384_S8x2048x384_2_0_01_1_n_n none (res_main_v117 V0) (V0 (Proc.devRef .tc main_arg12))) shapeCasts_S8x2048x384_S16384x384) bitsLt_bf16_f32 : FVec Ideal S16384x384 .bf16) (ix2 r n) = ov (args V0) (seq r) (pos r) n := by
  unfold ov
  simp only [← v117_at]
  pointwise
  rfl
theorem ckv_at (n : Fin 128) : (shapeCast S16384x128 (res_main_v117 V0) shapeCasts_S8x2048x128_S16384x128 : FVec Ideal S16384x128 .f32) (ix2 r n) = ockv (args V0) (seq r) (pos r) n := by
  simp only [← v117_at]
  pointwise
theorem kpe_at (n : Fin 32) : (shapeCast S16384x32 (res_main_v147 V0) shapeCasts_S8x2048x32_S16384x32 : FVec Ideal S16384x32 .f32) (ix2 r n) = okpe (args V0) (seq r) (pos r) n := by
  simp only [← v147_at]
  pointwise
theorem u_at (p : Fin 2048) (n : Fin 3072) : (shapeCast S2048x3072 (transpose S2048x8x384 [1, 0, 2] (extractStridedSlice S8x2048x384 ![0, 0, 416] (res_main_v35 V0) slices_S8x2048x1568_S8x2048x384_0_0_416) transposes_S8x2048x384_S2048x8x384_1_0_2) shapeCasts_S2048x8x384_S2048x3072 : FVec Ideal S2048x3072 .f32) (ix2 p n) = ou (args V0) ⟨n.val / 384, by omega⟩ p ⟨n.val % 384, by omega⟩ := by
  unfold ou
  simp only [← v35_at]
  pointwise
theorem sq_at (n : Fin 256) : (truncf .bf16 (mulf (shapeCast S16384x256 (extractStridedSlice S8x2048x256 ![0, 0, 800] (res_main_v35 V0) slices_S8x2048x1568_S8x2048x256_0_0_800) shapeCasts_S8x2048x256_S16384x256) (broadcastInDim S16384x256 ![] bcast_S_S16384x256 (constant S_ .f32 0x3E000000#32))) bitsLt_bf16_f32 : FVec Ideal S16384x256 .bf16) (ix2 r n) = osq (args V0) (seq r) (pos r) n := by
  unfold osq
  simp only [← v35_at]
  pointwise
theorem sk_at (n : Fin 256) : (shapeCast S16384x256 (extractStridedSlice S8x2048x256 ![0, 0, 1056] (res_main_v35 V0) slices_S8x2048x1568_S8x2048x256_0_0_1056) shapeCasts_S8x2048x256_S16384x256 : FVec Ideal S16384x256 .f32) (ix2 r n) = osk (args V0) (seq r) (pos r) n := by
  unfold osk
  simp only [← v35_at]
  pointwise
theorem sv_at (n : Fin 256) : (shapeCast S16384x256 (extractStridedSlice S8x2048x256 ![0, 0, 1312] (res_main_v35 V0) slices_S8x2048x1568_S8x2048x256_0_0_1312) shapeCasts_S8x2048x256_S16384x256 : FVec Ideal S16384x256 .f32) (ix2 r n) = osv (args V0) (seq r) (pos r) n := by
  unfold osv
  simp only [← v35_at]
  pointwise

end Cert.ProjReferenceIdeal.Proj
end
-- ==== Proof.Proj.RefArr.lean ====
module

public import proofs.«01_k».proof.Proof.Proj.Ref

/-! The reference's results as arrays. -/

@[expose] public section

set_option maxRecDepth 16384

noncomputable section

namespace Cert.ProjReferenceIdeal.Proj

open Cert.Proj Cert.ProjReferenceIdeal Cert.ProjReferenceIdeal.Gen Cert.ProjReferenceIdeal.Value Idealize.ShloMosaic Idealize.ShloMosaic.TcCoe Idealize.SL.Sem

variable (V0 : Valuation τ sig (Elt Ideal))

theorem q_arr : qarr V0 = (tok (oq (args V0)) : S16384x768.Idx → EReal) := funext fun (i : S16384x768.Idx) => (congrArg _ (ValueIdx.eq_ix2 i)).trans (q_at V0 (i 0) (i 1))
theorem k_arr : karr V0 = (tok (ok (args V0)) : S16384x768.Idx → EReal) := funext fun (i : S16384x768.Idx) => (congrArg _ (ValueIdx.eq_ix2 i)).trans (k_at V0 (i 0) (i 1))
theorem v_arr : (truncf .bf16 (shapeCast S16384x384 (Host.dotGeneral (φ₁ := .f32) (φ₂ := .f32) dot_S8x2048x128_S128x384_S8x2048x384_2_0_01_1_n_n none (res_main_v117 V0) (V0 (Proc.devRef .tc main_arg12))) shapeCasts_S8x2048x384_S16384x384) bitsLt_bf16_f32 : FVec Ideal S16384x384 .bf16) = (tok (ov (args V0)) : S16384x384.Idx → EReal) := funext fun (i : S16384x384.Idx) => (congrArg _ (ValueIdx.eq_ix2 i)).trans (v_at V0 (i 0) (i 1))
theorem ckv_arr : (shapeCast S16384x128 (res_main_v117 V0) shapeCasts_S8x2048x128_S16384x128 : FVec Ideal S16384x128 .f32) = (tok (ockv (args V0)) : S16384x128.Idx → EReal) := funext fun (i : S16384x128.Idx) => (congrArg _ (ValueIdx.eq_ix2 i)).trans (ckv_at V0 (i 0) (i 1))
theorem kpe_arr : (shapeCast S16384x32 (res_main_v147 V0) shapeCasts_S8x2048x32_S16384x32 : FVec Ideal S16384x32 .f32) = (tok (okpe (args V0)) : S16384x32.Idx → EReal) := funext fun (i : S16384x32.Idx) => (congrArg _ (ValueIdx.eq_ix2 i)).trans (kpe_at V0 (i 0) (i 1))
theorem u_arr : (shapeCast S2048x3072 (transpose S2048x8x384 [1, 0, 2] (extractStridedSlice S8x2048x384 ![0, 0, 416] (res_main_v35 V0) slices_S8x2048x1568_S8x2048x384_0_0_416) transposes_S8x2048x384_S2048x8x384_1_0_2) shapeCasts_S2048x8x384_S2048x3072 : FVec Ideal S2048x3072 .f32) = (side (ou (args V0)) : S2048x3072.Idx → EReal) := funext fun (i : S2048x3072.Idx) => (congrArg _ (ValueIdx.eq_ix2 i)).trans (u_at V0 (i 0) (i 1))
theorem sq_arr : (truncf .bf16 (mulf (shapeCast S16384x256 (extractStridedSlice S8x2048x256 ![0, 0, 800] (res_main_v35 V0) slices_S8x2048x1568_S8x2048x256_0_0_800) shapeCasts_S8x2048x256_S16384x256) (broadcastInDim S16384x256 ![] bcast_S_S16384x256 (constant S_ .f32 0x3E000000#32))) bitsLt_bf16_f32 : FVec Ideal S16384x256 .bf16) = (tok (osq (args V0)) : S16384x256.Idx → EReal) := funext fun (i : S16384x256.Idx) => (congrArg _ (ValueIdx.eq_ix2 i)).trans (sq_at V0 (i 0) (i 1))
theorem sk_arr : (shapeCast S16384x256 (extractStridedSlice S8x2048x256 ![0, 0, 1056] (res_main_v35 V0) slices_S8x2048x1568_S8x2048x256_0_0_1056) shapeCasts_S8x2048x256_S16384x256 : FVec Ideal S16384x256 .f32) = (tok (osk (args V0)) : S16384x256.Idx → EReal) := funext fun (i : S16384x256.Idx) => (congrArg _ (ValueIdx.eq_ix2 i)).trans (sk_at V0 (i 0) (i 1))
theorem sv_arr : (shapeCast S16384x256 (extractStridedSlice S8x2048x256 ![0, 0, 1312] (res_main_v35 V0) slices_S8x2048x1568_S8x2048x256_0_0_1312) shapeCasts_S8x2048x256_S16384x256 : FVec Ideal S16384x256 .f32) = (tok (osv (args V0)) : S16384x256.Idx → EReal) := funext fun (i : S16384x256.Idx) => (congrArg _ (ValueIdx.eq_ix2 i)).trans (sv_at V0 (i 0) (i 1))

end Cert.ProjReferenceIdeal.Proj
end
-- ==== Proof.Mla.Math.lean ====
module

public import proofs.«01_k».proof.Proof.Sb.Math

@[expose] public section

noncomputable section

namespace Cert.Mla

open Idealize.ShloMosaic

theorem mul_sum_real {ι : Type*} (c : ℝ) (hc : 0 ≤ c) (s : Finset ι) (f : ι → EReal) : (c : EReal) * ∑ x ∈ s, f x = ∑ x ∈ s, (c : EReal) * f x := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- The weight of a key that counts is the exponential of its score; a key that does not count weighs nothing. -/
def wgt (p : Prop) [Decidable p] (y : ℝ) : ℝ := if p then Real.exp y else 0

theorem exp_sc (p : Prop) [Decidable p] (y μ : ℝ) : Ideal.exp ((if p then (y : EReal) else ⊥) - (μ : EReal)) = ((Real.exp (-μ) * wgt p y : ℝ) : EReal) := by
  unfold wgt
  by_cases h : p
  · rw [if_pos h, if_pos h, ← EReal.coe_sub, Ideal.exp_coe, ← Real.exp_add]
    congr 2; ring
  · rw [if_neg h, if_neg h, EReal.bot_sub, Ideal.exp_bot, mul_zero, EReal.coe_zero]

/-- The running maximum, sum and weighted sum of a row: nothing summed yet, or the sums scaled by the exponential of
    minus a real maximum. -/
def St (m l a : EReal) (Λ : ℝ) (A : EReal) : Prop :=
  (m = ⊥ ∧ l = 0 ∧ a = 0 ∧ Λ = 0 ∧ A = 0) ∨ ∃ μ : ℝ, m = (μ : EReal) ∧ l = ((Real.exp (-μ) * Λ : ℝ) : EReal) ∧ a = ((Real.exp (-μ) : ℝ) : EReal) * A

theorem St.start : St ⊥ 0 0 0 0 := Or.inl ⟨rfl, rfl, rfl, rfl, rfl⟩

/-- The maximum with a row of scores is a real number, once one of the scores is. -/
theorem max_real {n : ℕ} (m b : EReal) (hm : m ≠ ⊤) (hb : b = ⊥) (p : Fin n → Prop) [DecidablePred p] (y : Fin n → ℝ) (S : Fin n → EReal)
    (hS : ∀ x, S x = if p x then ((y x : ℝ) : EReal) else ⊥) (hp : ∃ x, p x) : ∃ μ : ℝ, max m (Finset.fold max b S Finset.univ) = ((μ : ℝ) : EReal) := by
  subst hb
  have h1 : Finset.fold max ⊥ S Finset.univ < ⊤ := by
    rw [Finset.fold_max_lt]
    refine ⟨bot_lt_top, fun x _ => ?_⟩
    rw [hS]
    split
    · exact EReal.coe_lt_top _
    · exact bot_lt_top
  have h2 : ⊥ < Finset.fold max ⊥ S Finset.univ := by
    rw [Finset.lt_fold_max]
    obtain ⟨x, hx⟩ := hp
    refine Or.inr ⟨x, Finset.mem_univ _, ?_⟩
    rw [hS, if_pos hx]
    exact EReal.bot_lt_coe _
  have h3 : max m (Finset.fold max ⊥ S Finset.univ) ≠ ⊤ := (max_lt (lt_top_iff_ne_top.mpr hm) h1).ne
  have h4 : max m (Finset.fold max ⊥ S Finset.univ) ≠ ⊥ := (lt_max_of_lt_right h2).ne'
  exact ⟨_, (EReal.coe_toReal h3 h4).symm⟩

/-- One block of keys taken into a row's running maximum and sums. -/
theorem step {n : ℕ} {m l a : EReal} {Λ : ℝ} {A : EReal} (h : St m l a Λ A) (b : EReal) (hb : b = ⊥) (p : Fin n → Prop) [DecidablePred p] (y : Fin n → ℝ) (S : Fin n → EReal)
    (hS : ∀ x, S x = if p x then ((y x : ℝ) : EReal) else ⊥) (hp : ∃ x, p x) (v : Fin n → EReal) (M : EReal) (hM : M = max m (Finset.fold max b S Finset.univ)) :
    St M (Ideal.exp (m - M) * l + ∑ x, Ideal.exp (S x - M)) (Ideal.exp (m - M) * a + ∑ x, Ideal.exp (S x - M) * v x)
      (Λ + ∑ x, wgt (p x) (y x)) (A + ∑ x, ((wgt (p x) (y x) : ℝ) : EReal) * v x) := by
  have hm : m ≠ ⊤ := by
    rcases h with ⟨h, _⟩ | ⟨μ, h, _⟩
    · rw [h]; exact bot_ne_top
    · rw [h]; exact EReal.coe_ne_top _
  obtain ⟨μ', hμ⟩ := max_real m b hm hb p y S hS hp
  rw [hμ] at hM
  subst hM
  have e1 : ∀ x, Ideal.exp (S x - (μ' : EReal)) = ((Real.exp (-μ') * wgt (p x) (y x) : ℝ) : EReal) := fun x => by rw [hS, exp_sc]
  have e2 : ∑ x, Ideal.exp (S x - (μ' : EReal)) = ((Real.exp (-μ') * ∑ x, wgt (p x) (y x) : ℝ) : EReal) := by
    rw [Finset.sum_congr rfl fun x _ => e1 x, ← Cert.Sb.coe_sum, Finset.mul_sum]
  have e3 : ∑ x, Ideal.exp (S x - (μ' : EReal)) * v x = ((Real.exp (-μ') : ℝ) : EReal) * ∑ x, ((wgt (p x) (y x) : ℝ) : EReal) * v x := by
    rw [mul_sum_real _ (Real.exp_pos _).le]
    refine Finset.sum_congr rfl fun x _ => ?_
    rw [e1, EReal.coe_mul, mul_assoc]
  refine Or.inr ⟨μ', rfl, ?_, ?_⟩
  · rw [e2]
    rcases h with ⟨h, h', _, h'', _⟩ | ⟨μ, h, h', _⟩
    · rw [h', h'', mul_zero, zero_add, zero_add]
    · rw [h, h', ← EReal.coe_sub, Ideal.exp_coe, ← EReal.coe_mul, ← EReal.coe_add, mul_add, ← mul_assoc, ← Real.exp_add]
      congr 4; ring
  · rw [e3, EReal.left_distrib_of_nonneg_of_ne_top (by exact_mod_cast (Real.exp_pos _).le) (EReal.coe_ne_top _)]
    rcases h with ⟨h, _, h', _, h''⟩ | ⟨μ, h, _, h'⟩
    · rw [h', h'', mul_zero, mul_zero]
    · rw [h, h', ← EReal.coe_sub, Ideal.exp_coe, ← mul_assoc, ← EReal.coe_mul, ← Real.exp_add]
      congr 4; ring

/-- The weighted sum over the sum of the weights. -/
theorem St.div {m l a : EReal} {Λ : ℝ} {A : EReal} (h : St m l a Λ A) (hΛ : 0 < Λ) : Ideal.div a l = ((1 / Λ : ℝ) : EReal) * A := by
  rcases h with ⟨_, _, _, h, _⟩ | ⟨μ, _, hl, ha⟩
  · exact absurd h hΛ.ne'
  · have he := Real.exp_pos (-μ)
    rw [hl, ha, Ideal.div_coe (mul_pos he hΛ).ne', mul_right_comm, ← EReal.coe_mul]
    congr 2
    field_simp

/-- A row of the softmax times the values. -/
theorem softmax {n : ℕ} (b : EReal) (hb : b = ⊥) (p : Fin n → Prop) [DecidablePred p] (y : Fin n → ℝ) (S : Fin n → EReal)
    (hS : ∀ x, S x = if p x then ((y x : ℝ) : EReal) else ⊥) (hp : ∃ x, p x) (v : Fin n → EReal) (M : EReal) (hM : M = max b (Finset.fold max b S Finset.univ)) :
    ∑ x, v x * Ideal.div (Ideal.exp (S x - M)) (∑ x', Ideal.exp (S x' - M)) = ((1 / ∑ x, wgt (p x) (y x) : ℝ) : EReal) * ∑ x, ((wgt (p x) (y x) : ℝ) : EReal) * v x := by
  obtain ⟨μ, hμ⟩ := max_real b b (by rw [hb]; exact bot_ne_top) hb p y S hS hp
  rw [hμ] at hM
  subst hM
  have hw : ∀ x, 0 ≤ wgt (p x) (y x) := fun x => by
    unfold wgt; split
    · exact (Real.exp_pos _).le
    · exact le_refl _
  have hΛ : 0 < ∑ x, wgt (p x) (y x) := by
    obtain ⟨x, hx⟩ := hp
    refine Finset.sum_pos' (fun x _ => hw x) ⟨x, Finset.mem_univ _, ?_⟩
    unfold wgt; rw [if_pos hx]; exact Real.exp_pos _
  have e1 : ∀ x, Ideal.exp (S x - (μ : EReal)) = ((Real.exp (-μ) * wgt (p x) (y x) : ℝ) : EReal) := fun x => by rw [hS, exp_sc]
  have e2 : ∑ x, Ideal.exp (S x - (μ : EReal)) = ((Real.exp (-μ) * ∑ x, wgt (p x) (y x) : ℝ) : EReal) := by
    rw [Finset.sum_congr rfl fun x _ => e1 x, ← Cert.Sb.coe_sum, Finset.mul_sum]
  rw [e2, mul_sum_real _ (one_div_pos.mpr hΛ).le]
  refine Finset.sum_congr rfl fun x _ => ?_
  have he := Real.exp_pos (-μ)
  rw [e1, Ideal.div_coe (mul_pos he hΛ).ne', ← EReal.coe_mul, mul_comm, ← mul_assoc, ← EReal.coe_mul]
  congr 2
  field_simp

/-- The weight of key `s` for query `t`. -/
def wq (z : ℕ → ℕ → ℝ) (t s : ℕ) : ℝ := wgt (s ≤ t) (z t s)

/-- The sum of the weights, and the weighted sum, over the first `n` keys. -/
def den (z : ℕ → ℕ → ℝ) (t n : ℕ) : ℝ := ∑ s ∈ Finset.range n, wq z t s
def num (z : ℕ → ℕ → ℝ) (v : ℕ → EReal) (t n : ℕ) : EReal := ∑ s ∈ Finset.range n, ((wq z t s : ℝ) : EReal) * v s

theorem den_add (z : ℕ → ℕ → ℝ) (t n k : ℕ) : den z t (n + k) = den z t n + ∑ x : Fin k, wgt (n + x.val ≤ t) (z t (n + x.val)) := by
  unfold den
  rw [Finset.sum_range_add, Fin.sum_univ_eq_sum_range (fun x => wgt (n + x ≤ t) (z t (n + x))) k]; rfl

theorem num_add (z : ℕ → ℕ → ℝ) (v : ℕ → EReal) (t n k : ℕ) :
    num z v t (n + k) = num z v t n + ∑ x : Fin k, ((wgt (n + x.val ≤ t) (z t (n + x.val)) : ℝ) : EReal) * v (n + x.val) := by
  unfold num
  rw [Finset.sum_range_add, Fin.sum_univ_eq_sum_range (fun x => ((wgt (n + x ≤ t) (z t (n + x)) : ℝ) : EReal) * v (n + x)) k]; rfl

theorem wq_of_lt (z : ℕ → ℕ → ℝ) {t s : ℕ} (h : t < s) : wq z t s = 0 := if_neg (by omega)

theorem den_pos (z : ℕ → ℕ → ℝ) (t n : ℕ) (h : t < n) : 0 < den z t n := by
  refine Finset.sum_pos' (fun s _ => ?_) ⟨t, Finset.mem_range.mpr h, ?_⟩
  · unfold wq wgt; split
    · exact (Real.exp_pos _).le
    · exact le_refl _
  · unfold wq wgt; rw [if_pos (le_refl t)]; exact Real.exp_pos _

/-- The keys after the query change nothing. -/
theorem den_full (z : ℕ → ℕ → ℝ) (t n N : ℕ) (h : t < n) (hN : n ≤ N) : den z t n = den z t N :=
  Finset.sum_subset (Finset.range_mono hN) fun s _ hs => wq_of_lt z (by rw [Finset.mem_range] at hs; omega)
theorem num_full (z : ℕ → ℕ → ℝ) (v : ℕ → EReal) (t n N : ℕ) (h : t < n) (hN : n ≤ N) : num z v t n = num z v t N :=
  Finset.sum_subset (Finset.range_mono hN) fun s _ hs => by rw [wq_of_lt z (by rw [Finset.mem_range] at hs; omega), EReal.coe_zero, zero_mul]

end Cert.Mla

end
-- ==== Proof.Mla.Pay.lean ====
module

public import proofs.«01_k».proof.Proof.Mla.Math
public import proofs.«01_k».proof.Proof.Gen.MlaKernelIdeal.Skeleton

@[expose] public section

set_option maxRecDepth 16384

noncomputable section

namespace Cert.MlaKernelIdeal.Mla

open Cert.Mla Cert.MlaKernelIdeal Cert.MlaKernelIdeal.Gen Idealize.ShloMosaic Idealize.ShloMosaic.TcCoe Idealize.SL.Sem

/-- The new maximum: the larger of the old one and the block's row maximum. -/
def mNew (P : FVec Ideal S256x256 .f32) (mm : Vec Ideal S1x256x128 .f32) : FVec Ideal S256x128 .f32 :=
  maximumf (shapeCast S256x128 mm shapeCasts_S1x256x128_S256x128)
    (broadcastTo S256x128 (shapeCast S256x1 (multiReduction .maximumf [1] S256 P 0xFF800000#32 reduces_S256x256_S256 (.inl rfl) rfl) shapeCasts_S256_S256x1) broadcasts_S256x1_S256x128)

/-- The factor the old sums are rescaled by. -/
def eOld (P : FVec Ideal S256x256 .f32) (mm : Vec Ideal S1x256x128 .f32) : FVec Ideal S256x128 .f32 :=
  exp (subf (shapeCast S256x128 mm shapeCasts_S1x256x128_S256x128) (mNew P mm))

/-- The block's weights. -/
def pNew (P : FVec Ideal S256x256 .f32) (mm : Vec Ideal S1x256x128 .f32) : FVec Ideal S256x256 .f32 :=
  exp (subf P (broadcastTo S256x256 (extractStridedSlice S256x1 ![0, 0] (mNew P mm) slices_S256x128_o0_0_S256x1) broadcasts_S256x1_S256x256))

def lNew (P : FVec Ideal S256x256 .f32) (mm ll : Vec Ideal S1x256x128 .f32) : FVec Ideal S1x256x128 .f32 :=
  shapeCast S1x256x128 (addf (mulf (eOld P mm) (shapeCast S256x128 ll shapeCasts_S1x256x128_S256x128))
    (broadcastTo S256x128 (shapeCast S256x1 (multiReduction .add [1] S256 (pNew P mm) 0x00000000#32 reduces_S256x256_S256 (.inl rfl) rfl) shapeCasts_S256_S256x1) broadcasts_S256x1_S256x128)) shapeCasts_S256x128_S1x256x128

def aNew (P : FVec Ideal S256x256 .f32) (vv : Vec Ideal S256x128 .bf16) (mm aa : Vec Ideal S1x256x128 .f32) : FVec Ideal S1x256x128 .f32 :=
  shapeCast S1x256x128 (addf (mulf (eOld P mm) (shapeCast S256x128 aa shapeCasts_S1x256x128_S256x128))
    (matmul (φ₂ := .bf16) dot_S256x256_S256x128_S256x128_1_0_0_1_n_n none (truncf .bf16 (pNew P mm) bitsLt_bf16_f32) vv (constant S256x128 .f32 0x00000000#32))) shapeCasts_S256x128_S1x256x128

def mOut (P : FVec Ideal S256x256 .f32) (mm : Vec Ideal S1x256x128 .f32) : FVec Ideal S1x256x128 .f32 :=
  shapeCast S1x256x128 (mNew P mm) shapeCasts_S256x128_S1x256x128

/-- The block's scores: a head's queries against the block's keys, and the same with the keys after the query at minus infinity. -/
def scA (hh : Fin 2) (q k : Vec Ideal S256x256 .bf16) : FVec Ideal S256x256 .f32 := if hh = 0 then k0_pay4 q k else k0_pay14 q k
def scM (hh : Fin 2) (q k : Vec Ideal S256x256 .bf16) : FVec Ideal S256x256 .f32 := if hh = 0 then k0_pay45 (k0_pay43 q k) k0_pay44 else k0_pay53 q k

section same
variable (q k : Vec Ideal S256x256 .bf16) (v : Vec Ideal S256x128 .bf16) (mm ll aa : Vec Ideal S1x256x128 .f32)
theorem s_m0 : k0_pay13 (k0_pay6 q k mm) = mOut (scA 0 q k) mm := rfl
theorem s_l0 : k0_pay9 q k mm ll = lNew (scA 0 q k) mm ll := rfl
theorem s_a0 : k0_pay12 (k0_pay10 q k mm aa) (k0_pay11 q k v mm) = aNew (scA 0 q k) v mm aa := rfl
theorem s_m1 : k0_pay40 (k0_pay16 q k mm) = mOut (scA 1 q k) mm := rfl
theorem s_l1 : k0_pay19 q k mm ll = lNew (scA 1 q k) mm ll := rfl
theorem s_a1 : k0_pay39 v (k0_pay17 q k mm) (k0_pay18 q k mm) aa = aNew (scA 1 q k) v mm aa := rfl
theorem d_m0 : k0_pay52 (k0_pay47 (k0_pay43 q k) k0_pay44 mm) = mOut (scM 0 q k) mm := rfl
theorem d_l0 : k0_pay50 (k0_pay43 q k) k0_pay44 mm ll = lNew (scM 0 q k) mm ll := rfl
theorem d_a0 : k0_pay51 v (k0_pay43 q k) k0_pay44 mm aa = aNew (scM 0 q k) v mm aa := rfl
theorem d_m1 : k0_pay2 (k0_pay55 q k mm) = mOut (scM 1 q k) mm := rfl
theorem d_l1 : k0_pay58 q k mm ll = lNew (scM 1 q k) mm ll := rfl
theorem d_a1 : k0_pay1 v (k0_pay59 q k mm aa) (k0_pay60 q k mm) (constant S256x128 .f32 0x00000000#32) = aNew (scM 1 q k) v mm aa := rfl
end same

section entries
variable (P : FVec Ideal S256x256 .f32) (v : Vec Ideal S256x128 .bf16) (mm ll aa : Vec Ideal S1x256x128 .f32) (r : Fin 256) (l : Fin 128)

theorem mNew_eq : mNew P mm (ix2 r l) = max (mm (ix3 0 r l)) (Finset.fold max (Ideal.ofBits FTy.f32 4286578688#32) (fun x => P (ix2 r x)) Finset.univ) := by
  pointwise [mNew]
theorem lNew_eq : lNew P mm ll (ix3 0 r l) = Ideal.exp (mm (ix3 0 r l) - mNew P mm (ix2 r l)) * ll (ix3 0 r l)
    + ∑ x, Ideal.exp (P (ix2 r x) - mNew P mm (ix2 r 0)) := by
  pointwise [lNew, eOld, pNew]
theorem aNew_eq : aNew P v mm aa (ix3 0 r l) = Ideal.exp (mm (ix3 0 r l) - mNew P mm (ix2 r l)) * aa (ix3 0 r l)
    + ∑ x, Ideal.exp (P (ix2 r x) - mNew P mm (ix2 r 0)) * v (ix2 x l) := by
  pointwise [aNew, eOld, pNew]
theorem mOut_eq : mOut P mm (ix3 0 r l) = mNew P mm (ix2 r l) := by
  pointwise [mOut]

/-- A block of 256 queries and keys of a head's lanes has the (scaled) scores `z`. -/
def IsScore (hh : Fin 2) (q k : Vec Ideal S256x256 .bf16) (z : ℕ → ℕ → ℝ) : Prop :=
  ∀ r x : Fin 256, (∑ d : Fin 128, q (ix2 r ⟨128 * hh.val + d.val, by have := d.isLt; have := hh.isLt; omega⟩) * k (ix2 x ⟨128 * hh.val + d.val, by have := d.isLt; have := hh.isLt; omega⟩))
    * Ideal.ofBits FTy.f32 1037108716#32 = ((z r.val x.val : ℝ) : EReal)

variable (q k : Vec Ideal S256x256 .bf16) (x : Fin 256) (z : ℕ → ℕ → ℝ)

theorem scA_eq (hh : Fin 2) (h : IsScore hh q k z) : scA hh q k (ix2 r x) = ((z r.val x.val : ℝ) : EReal) := by
  rw [← h r x]
  match hh with
  | 0 =>
    rw [show scA 0 q k = k0_pay4 q k from rfl]
    pointwise [k0_pay4]
  | 1 =>
    rw [show scA 1 q k = k0_pay14 q k from rfl]
    pointwise [k0_pay14]

theorem sle_nat (a b : ℕ) (ha : a < 2 ^ 31) (hb : b < 2 ^ 31) : IntOp.cmpi .sle (BitVec.ofNat 32 a) (BitVec.ofNat 32 b) = if a ≤ b then 1#1 else 0#1 := by
  rw [WordCmp.cmpi_sle_ofNat ha hb]
  by_cases h : a ≤ b
  · rw [if_pos h, decide_eq_true h]; rfl
  · rw [if_neg h, decide_eq_false h]; rfl

theorem scM_eq (hh : Fin 2) (h : IsScore hh q k z) : scM hh q k (ix2 r x) = if x.val ≤ r.val then ((z r.val x.val : ℝ) : EReal) else ⊥ := by
  have e : ∀ Z : EReal, Scalar.select (IntOp.cmpi .sle (BitVec.ofNat 32 x.val) (BitVec.ofNat 32 r.val)) Z (Ideal.ofBits FTy.f32 4286578688#32) = if x.val ≤ r.val then Z else ⊥ := fun Z => by
    rw [sle_nat _ _ (by have := x.isLt; omega) (by have := r.isLt; omega), Cert.Sb.negInf]
    split <;> rfl
  rw [← h r x, ← e]
  match hh with
  | 0 =>
    rw [show scM 0 q k = k0_pay45 (k0_pay43 q k) k0_pay44 from rfl]
    pointwise [k0_pay45, k0_pay44, k0_pay43]
  | 1 =>
    rw [show scM 1 q k = k0_pay53 q k from rfl]
    pointwise [k0_pay53]

/-- A block taken into a row's running maximum, sum and weighted sums. -/
theorem block_row (Λ : ℝ) (A : Fin 128 → EReal) (r : Fin 256) (flat : ∀ l, mm (ix3 0 r l) = mm (ix3 0 r 0))
    (st : ∀ l, St (mm (ix3 0 r l)) (ll (ix3 0 r l)) (aa (ix3 0 r l)) Λ (A l)) (p : Fin 256 → Prop) [DecidablePred p] (y : Fin 256 → ℝ)
    (hP : ∀ x, P (ix2 r x) = if p x then ((y x : ℝ) : EReal) else ⊥) (hp : ∃ x, p x) :
    (∀ l, mOut P mm (ix3 0 r l) = mOut P mm (ix3 0 r 0)) ∧
    ∀ l, St (mOut P mm (ix3 0 r l)) (lNew P mm ll (ix3 0 r l)) (aNew P v mm aa (ix3 0 r l)) (Λ + ∑ x, wgt (p x) (y x)) (A l + ∑ x, ((wgt (p x) (y x) : ℝ) : EReal) * v (ix2 x l)) := by
  have e : ∀ l, mNew P mm (ix2 r l) = mNew P mm (ix2 r 0) := fun l => by rw [mNew_eq, mNew_eq, flat l]
  refine ⟨fun l => by rw [mOut_eq, mOut_eq, e l], fun l => ?_⟩
  rw [mOut_eq, lNew_eq, aNew_eq, ← e l]
  exact step (st l) _ Cert.Sb.negInf p y (fun x => P (ix2 r x)) hP hp (fun x => v (ix2 x l)) _ (mNew_eq P mm r l)
end entries

end Cert.MlaKernelIdeal.Mla
-- ==== Proof.Mla.Trip.lean ====
module

public import proofs.«01_k».proof.Proof.Mla.Pay
public import proofs.«01_k».proof.Proof.Gen.MlaKernelIdeal.Loops
public import Idealize.ShloMosaic.Lib.WritesUnit
public import Idealize.ShloMosaic.Lib.Pipeline.ValueKit.Tiles

@[expose] public section

set_option maxRecDepth 16384

noncomputable section

namespace Cert.MlaKernelIdeal.Mla

open Cert.Mla Cert.MlaKernelIdeal Cert.MlaKernelIdeal.Gen Idealize.ShloMosaic Idealize.ShloMosaic.TcCoe Idealize.SL.Sem

variable (𝒱 : Variants) (c : Dev nD) (bd : Option 𝒱.V) (i : grid0.Coords) (arg3 : Memref sig .tc .vmem S256x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S2x256x128 .f32) (harg7 : arg7.IsWhole) (arg8 : Memref sig .tc .vmem S2x256x128 .f32) (harg8 : arg8.IsWhole) (arg9 : Memref sig .tc .vmem S2x256x128 .f32) (harg9 : arg9.IsWhole) (v12 : Vec Ideal S256x256 .bf16) (X_arg4 : BufTy.Contents (Elt Ideal) arg4.view.ty) (X_arg5 : BufTy.Contents (Elt Ideal) arg5.view.ty)

/-- The keys trip `k` reads, and the values. -/
abbrev kblk (arg : Memref sig .tc .vmem S2048x256 .bf16) (X : BufTy.Contents (Elt Ideal) arg.view.ty) (k : Fin (k0_t1_loop i).trips) : Vec Ideal S256x256 .bf16 :=
  View.readAt (Elt Ideal) arg.view (Rect.unit (s := S2048x256) (k0_off1 i k) S256x256.size (k0_off1_inb i k)).toLoadRect X
abbrev vblk (arg : Memref sig .tc .vmem S2048x128 .bf16) (X : BufTy.Contents (Elt Ideal) arg.view.ty) (k : Fin (k0_t1_loop i).trips) : Vec Ideal S256x128 .bf16 :=
  View.readAt (Elt Ideal) arg.view (Rect.unit (s := S2048x128) (k0_off2 i k) S256x128.size (k0_off2_inb i k)).toLoadRect X

/-- A head's half of a running buffer. -/
abbrev b0 (arg : Memref sig .tc .vmem S2x256x128 .f32) (f : BufTy.Contents (Elt Ideal) arg.view.ty) : Vec Ideal S1x256x128 .f32 :=
  View.readAt (Elt Ideal) arg.view (Rect.unit (s := S2x256x128) ![0, 0, 0] S1x256x128.size inb_S2x256x128_S1x256x128_0_0_0).toLoadRect f
abbrev b1 (arg : Memref sig .tc .vmem S2x256x128 .f32) (f : BufTy.Contents (Elt Ideal) arg.view.ty) : Vec Ideal S1x256x128 .f32 :=
  View.readAt (Elt Ideal) arg.view (Rect.unit (s := S2x256x128) ![1, 0, 0] S1x256x128.size inb_S2x256x128_S1x256x128_1_0_0).toLoadRect f

abbrev two (w1 w0 : Vec Ideal S1x256x128 .f32) : List (View.Piece (Elt Ideal) S2x256x128 .f32) :=
  [⟨Rect.unit ![1, 0, 0] ![1, 256, 128] inb_S2x256x128_S1x256x128_1_0_0, w1⟩, ⟨Rect.unit ![0, 0, 0] ![1, 256, 128] inb_S2x256x128_S1x256x128_0_0_0, w0⟩]

theorem trip_eq (k : Fin (k0_t1_loop i).trips) (f7 : BufTy.Contents (Elt Ideal) arg7.view.ty) (f8 : BufTy.Contents (Elt Ideal) arg8.view.ty) (f9 : BufTy.Contents (Elt Ideal) arg9.view.ty) :
    tripL_k0_t1 𝒱 c bd i arg3 harg3 arg4 harg4 arg5 harg5 arg6 harg6 arg7 harg7 arg8 harg8 arg9 harg9 v12 X_arg4 X_arg5 k f7 f8 f9
      = (two (mOut (scA 1 v12 (kblk i arg4 X_arg4 k)) (b1 arg7 f7)) (mOut (scA 0 v12 (kblk i arg4 X_arg4 k)) (b0 arg7 f7)),
        two (lNew (scA 1 v12 (kblk i arg4 X_arg4 k)) (b1 arg7 f7) (b1 arg8 f8)) (lNew (scA 0 v12 (kblk i arg4 X_arg4 k)) (b0 arg7 f7) (b0 arg8 f8)),
        two (aNew (scA 1 v12 (kblk i arg4 X_arg4 k)) (vblk i arg5 X_arg5 k) (b1 arg7 f7) (b1 arg9 f9)) (aNew (scA 0 v12 (kblk i arg4 X_arg4 k)) (vblk i arg5 X_arg5 k) (b0 arg7 f7) (b0 arg9 f9))) := by
  unfold tripL_k0_t1 trip_k0_t1
  dsimp only
  unfold trip_k0_t1.sl.r_7 trip_k0_t1.sl.r_6 trip_k0_t1.sl.r_5 trip_k0_t1.sl.r_4 trip_k0_t1.sl.r_3 trip_k0_t1.sl.r_2 trip_k0_t1.sl.v178 trip_k0_t1.sl.v190 trip_k0_t1.sl.v200 trip_k0_t1.sl.r trip_k0_t1.sl.r_1
  rw [s_m0, s_m1, s_l0, s_l1, s_a0, s_a1]

theorem b0_apply (arg : Memref sig .tc .vmem S2x256x128 .f32) (f : BufTy.Contents (Elt Ideal) arg.view.ty) (r : Fin 256) (l : Fin 128) :
    b0 arg f (ix3 0 r l) = arg.view.read (Elt Ideal) f (ix3 0 r l) := by
  show arg.view.read (Elt Ideal) f ((Rect.unit (s := S2x256x128) ![0, 0, 0] ![1, 256, 128] inb_S2x256x128_S1x256x128_0_0_0).idx (ix3 0 r l)) = _
  refine congrArg (arg.view.read (Elt Ideal) f) (funext fun a => Fin.ext (by
    match a with
    | ⟨0, _⟩ => rfl
    | ⟨1, _⟩ => show 0 + 1 * r.val = r.val; omega
    | ⟨2, _⟩ => show 0 + 1 * l.val = l.val; omega))
theorem b1_apply (arg : Memref sig .tc .vmem S2x256x128 .f32) (f : BufTy.Contents (Elt Ideal) arg.view.ty) (r : Fin 256) (l : Fin 128) :
    b1 arg f (ix3 0 r l) = arg.view.read (Elt Ideal) f (ix3 1 r l) := by
  show arg.view.read (Elt Ideal) f ((Rect.unit (s := S2x256x128) ![1, 0, 0] ![1, 256, 128] inb_S2x256x128_S1x256x128_1_0_0).idx (ix3 0 r l)) = _
  refine congrArg (arg.view.read (Elt Ideal) f) (funext fun a => Fin.ext (by
    match a with
    | ⟨0, _⟩ => rfl
    | ⟨1, _⟩ => show 0 + 1 * r.val = r.val; omega
    | ⟨2, _⟩ => show 0 + 1 * l.val = l.val; omega))

theorem one1 (arg : Memref sig .tc .vmem S2x256x128 .f32) (f : BufTy.Contents (Elt Ideal) arg.view.ty) (w1 : Vec Ideal S1x256x128 .f32) (L) (r : Fin 256) (l : Fin 128) :
    arg.view.read (Elt Ideal) (arg.view.writes (Elt Ideal) f (⟨Rect.unit ![1, 0, 0] ![1, 256, 128] inb_S2x256x128_S1x256x128_1_0_0, w1⟩ :: L)) (ix3 1 r l) = w1 (ix3 0 r l) :=
  View.read_writes_cons_unit_of_mem _ _ _ _ _ _ _ rfl fun a => by
    match a with
    | ⟨0, _⟩ => rfl
    | ⟨1, _⟩ => exact (Nat.zero_add r.val).symm
    | ⟨2, _⟩ => exact (Nat.zero_add l.val).symm
theorem one0 (arg : Memref sig .tc .vmem S2x256x128 .f32) (f : BufTy.Contents (Elt Ideal) arg.view.ty) (w1 : Vec Ideal S1x256x128 .f32) (L) (r : Fin 256) (l : Fin 128) :
    arg.view.read (Elt Ideal) (arg.view.writes (Elt Ideal) f (⟨Rect.unit ![1, 0, 0] ![1, 256, 128] inb_S2x256x128_S1x256x128_1_0_0, w1⟩ :: L)) (ix3 0 r l) = arg.view.read (Elt Ideal) (arg.view.writes (Elt Ideal) f L) (ix3 0 r l) :=
  View.read_writes_cons_unit_of_not_mem _ _ _ _ _ _ rfl (0 : Fin 3) (Or.inl Nat.zero_lt_one)
theorem zero0 (arg : Memref sig .tc .vmem S2x256x128 .f32) (f : BufTy.Contents (Elt Ideal) arg.view.ty) (w0 : Vec Ideal S1x256x128 .f32) (L) (r : Fin 256) (l : Fin 128) :
    arg.view.read (Elt Ideal) (arg.view.writes (Elt Ideal) f (⟨Rect.unit ![0, 0, 0] ![1, 256, 128] inb_S2x256x128_S1x256x128_0_0_0, w0⟩ :: L)) (ix3 0 r l) = w0 (ix3 0 r l) :=
  View.read_writes_cons_unit_of_mem _ _ _ _ _ _ _ rfl fun a => by
    match a with
    | ⟨0, _⟩ => rfl
    | ⟨1, _⟩ => exact (Nat.zero_add r.val).symm
    | ⟨2, _⟩ => exact (Nat.zero_add l.val).symm
theorem zero1 (arg : Memref sig .tc .vmem S2x256x128 .f32) (f : BufTy.Contents (Elt Ideal) arg.view.ty) (w0 : Vec Ideal S1x256x128 .f32) (L) (r : Fin 256) (l : Fin 128) :
    arg.view.read (Elt Ideal) (arg.view.writes (Elt Ideal) f (⟨Rect.unit ![0, 0, 0] ![1, 256, 128] inb_S2x256x128_S1x256x128_0_0_0, w0⟩ :: L)) (ix3 1 r l) = arg.view.read (Elt Ideal) (arg.view.writes (Elt Ideal) f L) (ix3 1 r l) :=
  View.read_writes_cons_unit_of_not_mem _ _ _ _ _ _ rfl (0 : Fin 3) (Or.inr (le_refl 1))

/-- What the running buffers hold for one head: the maximum the same in every lane, and the sums `Λ` and `A` of each row. -/
structure Row (f7 : BufTy.Contents (Elt Ideal) arg7.view.ty) (f8 : BufTy.Contents (Elt Ideal) arg8.view.ty) (f9 : BufTy.Contents (Elt Ideal) arg9.view.ty)
    (hh : Fin 2) (Λ : Fin 256 → ℝ) (A : Fin 256 → Fin 128 → EReal) : Prop where
  flat : ∀ r l, arg7.view.read (Elt Ideal) f7 (ix3 hh r l) = arg7.view.read (Elt Ideal) f7 (ix3 hh r 0)
  st : ∀ r l, St (arg7.view.read (Elt Ideal) f7 (ix3 hh r l)) (arg8.view.read (Elt Ideal) f8 (ix3 hh r l)) (arg9.view.read (Elt Ideal) f9 (ix3 hh r l)) (Λ r) (A r l)

/-- A block's halves of the buffers, stored, hold the sums with the block taken in. -/
theorem row_of (f7 : BufTy.Contents (Elt Ideal) arg7.view.ty) (f8 : BufTy.Contents (Elt Ideal) arg8.view.ty) (f9 : BufTy.Contents (Elt Ideal) arg9.view.ty)
    (g7 : BufTy.Contents (Elt Ideal) arg7.view.ty) (g8 : BufTy.Contents (Elt Ideal) arg8.view.ty) (g9 : BufTy.Contents (Elt Ideal) arg9.view.ty) (hh : Fin 2)
    (Λ : Fin 256 → ℝ) (A : Fin 256 → Fin 128 → EReal) (h : Row arg7 arg8 arg9 f7 f8 f9 hh Λ A)
    (P : FVec Ideal S256x256 .f32) (v : Vec Ideal S256x128 .bf16) (mm ll aa : Vec Ideal S1x256x128 .f32)
    (em : ∀ r l, mm (ix3 0 r l) = arg7.view.read (Elt Ideal) f7 (ix3 hh r l)) (el : ∀ r l, ll (ix3 0 r l) = arg8.view.read (Elt Ideal) f8 (ix3 hh r l)) (ea : ∀ r l, aa (ix3 0 r l) = arg9.view.read (Elt Ideal) f9 (ix3 hh r l))
    (p : Fin 256 → Fin 256 → Prop) [∀ r, DecidablePred (p r)] (y : Fin 256 → Fin 256 → ℝ) (hP : ∀ r x, P (ix2 r x) = if p r x then ((y r x : ℝ) : EReal) else ⊥) (hp : ∀ r, ∃ x, p r x)
    (gm : ∀ r l, arg7.view.read (Elt Ideal) g7 (ix3 hh r l) = mOut P mm (ix3 0 r l)) (gl : ∀ r l, arg8.view.read (Elt Ideal) g8 (ix3 hh r l) = lNew P mm ll (ix3 0 r l)) (ga : ∀ r l, arg9.view.read (Elt Ideal) g9 (ix3 hh r l) = aNew P v mm aa (ix3 0 r l)) :
    Row arg7 arg8 arg9 g7 g8 g9 hh (fun r => Λ r + ∑ x, wgt (p r x) (y r x)) (fun r l => A r l + ∑ x, ((wgt (p r x) (y r x) : ℝ) : EReal) * v (ix2 x l)) := by
  have H := fun r => block_row P v mm ll aa (Λ r) (A r) r (fun l => by rw [em, em, h.flat]) (fun l => by rw [em, el, ea]; exact h.st r l) (p r) (y r) (hP r) (hp r)
  exact ⟨fun r l => by rw [gm, gm]; exact (H r).1 l, fun r l => by rw [gm, gl, ga]; exact (H r).2 l⟩

/-- One trip: each head's sums take the block in. -/
theorem trip_holds (k : Fin (k0_t1_loop i).trips) (z : Fin 2 → ℕ → ℕ → ℝ) (hz : ∀ hh, IsScore hh v12 (kblk i arg4 X_arg4 k) (z hh))
    (f7 : BufTy.Contents (Elt Ideal) arg7.view.ty) (f8 : BufTy.Contents (Elt Ideal) arg8.view.ty) (f9 : BufTy.Contents (Elt Ideal) arg9.view.ty) (L7 L8 L9)
    (Λ : Fin 2 → Fin 256 → ℝ) (A : Fin 2 → Fin 256 → Fin 128 → EReal) (hh : Fin 2)
    (h : Row arg7 arg8 arg9 (arg7.view.writes (Elt Ideal) f7 L7) (arg8.view.writes (Elt Ideal) f8 L8) (arg9.view.writes (Elt Ideal) f9 L9) hh (Λ hh) (A hh))
    (T) (hT : T = tripL_k0_t1 𝒱 c bd i arg3 harg3 arg4 harg4 arg5 harg5 arg6 harg6 arg7 harg7 arg8 harg8 arg9 harg9 v12 X_arg4 X_arg5 k
        (arg7.view.writes (Elt Ideal) f7 L7) (arg8.view.writes (Elt Ideal) f8 L8) (arg9.view.writes (Elt Ideal) f9 L9)) :
    Row arg7 arg8 arg9 (arg7.view.writes (Elt Ideal) f7 (T.1 ++ L7)) (arg8.view.writes (Elt Ideal) f8 (T.2.1 ++ L8)) (arg9.view.writes (Elt Ideal) f9 (T.2.2 ++ L9)) hh
      (fun r => Λ hh r + ∑ x : Fin 256, wgt True (z hh r.val x.val)) (fun r l => A hh r l + ∑ x, ((wgt True (z hh r.val x.val) : ℝ) : EReal) * vblk i arg5 X_arg5 k (ix2 x l)) := by
  rw [trip_eq] at hT
  subst hT
  have hP : ∀ (hh : Fin 2) (r x : Fin 256), scA hh v12 (kblk i arg4 X_arg4 k) (ix2 r x) = if True then ((z hh r.val x.val : ℝ) : EReal) else ⊥ := fun hh r x => by
    rw [if_pos trivial]; exact scA_eq r v12 _ x (z hh) hh (hz hh)
  match hh with
  | 0 =>
    exact row_of arg7 arg8 arg9 _ _ _ _ _ _ 0 _ _ h _ (vblk i arg5 X_arg5 k) _ _ _ (b0_apply arg7 _) (b0_apply arg8 _) (b0_apply arg9 _) (fun _ _ => True) _ (hP 0) (fun _ => ⟨0, trivial⟩)
      (fun r l => (one0 arg7 _ _ _ r l).trans (zero0 arg7 _ _ _ r l)) (fun r l => (one0 arg8 _ _ _ r l).trans (zero0 arg8 _ _ _ r l)) (fun r l => (one0 arg9 _ _ _ r l).trans (zero0 arg9 _ _ _ r l))
  | 1 =>
    exact row_of arg7 arg8 arg9 _ _ _ _ _ _ 1 _ _ h _ (vblk i arg5 X_arg5 k) _ _ _ (b1_apply arg7 _) (b1_apply arg8 _) (b1_apply arg9 _) (fun _ _ => True) _ (hP 1) (fun _ => ⟨0, trivial⟩)
      (fun r l => one1 arg7 _ _ _ r l) (fun r l => one1 arg8 _ _ _ r l) (fun r l => one1 arg9 _ _ _ r l)

end Cert.MlaKernelIdeal.Mla
-- ==== Proof.Mla.Loop.lean ====
module

public import proofs.«01_k».proof.Proof.Mla.Trip
public import proofs.«01_k».proof.Proof.Gen.MlaKernelIdeal.Value

@[expose] public section

set_option maxRecDepth 16384

noncomputable section

namespace Cert.MlaKernelIdeal.Mla

open Cert.Mla Cert.MlaKernelIdeal Cert.MlaKernelIdeal.Gen Idealize.ShloMosaic Idealize.ShloMosaic.TcCoe Idealize.SL.Sem

theorem off1_all : ∀ k : Fin 8, (Scalar.indexCast (Scalar.muli (Scf.iv 0#32 1#32 k.val) 256#32) : Index).toNat = 256 * k.val := by decide
theorem off5_all : ∀ x : Fin 8, (Scalar.indexCast (Scalar.muli (BitVec.ofNat 32 x.val) 256#32) : Index).toNat = 256 * x.val := by decide
theorem trips_all : ∀ x : Fin 8, Scf.trips 0#32 (Scalar.addi 0#32 (Scalar.muli (Scalar.divsi (Scalar.subi (BitVec.ofNat 32 x.val) 0#32) 1#32) 1#32)) 1#32 = x.val := by decide
theorem trips2_all : ∀ x : Fin 8, Scf.trips (Scalar.addi 0#32 (Scalar.muli (Scalar.divsi (Scalar.subi (BitVec.ofNat 32 x.val) 0#32) 1#32) 1#32))
    (Scalar.addi 0#32 (Scalar.subi (BitVec.ofNat 32 x.val) 0#32)) 1#32 = 0 := by decide

theorem trips1 (i : grid0.Coords) : (k0_t1_loop i).trips = (i 2).val := trips_all (i 2)
theorem trips2 (i : grid0.Coords) : (k0_t2_loop i).trips = 0 := trips2_all (i 2)

theorem lt8 (i : grid0.Coords) : (i 2).val < 8 := (i 2).isLt

theorem off1_val (i : grid0.Coords) (k : Fin (k0_t1_loop i).trips) : k0_off1 i k = ![256 * k.val, 0] :=
  congrArg (fun n : ℕ => (![n, 0] : Fin 2 → ℕ)) (off1_all ⟨k.val, lt_trans (lt_of_lt_of_eq k.isLt (trips1 i)) (lt8 i)⟩)
theorem off2_val (i : grid0.Coords) (k : Fin (k0_t1_loop i).trips) : k0_off2 i k = ![256 * k.val, 0] := off1_val i k
theorem off5_val (i : grid0.Coords) : k0_off5 i = ![256 * (i 2).val, 0] := congrArg (fun n : ℕ => (![n, 0] : Fin 2 → ℕ)) (off5_all (i 2))
theorem off6_val (i : grid0.Coords) : k0_off6 i = ![256 * (i 2).val, 0] := off5_val i

variable (c : Dev nD) (i : grid0.Coords) (arg3 : Memref sig .tc .vmem S256x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S2x256x128 .f32) (harg7 : arg7.IsWhole) (arg8 : Memref sig .tc .vmem S2x256x128 .f32) (harg8 : arg8.IsWhole) (arg9 : Memref sig .tc .vmem S2x256x128 .f32) (harg9 : arg9.IsWhole) (x0 : Vec Ideal S256x256 .bf16) (x1 : Vec Ideal S2048x256 .bf16) (x2 : Vec Ideal S2048x128 .bf16)

theorem whole_unread {S : Shape} {e : EltTy} (arg : Memref sig .tc .vmem S e) (harg : arg.IsWhole) (x : Vec Ideal S e) (off : Fin S.rank → ℕ) (inb) (h : off = fun _ => 0) :
    View.readAt (Elt Ideal) arg.view (Rect.unit (s := S) off S.size inb).toLoadRect (harg.unread x) = x := by
  rw [View.readAt_eq_ld, harg.read_unread]
  exact View.ld_unit_zero h _ _

theorem k_unread (off : Fin 2 → ℕ) (inb) (n : ℕ) (hoff : off = ![n, 0]) (s l : Fin 256) (hn : n + s.val < 2048) :
    View.readAt (Elt Ideal) arg4.view (Rect.unit (s := S2048x256) off S256x256.size inb).toLoadRect (harg4.unread x1) (ix2 s l) = x1 (ix2 ⟨n + s.val, hn⟩ l) := by
  subst hoff
  rw [View.readAt_eq_ld, harg4.read_unread]
  refine View.ld_unit_apply_of _ _ _ _ _ _ fun a => ?_
  match a with
  | ⟨0, _⟩ => rfl
  | ⟨1, _⟩ => exact (Nat.zero_add l.val).symm

/-- A column of the values by row number. -/
def vcol (x2 : Vec Ideal S2048x128 .bf16) (l : Fin 128) (s : ℕ) : EReal := if h : s < 2048 then x2 (ix2 ⟨s, h⟩ l) else 0

theorem v_unread (off : Fin 2 → ℕ) (inb) (n : ℕ) (hoff : off = ![n, 0]) (s : Fin 256) (l : Fin 128) (hn : n + s.val < 2048) :
    View.readAt (Elt Ideal) arg5.view (Rect.unit (s := S2048x128) off S256x128.size inb).toLoadRect (harg5.unread x2) (ix2 s l) = vcol x2 l (n + s.val) := by
  subst hoff
  unfold vcol
  rw [dif_pos hn, View.readAt_eq_ld, harg5.read_unread]
  refine View.ld_unit_apply_of _ _ _ _ _ _ fun a => ?_
  match a with
  | ⟨0, _⟩ => rfl
  | ⟨1, _⟩ => exact (Nat.zero_add l.val).symm

/-- The scores of the grid point's queries against all the keys. -/
def Scores (i : grid0.Coords) (x0 : Vec Ideal S256x256 .bf16) (x1 : Vec Ideal S2048x256 .bf16) (z : Fin 2 → ℕ → ℕ → ℝ) : Prop :=
  ∀ (hh : Fin 2) (r : Fin 256) (s : Fin 2048), (∑ d : Fin 128, x0 (ix2 r ⟨128 * hh.val + d.val, by have := d.isLt; have := hh.isLt; omega⟩) * x1 (ix2 s ⟨128 * hh.val + d.val, by have := d.isLt; have := hh.isLt; omega⟩))
    * Ideal.ofBits FTy.f32 1037108716#32 = ((z hh (256 * (i 2).val + r.val) s.val : ℝ) : EReal)

theorem score_blk (z : Fin 2 → ℕ → ℕ → ℝ) (hz : Scores i x0 x1 z) (hh : Fin 2) (off : Fin 2 → ℕ) (inb) (n : ℕ) (hoff : off = ![n, 0]) (hn : n + 256 ≤ 2048) :
    IsScore hh x0 (View.readAt (Elt Ideal) arg4.view (Rect.unit (s := S2048x256) off S256x256.size inb).toLoadRect (harg4.unread x1))
      (fun r s => z hh (256 * (i 2).val + r) (n + s)) := by
  intro r s
  have hs : n + s.val < 2048 := by have := s.isLt; omega
  exact (congrArg (· * _) (Finset.sum_congr rfl fun d _ => congrArg (_ * ·) (k_unread arg4 harg4 x1 off inb n hoff s _ hs))).trans (hz hh r ⟨n + s.val, hs⟩)

/-- The sums over the keys before `n`, for the grid point's rows. -/
abbrev dn (z : Fin 2 → ℕ → ℕ → ℝ) (n : ℕ) (hh : Fin 2) (r : Fin 256) : ℝ := den (z hh) (256 * (i 2).val + r.val) n
abbrev nm (z : Fin 2 → ℕ → ℕ → ℝ) (n : ℕ) (hh : Fin 2) (r : Fin 256) (l : Fin 128) : EReal := num (z hh) (vcol x2 l) (256 * (i 2).val + r.val) n

theorem wgt_iff {p q : Prop} [Decidable p] [Decidable q] (h : p ↔ q) (y : ℝ) : wgt p y = wgt q y := by
  unfold wgt; exact if_congr h rfl rfl

/-- A block's sums added to those of the keys before it. -/
theorem dn_add (z : Fin 2 → ℕ → ℕ → ℝ) (n : ℕ) (hh : Fin 2) (r : Fin 256) (p : Fin 256 → Prop) [DecidablePred p] (h : ∀ x, p x ↔ n + x.val ≤ 256 * (i 2).val + r.val) :
    dn i z n hh r + ∑ x : Fin 256, wgt (p x) (z hh (256 * (i 2).val + r.val) (n + x.val)) = dn i z (n + 256) hh r := by
  rw [dn, dn, den_add]
  exact congrArg (_ + ·) (Finset.sum_congr rfl fun x _ => wgt_iff (h x) _)
theorem nm_add (z : Fin 2 → ℕ → ℕ → ℝ) (n : ℕ) (hh : Fin 2) (r : Fin 256) (l : Fin 128) (p : Fin 256 → Prop) [DecidablePred p] (h : ∀ x, p x ↔ n + x.val ≤ 256 * (i 2).val + r.val)
    (v : Vec Ideal S256x128 .bf16) (hv : ∀ x, v (ix2 x l) = vcol x2 l (n + x.val)) :
    nm i x2 z n hh r l + ∑ x : Fin 256, ((wgt (p x) (z hh (256 * (i 2).val + r.val) (n + x.val)) : ℝ) : EReal) * v (ix2 x l) = nm i x2 z (n + 256) hh r l := by
  rw [nm, nm, num_add]
  exact congrArg (_ + ·) (Finset.sum_congr rfl fun x _ => by rw [wgt_iff (h x), hv])

section gen
variable (v12 : Vec Ideal S256x256 .bf16)
  (f7 : BufTy.Contents (Elt Ideal) arg7.view.ty) (f8 : BufTy.Contents (Elt Ideal) arg8.view.ty) (f9 : BufTy.Contents (Elt Ideal) arg9.view.ty)

/-- The pieces the first `k` trips leave. -/
abbrev pb (k : ℕ) := pb_k0_t1 (F := Ideal) Variants.none c none i arg3 harg3 arg4 harg4 arg5 harg5 arg6 harg6 arg7 harg7 arg8 harg8 arg9 harg9 v12 (harg4.unread x1) (harg5.unread x2) f7 f8 f9 k

theorem loop_holds (z : Fin 2 → ℕ → ℕ → ℝ) (hz : Scores i v12 x1 z) (hh : Fin 2)
    (H : Row arg7 arg8 arg9 f7 f8 f9 hh (dn i z 0 hh) (nm i x2 z 0 hh)) (k : ℕ) (hk : k ≤ (i 2).val) :
    Row arg7 arg8 arg9
      (arg7.view.writes (Elt Ideal) f7 (pb c i arg3 harg3 arg4 harg4 arg5 harg5 arg6 harg6 arg7 harg7 arg8 harg8 arg9 harg9 x1 x2 v12 f7 f8 f9 k).1)
      (arg8.view.writes (Elt Ideal) f8 (pb c i arg3 harg3 arg4 harg4 arg5 harg5 arg6 harg6 arg7 harg7 arg8 harg8 arg9 harg9 x1 x2 v12 f7 f8 f9 k).2.1)
      (arg9.view.writes (Elt Ideal) f9 (pb c i arg3 harg3 arg4 harg4 arg5 harg5 arg6 harg6 arg7 harg7 arg8 harg8 arg9 harg9 x1 x2 v12 f7 f8 f9 k).2.2)
      hh (dn i z (256 * k) hh) (nm i x2 z (256 * k) hh) := by
  induction k with
  | zero => exact H
  | succ k ih =>
    have h8 := lt8 i
    have hkt : k < (k0_t1_loop i).trips := lt_of_lt_of_eq hk (trips1 i).symm
    have ih := ih (Nat.le_of_succ_le hk)
    have hn : 256 * k + 256 ≤ 2048 := by omega
    have hs := fun hh => score_blk i arg4 harg4 v12 x1 z hz hh (k0_off1 i ⟨k, hkt⟩) (k0_off1_inb i ⟨k, hkt⟩) _ (off1_val i ⟨k, hkt⟩) hn
    have hv : ∀ (l : Fin 128) (s : Fin 256), vblk i arg5 (harg5.unread x2) ⟨k, hkt⟩ (ix2 s l) = vcol x2 l (256 * k + s.val) := fun l s =>
      v_unread arg5 harg5 x2 _ _ _ (off2_val i ⟨k, hkt⟩) s l (by have := s.isLt; show 256 * k + s.val < 2048; omega)
    have hpb := pb_k0_t1_succ (F := Ideal) Variants.none c none i arg3 harg3 arg4 harg4 arg5 harg5 arg6 harg6 arg7 harg7 arg8 harg8 arg9 harg9 v12 (harg4.unread x1) (harg5.unread x2) f7 f8 f9 ⟨k, hkt⟩
    have hstep := trip_holds Variants.none c none i arg3 harg3 arg4 harg4 arg5 harg5 arg6 harg6 arg7 harg7 arg8 harg8 arg9 harg9 v12 (harg4.unread x1) (harg5.unread x2) ⟨k, hkt⟩
      (fun hh r s => z hh (256 * (i 2).val + r) (256 * k + s)) hs _ _ _ _ _ _ (dn i z (256 * k)) (nm i x2 z (256 * k)) hh ih _ rfl
    have hp : ∀ r x : Fin 256, True ↔ 256 * k + x.val ≤ 256 * (i 2).val + r.val := fun r x => ⟨fun _ => by have := x.isLt; omega, fun _ => trivial⟩
    have eD : (fun r : Fin 256 => dn i z (256 * k) hh r + ∑ x : Fin 256, wgt True (z hh (256 * (i 2).val + r.val) (256 * k + x.val))) = dn i z (256 * (k + 1)) hh :=
      funext fun r => dn_add i z (256 * k) hh r (fun _ => True) (hp r)
    have eN : (fun (r : Fin 256) (l : Fin 128) => nm i x2 z (256 * k) hh r l + ∑ x : Fin 256, ((wgt True (z hh (256 * (i 2).val + r.val) (256 * k + x.val)) : ℝ) : EReal) * vblk i arg5 (harg5.unread x2) ⟨k, hkt⟩ (ix2 x l))
        = nm i x2 z (256 * (k + 1)) hh :=
      funext fun r => funext fun l => nm_add i x2 z (256 * k) hh r l (fun _ => True) (hp r) _ (hv l)
    rw [← eD, ← eN]
    unfold pb
    rw [hpb]
    exact hstep

/-- What the diagonal block stores for a head. -/
abbrev dm (hh : Fin 2) (kb : Vec Ideal S256x256 .bf16) (mm : Vec Ideal S1x256x128 .f32) := mOut (scM hh v12 kb) mm

theorem diag_holds (kb : Vec Ideal S256x256 .bf16) (vb : Vec Ideal S256x128 .bf16) (z : Fin 2 → ℕ → ℕ → ℝ)
    (hs : ∀ hh, IsScore hh v12 kb (fun r s => z hh (256 * (i 2).val + r) (256 * (i 2).val + s)))
    (hv : ∀ (l : Fin 128) (s : Fin 256), vb (ix2 s l) = vcol x2 l (256 * (i 2).val + s.val)) (L7 L8 L9)
    (H : ∀ hh, Row arg7 arg8 arg9 (arg7.view.writes (Elt Ideal) f7 L7) (arg8.view.writes (Elt Ideal) f8 L8) (arg9.view.writes (Elt Ideal) f9 L9) hh (dn i z (256 * (i 2).val) hh) (nm i x2 z (256 * (i 2).val) hh))
    (m0 l0 a0 m1 l1 a1 : Vec Ideal S1x256x128 .f32)
    (em0 : m0 = b0 arg7 (arg7.view.writes (Elt Ideal) f7 L7)) (el0 : l0 = b0 arg8 (arg8.view.writes (Elt Ideal) f8 L8)) (ea0 : a0 = b0 arg9 (arg9.view.writes (Elt Ideal) f9 L9))
    (w7 w8 w9 : Vec Ideal S1x256x128 .f32) (hw7 : w7 = mOut (scM 0 v12 kb) m0) (hw8 : w8 = lNew (scM 0 v12 kb) m0 l0) (hw9 : w9 = aNew (scM 0 v12 kb) vb m0 a0)
    (em1 : m1 = b1 arg7 (arg7.view.writes (Elt Ideal) f7 (⟨Rect.unit ![0, 0, 0] ![1, 256, 128] inb_S2x256x128_S1x256x128_0_0_0, w7⟩ :: L7)))
    (el1 : l1 = b1 arg8 (arg8.view.writes (Elt Ideal) f8 (⟨Rect.unit ![0, 0, 0] ![1, 256, 128] inb_S2x256x128_S1x256x128_0_0_0, w8⟩ :: L8)))
    (ea1 : a1 = b1 arg9 (arg9.view.writes (Elt Ideal) f9 (⟨Rect.unit ![0, 0, 0] ![1, 256, 128] inb_S2x256x128_S1x256x128_0_0_0, w9⟩ :: L9)))
    (u8 u9 : Vec Ideal S1x256x128 .f32) (hu8 : u8 = lNew (scM 1 v12 kb) m1 l1) (hu9 : u9 = aNew (scM 1 v12 kb) vb m1 a1) (hh : Fin 2) :
    Row arg7 arg8 arg9 (arg7.view.writes (Elt Ideal) f7 (two (mOut (scM 1 v12 kb) m1) w7 ++ L7)) (arg8.view.writes (Elt Ideal) f8 (two u8 w8 ++ L8)) (arg9.view.writes (Elt Ideal) f9 (two u9 w9 ++ L9))
      hh (dn i z (256 * (i 2).val + 256) hh) (nm i x2 z (256 * (i 2).val + 256) hh) := by
  have hP : ∀ (hh : Fin 2) (r x : Fin 256), scM hh v12 kb (ix2 r x) = if x.val ≤ r.val then ((z hh (256 * (i 2).val + r.val) (256 * (i 2).val + x.val) : ℝ) : EReal) else ⊥ :=
    fun hh r x => scM_eq r v12 kb x _ hh (hs hh)
  have hp : ∀ r x : Fin 256, x.val ≤ r.val ↔ 256 * (i 2).val + x.val ≤ 256 * (i 2).val + r.val := fun r x => by omega
  have eD : ∀ hh, (fun r : Fin 256 => dn i z (256 * (i 2).val) hh r + ∑ x : Fin 256, wgt (x.val ≤ r.val) (z hh (256 * (i 2).val + r.val) (256 * (i 2).val + x.val))) = dn i z (256 * (i 2).val + 256) hh :=
    fun hh => funext fun r => dn_add i z _ hh r (fun x => x.val ≤ r.val) (hp r)
  have eN : ∀ hh, (fun (r : Fin 256) (l : Fin 128) => nm i x2 z (256 * (i 2).val) hh r l + ∑ x : Fin 256, ((wgt (x.val ≤ r.val) (z hh (256 * (i 2).val + r.val) (256 * (i 2).val + x.val)) : ℝ) : EReal) * vb (ix2 x l))
      = nm i x2 z (256 * (i 2).val + 256) hh :=
    fun hh => funext fun r => funext fun l => nm_add i x2 z _ hh r l (fun x => x.val ≤ r.val) (hp r) vb (hv l)
  rw [← eD, ← eN]
  match hh with
  | 0 =>
    exact row_of arg7 arg8 arg9 _ _ _ _ _ _ 0 _ _ (H 0) (scM 0 v12 kb) vb m0 l0 a0 (fun r l => em0 ▸ b0_apply arg7 _ r l) (fun r l => el0 ▸ b0_apply arg8 _ r l) (fun r l => ea0 ▸ b0_apply arg9 _ r l)
      (fun r x => x.val ≤ r.val) _ (hP 0) (fun r => ⟨r, le_refl _⟩)
      (fun r l => hw7 ▸ (one0 arg7 _ _ _ r l).trans (zero0 arg7 _ _ _ r l)) (fun r l => hw8 ▸ (one0 arg8 _ _ _ r l).trans (zero0 arg8 _ _ _ r l)) (fun r l => hw9 ▸ (one0 arg9 _ _ _ r l).trans (zero0 arg9 _ _ _ r l))
  | 1 =>
    exact row_of arg7 arg8 arg9 _ _ _ _ _ _ 1 _ _ (H 1) (scM 1 v12 kb) vb m1 l1 a1 (fun r l => em1 ▸ (b1_apply arg7 _ r l).trans (zero1 arg7 _ _ _ r l)) (fun r l => el1 ▸ (b1_apply arg8 _ r l).trans (zero1 arg8 _ _ _ r l)) (fun r l => ea1 ▸ (b1_apply arg9 _ r l).trans (zero1 arg9 _ _ _ r l))
      (fun r x => x.val ≤ r.val) _ (hP 1) (fun r => ⟨r, le_refl _⟩)
      (fun r l => one1 arg7 _ _ _ r l) (fun r l => hu8 ▸ one1 arg8 _ _ _ r l) (fun r l => hu9 ▸ one1 arg9 _ _ _ r l)

end gen

theorem fill (arg : Memref sig .tc .vmem S2x256x128 .f32) (f : BufTy.Contents (Elt Ideal) arg.view.ty) (inb) (w : Vec Ideal S2x256x128 .f32) (y : S2x256x128.Idx) :
    arg.view.read (Elt Ideal) (arg.view.writes (Elt Ideal) f [⟨Rect.unit ![0, 0, 0] S2x256x128.size inb, w⟩]) y = w y := by
  refine View.read_writes_cons_unit_of_mem _ _ _ _ _ y y (off' := fun _ => 0) ?_ fun a => (Nat.zero_add _).symm
  funext a
  match a with
  | ⟨0, _⟩ => rfl
  | ⟨1, _⟩ => rfl
  | ⟨2, _⟩ => rfl

theorem start_holds (z : Fin 2 → ℕ → ℕ → ℝ) (hh : Fin 2) :
    Row arg7 arg8 arg9 (arg7.view.writes (Elt Ideal) arg7.view.junk kernelRun0_A.sl.HS0_1) (arg8.view.writes (Elt Ideal) arg8.view.junk kernelRun0_A.sl.HS1_1)
      (arg9.view.writes (Elt Ideal) arg9.view.junk kernelRun0_A.sl.HS2_1) hh (dn i z 0 hh) (nm i x2 z 0 hh) := by
  have e7 : ∀ y, arg7.view.read (Elt Ideal) (arg7.view.writes (Elt Ideal) arg7.view.junk kernelRun0_A.sl.HS0_1) y = (⊥ : EReal) := fun y =>
    ((fill arg7 _ _ _ y).trans (by pointwise [k0_pay36])).trans Cert.Sb.negInf
  have e8 : ∀ y, arg8.view.read (Elt Ideal) (arg8.view.writes (Elt Ideal) arg8.view.junk kernelRun0_A.sl.HS1_1) y = (0 : EReal) := fun y =>
    (fill arg8 _ _ _ y).trans (by pointwise [k0_pay37])
  have e9 : ∀ y, arg9.view.read (Elt Ideal) (arg9.view.writes (Elt Ideal) arg9.view.junk kernelRun0_A.sl.HS2_1) y = (0 : EReal) := fun y =>
    (fill arg9 _ _ _ y).trans (by pointwise [k0_pay38])
  refine ⟨fun r l => by rw [e7, e7], fun r l => ?_⟩
  rw [e7, e8, e9]
  exact St.start

end Cert.MlaKernelIdeal.Mla
-- ==== Proof.Mla.Out.lean ====
module

public import proofs.«01_k».proof.Proof.Mla.Loop

@[expose] public section

set_option maxRecDepth 16384

noncomputable section

namespace Cert.MlaKernelIdeal.Mla

open Cert.Mla Cert.MlaKernelIdeal Cert.MlaKernelIdeal.Gen Idealize.ShloMosaic Idealize.ShloMosaic.TcCoe Idealize.SL.Sem

variable (c : Dev nD) (i : grid0.Coords) (arg3 : Memref sig .tc .vmem S256x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S2x256x128 .f32) (harg7 : arg7.IsWhole) (arg8 : Memref sig .tc .vmem S2x256x128 .f32) (harg8 : arg8.IsWhole) (arg9 : Memref sig .tc .vmem S2x256x128 .f32) (harg9 : arg9.IsWhole) (x0 : Vec Ideal S256x256 .bf16) (x1 : Vec Ideal S2048x256 .bf16) (x2 : Vec Ideal S2048x128 .bf16)

/-- The pieces the loop leaves, over the buffers' first contents. -/
abbrev lp := pb c i arg3 harg3 arg4 harg4 arg5 harg5 arg6 harg6 arg7 harg7 arg8 harg8 arg9 harg9 x1 x2
  (View.readAt (Elt Ideal) arg3.view (Rect.unit (s := S256x256) ![0, 0] S256x256.size inb_S256x256_S256x256_0_0).toLoadRect (harg3.unread x0))
  (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1)
  (Scf.trips (k0_t1_loop i).lb (k0_t1_loop i).ub (k0_t1_loop i).st)

theorem final_holds (z : Fin 2 → ℕ → ℕ → ℝ) (hz : Scores i x0 x1 z) (hh : Fin 2) :
    ∃ f7, Row arg7 arg8 arg9 f7
      (arg8.view.writes (Elt Ideal) arg8.view.junk (kernelRun0_A.sl.HS1_2 c i arg3 harg3 arg4 harg4 arg5 harg5 arg6 harg6 arg7 harg7 arg8 harg8 arg9 harg9 x0 x1 x2))
      (arg9.view.writes (Elt Ideal) arg9.view.junk (kernelRun0_A.sl.HS2_2 c i arg3 harg3 arg4 harg4 arg5 harg5 arg6 harg6 arg7 harg7 arg8 harg8 arg9 harg9 x0 x1 x2))
      hh (dn i z (256 * (i 2).val + 256) hh) (nm i x2 z (256 * (i 2).val + 256) hh) := by
  have h8 := lt8 i
  have e3 : View.readAt (Elt Ideal) arg3.view (Rect.unit (s := S256x256) ![0, 0] S256x256.size inb_S256x256_S256x256_0_0).toLoadRect (harg3.unread x0) = x0 :=
    whole_unread arg3 harg3 x0 _ _ (by funext a; match a with | ⟨0, _⟩ => rfl | ⟨1, _⟩ => rfl)
  have hz' : Scores i (View.readAt (Elt Ideal) arg3.view (Rect.unit (s := S256x256) ![0, 0] S256x256.size inb_S256x256_S256x256_0_0).toLoadRect (harg3.unread x0)) x1 z := e3.symm ▸ hz
  have H := fun hh => loop_holds c i arg3 harg3 arg4 harg4 arg5 harg5 arg6 harg6 arg7 harg7 arg8 harg8 arg9 harg9 x1 x2 _ _ _ _ z hz' hh
    (start_holds i arg7 arg8 arg9 x2 z hh) (Scf.trips (k0_t1_loop i).lb (k0_t1_loop i).ub (k0_t1_loop i).st) (le_of_eq (trips1 i))
  have ht : Scf.trips (k0_t1_loop i).lb (k0_t1_loop i).ub (k0_t1_loop i).st = (i 2).val := trips1 i
  have hs := fun hh => score_blk i arg4 harg4 _ x1 z hz' hh (k0_off5 i) (k0_off5_inb i) _ (off5_val i) (by omega)
  have hv : ∀ (l : Fin 128) (s : Fin 256), kernelRun0_A.sl.r_2 (F := Ideal) i arg5 harg5 x2 (ix2 s l) = vcol x2 l (256 * (i 2).val + s.val) := fun l s =>
    v_unread arg5 harg5 x2 _ _ _ (off6_val i) s l (by have := s.isLt; omega)
  have H' : ∀ hh, Row arg7 arg8 arg9
      (arg7.view.writes (Elt Ideal) arg7.view.junk ((lp c i arg3 harg3 arg4 harg4 arg5 harg5 arg6 harg6 arg7 harg7 arg8 harg8 arg9 harg9 x0 x1 x2).1 ++ kernelRun0_A.sl.HS0_1))
      (arg8.view.writes (Elt Ideal) arg8.view.junk ((lp c i arg3 harg3 arg4 harg4 arg5 harg5 arg6 harg6 arg7 harg7 arg8 harg8 arg9 harg9 x0 x1 x2).2.1 ++ kernelRun0_A.sl.HS1_1))
      (arg9.view.writes (Elt Ideal) arg9.view.junk ((lp c i arg3 harg3 arg4 harg4 arg5 harg5 arg6 harg6 arg7 harg7 arg8 harg8 arg9 harg9 x0 x1 x2).2.2 ++ kernelRun0_A.sl.HS2_1))
      hh (dn i z (256 * (i 2).val) hh) (nm i x2 z (256 * (i 2).val) hh) := fun hh => by
    have := H hh
    rw [← View.writes_append, ← View.writes_append, ← View.writes_append] at this
    rw [show 256 * (i 2).val = 256 * Scf.trips (k0_t1_loop i).lb (k0_t1_loop i).ub (k0_t1_loop i).st from by rw [ht]]
    exact this
  have e0 : Scf.trips (k0_t2_loop i).lb (k0_t2_loop i).ub (k0_t2_loop i).st = 0 := trips2 i
  have E0 : kernelRun0_A.sl.HS0_1_1 (F := Ideal) c i arg3 harg3 arg4 harg4 arg5 harg5 arg6 harg6 arg7 harg7 arg8 harg8 arg9 harg9 x0 x1 x2
      = ⟨Rect.unit ![0, 0, 0] ![1, 256, 128] inb_S2x256x128_S1x256x128_0_0_0, k0_pay52 (kernelRun0_A.sl.r_4 c i arg3 harg3 arg4 harg4 arg5 harg5 arg6 harg6 arg7 harg7 arg8 harg8 arg9 harg9 x0 x1 x2)⟩
        :: ((lp c i arg3 harg3 arg4 harg4 arg5 harg5 arg6 harg6 arg7 harg7 arg8 harg8 arg9 harg9 x0 x1 x2).1 ++ kernelRun0_A.sl.HS0_1) := by
    unfold kernelRun0_A.sl.HS0_1_1
    rw [e0, pb_k0_t2.eq_1]
    rfl
  have E1 : kernelRun0_A.sl.HS1_1_1 (F := Ideal) c i arg3 harg3 arg4 harg4 arg5 harg5 arg6 harg6 arg7 harg7 arg8 harg8 arg9 harg9 x0 x1 x2
      = ⟨Rect.unit ![0, 0, 0] ![1, 256, 128] inb_S2x256x128_S1x256x128_0_0_0, k0_pay50 (k0_pay43 (kernelRun0_A.sl.r (F := Ideal) c arg3 harg3 x0) (kernelRun0_A.sl.r_1 i arg4 harg4 x1)) k0_pay44 (kernelRun0_A.sl.v34 c i arg3 harg3 arg4 harg4 arg5 harg5 arg6 harg6 arg7 harg7 arg8 harg8 arg9 harg9 x0 x1 x2) (kernelRun0_A.sl.v46 c i arg3 harg3 arg4 harg4 arg5 harg5 arg6 harg6 arg7 harg7 arg8 harg8 arg9 harg9 x0 x1 x2)⟩
        :: ((lp c i arg3 harg3 arg4 harg4 arg5 harg5 arg6 harg6 arg7 harg7 arg8 harg8 arg9 harg9 x0 x1 x2).2.1 ++ kernelRun0_A.sl.HS1_1) := by
    unfold kernelRun0_A.sl.HS1_1_1
    rw [e0, pb_k0_t2.eq_1]
    rfl
  have E2 : kernelRun0_A.sl.HS2_1_1 (F := Ideal) c i arg3 harg3 arg4 harg4 arg5 harg5 arg6 harg6 arg7 harg7 arg8 harg8 arg9 harg9 x0 x1 x2
      = ⟨Rect.unit ![0, 0, 0] ![1, 256, 128] inb_S2x256x128_S1x256x128_0_0_0, k0_pay51 (kernelRun0_A.sl.r_2 i arg5 harg5 x2) (k0_pay43 (kernelRun0_A.sl.r (F := Ideal) c arg3 harg3 x0) (kernelRun0_A.sl.r_1 i arg4 harg4 x1)) k0_pay44 (kernelRun0_A.sl.v34 c i arg3 harg3 arg4 harg4 arg5 harg5 arg6 harg6 arg7 harg7 arg8 harg8 arg9 harg9 x0 x1 x2) (kernelRun0_A.sl.v56 c i arg3 harg3 arg4 harg4 arg5 harg5 arg6 harg6 arg7 harg7 arg8 harg8 arg9 harg9 x0 x1 x2)⟩
        :: ((lp c i arg3 harg3 arg4 harg4 arg5 harg5 arg6 harg6 arg7 harg7 arg8 harg8 arg9 harg9 x0 x1 x2).2.2 ++ kernelRun0_A.sl.HS2_1) := by
    unfold kernelRun0_A.sl.HS2_1_1
    rw [e0, pb_k0_t2.eq_1]
    rfl
  have D := diag_holds i arg7 arg8 arg9 x2 _ arg7.view.junk arg8.view.junk arg9.view.junk _ (kernelRun0_A.sl.r_2 (F := Ideal) i arg5 harg5 x2) z hs hv _ _ _ H'
    (kernelRun0_A.sl.v34 c i arg3 harg3 arg4 harg4 arg5 harg5 arg6 harg6 arg7 harg7 arg8 harg8 arg9 harg9 x0 x1 x2)
    (kernelRun0_A.sl.v46 c i arg3 harg3 arg4 harg4 arg5 harg5 arg6 harg6 arg7 harg7 arg8 harg8 arg9 harg9 x0 x1 x2)
    (kernelRun0_A.sl.v56 c i arg3 harg3 arg4 harg4 arg5 harg5 arg6 harg6 arg7 harg7 arg8 harg8 arg9 harg9 x0 x1 x2)
    (kernelRun0_A.sl.v78 c i arg3 harg3 arg4 harg4 arg5 harg5 arg6 harg6 arg7 harg7 arg8 harg8 arg9 harg9 x0 x1 x2)
    (kernelRun0_A.sl.v90 c i arg3 harg3 arg4 harg4 arg5 harg5 arg6 harg6 arg7 harg7 arg8 harg8 arg9 harg9 x0 x1 x2)
    (kernelRun0_A.sl.v100 c i arg3 harg3 arg4 harg4 arg5 harg5 arg6 harg6 arg7 harg7 arg8 harg8 arg9 harg9 x0 x1 x2)
    (by unfold kernelRun0_A.sl.v34; rw [e0, pb_k0_t2.eq_1]; rfl)
    (by unfold kernelRun0_A.sl.v46; rw [e0, pb_k0_t2.eq_1]; rfl)
    (by unfold kernelRun0_A.sl.v56; rw [e0, pb_k0_t2.eq_1]; rfl)
    (k0_pay52 (kernelRun0_A.sl.r_4 c i arg3 harg3 arg4 harg4 arg5 harg5 arg6 harg6 arg7 harg7 arg8 harg8 arg9 harg9 x0 x1 x2))
    _ _ (d_m0 _ _ _) (d_l0 _ _ _ _) (d_a0 _ _ _ _ _)
    (by unfold kernelRun0_A.sl.v78; rw [E0]; rfl)
    (by unfold kernelRun0_A.sl.v90; rw [E1]; rfl)
    (by unfold kernelRun0_A.sl.v100; rw [E2]; rfl)
    (k0_pay58 (kernelRun0_A.sl.r (F := Ideal) c arg3 harg3 x0) (kernelRun0_A.sl.r_1 i arg4 harg4 x1) (kernelRun0_A.sl.v78 c i arg3 harg3 arg4 harg4 arg5 harg5 arg6 harg6 arg7 harg7 arg8 harg8 arg9 harg9 x0 x1 x2) (kernelRun0_A.sl.v90 c i arg3 harg3 arg4 harg4 arg5 harg5 arg6 harg6 arg7 harg7 arg8 harg8 arg9 harg9 x0 x1 x2))
    (k0_pay1 (kernelRun0_A.sl.r_2 (F := Ideal) i arg5 harg5 x2) (kernelRun0_A.sl.r_6 c i arg3 harg3 arg4 harg4 arg5 harg5 arg6 harg6 arg7 harg7 arg8 harg8 arg9 harg9 x0 x1 x2) (kernelRun0_A.sl.r_7 c i arg3 harg3 arg4 harg4 arg5 harg5 arg6 harg6 arg7 harg7 arg8 harg8 arg9 harg9 x0 x1 x2) kernelRun0_A.sl.cst_57)
    (d_l1 _ _ _ _) (d_a1 _ _ _ _ _) hh
  unfold kernelRun0_A.sl.HS1_2 kernelRun0_A.sl.HS2_2
  rw [E1, E2]
  exact ⟨_, D⟩

/-- What the grid point's output block holds. -/
theorem out_eq (z : Fin 2 → ℕ → ℕ → ℝ) (hz : Scores i x0 x1 z) (r : Fin 256) (l : Fin 128) :
    out0_A_3 (F := Ideal) c i arg3 harg3 arg4 harg4 arg5 harg5 arg6 harg6 arg7 harg7 arg8 harg8 arg9 harg9 x0 x1 x2 (ix2 r l)
      = ((1 / dn i z 2048 (if l.val < 64 then 0 else 1) r : ℝ) : EReal) * nm i x2 z 2048 (if l.val < 64 then 0 else 1) r l := by
  have h8 := lt8 i
  have hr := r.isLt
  obtain ⟨f0, H0⟩ := final_holds c i arg3 harg3 arg4 harg4 arg5 harg5 arg6 harg6 arg7 harg7 arg8 harg8 arg9 harg9 x0 x1 x2 z hz 0
  obtain ⟨f1, H1⟩ := final_holds c i arg3 harg3 arg4 harg4 arg5 harg5 arg6 harg6 arg7 harg7 arg8 harg8 arg9 harg9 x0 x1 x2 z hz 1
  have q0 : Ideal.div (kernelRun0_A.sl.v115 (F := Ideal) c i arg3 harg3 arg4 harg4 arg5 harg5 arg6 harg6 arg7 harg7 arg8 harg8 arg9 harg9 x0 x1 x2 (ix3 0 r l)) (kernelRun0_A.sl.v117 (F := Ideal) c i arg3 harg3 arg4 harg4 arg5 harg5 arg6 harg6 arg7 harg7 arg8 harg8 arg9 harg9 x0 x1 x2 (ix3 0 r l))
      = ((1 / dn i z 2048 0 r : ℝ) : EReal) * nm i x2 z 2048 0 r l := by
    show _ = ((1 / den (z 0) (256 * (i 2).val + r.val) 2048 : ℝ) : EReal) * num (z 0) (vcol x2 l) (256 * (i 2).val + r.val) 2048
    rw [← den_full (z 0) (256 * (i 2).val + r.val) (256 * (i 2).val + 256) 2048 (by omega) (by omega), ← num_full (z 0) (vcol x2 l) (256 * (i 2).val + r.val) (256 * (i 2).val + 256) 2048 (by omega) (by omega),
      ← (H0.st r l).div (den_pos _ _ _ (by omega))]
    exact congrArg₂ Ideal.div (b0_apply arg9 _ r l) (b0_apply arg8 _ r l)
  have q1 : Ideal.div (kernelRun0_A.sl.v120 (F := Ideal) c i arg3 harg3 arg4 harg4 arg5 harg5 arg6 harg6 arg7 harg7 arg8 harg8 arg9 harg9 x0 x1 x2 (ix3 0 r l)) (kernelRun0_A.sl.v122 (F := Ideal) c i arg3 harg3 arg4 harg4 arg5 harg5 arg6 harg6 arg7 harg7 arg8 harg8 arg9 harg9 x0 x1 x2 (ix3 0 r l))
      = ((1 / dn i z 2048 1 r : ℝ) : EReal) * nm i x2 z 2048 1 r l := by
    show _ = ((1 / den (z 1) (256 * (i 2).val + r.val) 2048 : ℝ) : EReal) * num (z 1) (vcol x2 l) (256 * (i 2).val + r.val) 2048
    rw [← den_full (z 1) (256 * (i 2).val + r.val) (256 * (i 2).val + 256) 2048 (by omega) (by omega), ← num_full (z 1) (vcol x2 l) (256 * (i 2).val + r.val) (256 * (i 2).val + 256) 2048 (by omega) (by omega),
      ← (H1.st r l).div (den_pos _ _ _ (by omega))]
    exact congrArg₂ Ideal.div (b1_apply arg9 _ r l) (b1_apply arg8 _ r l)
  unfold out0_A_3 kernelRun0_A
  dsimp only
  refine (View.read_writes_cons_unit_of_mem _ _ _ _ _ (ix2 r l) (ix2 r l) rfl fun a => ?_).trans ?_
  · match a with
    | ⟨0, _⟩ => exact (Nat.zero_add _).symm
    | ⟨1, _⟩ => exact (Nat.zero_add _).symm
  · pointwise [k0_pay3]
    rw [q0, q1]
    show Scalar.select (IntOp.cmpi .slt (BitVec.ofNat 32 l.val) (BitVec.ofNat 32 64)) _ _ = _
    rw [Cert.Sb.slt_nat _ _ (by have := l.isLt; omega) (by omega)]
    by_cases h : l.val < 64
    · rw [if_pos h, if_pos h]; rfl
    · rw [if_neg h, if_neg h]; rfl

end Cert.MlaKernelIdeal.Mla
-- ==== Proof.Mla.Spec.lean ====
module

public import proofs.«01_k».proof.Proof.Mla.Math

@[expose] public section

noncomputable section

namespace Cert.Mla

open Idealize.ShloMosaic

/-- The scale of the scores. -/
abbrev scale : EReal := Ideal.ofBits FTy.f32 1037108716#32

theorem scale_real : ∃ x : ℝ, scale = ((x : ℝ) : EReal) := by
  refine ⟨?_, ?_⟩
  rotate_left
  · unfold scale
    simp [Ideal.ofBits, Ideal.ieee]
    exact (EReal.coe_mul _ _).symm

/-- The scaled score of query `t` against key `s` in sequence `b`, head `h`, as a real number. -/
def Zr (q k : Fin 16384 → Fin 768 → EReal) (b h t s : ℕ) : ℝ :=
  if H : (b < 8 ∧ h < 6) ∧ t < 2048 ∧ s < 2048 then
    ((∑ d : Fin 128, q ⟨2048 * b + t, by omega⟩ ⟨128 * h + d.val, by have := d.isLt; omega⟩ * k ⟨2048 * b + s, by omega⟩ ⟨128 * h + d.val, by have := d.isLt; omega⟩) * scale).toReal
  else 0

/-- Every entry is a real number. -/
def IsReal (q : Fin 16384 → Fin 768 → EReal) : Prop := ∀ i j, ∃ x : ℝ, q i j = ((x : ℝ) : EReal)

theorem Zr_eq (q k : Fin 16384 → Fin 768 → EReal) (hq : IsReal q) (hk : IsReal k) {b h t s : ℕ} (hb : b < 8) (hh : h < 6) (ht : t < 2048) (hs : s < 2048) :
    (∑ d : Fin 128, q ⟨2048 * b + t, by omega⟩ ⟨128 * h + d.val, by have := d.isLt; omega⟩ * k ⟨2048 * b + s, by omega⟩ ⟨128 * h + d.val, by have := d.isLt; omega⟩) * scale
      = ((Zr q k b h t s : ℝ) : EReal) := by
  unfold Zr
  rw [dif_pos ⟨⟨hb, hh⟩, ht, hs⟩]
  choose qr hqr using hq
  choose kr hkr using hk
  obtain ⟨x, hx⟩ := scale_real
  simp only [hqr, hkr, hx, ← EReal.coe_mul]
  rw [← Cert.Sb.coe_sum, ← EReal.coe_mul, EReal.toReal_coe]

/-- A sequence's column of values by position. -/
def vc (v : Fin 16384 → Fin 384 → EReal) (b : ℕ) (C : Fin 384) (s : ℕ) : EReal :=
  if H : b < 8 ∧ s < 2048 then v ⟨2048 * b + s, by omega⟩ C else 0

/-- The layer's latent attention: the values of the keys up to the query, weighted by the exponentials of the scores over their sum. -/
def spec (q k : Fin 16384 → Fin 768 → EReal) (v : Fin 16384 → Fin 384 → EReal) (R : Fin 16384) (C : Fin 384) : EReal :=
  ((1 / den (Zr q k (R.val / 2048) (C.val / 64)) (R.val % 2048) 2048 : ℝ) : EReal) * num (Zr q k (R.val / 2048) (C.val / 64)) (vc v (R.val / 2048) C) (R.val % 2048) 2048

end Cert.Mla

end
-- ==== Proof.Mla.Blocks.lean ====
module

public import proofs.«01_k».proof.Proof.Mla.Out
public import proofs.«01_k».proof.Proof.Mla.Spec
public import proofs.«01_k».proof.Proof.Gen.MlaKernelIdeal.Value
public import Idealize.ShloMosaic.Lib.WritesUnit
public import Idealize.ShloMosaic.Lib.Pipeline.ValueKit.Tiles

@[expose] public section

set_option maxRecDepth 16384

noncomputable section

namespace Cert.MlaKernelIdeal.Mla

open Cert.Mla Cert.MlaKernelIdeal Cert.MlaKernelIdeal.Gen Idealize.ShloMosaic Idealize.ShloMosaic.TcCoe Idealize.SL.Sem

variable (m : (ℓ : Loc nD τ sig) → Buf (Elt Ideal) ℓ) (c : Dev nD)

abbrev argQ (r : Fin 16384) (l : Fin 768) : EReal := m ((c : Thread nD τ).loc main_arg0) (ix2 r l)
abbrev argK (r : Fin 16384) (l : Fin 768) : EReal := m ((c : Thread nD τ).loc main_arg1) (ix2 r l)
abbrev argV (r : Fin 16384) (l : Fin 384) : EReal := m ((c : Thread nD τ).loc main_arg2) (ix2 r l)

theorem c0_all : ∀ x z : Fin 8, (Scalar.addi (Scalar.muli (BitVec.ofNat 32 x.val) 8#32) (BitVec.ofNat 32 z.val)).toNat = 8 * x.val + z.val := by decide
theorem c1_all : ∀ x : Fin 8, (BitVec.ofNat 32 x.val).toNat = x.val := by decide
theorem c2_all : ∀ x : Fin 3, (BitVec.ofNat 32 x.val).toNat = x.val := by decide

theorem ix_q (t : Fin cfg0.N) : win0_0.index t 0 = 8 * (grid0.coords t 0).val + (grid0.coords t 2).val ∧ win0_0.index t 1 = (grid0.coords t 1).val :=
  ⟨c0_all (grid0.coords t 0) (grid0.coords t 2), c2_all (grid0.coords t 1)⟩
theorem ix_k (t : Fin cfg0.N) : win0_1.index t 0 = (grid0.coords t 0).val ∧ win0_1.index t 1 = (grid0.coords t 1).val :=
  ⟨c1_all (grid0.coords t 0), c2_all (grid0.coords t 1)⟩
theorem ix_v (t : Fin cfg0.N) : win0_2.index t 0 = (grid0.coords t 0).val ∧ win0_2.index t 1 = (grid0.coords t 1).val :=
  ⟨c1_all (grid0.coords t 0), c2_all (grid0.coords t 1)⟩
theorem ix_o (t : Fin cfg0.N) : win0_3.index t 0 = 8 * (grid0.coords t 0).val + (grid0.coords t 2).val ∧ win0_3.index t 1 = (grid0.coords t 1).val :=
  ⟨c0_all (grid0.coords t 0) (grid0.coords t 2), c2_all (grid0.coords t 1)⟩

theorem lt0 (t : Fin cfg0.N) : (grid0.coords t 0).val < 8 := (grid0.coords t 0).isLt
theorem lt1 (t : Fin cfg0.N) : (grid0.coords t 1).val < 3 := (grid0.coords t 1).isLt
theorem lt2 (t : Fin cfg0.N) : (grid0.coords t 2).val < 8 := (grid0.coords t 2).isLt

theorem blk_q (t : Fin cfg0.N) (r : Fin 256) (l : Fin 256) : (iblk m c 0 t : Vec Ideal S256x256 .bf16) (ix2 r l)
    = argQ m c ⟨2048 * (grid0.coords t 0).val + (256 * (grid0.coords t 2).val + r.val), by have := lt0 t; have := lt2 t; have := r.isLt; omega⟩
        ⟨256 * (grid0.coords t 1).val + l.val, by have := lt1 t; have := l.isLt; omega⟩ := by
  unfold iblk
  rw [View.read_apply]
  show V m c main_arg0 _ = m _ _
  rw [V_main_arg0]
  congr 1
  funext a
  apply Fin.ext
  match a with
  | ⟨0, _⟩ => show win0_0.index t 0 * 256 + 1 * r.val = 2048 * (grid0.coords t 0).val + (256 * (grid0.coords t 2).val + r.val); rw [(ix_q t).1]; omega
  | ⟨1, _⟩ => show win0_0.index t 1 * 256 + 1 * l.val = 256 * (grid0.coords t 1).val + l.val; rw [(ix_q t).2]; omega

theorem blk_k (t : Fin cfg0.N) (s : Fin 2048) (l : Fin 256) : (iblk m c 1 t : Vec Ideal S2048x256 .bf16) (ix2 s l)
    = argK m c ⟨2048 * (grid0.coords t 0).val + s.val, by have := lt0 t; have := s.isLt; omega⟩
        ⟨256 * (grid0.coords t 1).val + l.val, by have := lt1 t; have := l.isLt; omega⟩ := by
  unfold iblk
  rw [View.read_apply]
  show V m c main_arg1 _ = m _ _
  rw [V_main_arg1]
  congr 1
  funext a
  apply Fin.ext
  match a with
  | ⟨0, _⟩ => show win0_1.index t 0 * 2048 + 1 * s.val = 2048 * (grid0.coords t 0).val + s.val; rw [(ix_k t).1]; omega
  | ⟨1, _⟩ => show win0_1.index t 1 * 256 + 1 * l.val = 256 * (grid0.coords t 1).val + l.val; rw [(ix_k t).2]; omega

theorem blk_v (t : Fin cfg0.N) (s : Fin 2048) (l : Fin 128) : (iblk m c 2 t : Vec Ideal S2048x128 .bf16) (ix2 s l)
    = argV m c ⟨2048 * (grid0.coords t 0).val + s.val, by have := lt0 t; have := s.isLt; omega⟩
        ⟨128 * (grid0.coords t 1).val + l.val, by have := lt1 t; have := l.isLt; omega⟩ := by
  unfold iblk
  rw [View.read_apply]
  show V m c main_arg2 _ = m _ _
  rw [V_main_arg2]
  congr 1
  funext a
  apply Fin.ext
  match a with
  | ⟨0, _⟩ => show win0_2.index t 0 * 2048 + 1 * s.val = 2048 * (grid0.coords t 0).val + s.val; rw [(ix_v t).1]; omega
  | ⟨1, _⟩ => show win0_2.index t 1 * 128 + 1 * l.val = 128 * (grid0.coords t 1).val + l.val; rw [(ix_v t).2]; omega

end Cert.MlaKernelIdeal.Mla
-- ==== Proof.Mla.Final.lean ====
module

public import proofs.«01_k».proof.Proof.Mla.Blocks
public import proofs.«01_k».proof.Proof.Gen.MlaKernelIdeal.Value
public import Idealize.ShloMosaic.Lib.WritesUnit
public import Idealize.ShloMosaic.Lib.Pipeline.ValueKit.Tiles

@[expose] public section

set_option maxRecDepth 16384

noncomputable section

namespace Cert.MlaKernelIdeal.Mla

open Cert.Mla Cert.MlaKernelIdeal Cert.MlaKernelIdeal.Gen Idealize.ShloMosaic Idealize.ShloMosaic.TcCoe Idealize.SL.Sem

variable (m : (ℓ : Loc nD τ sig) → Buf (Elt Ideal) ℓ) (c : Dev nD)

/-- The scores of a grid point, head by head. -/
def zt (t : Fin cfg0.N) (hh : Fin 2) : ℕ → ℕ → ℝ := Zr (argQ m c) (argK m c) (grid0.coords t 0).val (2 * (grid0.coords t 1).val + hh.val)

theorem scores (hq : IsReal (argQ m c)) (hk : IsReal (argK m c)) (t : Fin cfg0.N) :
    Scores (grid0.coords t) (iblk m c 0 t) (iblk m c 1 t) (zt m c t) := by
  intro hh r s
  have l0 := lt0 t
  have l1 := lt1 t
  have l2 := lt2 t
  have lh := hh.isLt
  have lr := r.isLt
  refine Eq.trans (congrArg (· * _) (Finset.sum_congr rfl fun d _ => ?_)) (Zr_eq (argQ m c) (argK m c) hq hk l0 (h := 2 * (grid0.coords t 1).val + hh.val) (by omega) (t := 256 * (grid0.coords t 2).val + r.val) (by omega) s.isLt)
  have ld := d.isLt
  rw [blk_q, blk_k]
  have e : (⟨256 * (grid0.coords t 1).val + (128 * hh.val + d.val), by omega⟩ : Fin 768) = ⟨128 * (2 * (grid0.coords t 1).val + hh.val) + d.val, by omega⟩ := Fin.ext (by show 256 * (grid0.coords t 1).val + (128 * hh.val + d.val) = 128 * (2 * (grid0.coords t 1).val + hh.val) + d.val; omega)
  exact congrArg₂ (· * ·) (congrArg (argQ m c _) e) (congrArg (argK m c _) e)

/-- The output array, entry by entry. -/
def G : S16384x384.Idx → EReal := fun x => spec (argQ m c) (argK m c) (argV m c) (x 0) (x 1)

theorem ar_d (b q r : ℕ) (hq : q < 8) (hr : r < 256) : (2048 * b + (256 * q + r)) / 2048 = b ∧ (2048 * b + (256 * q + r)) % 2048 = 256 * q + r := by omega
theorem ar_e (p l : ℕ) (hl : l < 128) : (128 * p + l) / 64 = 2 * p + (if l < 64 then 0 else 1) := by split <;> omega

theorem col (t : Fin cfg0.N) (l : Fin 128) : vcol (iblk m c 2 t) l = vc (argV m c) (grid0.coords t 0).val ⟨128 * (grid0.coords t 1).val + l.val, by have := lt1 t; have := l.isLt; omega⟩ := by
  funext s
  unfold vcol vc
  by_cases h : s < 2048
  · rw [dif_pos h, dif_pos ⟨lt0 t, h⟩, blk_v]
  · rw [dif_neg h, dif_neg fun H => h H.2]

theorem flushed_spec (hq : IsReal (argQ m c)) (hk : IsReal (argK m c)) (t : Fin cfg0.N) :
    (dats m 0 c).flushed 3 t = ((cfg0.win 3).blk t).view.read (Elt Ideal) (G m c) := by
  rw [Value.flushed3_A]
  funext y
  rw [View.read_apply]
  have l0 := lt0 t
  have l1 := lt1 t
  have l2 := lt2 t
  have H : ∀ (r : Fin 256) (l : Fin 128), ((1 / dn (grid0.coords t) (zt m c t) 2048 (if l.val < 64 then 0 else 1) r : ℝ) : EReal) * nm (grid0.coords t) (iblk m c 2 t) (zt m c t) 2048 (if l.val < 64 then 0 else 1) r l
      = spec (argQ m c) (argK m c) (argV m c) ⟨2048 * (grid0.coords t 0).val + (256 * (grid0.coords t 2).val + r.val), by have := r.isLt; omega⟩ ⟨128 * (grid0.coords t 1).val + l.val, by have := l.isLt; omega⟩ := fun r l => by
    have d1 := ar_d (grid0.coords t 0).val (grid0.coords t 2).val r.val l2 r.isLt
    have d2 := ar_e (grid0.coords t 1).val l.val l.isLt
    have z1 : zt m c t (if l.val < 64 then 0 else 1) = Zr (argQ m c) (argK m c) (grid0.coords t 0).val (2 * (grid0.coords t 1).val + (if l.val < 64 then 0 else 1)) := by
      unfold zt
      split <;> rfl
    unfold spec dn nm
    dsimp only
    rw [d1.1, d1.2, d2, z1, col]
  have h := (out_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t)
    (zt m c t) (scores m c hq hk t) (y 0) (y 1)).trans (H (y 0) (y 1))
  refine Eq.trans ?_ (h.trans ?_)
  · refine congrArg (out0_A_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t)) ?_
    funext a
    match a with
    | ⟨0, _⟩ => rfl
    | ⟨1, _⟩ => rfl
  · show spec _ _ _ _ _ = spec _ _ _ _ _
    congr 1
    · apply Fin.ext
      show 2048 * (grid0.coords t 0).val + (256 * (grid0.coords t 2).val + (y 0).val) = win0_3.index t 0 * 256 + 1 * (y 0).val
      rw [(ix_o t).1]; omega
    · apply Fin.ext
      show 128 * (grid0.coords t 1).val + (y 1).val = win0_3.index t 1 * 128 + 1 * (y 1).val
      rw [(ix_o t).2]; omega

theorem cover (i : S16384x384.Idx) : ∃ t : Fin cfg0.N, (cfg0.win 3).flush t = true ∧ i ∈ ((cfg0.win 3).blk t).view.set := by
  have h0 : (i 0).val < 16384 := (i 0).isLt
  have h1 : (i 1).val < 384 := (i 1).isLt
  have hN : 24 * ((i 0).val / 2048) + 8 * ((i 1).val / 128) + (i 0).val % 2048 / 256 < 192 := by omega
  let t : Fin cfg0.N := ⟨24 * ((i 0).val / 2048) + 8 * ((i 1).val / 128) + (i 0).val % 2048 / 256, hN⟩
  refine ⟨t, flush0_3 t, ?_⟩
  let x : S256x128.Idx := ix2 ⟨(i 0).val % 256, by omega⟩ ⟨(i 1).val % 128, by omega⟩
  have c0 : (grid0.coords t 0).val = (i 0).val / 2048 := by
    show (24 * ((i 0).val / 2048) + 8 * ((i 1).val / 128) + (i 0).val % 2048 / 256) / 24 % 8 = _
    omega
  have c1 : (grid0.coords t 1).val = (i 1).val / 128 := by
    show (24 * ((i 0).val / 2048) + 8 * ((i 1).val / 128) + (i 0).val % 2048 / 256) / 8 % 3 = _
    omega
  have c2 : (grid0.coords t 2).val = (i 0).val % 2048 / 256 := by
    show (24 * ((i 0).val / 2048) + 8 * ((i 1).val / 128) + (i 0).val % 2048 / 256) / 1 % 8 = _
    omega
  have e : ((cfg0.win 3).blk t).view.emb x = i := by
    funext a
    apply Fin.ext
    match a with
    | ⟨0, _⟩ => show win0_3.index t 0 * 256 + 1 * ((i 0).val % 256) = (i 0).val; rw [(ix_o t).1, c0, c2]; omega
    | ⟨1, _⟩ => show win0_3.index t 1 * 128 + 1 * ((i 1).val % 128) = (i 1).val; rw [(ix_o t).2, c1]; omega
  rw [← e]
  exact ((cfg0.win 3).blk t).view.emb_mem_set x

/-- The kernel's output array is the layer's attention. -/
theorem arr_eq (hq : IsReal (argQ m c)) (hk : IsReal (argK m c)) : (dats m 0 c).arrAt 3 cfg0.N = G m c :=
  (dats m 0 c).arrAt_eq_of_cover 3 (G m c) (fun t _ => flushed_spec m c hq hk t) (cover)

end Cert.MlaKernelIdeal.Mla
-- ==== Proof.Mla.Ref.lean ====
module

public import proofs.«01_k».proof.Proof.Mla.Spec
public import proofs.«01_k».proof.Proof.Gen.MlaReferenceIdeal.Run
public import Idealize.ShloMosaic.Lib.Pipeline.ValueKit.Tiles

@[expose] public section

set_option maxRecDepth 16384

noncomputable section

namespace Cert.MlaReferenceIdeal.Mla

open Cert.Mla Cert.MlaReferenceIdeal Cert.MlaReferenceIdeal.Gen Idealize.ShloMosaic Idealize.ShloMosaic.TcCoe Idealize.SL.Sem

/-- Which keys come no later than the query. -/
def mask : IVec S8x6x2048x2048 1 :=
  broadcastInDim S8x6x2048x2048 ![2, 3] bcast_S2048x2048_S8x6x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The scaled scores. -/
def sc (q k : FVec Ideal S16384x768 .bf16) : FVec Ideal S8x6x2048x2048 .f32 :=
  mulf (Host.dotGeneral dot_S8x2048x6x128_S8x2048x6x128_S8x6x2048x2048_3_3_1_1_02_02 none (shapeCast S8x2048x6x128 (extf .f32 q bitsLt_bf16_f32) shapeCasts_S16384x768_S8x2048x6x128) (shapeCast S8x2048x6x128 (extf .f32 k bitsLt_bf16_f32) shapeCasts_S16384x768_S8x2048x6x128)) (broadcastInDim S8x6x2048x2048 ![] bcast_S_S8x6x2048x2048 (constant S_ .f32 0x3DD105EC#32))

/-- The scores with the later keys at minus infinity. -/
def ms (z : FVec Ideal S8x6x2048x2048 .f32) : FVec Ideal S8x6x2048x2048 .f32 :=
  select mask z (broadcastInDim S8x6x2048x2048 ![] bcast_S_S8x6x2048x2048 (id (constant S_ .f32 0xFF800000#32)))

/-- A row's largest score. -/
def mx (z : FVec Ideal S8x6x2048x2048 .f32) : FVec Ideal S8x6x2048 .f32 :=
  maximumf (broadcastInDim S8x6x2048 ![] bcast_S_S8x6x2048 (constant S_ .f32 0xFF800000#32)) (Host.reduce FloatOps.maximumf z (constant S_ .f32 0xFF800000#32) reducesTo_S8x6x2048x2048_S8x6x2048_d3 h_S_)

def ex (z : FVec Ideal S8x6x2048x2048 .f32) : FVec Ideal S8x6x2048x2048 .f32 :=
  Host.exp (subf z (broadcastInDim S8x6x2048x2048 ![0, 1, 2, 3] bcast_S8x6x2048x1_S8x6x2048x2048_0_1_2_3 (broadcastInDim S8x6x2048x1 ![0, 1, 2] bcast_S8x6x2048_S8x6x2048x1_0_1_2 (mx z))))

def pr (e : FVec Ideal S8x6x2048x2048 .f32) : FVec Ideal S8x6x2048x2048 .f32 :=
  Host.divf e (broadcastInDim S8x6x2048x2048 ![0, 1, 2, 3] bcast_S8x6x2048x1_S8x6x2048x2048_0_1_2_3 (broadcastInDim S8x6x2048x1 ![0, 1, 2] bcast_S8x6x2048_S8x6x2048x1_0_1_2 (Host.reduceAdd e (constant S_ .f32 0x00000000#32) reducesTo_S8x6x2048x2048_S8x6x2048_d3 h_S_)))

def outV (v : FVec Ideal S16384x384 .bf16) (w : FVec Ideal S8x6x2048x2048 .f32) : FVec Ideal S16384x384 .bf16 :=
  truncf .bf16 (shapeCast S16384x384 (transpose S8x2048x6x64 [0, 3, 1, 2] (Host.dotGeneral dot_S8x2048x6x64_S8x6x2048x2048_S8x6x64x2048_1_3_3_2_02_01 none (shapeCast S8x2048x6x64 (extf .f32 v bitsLt_bf16_f32) shapeCasts_S16384x384_S8x2048x6x64) w) transposes_S8x6x64x2048_S8x2048x6x64_0_3_1_2) shapeCasts_S8x2048x6x64_S16384x384) bitsLt_bf16_f32

theorem res_eq (m : (ℓ : Loc nD τ sig) → Buf (Elt Ideal) ℓ) (c : Dev nD) :
    Value.res_main_v30 m c = outV (m ((c.tc : Thread nD τ).loc main_arg2)) (pr (ex (ms (sc (m ((c.tc : Thread nD τ).loc main_arg0)) (m ((c.tc : Thread nD τ).loc main_arg1)))))) := rfl

theorem sle_nat (a b : ℕ) (ha : a < 2 ^ 31) (hb : b < 2 ^ 31) : IntOp.cmpi .sle (BitVec.ofNat 32 a) (BitVec.ofNat 32 b) = if a ≤ b then 1#1 else 0#1 := by
  rw [WordCmp.cmpi_sle_ofNat ha hb]
  by_cases h : a ≤ b
  · rw [if_pos h, decide_eq_true h]; rfl
  · rw [if_neg h, decide_eq_false h]; rfl

theorem mask_eq (b : Fin 8) (h : Fin 6) (t s : Fin 2048) : mask (ix4 b h t s) = if s.val ≤ t.val then 1#1 else 0#1 := by
  pointwise [mask]
  exact sle_nat _ _ (by have := s.isLt; omega) (by have := t.isLt; omega)

theorem sc_eq (q k : FVec Ideal S16384x768 .bf16) (b : Fin 8) (h : Fin 6) (t s : Fin 2048) :
    sc q k (ix4 b h t s) = (∑ d : Fin 128, q (ix2 ⟨2048 * b.val + t.val, by have := b.isLt; have := t.isLt; omega⟩ ⟨128 * h.val + d.val, by have := h.isLt; have := d.isLt; omega⟩)
      * k (ix2 ⟨2048 * b.val + s.val, by have := b.isLt; have := s.isLt; omega⟩ ⟨128 * h.val + d.val, by have := h.isLt; have := d.isLt; omega⟩)) * scale := by
  pointwise [sc]
  refine congrArg (· * _) (Finset.sum_congr rfl fun d _ => ?_)
  refine congrArg₂ (· * ·) (congrArg q ?_) (congrArg k ?_)
  · exact congrArg₂ ix2 (Fin.ext (by show b.val * 2048 + t.val = 2048 * b.val + t.val; omega)) (Fin.ext (by show h.val * 128 + d.val = 128 * h.val + d.val; omega))
  · exact congrArg₂ ix2 (Fin.ext (by show b.val * 2048 + s.val = 2048 * b.val + s.val; omega)) (Fin.ext (by show h.val * 128 + d.val = 128 * h.val + d.val; omega))

theorem ms_eq (z : FVec Ideal S8x6x2048x2048 .f32) (b : Fin 8) (h : Fin 6) (t s : Fin 2048) : ms z (ix4 b h t s) = if s.val ≤ t.val then z (ix4 b h t s) else ⊥ := by
  pointwise [ms]
  rw [mask_eq]
  by_cases hs : s.val ≤ t.val
  · rw [if_pos hs, if_pos hs]; rfl
  · rw [if_neg hs, if_neg hs]; exact Cert.Sb.negInf

theorem red3 : S8x6x2048x2048.Reduces [3] S8x6x2048 := by decide

theorem lift_eq (b : Fin 8) (h : Fin 6) (t : Fin 2048) (s : Fin 2048) : red3.lift (ix3 b h t) s = ix4 b h t s := by
  funext a
  match a with
  | ⟨0, _⟩ => rfl
  | ⟨1, _⟩ => rfl
  | ⟨2, _⟩ => rfl
  | ⟨3, _⟩ => rfl

theorem fold_eq (z : FVec Ideal S8x6x2048x2048 .f32) (b : Fin 8) (h : Fin 6) (t : Fin 2048) (w : FVec Ideal S_ .f32) (c : EReal) (hw : ∀ x, w x = c) :
    Host.reduce (max : EReal → EReal → EReal) z w reducesTo_S8x6x2048x2048_S8x6x2048_d3 h_S_ (ix3 b h t) = Finset.fold max c (fun s => z (ix4 b h t s)) Finset.univ := by
  rw [Host.reduce_eq_fold_single max z w reducesTo_S8x6x2048x2048_S8x6x2048_d3 red3 h_S_, hw]
  exact Finset.fold_congr fun s _ => congrArg z (lift_eq b h t s)

theorem max_ap (x y : FVec Ideal S8x6x2048 .f32) (j : S8x6x2048.Idx) : maximumf x y j = max (x j) (y j) := rfl
theorem cst_ap (x : S_.Idx) : constant (F := Ideal) S_ .f32 0xFF800000#32 x = Ideal.ofBits FTy.f32 4286578688#32 := rfl
theorem bc_ap (j : S8x6x2048.Idx) : broadcastInDim S8x6x2048 ![] bcast_S_S8x6x2048 (constant (F := Ideal) S_ .f32 0xFF800000#32) j = Ideal.ofBits FTy.f32 4286578688#32 := rfl

theorem mx_eq (z : FVec Ideal S8x6x2048x2048 .f32) (b : Fin 8) (h : Fin 6) (t : Fin 2048) :
    mx z (ix3 b h t) = max (Ideal.ofBits FTy.f32 4286578688#32) (Finset.fold max (Ideal.ofBits FTy.f32 4286578688#32) (fun s => z (ix4 b h t s)) Finset.univ) := by
  unfold mx
  rw [max_ap, bc_ap, Ideal.maximumf_eq_max, fold_eq z b h t _ _ cst_ap]

theorem ex_eq (z : FVec Ideal S8x6x2048x2048 .f32) (b : Fin 8) (h : Fin 6) (t s : Fin 2048) : ex z (ix4 b h t s) = Ideal.exp (z (ix4 b h t s) - mx z (ix3 b h t)) := by
  pointwise [ex]

theorem pr_eq (e : FVec Ideal S8x6x2048x2048 .f32) (b : Fin 8) (h : Fin 6) (t s : Fin 2048) : pr e (ix4 b h t s) = Ideal.div (e (ix4 b h t s)) (∑ s', e (ix4 b h t s')) := by
  pointwise [pr]

theorem outV_eq (v : FVec Ideal S16384x384 .bf16) (w : FVec Ideal S8x6x2048x2048 .f32) (R : Fin 16384) (C : Fin 384) :
    outV v w (ix2 R C) = ∑ s : Fin 2048, v (ix2 ⟨2048 * (R.val / 2048) + s.val, by have := R.isLt; have := s.isLt; omega⟩ C)
      * w (ix4 ⟨R.val / 2048, by have := R.isLt; omega⟩ ⟨C.val / 64, by have := C.isLt; omega⟩ ⟨R.val % 2048, by omega⟩ s) := by
  pointwise [outV]
  refine Finset.sum_congr rfl fun s _ => ?_
  refine congrArg₂ (· * ·) (congrArg v ?_) rfl
  exact congrArg₂ ix2 (Fin.ext (by show R.val / 2048 * 2048 + s.val = 2048 * (R.val / 2048) + s.val; omega)) rfl

variable (q k : Fin 16384 → Fin 768 → EReal) (v : Fin 16384 → Fin 384 → EReal)

/-- The reference's result is the layer's attention. -/
theorem ref_spec (m : (ℓ : Loc nD τ sig) → Buf (Elt Ideal) ℓ) (c : Dev nD)
    (hq : ∀ r l, m ((c.tc : Thread nD τ).loc main_arg0) (ix2 r l) = q r l) (hk : ∀ r l, m ((c.tc : Thread nD τ).loc main_arg1) (ix2 r l) = k r l)
    (hv : ∀ r l, m ((c.tc : Thread nD τ).loc main_arg2) (ix2 r l) = v r l) (rq : IsReal q) (rk : IsReal k) (R : Fin 16384) (C : Fin 384) :
    Value.res_main_v30 m c (ix2 R C) = spec q k v R C := by
  rw [res_eq]
  have hR := R.isLt
  have hC := C.isLt
  refine (outV_eq _ _ R C).trans ?_
  have hS : ∀ s : Fin 2048, ms (sc (m ((c.tc : Thread nD τ).loc main_arg0)) (m ((c.tc : Thread nD τ).loc main_arg1))) (ix4 ⟨R.val / 2048, by omega⟩ ⟨C.val / 64, by omega⟩ ⟨R.val % 2048, by omega⟩ s)
      = if s.val ≤ R.val % 2048 then ((Zr q k (R.val / 2048) (C.val / 64) (R.val % 2048) s.val : ℝ) : EReal) else ⊥ := fun s => by
    rw [ms_eq, sc_eq]
    refine congrArg (fun Z : EReal => if s.val ≤ R.val % 2048 then Z else ⊥) ?_
    refine Eq.trans (congrArg (· * _) (Finset.sum_congr rfl fun d _ => ?_)) (Zr_eq q k rq rk (b := R.val / 2048) (h := C.val / 64) (t := R.val % 2048) (by omega) (by omega) (by omega) s.isLt)
    exact congrArg₂ (· * ·) (hq _ _) (hk _ _)
  have H := softmax _ Cert.Sb.negInf (fun s : Fin 2048 => s.val ≤ R.val % 2048) (fun s => Zr q k (R.val / 2048) (C.val / 64) (R.val % 2048) s.val) _ hS
    ⟨⟨R.val % 2048, by omega⟩, le_refl _⟩ (fun s => vc v (R.val / 2048) C s.val) _ (mx_eq _ ⟨R.val / 2048, by omega⟩ ⟨C.val / 64, by omega⟩ ⟨R.val % 2048, by omega⟩)
  unfold spec den num
  rw [← Fin.sum_univ_eq_sum_range (fun s => wq (Zr q k (R.val / 2048) (C.val / 64)) (R.val % 2048) s) 2048,
    ← Fin.sum_univ_eq_sum_range (fun s => ((wq (Zr q k (R.val / 2048) (C.val / 64)) (R.val % 2048) s : ℝ) : EReal) * vc v (R.val / 2048) C s) 2048]
  refine Eq.trans (Finset.sum_congr rfl fun s _ => ?_) H
  rw [pr_eq, hv]
  refine congrArg₂ (· * ·) ?_ ?_
  · unfold vc
    rw [dif_pos ⟨by omega, s.isLt⟩]
  · rw [ex_eq]
    exact congrArg (Ideal.div _ ·) (Finset.sum_congr rfl fun s _ => ex_eq _ _ _ _ _)

end Cert.MlaReferenceIdeal.Mla
-- ==== Proof.Mla.Pre.lean ====
module

public import proofs.«01_k».proof.Proof.Mla.Spec
public import proofs.«01_k».proof.Pre_qk_finite
public import Idealize.ShloMosaic.Lib.ReduceAll
public import Idealize.ShloMosaic.Lib.Pipeline.ValueKit.Tiles

@[expose] public section

set_option maxRecDepth 16384

noncomputable section

namespace Cert.Pre_qk_finite.Mla

open Cert.Mla Idealize.ShloMosaic

theorem facts : Cert.Pre_qk_finite.Facts where
  bitsLt_bf16_f32 := by decide
  bcast_S_S16384x768 := by decide
  reducesTo_S16384x768_S_d0_1 := by decide
  h_S_ := by decide

theorem real_of_lt (x : EReal) (h : max x (-x) < ⊤) : ∃ r : ℝ, x = ((r : ℝ) : EReal) := by
  induction x with
  | bot => exact absurd h (by simp)
  | coe r => exact ⟨r, rfl⟩
  | top => exact absurd h (by simp)

theorem posInf : Ideal.ofBits FTy.f32 0x7F800000#32 = (⊤ : EReal) := by
  simp [Ideal.ofBits, Ideal.ieee]

/-- Every entry of an array compares below infinity in absolute value. -/
def Below [Facts] (q : FVec Ideal S16384x768 .bf16) : IVec S16384x768 1 :=
  cmpf .olt (Host.absf (extf .f32 q Facts.bitsLt_bf16_f32)) (broadcastInDim S16384x768 ![] Facts.bcast_S_S16384x768 (constant (F := Ideal) S_ .f32 0x7F800000#32))

theorem below_real [Facts] (q : FVec Ideal S16384x768 .bf16) (r : Fin 16384) (l : Fin 768) (h : Below q (ix2 r l) = 1#1) : ∃ x : ℝ, q (ix2 r l) = ((x : ℝ) : EReal) := by
  refine real_of_lt _ ?_
  have h' : Ideal.cmp .olt (max (q (ix2 r l)) (-(q (ix2 r l)))) (Ideal.ofBits FTy.f32 0x7F800000#32) = 1#1 := h
  rw [posInf] at h'
  by_contra hn
  rw [show Ideal.cmp .olt (max (q (ix2 r l)) (-(q (ix2 r l)))) ⊤ = 0#1 from congrArg BitVec.ofBool (decide_eq_false hn)] at h'
  exact absurd h' (by decide)

theorem reals [Facts] (q k : FVec Ideal S16384x768 .bf16) (v : FVec Ideal S16384x384 .bf16) (h : fn (F := Ideal) q k v = fun _ => 1#1) :
    IsReal (fun r l => q (ix2 r l)) ∧ IsReal (fun r l => k (ix2 r l)) := by
  have h0 : IntOp.andi (Host.reduce IntOp.andi (Below q) (constantI S_ 1 1#1) Facts.reducesTo_S16384x768_S_d0_1 Facts.h_S_ ix0)
      (Host.reduce IntOp.andi (Below k) (constantI S_ 1 1#1) Facts.reducesTo_S16384x768_S_d0_1 Facts.h_S_ ix0) = 1#1 := congrFun h ix0
  have hs : ∀ a b : BitVec 1, IntOp.andi a b = 1#1 → a = 1#1 ∧ b = 1#1 := by decide
  haveI : Subsingleton S_.Idx := ⟨fun a b => funext fun i => i.elim0⟩
  obtain ⟨hq, hk⟩ := hs _ _ h0
  exact ⟨fun r l => below_real q r l (Host.reduce_andi_all _ _ _ _ _ hq _), fun r l => below_real k r l (Host.reduce_andi_all _ _ _ _ _ hk _)⟩

end Cert.Pre_qk_finite.Mla
-- ==== Proof.lean ====
module

public import proofs.«01_k».proof.Defs
public import proofs.«01_k».proof.Proof.Gen.SbKernel
public import proofs.«01_k».proof.Proof.Gen.SbKernel.Skeleton
public import proofs.«01_k».proof.Proof.Gen.SbKernel.Loops
public import proofs.«01_k».proof.Proof.Gen.SbKernel.Launch
public import proofs.«01_k».proof.Proof.Gen.SbKernel.Points
public import proofs.«01_k».proof.Proof.Gen.SbKernel.Frame
public import proofs.«01_k».proof.Proof.Gen.SbKernelIdeal
public import proofs.«01_k».proof.Proof.Gen.SbKernelIdeal.Skeleton
public import proofs.«01_k».proof.Proof.Gen.SbKernelIdeal.Loops
public import proofs.«01_k».proof.Proof.Gen.SbKernelIdeal.Launch
public import proofs.«01_k».proof.Proof.Gen.SbKernelIdeal.Points
public import proofs.«01_k».proof.Proof.Gen.SbKernelIdeal.Frame
public import proofs.«01_k».proof.Proof.Gen.SbReferenceIdeal
public import proofs.«01_k».proof.Proof.Gen.SbKernelIdeal.Value
public import proofs.«01_k».proof.Proof.Gen.SbReferenceIdeal.Run
public import proofs.«01_k».proof.Proof.Gen.MoeKernel
public import proofs.«01_k».proof.Proof.Gen.MoeKernelIdeal
public import proofs.«01_k».proof.Proof.Gen.MoeKernelIdeal.Skeleton
public import proofs.«01_k».proof.Proof.Gen.MoeKernelIdeal.Launch
public import proofs.«01_k».proof.Proof.Gen.MoeReferenceIdeal
public import proofs.«01_k».proof.Proof.Gen.MoeReferenceIdeal.Run
public import proofs.«01_k».proof.Proof.Gen.ProjKernel
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjReferenceIdeal
public import proofs.«01_k».proof.Proof.Gen.ProjReferenceIdeal.Run
public import proofs.«01_k».proof.Proof.Gen.MlaKernel
public import proofs.«01_k».proof.Proof.Gen.MlaKernel.Skeleton
public import proofs.«01_k».proof.Proof.Gen.MlaKernel.Loops
public import proofs.«01_k».proof.Proof.Gen.MlaKernel.Launch
public import proofs.«01_k».proof.Proof.Gen.MlaKernel.Points
public import proofs.«01_k».proof.Proof.Gen.MlaKernel.Frame
public import proofs.«01_k».proof.Proof.Gen.MlaKernelIdeal
public import proofs.«01_k».proof.Proof.Gen.MlaKernelIdeal.Skeleton
public import proofs.«01_k».proof.Proof.Gen.MlaKernelIdeal.Loops
public import proofs.«01_k».proof.Proof.Gen.MlaKernelIdeal.Launch
public import proofs.«01_k».proof.Proof.Gen.MlaKernelIdeal.Points
public import proofs.«01_k».proof.Proof.Gen.MlaKernelIdeal.Frame
public import proofs.«01_k».proof.Proof.Gen.MlaReferenceIdeal
public import proofs.«01_k».proof.Proof.Gen.MlaKernelIdeal.Value
public import proofs.«01_k».proof.Proof.Gen.MlaReferenceIdeal.Run
public import proofs.«01_k».proof.Proof.Sb.Final
public import proofs.«01_k».proof.Proof.Sb.Ref
public import proofs.«01_k».proof.Proof.Sb.Pre
public import proofs.«01_k».proof.Proof.Moe.Same
public import proofs.«01_k».proof.Proof.Moe.KI.Ok
public import proofs.«01_k».proof.Proof.Moe.Pre
public import proofs.«01_k».proof.Proof.Moe.Ref
public import proofs.«01_k».proof.Proof.Moe.Final
public import proofs.«01_k».proof.Proof.Proj.Same
public import proofs.«01_k».proof.Proof.Proj.Final
public import proofs.«01_k».proof.Proof.Proj.RefArr
public import proofs.«01_k».proof.Proof.Mla.Final
public import proofs.«01_k».proof.Proof.Mla.Ref
public import proofs.«01_k».proof.Proof.Mla.Pre
public import Idealize.ShloMosaic.Lib.Quiescent
public import Idealize.ShloMosaic.Adequacy
public import Idealize.ShloMosaic.Init

@[expose] public section

noncomputable section

namespace Cert.Proof

open Idealize.ShloMosaic Idealize.SL.Sem Cert.SbKernel

/-- The stick-breaking attention call: the kernel and the reference end with the same array. -/
theorem sb_algebraic : Cert.algebraic_SbKernelIdeal_SbReferenceIdeal_pre_qkv_finite (hSbKernelIdeal := Cert.SbKernelIdeal.Gen.facts) (hSbReferenceIdeal := Cert.SbReferenceIdeal.Gen.facts) (hPre_qkv_finite := Cert.Pre_qkv_finite.Sb.facts) := by
  intro m g m' g' hpre hagree
  have hr := fun c => @Cert.Pre_qkv_finite.Sb.reals Cert.Pre_qkv_finite.Sb.facts _ _ _ (hpre c)
  refine ⟨fun c => Cert.SbKernelIdeal.Sb.G m c, (θ_run _ _ _).mono (fun r h c => ?_) (Cert.SbKernelIdeal.Value.run_blocks m g),
    (θ_run _ _ _).mono (fun r h c => ?_) (Cert.SbReferenceIdeal.Value.run m' g')⟩
  · exact ⟨(h c).1.trans (Cert.SbKernelIdeal.Sb.arr_eq m c (hr c).1 (hr c).2), (h c).2⟩
  · refine ⟨(h c).1.trans (funext fun i => ?_), (h c).2⟩
    refine (congrArg _ (ValueIdx.eq_ix2 i)).trans ((Cert.SbReferenceIdeal.Sb.ref_spec (Cert.SbKernelIdeal.Sb.argQ m c) (Cert.SbKernelIdeal.Sb.argK m c) (Cert.SbKernelIdeal.Sb.argV m c) m' c
      (fun r l => congrFun (hagree c).1 _) (fun r l => congrFun (hagree c).2.1 _) (fun r l => congrFun (hagree c).2.2 _) (hr c).1 (hr c).2 (i 0) (i 1)))

/-- The reference ends with its arguments unchanged and, declaring no semaphore, every counter at zero. -/
theorem sb_reference_frame : Cert.quiescent_SbReferenceIdeal (hSbReferenceIdeal := Cert.SbReferenceIdeal.Gen.facts) := fun m g _ =>
  (θ_run Cert.SbReferenceIdeal.defs _ _).mono (fun r h => And.intro (fun c => (h c).2) (sem_eq_zero_of_no_sems (by decide) r.2))
    (Cert.SbReferenceIdeal.Value.run (F := Ideal) m g)

/-- What the routing precondition says of the idealized kernel's arguments. -/
theorem moe_routed (m : (ℓ : Loc Cert.MoeKernelIdeal.nD Cert.MoeKernelIdeal.τ Cert.MoeKernelIdeal.sig) → Buf (Elt Ideal) ℓ)
    (h : Cert.Pre_MoeKernelIdeal (hPre_blocks_routed := Cert.Pre_blocks_routed.Moe.facts) m) : Cert.MoeKernelIdeal.Moe.Routed m 0 where
  expert := fun i => @Cert.Pre_blocks_routed.Moe.expert_lt Cert.Pre_blocks_routed.Moe.facts _ (ix1 i)
    ((@Cert.Pre_blocks_routed.Moe.split Ideal _ Cert.Pre_blocks_routed.Moe.facts _ _ _ _ _ _ _ _ (h 0)).1 _)
  gate := fun n r => @Cert.Pre_blocks_routed.Moe.row_gate Cert.Pre_blocks_routed.Moe.facts _ _ n r
    ((@Cert.Pre_blocks_routed.Moe.split Ideal _ Cert.Pre_blocks_routed.Moe.facts _ _ _ _ _ _ _ _ (h 0)).2 _)

theorem moe_ok_ideal (m : (ℓ : Loc Cert.MoeKernelIdeal.nD Cert.MoeKernelIdeal.τ Cert.MoeKernelIdeal.sig) → Buf (Elt Ideal) ℓ)
    (h : Cert.Pre_MoeKernelIdeal (hPre_blocks_routed := Cert.Pre_blocks_routed.Moe.facts) m) : Cert.MoeKernelIdeal.Gen.Ok m :=
  Cert.MoeKernelIdeal.Moe.ok_of_lt m (moe_routed m h).expert

/-- The reference of the experts ends with its arguments unchanged and every counter at zero. -/
theorem moe_reference_frame : Cert.quiescent_MoeReferenceIdeal (hMoeReferenceIdeal := Cert.MoeReferenceIdeal.Gen.facts) := fun m g _ =>
  (θ_run Cert.MoeReferenceIdeal.defs _ _).mono (fun r h => And.intro (fun c => (h c).2) (sem_eq_zero_of_no_sems (by decide) r.2))
    (Cert.MoeReferenceIdeal.Value.run (F := Ideal) m g)

/-- The experts' call: the kernel and the reference end with the same array. -/
theorem moe_algebraic : Cert.algebraic_MoeKernelIdeal_MoeReferenceIdeal (hMoeKernelIdeal := Cert.MoeKernelIdeal.Gen.facts) (hMoeReferenceIdeal := Cert.MoeReferenceIdeal.Gen.facts) (hPre_blocks_routed := Cert.Pre_blocks_routed.Moe.facts) := by
  intro m g m' g' hpre hagree
  have hr := moe_routed m hpre
  have hO := moe_ok_ideal m hpre
  refine ⟨fun c => Cert.MoeKernelIdeal.Moe.G m c,
    (θ_run _ _ _).mono (fun r h c => ⟨?_, h.2 c⟩) (θ_run_and (Cert.MoeKernelIdeal.Gen.run_main m g hO) (Cert.MoeKernelIdeal.Gen.unchanged m g hO)),
    (θ_run _ _ _).mono (fun r h c => ⟨(h c).1.trans ?_, (h c).2⟩) (Cert.MoeReferenceIdeal.Value.run m' g')⟩
  · obtain rfl : c = 0 := Subsingleton.elim _ _
    exact ((h.1 0).1 8).trans (Cert.MoeKernelIdeal.Moe.arr_eq m hr hO)
  · obtain ⟨h0, _, h2, h3, h4, h5, h6, h7⟩ := hagree c
    refine (Cert.MoeReferenceIdeal.Moe.out_eq m' c).trans ?_
    rw [h0, h2, h3, h4, h5, h6, h7]

/-- Arguments are the same when their fields are. -/
theorem proj_args_ext (A B : Cert.Proj.Args) (e0 : A.x = B.x) (e1 : A.sc = B.sc) (e2 : A.sh = B.sh) (e3 : A.gm = B.gm) (e4 : A.w = B.w) (e5 : A.gq = B.gq) (e6 : A.uq = B.uq) (e7 : A.qn = B.qn) (e8 : A.qr = B.qr) (e9 : A.gkv = B.gkv) (e10 : A.kr = B.kr) (e11 : A.uk = B.uk) (e12 : A.uv = B.uv) (e13 : A.kn = B.kn) : A = B := by
  cases A
  cases B
  subst e0 e1 e2 e3 e4 e5 e6 e7 e8 e9 e10 e11 e12 e13
  rfl

/-- The two programs of the projections have the same arguments. -/
theorem proj_args (m : (ℓ : Loc Cert.ProjKernelIdeal.nD Cert.ProjKernelIdeal.τ Cert.ProjKernelIdeal.sig) → Buf (Elt Ideal) ℓ)
    (m' : (ℓ : Loc Cert.ProjReferenceIdeal.nD Cert.ProjReferenceIdeal.τ Cert.ProjReferenceIdeal.sig) → Buf (Elt Ideal) ℓ) (c : Dev Cert.ProjKernelIdeal.nD)
    (h : m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)
      ∧ m' ((c.tc : Thread Cert.ProjReferenceIdeal.nD Cert.ProjReferenceIdeal.τ).loc Cert.ProjReferenceIdeal.main_arg6) = m ((c.tc : Thread Cert.ProjKernelIdeal.nD Cert.ProjKernelIdeal.τ).loc Cert.ProjKernelIdeal.main_arg6)
      ∧ m' ((c.tc : Thread Cert.ProjReferenceIdeal.nD Cert.ProjReferenceIdeal.τ).loc Cert.ProjReferenceIdeal.main_arg7) = m ((c.tc : Thread Cert.ProjKernelIdeal.nD Cert.ProjKernelIdeal.τ).loc Cert.ProjKernelIdeal.main_arg7)
      ∧ m' ((c.tc : Thread Cert.ProjReferenceIdeal.nD Cert.ProjReferenceIdeal.τ).loc Cert.ProjReferenceIdeal.main_arg8) = m ((c.tc : Thread Cert.ProjKernelIdeal.nD Cert.ProjKernelIdeal.τ).loc Cert.ProjKernelIdeal.main_arg8)
      ∧ m' ((c.tc : Thread Cert.ProjReferenceIdeal.nD Cert.ProjReferenceIdeal.τ).loc Cert.ProjReferenceIdeal.main_arg9) = m ((c.tc : Thread Cert.ProjKernelIdeal.nD Cert.ProjKernelIdeal.τ).loc Cert.ProjKernelIdeal.main_arg9)
      ∧ m' ((c.tc : Thread Cert.ProjReferenceIdeal.nD Cert.ProjReferenceIdeal.τ).loc Cert.ProjReferenceIdeal.main_arg10) = m ((c.tc : Thread Cert.ProjKernelIdeal.nD Cert.ProjKernelIdeal.τ).loc Cert.ProjKernelIdeal.main_arg10)
      ∧ m' ((c.tc : Thread Cert.ProjReferenceIdeal.nD Cert.ProjReferenceIdeal.τ).loc Cert.ProjReferenceIdeal.main_arg11) = m ((c.tc : Thread Cert.ProjKernelIdeal.nD Cert.ProjKernelIdeal.τ).loc Cert.ProjKernelIdeal.main_arg11)
      ∧ m' ((c.tc : Thread Cert.ProjReferenceIdeal.nD Cert.ProjReferenceIdeal.τ).loc Cert.ProjReferenceIdeal.main_arg12) = m ((c.tc : Thread Cert.ProjKernelIdeal.nD Cert.ProjKernelIdeal.τ).loc Cert.ProjKernelIdeal.main_arg12)
      ∧ m' ((c.tc : Thread Cert.ProjReferenceIdeal.nD Cert.ProjReferenceIdeal.τ).loc Cert.ProjReferenceIdeal.main_arg13) = m ((c.tc : Thread Cert.ProjKernelIdeal.nD Cert.ProjKernelIdeal.τ).loc Cert.ProjKernelIdeal.main_arg13)) :
    Cert.ProjReferenceIdeal.Proj.args (StableHlo.launchContents m' c) = Cert.ProjKernelIdeal.Proj.argsK m c := by
  obtain ⟨h0, h1, h2, h3, h4, h5, h6, h7, h8, h9, h10, h11, h12, h13⟩ := h
  have e0 : (Cert.ProjReferenceIdeal.Proj.args (StableHlo.launchContents m' c)).x = (Cert.ProjKernelIdeal.Proj.argsK m c).x := funext fun a => funext fun b => congrFun h0 (ix2 a b)
  have e1 : (Cert.ProjReferenceIdeal.Proj.args (StableHlo.launchContents m' c)).sc = (Cert.ProjKernelIdeal.Proj.argsK m c).sc := funext fun a => funext fun b => congrFun h1 (ix3 a (0 : Fin 1) b)
  have e2 : (Cert.ProjReferenceIdeal.Proj.args (StableHlo.launchContents m' c)).sh = (Cert.ProjKernelIdeal.Proj.argsK m c).sh := funext fun a => funext fun b => congrFun h2 (ix3 a (0 : Fin 1) b)
  have e3 : (Cert.ProjReferenceIdeal.Proj.args (StableHlo.launchContents m' c)).gm = (Cert.ProjKernelIdeal.Proj.argsK m c).gm := funext fun a => congrFun h3 (ix1 a)
  have e4 : (Cert.ProjReferenceIdeal.Proj.args (StableHlo.launchContents m' c)).w = (Cert.ProjKernelIdeal.Proj.argsK m c).w := funext fun a => funext fun b => congrFun h4 (ix2 a b)
  have e5 : (Cert.ProjReferenceIdeal.Proj.args (StableHlo.launchContents m' c)).gq = (Cert.ProjKernelIdeal.Proj.argsK m c).gq := funext fun a => congrFun h5 (ix1 a)
  have e6 : (Cert.ProjReferenceIdeal.Proj.args (StableHlo.launchContents m' c)).uq = (Cert.ProjKernelIdeal.Proj.argsK m c).uq := funext fun a => funext fun b => congrFun h6 (ix2 a b)
  have e7 : (Cert.ProjReferenceIdeal.Proj.args (StableHlo.launchContents m' c)).qn = (Cert.ProjKernelIdeal.Proj.argsK m c).qn := funext fun a => congrFun h7 (ix1 a)
  have e8 : (Cert.ProjReferenceIdeal.Proj.args (StableHlo.launchContents m' c)).qr = (Cert.ProjKernelIdeal.Proj.argsK m c).qr := funext fun a => congrFun h8 (ix1 a)
  have e9 : (Cert.ProjReferenceIdeal.Proj.args (StableHlo.launchContents m' c)).gkv = (Cert.ProjKernelIdeal.Proj.argsK m c).gkv := funext fun a => congrFun h9 (ix1 a)
  have e10 : (Cert.ProjReferenceIdeal.Proj.args (StableHlo.launchContents m' c)).kr = (Cert.ProjKernelIdeal.Proj.argsK m c).kr := funext fun a => congrFun h10 (ix1 a)
  have e11 : (Cert.ProjReferenceIdeal.Proj.args (StableHlo.launchContents m' c)).uk = (Cert.ProjKernelIdeal.Proj.argsK m c).uk := funext fun a => funext fun b => congrFun h11 (ix2 a b)
  have e12 : (Cert.ProjReferenceIdeal.Proj.args (StableHlo.launchContents m' c)).uv = (Cert.ProjKernelIdeal.Proj.argsK m c).uv := funext fun a => funext fun b => congrFun h12 (ix2 a b)
  have e13 : (Cert.ProjReferenceIdeal.Proj.args (StableHlo.launchContents m' c)).kn = (Cert.ProjKernelIdeal.Proj.argsK m c).kn := funext fun a => congrFun h13 (ix1 a)
  exact proj_args_ext _ _ e0 e1 e2 e3 e4 e5 e6 e7 e8 e9 e10 e11 e12 e13

/-- The reference of the projections ends with its arguments unchanged and every counter at zero. -/
theorem proj_reference_frame : Cert.quiescent_ProjReferenceIdeal (hProjReferenceIdeal := Cert.ProjReferenceIdeal.Gen.facts) := fun m g _ =>
  (θ_run Cert.ProjReferenceIdeal.defs _ _).mono (fun r h => And.intro (fun c => (h c).2.2.2.2.2.2.2.2.2.2.2) (sem_eq_zero_of_no_sems (by decide) r.2))
    (Cert.ProjReferenceIdeal.Value.run (F := Ideal) m g)

/-- The projections' call: the kernel and the reference end with the same eleven arrays. -/
theorem proj_algebraic : Cert.algebraic_ProjKernelIdeal_ProjReferenceIdeal (hProjKernelIdeal := Cert.ProjKernelIdeal.Gen.facts) (hProjReferenceIdeal := Cert.ProjReferenceIdeal.Gen.facts) := by
  intro m g m' g' _ hagree
  refine ⟨fun c => Cert.ProjKernelIdeal.Proj.G16 m c, fun c => Cert.ProjKernelIdeal.Proj.G17 m c, fun c => Cert.ProjKernelIdeal.Proj.G18 m c, fun c => Cert.ProjKernelIdeal.Proj.G19 m c, fun c => Cert.ProjKernelIdeal.Proj.G20 m c, fun c => Cert.ProjKernelIdeal.Proj.G21 m c, fun c => Cert.ProjKernelIdeal.Proj.G22 m c, fun c => Cert.ProjKernelIdeal.Proj.G23 m c, fun c => Cert.ProjKernelIdeal.Proj.G24 m c, fun c => Cert.ProjKernelIdeal.Proj.G25 m c, fun c => Cert.ProjKernelIdeal.Proj.G26 m c,
    (θ_run _ _ _).mono (fun r h c => ?_) (Cert.ProjKernelIdeal.Value.run_blocks m g),
    (θ_run _ _ _).mono (fun r h c => ?_) (Cert.ProjReferenceIdeal.Value.run m' g')⟩
  · exact ⟨(h c).1.trans (Cert.ProjKernelIdeal.Proj.arr16 m c),
      (h c).2.1.trans (Cert.ProjKernelIdeal.Proj.arr17 m c),
      (h c).2.2.1.trans (Cert.ProjKernelIdeal.Proj.arr18 m c),
      (h c).2.2.2.1.trans (Cert.ProjKernelIdeal.Proj.arr19 m c),
      (h c).2.2.2.2.1.trans (Cert.ProjKernelIdeal.Proj.arr20 m c),
      (h c).2.2.2.2.2.1.trans (Cert.ProjKernelIdeal.Proj.arr21 m c),
      (h c).2.2.2.2.2.2.1.trans (Cert.ProjKernelIdeal.Proj.arr22 m c),
      (h c).2.2.2.2.2.2.2.1.trans (Cert.ProjKernelIdeal.Proj.arr23 m c),
      (h c).2.2.2.2.2.2.2.2.1.trans (Cert.ProjKernelIdeal.Proj.arr24 m c),
      (h c).2.2.2.2.2.2.2.2.2.1.trans (Cert.ProjKernelIdeal.Proj.arr25 m c),
      (h c).2.2.2.2.2.2.2.2.2.2.1.trans (Cert.ProjKernelIdeal.Proj.arr26 m c),
      (h c).2.2.2.2.2.2.2.2.2.2.2⟩
  · exact ⟨(h c).1.trans ((Cert.ProjReferenceIdeal.Proj.q_arr _).trans (congrArg (fun A => Cert.Proj.tok (Cert.Proj.oq A)) (proj_args m m' c (hagree c)))),
      (h c).2.1.trans ((Cert.ProjReferenceIdeal.Proj.k_arr _).trans (congrArg (fun A => Cert.Proj.tok (Cert.Proj.ok A)) (proj_args m m' c (hagree c)))),
      (h c).2.2.1.trans ((Cert.ProjReferenceIdeal.Proj.v_arr _).trans (congrArg (fun A => Cert.Proj.tok (Cert.Proj.ov A)) (proj_args m m' c (hagree c)))),
      (h c).2.2.2.1.trans ((Cert.ProjReferenceIdeal.Proj.ckv_arr _).trans (congrArg (fun A => Cert.Proj.tok (Cert.Proj.ockv A)) (proj_args m m' c (hagree c)))),
      (h c).2.2.2.2.1.trans ((Cert.ProjReferenceIdeal.Proj.kpe_arr _).trans (congrArg (fun A => Cert.Proj.tok (Cert.Proj.okpe A)) (proj_args m m' c (hagree c)))),
      (h c).2.2.2.2.2.1.trans ((Cert.ProjReferenceIdeal.Proj.u_arr _).trans (congrArg (fun A => Cert.Proj.side (Cert.Proj.ou A)) (proj_args m m' c (hagree c)))),
      (h c).2.2.2.2.2.2.1.trans ((Cert.ProjReferenceIdeal.Proj.sq_arr _).trans (congrArg (fun A => Cert.Proj.tok (Cert.Proj.osq A)) (proj_args m m' c (hagree c)))),
      (h c).2.2.2.2.2.2.2.1.trans ((Cert.ProjReferenceIdeal.Proj.sk_arr _).trans (congrArg (fun A => Cert.Proj.tok (Cert.Proj.osk A)) (proj_args m m' c (hagree c)))),
      (h c).2.2.2.2.2.2.2.2.1.trans ((Cert.ProjReferenceIdeal.Proj.sv_arr _).trans (congrArg (fun A => Cert.Proj.tok (Cert.Proj.osv A)) (proj_args m m' c (hagree c)))),
      (h c).2.2.2.2.2.2.2.2.2.1.trans ((Cert.ProjReferenceIdeal.Proj.sk_arr _).trans (congrArg (fun A => Cert.Proj.tok (Cert.Proj.osk A)) (proj_args m m' c (hagree c)))),
      (h c).2.2.2.2.2.2.2.2.2.2.1.trans ((Cert.ProjReferenceIdeal.Proj.sv_arr _).trans (congrArg (fun A => Cert.Proj.tok (Cert.Proj.osv A)) (proj_args m m' c (hagree c)))),
      (h c).2.2.2.2.2.2.2.2.2.2.2⟩

/-- The latent attention call: the kernel and the reference end with the same array. -/
theorem mla_algebraic : Cert.algebraic_MlaKernelIdeal_MlaReferenceIdeal_pre_qk_finite (hMlaKernelIdeal := Cert.MlaKernelIdeal.Gen.facts) (hMlaReferenceIdeal := Cert.MlaReferenceIdeal.Gen.facts) (hPre_qk_finite := Cert.Pre_qk_finite.Mla.facts) := by
  intro m g m' g' hpre hagree
  have hr := fun c => @Cert.Pre_qk_finite.Mla.reals Cert.Pre_qk_finite.Mla.facts _ _ _ (hpre c)
  refine ⟨fun c => Cert.MlaKernelIdeal.Mla.G m c, (θ_run _ _ _).mono (fun r h c => ?_) (Cert.MlaKernelIdeal.Value.run_blocks m g),
    (θ_run _ _ _).mono (fun r h c => ?_) (Cert.MlaReferenceIdeal.Value.run m' g')⟩
  · exact ⟨(h c).1.trans (Cert.MlaKernelIdeal.Mla.arr_eq m c (hr c).1 (hr c).2), (h c).2⟩
  · refine ⟨(h c).1.trans (funext fun i => ?_), (h c).2⟩
    refine (congrArg _ (ValueIdx.eq_ix2 i)).trans ((Cert.MlaReferenceIdeal.Mla.ref_spec (Cert.MlaKernelIdeal.Mla.argQ m c) (Cert.MlaKernelIdeal.Mla.argK m c) (Cert.MlaKernelIdeal.Mla.argV m c) m' c
      (fun r l => congrFun (hagree c).1 _) (fun r l => congrFun (hagree c).2.1 _) (fun r l => congrFun (hagree c).2.2 _) (hr c).1 (hr c).2 (i 0) (i 1)))

/-- The reference ends with its arguments unchanged and, declaring no semaphore, every counter at zero. -/
theorem mla_reference_frame : Cert.quiescent_MlaReferenceIdeal (hMlaReferenceIdeal := Cert.MlaReferenceIdeal.Gen.facts) := fun m g _ =>
  (θ_run Cert.MlaReferenceIdeal.defs _ _).mono (fun r h => And.intro (fun c => (h c).2) (sem_eq_zero_of_no_sems (by decide) r.2))
    (Cert.MlaReferenceIdeal.Value.run (F := Ideal) m g)

theorem claim : Cert.Claim :=
  ⟨Cert.SbKernel.Gen.facts, Cert.SbKernelIdeal.Gen.facts, Cert.SbReferenceIdeal.Gen.facts,
    Cert.MoeKernel.Gen.facts, Cert.MoeKernelIdeal.Gen.facts, Cert.MoeReferenceIdeal.Gen.facts,
    Cert.ProjKernel.Gen.facts, Cert.ProjKernelIdeal.Gen.facts, Cert.ProjReferenceIdeal.Gen.facts,
    Cert.MlaKernel.Gen.facts, Cert.MlaKernelIdeal.Gen.facts, Cert.MlaReferenceIdeal.Gen.facts,
    Cert.Pre_qkv_finite.Sb.facts, Cert.Pre_blocks_routed.Moe.facts, Cert.Pre_qk_finite.Mla.facts,
    fun m ρ _ => Cert.SbKernel.Gen.frame m ρ,
    fun m ρ _ => Cert.SbKernelIdeal.Gen.frame m ρ,
    fun m ρ _ => Cert.SbKernelIdeal.Gen.frame m ρ,
    sb_reference_frame,
    fun m ρ _ => sb_reference_frame m ρ trivial,
    Cert.Moe.frame,
    fun m ρ h => Cert.MoeKernelIdeal.Gen.frame m ρ (moe_ok_ideal m h),
    moe_reference_frame,
    fun m ρ _ => moe_reference_frame m ρ trivial,
    Cert.Proj.frame,
    fun m ρ _ => Cert.ProjKernelIdeal.Gen.frame m ρ,
    proj_reference_frame,
    fun m ρ _ => Cert.MlaKernel.Gen.frame m ρ,
    fun m ρ _ => Cert.MlaKernelIdeal.Gen.frame m ρ,
    fun m ρ _ => Cert.MlaKernelIdeal.Gen.frame m ρ,
    mla_reference_frame,
    fun m ρ _ => mla_reference_frame m ρ trivial,
    trivial, sb_algebraic, trivial, moe_algebraic, trivial, proj_algebraic, trivial, mla_algebraic⟩

end Cert.Proof

end
